-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_schedule_covers_tiles : Cert.Pre_schedule_covers_tiles.Facts] (m : (ℓ : Loc Cert.Kernel2.nD Cert.Kernel2.τ Cert.Kernel2.sig) → Buf (Elt Bits) ℓ) : Prop :=
  ∀ c : Dev Cert.Kernel2.nD,
    (Cert.Pre_schedule_covers_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).1 = (fun _ => 1#1)
    ∧ (Cert.Pre_schedule_covers_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.1 = (fun _ => 1#1)
    ∧ (Cert.Pre_schedule_covers_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.1 = (fun _ => 1#1)
    ∧ (Cert.Pre_schedule_covers_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.1 = (fun _ => 1#1)
    ∧ (Cert.Pre_schedule_covers_tiles.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6)) (m ((c.tc : Thread Cert.Kernel2.nD Cert.Kernel2.τ).loc Cert.Kernel2.main_arg7)) (m ((c.tc : Thread Cert.Kernel2.nD Cert.Kernel2.τ).loc Cert.Kernel2.main_arg8))).2.2.2.2 = (fun _ => 1#1)

def Pre_Kernel2Ideal [hPre_schedule_covers_tiles : Cert.Pre_schedule_covers_tiles.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_schedule_covers_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).1 = (fun _ => 1#1)
    ∧ (Cert.Pre_schedule_covers_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.1 = (fun _ => 1#1)
    ∧ (Cert.Pre_schedule_covers_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.1 = (fun _ => 1#1)
    ∧ (Cert.Pre_schedule_covers_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.1 = (fun _ => 1#1)
    ∧ (Cert.Pre_schedule_covers_tiles.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))).2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_schedule_covers_tiles [hPre_schedule_covers_tiles : Cert.Pre_schedule_covers_tiles.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_schedule_covers_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).1 = (fun _ => 1#1)
    ∧ (Cert.Pre_schedule_covers_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.1 = (fun _ => 1#1)
    ∧ (Cert.Pre_schedule_covers_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.1 = (fun _ => 1#1)
    ∧ (Cert.Pre_schedule_covers_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.1 = (fun _ => 1#1)
    ∧ (Cert.Pre_schedule_covers_tiles.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))).2.2.2.2 = (fun _ => 1#1)

def Pre_Kernel3 [hPre_schedule_covers_down_tiles : Cert.Pre_schedule_covers_down_tiles.Facts] (m : (ℓ : Loc Cert.Kernel3.nD Cert.Kernel3.τ Cert.Kernel3.sig) → Buf (Elt Bits) ℓ) : Prop :=
  ∀ c : Dev Cert.Kernel3.nD,
    (Cert.Pre_schedule_covers_down_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).1 = (fun _ => 1#1)
    ∧ (Cert.Pre_schedule_covers_down_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.1 = (fun _ => 1#1)
    ∧ (Cert.Pre_schedule_covers_down_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.1 = (fun _ => 1#1)
    ∧ (Cert.Pre_schedule_covers_down_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.1 = (fun _ => 1#1)
    ∧ (Cert.Pre_schedule_covers_down_tiles.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4)) (m ((c.tc : Thread Cert.Kernel3.nD Cert.Kernel3.τ).loc Cert.Kernel3.main_arg5)) (m ((c.tc : Thread Cert.Kernel3.nD Cert.Kernel3.τ).loc Cert.Kernel3.main_arg6)) (m ((c.tc : Thread Cert.Kernel3.nD Cert.Kernel3.τ).loc Cert.Kernel3.main_arg7))).2.2.2.2 = (fun _ => 1#1)

def Pre_Kernel3Ideal [hPre_schedule_covers_down_tiles : Cert.Pre_schedule_covers_down_tiles.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_schedule_covers_down_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).1 = (fun _ => 1#1)
    ∧ (Cert.Pre_schedule_covers_down_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.1 = (fun _ => 1#1)
    ∧ (Cert.Pre_schedule_covers_down_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.1 = (fun _ => 1#1)
    ∧ (Cert.Pre_schedule_covers_down_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.1 = (fun _ => 1#1)
    ∧ (Cert.Pre_schedule_covers_down_tiles.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_schedule_covers_down_tiles [hPre_schedule_covers_down_tiles : Cert.Pre_schedule_covers_down_tiles.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_schedule_covers_down_tiles.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).1 = (fun _ => 1#1)
    ∧ (Cert.Pre_schedule_covers_down_tiles.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.1 = (fun _ => 1#1)
    ∧ (Cert.Pre_schedule_covers_down_tiles.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.1 = (fun _ => 1#1)
    ∧ (Cert.Pre_schedule_covers_down_tiles.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.1 = (fun _ => 1#1)
    ∧ (Cert.Pre_schedule_covers_down_tiles.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))).2.2.2.2 = (fun _ => 1#1)

def Pre_Kernel4 [hPre_tables_of_layer : Cert.Pre_tables_of_layer.Facts] (m : (ℓ : Loc Cert.Kernel4.nD Cert.Kernel4.τ Cert.Kernel4.sig) → Buf (Elt Bits) ℓ) : Prop :=
  ∀ c : Dev Cert.Kernel4.nD,
    (Cert.Pre_tables_of_layer.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).1 = (fun _ => 1#1)
    ∧ (Cert.Pre_tables_of_layer.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.1 = (fun _ => 1#1)
    ∧ (Cert.Pre_tables_of_layer.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.2.1 = (fun _ => 1#1)
    ∧ (Cert.Pre_tables_of_layer.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.2.2.1 = (fun _ => 1#1)
    ∧ (Cert.Pre_tables_of_layer.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6))).2.2.2.2 = (fun _ => 1#1)

def Pre_Kernel4Ideal [hPre_tables_of_layer : Cert.Pre_tables_of_layer.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_tables_of_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_tables_of_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_tables_of_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_tables_of_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_tables_of_layer.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_tables_of_layer [hPre_tables_of_layer : Cert.Pre_tables_of_layer.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_tables_of_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_tables_of_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_tables_of_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_tables_of_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_tables_of_layer.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] [hPre_schedule_covers_tiles : Cert.Pre_schedule_covers_tiles.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] [hPre_schedule_covers_tiles : Cert.Pre_schedule_covers_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_schedule_covers_tiles [hReference2Ideal : Cert.Reference2Ideal.Facts] [hPre_schedule_covers_tiles : Cert.Pre_schedule_covers_tiles.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_schedule_covers_tiles m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] [hPre_schedule_covers_down_tiles : Cert.Pre_schedule_covers_down_tiles.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] [hPre_schedule_covers_down_tiles : Cert.Pre_schedule_covers_down_tiles.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_schedule_covers_down_tiles [hReference3Ideal : Cert.Reference3Ideal.Facts] [hPre_schedule_covers_down_tiles : Cert.Pre_schedule_covers_down_tiles.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_schedule_covers_down_tiles m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] [hPre_tables_of_layer : Cert.Pre_tables_of_layer.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] [hPre_tables_of_layer : Cert.Pre_tables_of_layer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_tables_of_layer [hReference4Ideal : Cert.Reference4Ideal.Facts] [hPre_tables_of_layer : Cert.Pre_tables_of_layer.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_tables_of_layer m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] [hPre_schedule_covers_tiles : Cert.Pre_schedule_covers_tiles.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] [hPre_schedule_covers_down_tiles : Cert.Pre_schedule_covers_down_tiles.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] [hPre_tables_of_layer : Cert.Pre_tables_of_layer.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_schedule_covers_tiles : Cert.Pre_schedule_covers_tiles.Facts) (hPre_schedule_covers_down_tiles : Cert.Pre_schedule_covers_down_tiles.Facts) (hPre_tables_of_layer : Cert.Pre_tables_of_layer.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_schedule_covers_tiles := hPre_schedule_covers_tiles)
    ∧ quiescent_Kernel2Ideal (hKernel2Ideal := hKernel2Ideal) (hPre_schedule_covers_tiles := hPre_schedule_covers_tiles)
    ∧ quiescent_Reference2Ideal (hReference2Ideal := hReference2Ideal)
    ∧ quiescent_Reference2Ideal_pre_schedule_covers_tiles (hReference2Ideal := hReference2Ideal) (hPre_schedule_covers_tiles := hPre_schedule_covers_tiles)
    ∧ quiescent_Kernel3 (hKernel3 := hKernel3) (hPre_schedule_covers_down_tiles := hPre_schedule_covers_down_tiles)
    ∧ quiescent_Kernel3Ideal (hKernel3Ideal := hKernel3Ideal) (hPre_schedule_covers_down_tiles := hPre_schedule_covers_down_tiles)
    ∧ quiescent_Reference3Ideal (hReference3Ideal := hReference3Ideal)
    ∧ quiescent_Reference3Ideal_pre_schedule_covers_down_tiles (hReference3Ideal := hReference3Ideal) (hPre_schedule_covers_down_tiles := hPre_schedule_covers_down_tiles)
    ∧ quiescent_Kernel4 (hKernel4 := hKernel4) (hPre_tables_of_layer := hPre_tables_of_layer)
    ∧ quiescent_Kernel4Ideal (hKernel4Ideal := hKernel4Ideal) (hPre_tables_of_layer := hPre_tables_of_layer)
    ∧ quiescent_Reference4Ideal (hReference4Ideal := hReference4Ideal)
    ∧ quiescent_Reference4Ideal_pre_tables_of_layer (hReference4Ideal := hReference4Ideal) (hPre_tables_of_layer := hPre_tables_of_layer)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_schedule_covers_tiles := hPre_schedule_covers_tiles)
    ∧ preserves_Kernel3_Kernel3Ideal
    ∧ algebraic_Kernel3Ideal_Reference3Ideal (hKernel3Ideal := hKernel3Ideal) (hReference3Ideal := hReference3Ideal) (hPre_schedule_covers_down_tiles := hPre_schedule_covers_down_tiles)
    ∧ preserves_Kernel4_Kernel4Ideal
    ∧ algebraic_Kernel4Ideal_Reference4Ideal (hKernel4Ideal := hKernel4Ideal) (hReference4Ideal := hReference4Ideal) (hPre_tables_of_layer := hPre_tables_of_layer)
-- ==== Pre_schedule_covers_down_tiles.lean ====
abbrev S20480x14336 : Shape := ⟨2, ![20480, 14336]⟩
abbrev S8x14336x4096 : Shape := ⟨3, ![8, 14336, 4096]⟩
abbrev S128 : Shape := ⟨1, ![128]⟩
abbrev S80 : Shape := ⟨1, ![80]⟩
abbrev S_ : Shape := ⟨0, ![]⟩
abbrev S128x1 : Shape := ⟨2, ![128, 1]⟩
abbrev S1x80 : Shape := ⟨2, ![1, 80]⟩
abbrev S128x80 : Shape := ⟨2, ![128, 80]⟩
abbrev S127 : Shape := ⟨1, ![127]⟩
abbrev S1 : Shape := ⟨1, ![1]⟩

class Facts : Prop where
  bcast_S_S128 : S_.BroadcastsInDim S128 (![] : Fin 0 → Fin S128.rank)
  bcast_S128_S128x1_0 : S128.BroadcastsInDim S128x1 (![0] : Fin 1 → Fin S128x1.rank)
  bcast_S80_S1x80_1 : S80.BroadcastsInDim S1x80 (![1] : Fin 1 → Fin S1x80.rank)
  bcast_S128x1_S128x80_0_1 : S128x1.BroadcastsInDim S128x80 (![0, 1] : Fin 2 → Fin S128x80.rank)
  bcast_S1x80_S128x80_0_1 : S1x80.BroadcastsInDim S128x80 (![0, 1] : Fin 2 → Fin S128x80.rank)
  bcast_S_S1x80 : S_.BroadcastsInDim S1x80 (![] : Fin 0 → Fin S1x80.rank)
  slices_S128_S127_1 : S128.Slices ![1] S127
  slices_S128_S127_0 : S128.Slices ![0] S127
  bcast_S_S127 : S_.BroadcastsInDim S127 (![] : Fin 0 → Fin S127.rank)
  slices_S128_S1_0 : S128.Slices ![0] S1
  bcast_S_S1 : S_.BroadcastsInDim S1 (![] : Fin 0 → Fin S1.rank)
  slices_S128_S1_127 : S128.Slices ![127] S1

variable [Facts]

def fn_part6 {F : FTy → Type} [FloatOps F] (main_arg3 : IVec S128 32) (main_v13 : IVec S128 1) (main_v36 : IVec S128 1) (main_v68 : IVec S128x80 1) (main_v117 : IVec S127 1) (main_v120 : IVec S1 1) (main_v121 : IVec S1 1) (main_v122 : IVec S1 1) (main_v123 : IVec S1 32) : IVec S128 1 × IVec S128x80 1 × IVec S127 1 × IVec S1 1 × IVec S1 1 :=
  let main_c_19 : IVec S_ 32 := constantI S_ 32 0#32
  let main_v124 : IVec S1 32 := broadcastInDim S1 ![] bcast_S_S1 main_c_19
  let main_v125 : IVec S1 1 := cmpi .eq main_v123 main_v124
  let main_v126 : IVec S1 1 := andi main_v122 main_v125
  let main_v127 : IVec S1 1 := ori main_v121 main_v126
  let main_v128 : IVec S1 1 := andi main_v120 main_v127
  let main_v129 : IVec S1 32 := (extractStridedSlice S1 ![127] · slices_S128_S1_127) main_arg3
  let main_c_20 : IVec S_ 32 := constantI S_ 32 79#32
  let main_v130 : IVec S1 32 := broadcastInDim S1 ![] bcast_S_S1 main_c_20
  let main_v131 : IVec S1 1 := cmpi .eq main_v129 main_v130
  let main_v132 : IVec S1 1 := (extractStridedSlice S1 ![127] · slices_S128_S1_127) main_v13
  let main_v133 : IVec S1 1 := andi main_v131 main_v132
  (main_v36, main_v68, main_v117, main_v128, main_v133)

def fn_part5 {F : FTy → Type} [FloatOps F] (main_arg3 : IVec S128 32) (main_arg5 : IVec S128 32) (main_v1 : IVec S128 1) (main_v3 : IVec S128 1) (main_v5 : IVec S128 1) (main_v13 : IVec S128 1) (main_v36 : IVec S128 1) (main_v68 : IVec S128x80 1) (main_v71 : IVec S127 1) (main_v74 : IVec S127 1) (main_v88 : IVec S127 1) (main_v94 : IVec S127 1) (main_v101 : IVec S127 1) : IVec S128 1 × IVec S128x80 1 × IVec S127 1 × IVec S1 1 × IVec S1 1 :=
  let main_v102 : IVec S127 1 := andi main_v101 main_v74
  let main_v103 : IVec S127 1 := andi main_v102 main_v71
  let main_v104 : IVec S127 1 := ori main_v94 main_v103
  let main_v105 : IVec S127 1 := andi main_v88 main_v104
  let main_v106 : IVec S127 1 := (extractStridedSlice S127 ![1] · slices_S128_S127_1) main_v3
  let main_v107 : IVec S127 1 := noti main_v106
  let main_v108 : IVec S127 1 := (extractStridedSlice S127 ![0] · slices_S128_S127_0) main_v3
  let main_v109 : IVec S127 1 := (extractStridedSlice S127 ![0] · slices_S128_S127_0) main_v1
  let main_v110 : IVec S127 32 := (extractStridedSlice S127 ![0] · slices_S128_S127_0) main_arg5
  let main_c_17 : IVec S_ 32 := constantI S_ 32 6#32
  let main_v111 : IVec S127 32 := broadcastInDim S127 ![] bcast_S_S127 main_c_17
  let main_v112 : IVec S127 1 := cmpi .eq main_v110 main_v111
  let main_v113 : IVec S127 1 := andi main_v109 main_v112
  let main_v114 : IVec S127 1 := ori main_v108 main_v113
  let main_v115 : IVec S127 1 := andi main_v74 main_v114
  let main_v116 : IVec S127 1 := ori main_v107 main_v115
  let main_v117 : IVec S127 1 := andi main_v105 main_v116
  let main_v118 : IVec S1 32 := (extractStridedSlice S1 ![0] · slices_S128_S1_0) main_arg3
  let main_c_18 : IVec S_ 32 := constantI S_ 32 0#32
  let main_v119 : IVec S1 32 := broadcastInDim S1 ![] bcast_S_S1 main_c_18
  let main_v120 : IVec S1 1 := cmpi .eq main_v118 main_v119
  let main_v121 : IVec S1 1 := (extractStridedSlice S1 ![0] · slices_S128_S1_0) main_v5
  let main_v122 : IVec S1 1 := (extractStridedSlice S1 ![0] · slices_S128_S1_0) main_v1
  let main_v123 : IVec S1 32 := (extractStridedSlice S1 ![0] · slices_S128_S1_0) main_arg5
  fn_part6 (F := F) main_arg3 main_v13 main_v36 main_v68 main_v117 main_v120 main_v121 main_v122 main_v123

def fn_part4 {F : FTy → Type} [FloatOps F] (main_arg3 : IVec S128 32) (main_arg5 : IVec S128 32) (main_v1 : IVec S128 1) (main_v3 : IVec S128 1) (main_v5 : IVec S128 1) (main_v7 : IVec S128 1) (main_v13 : IVec S128 1) (main_v36 : IVec S128 1) (main_v68 : IVec S128x80 1) (main_v71 : IVec S127 1) (main_v74 : IVec S127 1) (main_v79 : IVec S127 1) : IVec S128 1 × IVec S128x80 1 × IVec S127 1 × IVec S1 1 × IVec S1 1 :=
  let main_v80 : IVec S127 1 := (extractStridedSlice S127 ![0] · slices_S128_S127_0) main_v13
  let main_v81 : IVec S127 1 := andi main_v79 main_v80
  let main_v82 : IVec S127 1 := ori main_v71 main_v81
  let main_v83 : IVec S127 1 := (extractStridedSlice S127 ![1] · slices_S128_S127_1) main_v7
  let main_v84 : IVec S127 1 := noti main_v83
  let main_v85 : IVec S127 1 := (extractStridedSlice S127 ![0] · slices_S128_S127_0) main_v13
  let main_v86 : IVec S127 1 := andi main_v71 main_v85
  let main_v87 : IVec S127 1 := ori main_v84 main_v86
  let main_v88 : IVec S127 1 := andi main_v82 main_v87
  let main_v89 : IVec S127 1 := (extractStridedSlice S127 ![1] · slices_S128_S127_1) main_v1
  let main_v90 : IVec S127 32 := (extractStridedSlice S127 ![1] · slices_S128_S127_1) main_arg5
  let main_c_15 : IVec S_ 32 := constantI S_ 32 0#32
  let main_v91 : IVec S127 32 := broadcastInDim S127 ![] bcast_S_S127 main_c_15
  let main_v92 : IVec S127 1 := cmpi .sgt main_v90 main_v91
  let main_v93 : IVec S127 1 := andi main_v89 main_v92
  let main_v94 : IVec S127 1 := noti main_v93
  let main_v95 : IVec S127 1 := (extractStridedSlice S127 ![0] · slices_S128_S127_0) main_v1
  let main_v96 : IVec S127 32 := (extractStridedSlice S127 ![1] · slices_S128_S127_1) main_arg5
  let main_v97 : IVec S127 32 := (extractStridedSlice S127 ![0] · slices_S128_S127_0) main_arg5
  let main_c_16 : IVec S_ 32 := constantI S_ 32 1#32
  let main_v98 : IVec S127 32 := broadcastInDim S127 ![] bcast_S_S127 main_c_16
  let main_v99 : IVec S127 32 := addi main_v97 main_v98
  let main_v100 : IVec S127 1 := cmpi .eq main_v96 main_v99
  let main_v101 : IVec S127 1 := andi main_v95 main_v100
  fn_part5 (F := F) main_arg3 main_arg5 main_v1 main_v3 main_v5 main_v13 main_v36 main_v68 main_v71 main_v74 main_v88 main_v94 main_v101

def fn_part3 {F : FTy → Type} [FloatOps F] (main_arg3 : IVec S128 32) (main_arg4 : IVec S128 32) (main_arg5 : IVec S128 32) (main_arg6 : IVec S80 32) (main_v1 : IVec S128 1) (main_v3 : IVec S128 1) (main_v5 : IVec S128 1) (main_v7 : IVec S128 1) (main_v13 : IVec S128 1) (main_v36 : IVec S128 1) (main_v52 : IVec S128x80 1) (main_v53 : IVec S128x80 1) (main_v57 : IVec S128x80 1) : IVec S128 1 × IVec S128x80 1 × IVec S127 1 × IVec S1 1 × IVec S1 1 :=
  let main_v58 : IVec S128x80 1 := ori main_v57 main_v52
  let main_v59 : IVec S128x1 1 := broadcastInDim S128x1 ![0] bcast_S128_S128x1_0 main_v5
  let main_v60 : IVec S128x1 1 := noti main_v59
  let main_v61 : IVec S1x80 32 := broadcastInDim S1x80 ![1] bcast_S80_S1x80_1 main_arg6
  let main_c_13 : IVec S_ 32 := constantI S_ 32 0#32
  let main_v62 : IVec S1x80 32 := broadcastInDim S1x80 ![] bcast_S_S1x80 main_c_13
  let main_v63 : IVec S1x80 1 := cmpi .sle main_v61 main_v62
  let main_v64 : IVec S128x80 1 := broadcastInDim S128x80 ![0, 1] bcast_S128x1_S128x80_0_1 main_v60
  let main_v65 : IVec S128x80 1 := broadcastInDim S128x80 ![0, 1] bcast_S1x80_S128x80_0_1 main_v63
  let main_v66 : IVec S128x80 1 := ori main_v64 main_v65
  let main_v67 : IVec S128x80 1 := andi main_v58 main_v66
  let main_v68 : IVec S128x80 1 := ori main_v53 main_v67
  let main_v69 : IVec S127 32 := (extractStridedSlice S127 ![1] · slices_S128_S127_1) main_arg3
  let main_v70 : IVec S127 32 := (extractStridedSlice S127 ![0] · slices_S128_S127_0) main_arg3
  let main_v71 : IVec S127 1 := cmpi .eq main_v69 main_v70
  let main_v72 : IVec S127 32 := (extractStridedSlice S127 ![1] · slices_S128_S127_1) main_arg4
  let main_v73 : IVec S127 32 := (extractStridedSlice S127 ![0] · slices_S128_S127_0) main_arg4
  let main_v74 : IVec S127 1 := cmpi .eq main_v72 main_v73
  let main_v75 : IVec S127 32 := (extractStridedSlice S127 ![1] · slices_S128_S127_1) main_arg3
  let main_v76 : IVec S127 32 := (extractStridedSlice S127 ![0] · slices_S128_S127_0) main_arg3
  let main_c_14 : IVec S_ 32 := constantI S_ 32 1#32
  let main_v77 : IVec S127 32 := broadcastInDim S127 ![] bcast_S_S127 main_c_14
  let main_v78 : IVec S127 32 := addi main_v76 main_v77
  let main_v79 : IVec S127 1 := cmpi .eq main_v75 main_v78
  fn_part4 (F := F) main_arg3 main_arg5 main_v1 main_v3 main_v5 main_v7 main_v13 main_v36 main_v68 main_v71 main_v74 main_v79

def fn_part2 {F : FTy → Type} [FloatOps F] (main_arg3 : IVec S128 32) (main_arg4 : IVec S128 32) (main_arg5 : IVec S128 32) (main_arg6 : IVec S80 32) (main_arg7 : IVec S80 32) (main_v1 : IVec S128 1) (main_v3 : IVec S128 1) (main_v5 : IVec S128 1) (main_v7 : IVec S128 1) (main_v13 : IVec S128 1) (main_v33 : IVec S128 1) (main_v34 : IVec S128 32) : IVec S128 1 × IVec S128x80 1 × IVec S127 1 × IVec S1 1 × IVec S1 1 :=
  let main_v35 : IVec S128 1 := cmpi .sle main_arg5 main_v34
  let main_v36 : IVec S128 1 := andi main_v33 main_v35
  let main_v37 : IVec S128x1 32 := broadcastInDim S128x1 ![0] bcast_S128_S128x1_0 main_arg3
  let main_v38 : IVec S80 32 := iotaInDim S80 32 0
  let main_v39 : IVec S1x80 32 := broadcastInDim S1x80 ![1] bcast_S80_S1x80_1 main_v38
  let main_v40 : IVec S128x80 32 := broadcastInDim S128x80 ![0, 1] bcast_S128x1_S128x80_0_1 main_v37
  let main_v41 : IVec S128x80 32 := broadcastInDim S128x80 ![0, 1] bcast_S1x80_S128x80_0_1 main_v39
  let main_v42 : IVec S128x80 1 := cmpi .eq main_v40 main_v41
  let main_v43 : IVec S128x1 32 := broadcastInDim S128x1 ![0] bcast_S128_S128x1_0 main_arg4
  let main_v44 : IVec S1x80 32 := broadcastInDim S1x80 ![1] bcast_S80_S1x80_1 main_arg7
  let main_v45 : IVec S128x80 32 := broadcastInDim S128x80 ![0, 1] bcast_S128x1_S128x80_0_1 main_v43
  let main_v46 : IVec S128x80 32 := broadcastInDim S128x80 ![0, 1] bcast_S1x80_S128x80_0_1 main_v44
  let main_v47 : IVec S128x80 1 := cmpi .eq main_v45 main_v46
  let main_v48 : IVec S1x80 32 := broadcastInDim S1x80 ![1] bcast_S80_S1x80_1 main_arg6
  let main_c_12 : IVec S_ 32 := constantI S_ 32 0#32
  let main_v49 : IVec S1x80 32 := broadcastInDim S1x80 ![] bcast_S_S1x80 main_c_12
  let main_v50 : IVec S1x80 1 := cmpi .sgt main_v48 main_v49
  let main_v51 : IVec S128x80 1 := broadcastInDim S128x80 ![0, 1] bcast_S1x80_S128x80_0_1 main_v50
  let main_v52 : IVec S128x80 1 := andi main_v47 main_v51
  let main_v53 : IVec S128x80 1 := noti main_v42
  let main_v54 : IVec S128 1 := ori main_v1 main_v3
  let main_v55 : IVec S128x1 1 := broadcastInDim S128x1 ![0] bcast_S128_S128x1_0 main_v54
  let main_v56 : IVec S128x1 1 := noti main_v55
  let main_v57 : IVec S128x80 1 := broadcastInDim S128x80 ![0, 1] bcast_S128x1_S128x80_0_1 main_v56
  fn_part3 (F := F) main_arg3 main_arg4 main_arg5 main_arg6 main_v1 main_v3 main_v5 main_v7 main_v13 main_v36 main_v52 main_v53 main_v57

def fn_part1 {F : FTy → Type} [FloatOps F] (main_arg2 : IVec S128 32) (main_arg3 : IVec S128 32) (main_arg4 : IVec S128 32) (main_arg5 : IVec S128 32) (main_arg6 : IVec S80 32) (main_arg7 : IVec S80 32) (main_v1 : IVec S128 1) (main_v3 : IVec S128 1) (main_v5 : IVec S128 1) (main_v7 : IVec S128 1) (main_v13 : IVec S128 1) (main_v15 : IVec S128 1) (main_v16 : IVec S128 32) : IVec S128 1 × IVec S128x80 1 × IVec S127 1 × IVec S1 1 × IVec S1 1 :=
  let main_v17 : IVec S128 1 := cmpi .sle main_arg2 main_v16
  let main_v18 : IVec S128 1 := andi main_v15 main_v17
  let main_c_6 : IVec S_ 32 := constantI S_ 32 0#32
  let main_v19 : IVec S128 32 := broadcastInDim S128 ![] bcast_S_S128 main_c_6
  let main_v20 : IVec S128 1 := cmpi .sge main_arg3 main_v19
  let main_v21 : IVec S128 1 := andi main_v18 main_v20
  let main_c_7 : IVec S_ 32 := constantI S_ 32 80#32
  let main_v22 : IVec S128 32 := broadcastInDim S128 ![] bcast_S_S128 main_c_7
  let main_v23 : IVec S128 1 := cmpi .slt main_arg3 main_v22
  let main_v24 : IVec S128 1 := andi main_v21 main_v23
  let main_c_8 : IVec S_ 32 := constantI S_ 32 0#32
  let main_v25 : IVec S128 32 := broadcastInDim S128 ![] bcast_S_S128 main_c_8
  let main_v26 : IVec S128 1 := cmpi .sge main_arg4 main_v25
  let main_v27 : IVec S128 1 := andi main_v24 main_v26
  let main_c_9 : IVec S_ 32 := constantI S_ 32 8#32
  let main_v28 : IVec S128 32 := broadcastInDim S128 ![] bcast_S_S128 main_c_9
  let main_v29 : IVec S128 1 := cmpi .slt main_arg4 main_v28
  let main_v30 : IVec S128 1 := andi main_v27 main_v29
  let main_c_10 : IVec S_ 32 := constantI S_ 32 0#32
  let main_v31 : IVec S128 32 := broadcastInDim S128 ![] bcast_S_S128 main_c_10
  let main_v32 : IVec S128 1 := cmpi .sge main_arg5 main_v31
  let main_v33 : IVec S128 1 := andi main_v30 main_v32
  let main_c_11 : IVec S_ 32 := constantI S_ 32 6#32
  let main_v34 : IVec S128 32 := broadcastInDim S128 ![] bcast_S_S128 main_c_11
  fn_part2 (F := F) main_arg3 main_arg4 main_arg5 main_arg6 main_arg7 main_v1 main_v3 main_v5 main_v7 main_v13 main_v33 main_v34

def fn {F : FTy → Type} [FloatOps F] (main_arg0 : FVec F S20480x14336 .bf16) (main_arg1 : FVec F S8x14336x4096 .f32) (main_arg2 : IVec S128 32) (main_arg3 : IVec S128 32) (main_arg4 : IVec S128 32) (main_arg5 : IVec S128 32) (main_arg6 : IVec S80 32) (main_arg7 : IVec S80 32) : IVec S128 1 × IVec S128x80 1 × IVec S127 1 × IVec S1 1 × IVec S1 1 :=
  let main_c : IVec S_ 32 := constantI S_ 32 1#32
  let main_v0 : IVec S128 32 := broadcastInDim S128 ![] bcast_S_S128 main_c
  let main_v1 : IVec S128 1 := cmpi .eq main_arg2 main_v0
  let main_c_0 : IVec S_ 32 := constantI S_ 32 2#32
  let main_v2 : IVec S128 32 := broadcastInDim S128 ![] bcast_S_S128 main_c_0
  let main_v3 : IVec S128 1 := cmpi .eq main_arg2 main_v2
  let main_c_1 : IVec S_ 32 := constantI S_ 32 3#32
  let main_v4 : IVec S128 32 := broadcastInDim S128 ![] bcast_S_S128 main_c_1
  let main_v5 : IVec S128 1 := cmpi .eq main_arg2 main_v4
  let main_c_2 : IVec S_ 32 := constantI S_ 32 0#32
  let main_v6 : IVec S128 32 := broadcastInDim S128 ![] bcast_S_S128 main_c_2
  let main_v7 : IVec S128 1 := cmpi .eq main_arg2 main_v6
  let main_v8 : IVec S128 1 := ori main_v3 main_v5
  let main_v9 : IVec S128 1 := ori main_v8 main_v7
  let main_c_3 : IVec S_ 32 := constantI S_ 32 6#32
  let main_v10 : IVec S128 32 := broadcastInDim S128 ![] bcast_S_S128 main_c_3
  let main_v11 : IVec S128 1 := cmpi .eq main_arg5 main_v10
  let main_v12 : IVec S128 1 := andi main_v1 main_v11
  let main_v13 : IVec S128 1 := ori main_v9 main_v12
  let main_c_4 : IVec S_ 32 := constantI S_ 32 0#32
  let main_v14 : IVec S128 32 := broadcastInDim S128 ![] bcast_S_S128 main_c_4
  let main_v15 : IVec S128 1 := cmpi .sge main_arg2 main_v14
  let main_c_5 : IVec S_ 32 := constantI S_ 32 3#32
  let main_v16 : IVec S128 32 := broadcastInDim S128 ![] bcast_S_S128 main_c_5
  fn_part1 (F := F) main_arg2 main_arg3 main_arg4 main_arg5 main_arg6 main_arg7 main_v1 main_v3 main_v5 main_v7 main_v13 main_v15 main_v16
-- ==== Pre_schedule_covers_tiles.lean ====
abbrev S20480x4096 : Shape := ⟨2, ![20480, 4096]⟩
abbrev S8x4096x14336 : Shape := ⟨3, ![8, 4096, 14336]⟩
abbrev S64 : Shape := ⟨1, ![64]⟩
abbrev S40 : Shape := ⟨1, ![40]⟩
abbrev S_ : Shape := ⟨0, ![]⟩
abbrev S64x1 : Shape := ⟨2, ![64, 1]⟩
abbrev S1x40 : Shape := ⟨2, ![1, 40]⟩
abbrev S64x40 : Shape := ⟨2, ![64, 40]⟩
abbrev S63 : Shape := ⟨1, ![63]⟩
abbrev S1 : Shape := ⟨1, ![1]⟩

class Facts : Prop where
  bcast_S_S64 : S_.BroadcastsInDim S64 (![] : Fin 0 → Fin S64.rank)
  bcast_S64_S64x1_0 : S64.BroadcastsInDim S64x1 (![0] : Fin 1 → Fin S64x1.rank)
  bcast_S40_S1x40_1 : S40.BroadcastsInDim S1x40 (![1] : Fin 1 → Fin S1x40.rank)
  bcast_S64x1_S64x40_0_1 : S64x1.BroadcastsInDim S64x40 (![0, 1] : Fin 2 → Fin S64x40.rank)
  bcast_S1x40_S64x40_0_1 : S1x40.BroadcastsInDim S64x40 (![0, 1] : Fin 2 → Fin S64x40.rank)
  bcast_S_S1x40 : S_.BroadcastsInDim S1x40 (![] : Fin 0 → Fin S1x40.rank)
  slices_S64_S63_1 : S64.Slices ![1] S63
  slices_S64_S63_0 : S64.Slices ![0] S63
  bcast_S_S63 : S_.BroadcastsInDim S63 (![] : Fin 0 → Fin S63.rank)
  slices_S64_S1_0 : S64.Slices ![0] S1
  bcast_S_S1 : S_.BroadcastsInDim S1 (![] : Fin 0 → Fin S1.rank)
  slices_S64_S1_63 : S64.Slices ![63] S1

variable [Facts]

def fn_part6 {F : FTy → Type} [FloatOps F] (main_arg4 : IVec S64 32) (main_v13 : IVec S64 1) (main_v36 : IVec S64 1) (main_v68 : IVec S64x40 1) (main_v117 : IVec S63 1) (main_v120 : IVec S1 1) (main_v121 : IVec S1 1) (main_v122 : IVec S1 1) (main_v123 : IVec S1 32) : IVec S64 1 × IVec S64x40 1 × IVec S63 1 × IVec S1 1 × IVec S1 1 :=
  let main_c_19 : IVec S_ 32 := constantI S_ 32 0#32
  let main_v124 : IVec S1 32 := broadcastInDim S1 ![] bcast_S_S1 main_c_19
  let main_v125 : IVec S1 1 := cmpi .eq main_v123 main_v124
  let main_v126 : IVec S1 1 := andi main_v122 main_v125
  let main_v127 : IVec S1 1 := ori main_v121 main_v126
  let main_v128 : IVec S1 1 := andi main_v120 main_v127
  let main_v129 : IVec S1 32 := (extractStridedSlice S1 ![63] · slices_S64_S1_63) main_arg4
  let main_c_20 : IVec S_ 32 := constantI S_ 32 39#32
  let main_v130 : IVec S1 32 := broadcastInDim S1 ![] bcast_S_S1 main_c_20
  let main_v131 : IVec S1 1 := cmpi .eq main_v129 main_v130
  let main_v132 : IVec S1 1 := (extractStridedSlice S1 ![63] · slices_S64_S1_63) main_v13
  let main_v133 : IVec S1 1 := andi main_v131 main_v132
  (main_v36, main_v68, main_v117, main_v128, main_v133)

def fn_part5 {F : FTy → Type} [FloatOps F] (main_arg4 : IVec S64 32) (main_arg6 : IVec S64 32) (main_v1 : IVec S64 1) (main_v3 : IVec S64 1) (main_v5 : IVec S64 1) (main_v13 : IVec S64 1) (main_v36 : IVec S64 1) (main_v68 : IVec S64x40 1) (main_v71 : IVec S63 1) (main_v74 : IVec S63 1) (main_v88 : IVec S63 1) (main_v94 : IVec S63 1) (main_v101 : IVec S63 1) : IVec S64 1 × IVec S64x40 1 × IVec S63 1 × IVec S1 1 × IVec S1 1 :=
  let main_v102 : IVec S63 1 := andi main_v101 main_v74
  let main_v103 : IVec S63 1 := andi main_v102 main_v71
  let main_v104 : IVec S63 1 := ori main_v94 main_v103
  let main_v105 : IVec S63 1 := andi main_v88 main_v104
  let main_v106 : IVec S63 1 := (extractStridedSlice S63 ![1] · slices_S64_S63_1) main_v3
  let main_v107 : IVec S63 1 := noti main_v106
  let main_v108 : IVec S63 1 := (extractStridedSlice S63 ![0] · slices_S64_S63_0) main_v3
  let main_v109 : IVec S63 1 := (extractStridedSlice S63 ![0] · slices_S64_S63_0) main_v1
  let main_v110 : IVec S63 32 := (extractStridedSlice S63 ![0] · slices_S64_S63_0) main_arg6
  let main_c_17 : IVec S_ 32 := constantI S_ 32 3#32
  let main_v111 : IVec S63 32 := broadcastInDim S63 ![] bcast_S_S63 main_c_17
  let main_v112 : IVec S63 1 := cmpi .eq main_v110 main_v111
  let main_v113 : IVec S63 1 := andi main_v109 main_v112
  let main_v114 : IVec S63 1 := ori main_v108 main_v113
  let main_v115 : IVec S63 1 := andi main_v74 main_v114
  let main_v116 : IVec S63 1 := ori main_v107 main_v115
  let main_v117 : IVec S63 1 := andi main_v105 main_v116
  let main_v118 : IVec S1 32 := (extractStridedSlice S1 ![0] · slices_S64_S1_0) main_arg4
  let main_c_18 : IVec S_ 32 := constantI S_ 32 0#32
  let main_v119 : IVec S1 32 := broadcastInDim S1 ![] bcast_S_S1 main_c_18
  let main_v120 : IVec S1 1 := cmpi .eq main_v118 main_v119
  let main_v121 : IVec S1 1 := (extractStridedSlice S1 ![0] · slices_S64_S1_0) main_v5
  let main_v122 : IVec S1 1 := (extractStridedSlice S1 ![0] · slices_S64_S1_0) main_v1
  let main_v123 : IVec S1 32 := (extractStridedSlice S1 ![0] · slices_S64_S1_0) main_arg6
  fn_part6 (F := F) main_arg4 main_v13 main_v36 main_v68 main_v117 main_v120 main_v121 main_v122 main_v123

def fn_part4 {F : FTy → Type} [FloatOps F] (main_arg4 : IVec S64 32) (main_arg6 : IVec S64 32) (main_v1 : IVec S64 1) (main_v3 : IVec S64 1) (main_v5 : IVec S64 1) (main_v7 : IVec S64 1) (main_v13 : IVec S64 1) (main_v36 : IVec S64 1) (main_v68 : IVec S64x40 1) (main_v71 : IVec S63 1) (main_v74 : IVec S63 1) (main_v79 : IVec S63 1) : IVec S64 1 × IVec S64x40 1 × IVec S63 1 × IVec S1 1 × IVec S1 1 :=
  let main_v80 : IVec S63 1 := (extractStridedSlice S63 ![0] · slices_S64_S63_0) main_v13
  let main_v81 : IVec S63 1 := andi main_v79 main_v80
  let main_v82 : IVec S63 1 := ori main_v71 main_v81
  let main_v83 : IVec S63 1 := (extractStridedSlice S63 ![1] · slices_S64_S63_1) main_v7
  let main_v84 : IVec S63 1 := noti main_v83
  let main_v85 : IVec S63 1 := (extractStridedSlice S63 ![0] · slices_S64_S63_0) main_v13
  let main_v86 : IVec S63 1 := andi main_v71 main_v85
  let main_v87 : IVec S63 1 := ori main_v84 main_v86
  let main_v88 : IVec S63 1 := andi main_v82 main_v87
  let main_v89 : IVec S63 1 := (extractStridedSlice S63 ![1] · slices_S64_S63_1) main_v1
  let main_v90 : IVec S63 32 := (extractStridedSlice S63 ![1] · slices_S64_S63_1) main_arg6
  let main_c_15 : IVec S_ 32 := constantI S_ 32 0#32
  let main_v91 : IVec S63 32 := broadcastInDim S63 ![] bcast_S_S63 main_c_15
  let main_v92 : IVec S63 1 := cmpi .sgt main_v90 main_v91
  let main_v93 : IVec S63 1 := andi main_v89 main_v92
  let main_v94 : IVec S63 1 := noti main_v93
  let main_v95 : IVec S63 1 := (extractStridedSlice S63 ![0] · slices_S64_S63_0) main_v1
  let main_v96 : IVec S63 32 := (extractStridedSlice S63 ![1] · slices_S64_S63_1) main_arg6
  let main_v97 : IVec S63 32 := (extractStridedSlice S63 ![0] · slices_S64_S63_0) main_arg6
  let main_c_16 : IVec S_ 32 := constantI S_ 32 1#32
  let main_v98 : IVec S63 32 := broadcastInDim S63 ![] bcast_S_S63 main_c_16
  let main_v99 : IVec S63 32 := addi main_v97 main_v98
  let main_v100 : IVec S63 1 := cmpi .eq main_v96 main_v99
  let main_v101 : IVec S63 1 := andi main_v95 main_v100
  fn_part5 (F := F) main_arg4 main_arg6 main_v1 main_v3 main_v5 main_v13 main_v36 main_v68 main_v71 main_v74 main_v88 main_v94 main_v101

def fn_part3 {F : FTy → Type} [FloatOps F] (main_arg4 : IVec S64 32) (main_arg5 : IVec S64 32) (main_arg6 : IVec S64 32) (main_arg7 : IVec S40 32) (main_v1 : IVec S64 1) (main_v3 : IVec S64 1) (main_v5 : IVec S64 1) (main_v7 : IVec S64 1) (main_v13 : IVec S64 1) (main_v36 : IVec S64 1) (main_v52 : IVec S64x40 1) (main_v53 : IVec S64x40 1) (main_v57 : IVec S64x40 1) : IVec S64 1 × IVec S64x40 1 × IVec S63 1 × IVec S1 1 × IVec S1 1 :=
  let main_v58 : IVec S64x40 1 := ori main_v57 main_v52
  let main_v59 : IVec S64x1 1 := broadcastInDim S64x1 ![0] bcast_S64_S64x1_0 main_v5
  let main_v60 : IVec S64x1 1 := noti main_v59
  let main_v61 : IVec S1x40 32 := broadcastInDim S1x40 ![1] bcast_S40_S1x40_1 main_arg7
  let main_c_13 : IVec S_ 32 := constantI S_ 32 0#32
  let main_v62 : IVec S1x40 32 := broadcastInDim S1x40 ![] bcast_S_S1x40 main_c_13
  let main_v63 : IVec S1x40 1 := cmpi .sle main_v61 main_v62
  let main_v64 : IVec S64x40 1 := broadcastInDim S64x40 ![0, 1] bcast_S64x1_S64x40_0_1 main_v60
  let main_v65 : IVec S64x40 1 := broadcastInDim S64x40 ![0, 1] bcast_S1x40_S64x40_0_1 main_v63
  let main_v66 : IVec S64x40 1 := ori main_v64 main_v65
  let main_v67 : IVec S64x40 1 := andi main_v58 main_v66
  let main_v68 : IVec S64x40 1 := ori main_v53 main_v67
  let main_v69 : IVec S63 32 := (extractStridedSlice S63 ![1] · slices_S64_S63_1) main_arg4
  let main_v70 : IVec S63 32 := (extractStridedSlice S63 ![0] · slices_S64_S63_0) main_arg4
  let main_v71 : IVec S63 1 := cmpi .eq main_v69 main_v70
  let main_v72 : IVec S63 32 := (extractStridedSlice S63 ![1] · slices_S64_S63_1) main_arg5
  let main_v73 : IVec S63 32 := (extractStridedSlice S63 ![0] · slices_S64_S63_0) main_arg5
  let main_v74 : IVec S63 1 := cmpi .eq main_v72 main_v73
  let main_v75 : IVec S63 32 := (extractStridedSlice S63 ![1] · slices_S64_S63_1) main_arg4
  let main_v76 : IVec S63 32 := (extractStridedSlice S63 ![0] · slices_S64_S63_0) main_arg4
  let main_c_14 : IVec S_ 32 := constantI S_ 32 1#32
  let main_v77 : IVec S63 32 := broadcastInDim S63 ![] bcast_S_S63 main_c_14
  let main_v78 : IVec S63 32 := addi main_v76 main_v77
  let main_v79 : IVec S63 1 := cmpi .eq main_v75 main_v78
  fn_part4 (F := F) main_arg4 main_arg6 main_v1 main_v3 main_v5 main_v7 main_v13 main_v36 main_v68 main_v71 main_v74 main_v79

def fn_part2 {F : FTy → Type} [FloatOps F] (main_arg4 : IVec S64 32) (main_arg5 : IVec S64 32) (main_arg6 : IVec S64 32) (main_arg7 : IVec S40 32) (main_arg8 : IVec S40 32) (main_v1 : IVec S64 1) (main_v3 : IVec S64 1) (main_v5 : IVec S64 1) (main_v7 : IVec S64 1) (main_v13 : IVec S64 1) (main_v33 : IVec S64 1) (main_v34 : IVec S64 32) : IVec S64 1 × IVec S64x40 1 × IVec S63 1 × IVec S1 1 × IVec S1 1 :=
  let main_v35 : IVec S64 1 := cmpi .sle main_arg6 main_v34
  let main_v36 : IVec S64 1 := andi main_v33 main_v35
  let main_v37 : IVec S64x1 32 := broadcastInDim S64x1 ![0] bcast_S64_S64x1_0 main_arg4
  let main_v38 : IVec S40 32 := iotaInDim S40 32 0
  let main_v39 : IVec S1x40 32 := broadcastInDim S1x40 ![1] bcast_S40_S1x40_1 main_v38
  let main_v40 : IVec S64x40 32 := broadcastInDim S64x40 ![0, 1] bcast_S64x1_S64x40_0_1 main_v37
  let main_v41 : IVec S64x40 32 := broadcastInDim S64x40 ![0, 1] bcast_S1x40_S64x40_0_1 main_v39
  let main_v42 : IVec S64x40 1 := cmpi .eq main_v40 main_v41
  let main_v43 : IVec S64x1 32 := broadcastInDim S64x1 ![0] bcast_S64_S64x1_0 main_arg5
  let main_v44 : IVec S1x40 32 := broadcastInDim S1x40 ![1] bcast_S40_S1x40_1 main_arg8
  let main_v45 : IVec S64x40 32 := broadcastInDim S64x40 ![0, 1] bcast_S64x1_S64x40_0_1 main_v43
  let main_v46 : IVec S64x40 32 := broadcastInDim S64x40 ![0, 1] bcast_S1x40_S64x40_0_1 main_v44
  let main_v47 : IVec S64x40 1 := cmpi .eq main_v45 main_v46
  let main_v48 : IVec S1x40 32 := broadcastInDim S1x40 ![1] bcast_S40_S1x40_1 main_arg7
  let main_c_12 : IVec S_ 32 := constantI S_ 32 0#32
  let main_v49 : IVec S1x40 32 := broadcastInDim S1x40 ![] bcast_S_S1x40 main_c_12
  let main_v50 : IVec S1x40 1 := cmpi .sgt main_v48 main_v49
  let main_v51 : IVec S64x40 1 := broadcastInDim S64x40 ![0, 1] bcast_S1x40_S64x40_0_1 main_v50
  let main_v52 : IVec S64x40 1 := andi main_v47 main_v51
  let main_v53 : IVec S64x40 1 := noti main_v42
  let main_v54 : IVec S64 1 := ori main_v1 main_v3
  let main_v55 : IVec S64x1 1 := broadcastInDim S64x1 ![0] bcast_S64_S64x1_0 main_v54
  let main_v56 : IVec S64x1 1 := noti main_v55
  let main_v57 : IVec S64x40 1 := broadcastInDim S64x40 ![0, 1] bcast_S64x1_S64x40_0_1 main_v56
  fn_part3 (F := F) main_arg4 main_arg5 main_arg6 main_arg7 main_v1 main_v3 main_v5 main_v7 main_v13 main_v36 main_v52 main_v53 main_v57

def fn_part1 {F : FTy → Type} [FloatOps F] (main_arg3 : IVec S64 32) (main_arg4 : IVec S64 32) (main_arg5 : IVec S64 32) (main_arg6 : IVec S64 32) (main_arg7 : IVec S40 32) (main_arg8 : IVec S40 32) (main_v1 : IVec S64 1) (main_v3 : IVec S64 1) (main_v5 : IVec S64 1) (main_v7 : IVec S64 1) (main_v13 : IVec S64 1) (main_v15 : IVec S64 1) (main_v16 : IVec S64 32) : IVec S64 1 × IVec S64x40 1 × IVec S63 1 × IVec S1 1 × IVec S1 1 :=
  let main_v17 : IVec S64 1 := cmpi .sle main_arg3 main_v16
  let main_v18 : IVec S64 1 := andi main_v15 main_v17
  let main_c_6 : IVec S_ 32 := constantI S_ 32 0#32
  let main_v19 : IVec S64 32 := broadcastInDim S64 ![] bcast_S_S64 main_c_6
  let main_v20 : IVec S64 1 := cmpi .sge main_arg4 main_v19
  let main_v21 : IVec S64 1 := andi main_v18 main_v20
  let main_c_7 : IVec S_ 32 := constantI S_ 32 40#32
  let main_v22 : IVec S64 32 := broadcastInDim S64 ![] bcast_S_S64 main_c_7
  let main_v23 : IVec S64 1 := cmpi .slt main_arg4 main_v22
  let main_v24 : IVec S64 1 := andi main_v21 main_v23
  let main_c_8 : IVec S_ 32 := constantI S_ 32 0#32
  let main_v25 : IVec S64 32 := broadcastInDim S64 ![] bcast_S_S64 main_c_8
  let main_v26 : IVec S64 1 := cmpi .sge main_arg5 main_v25
  let main_v27 : IVec S64 1 := andi main_v24 main_v26
  let main_c_9 : IVec S_ 32 := constantI S_ 32 8#32
  let main_v28 : IVec S64 32 := broadcastInDim S64 ![] bcast_S_S64 main_c_9
  let main_v29 : IVec S64 1 := cmpi .slt main_arg5 main_v28
  let main_v30 : IVec S64 1 := andi main_v27 main_v29
  let main_c_10 : IVec S_ 32 := constantI S_ 32 0#32
  let main_v31 : IVec S64 32 := broadcastInDim S64 ![] bcast_S_S64 main_c_10
  let main_v32 : IVec S64 1 := cmpi .sge main_arg6 main_v31
  let main_v33 : IVec S64 1 := andi main_v30 main_v32
  let main_c_11 : IVec S_ 32 := constantI S_ 32 3#32
  let main_v34 : IVec S64 32 := broadcastInDim S64 ![] bcast_S_S64 main_c_11
  fn_part2 (F := F) main_arg4 main_arg5 main_arg6 main_arg7 main_arg8 main_v1 main_v3 main_v5 main_v7 main_v13 main_v33 main_v34

def fn {F : FTy → Type} [FloatOps F] (main_arg0 : FVec F S20480x4096 .bf16) (main_arg1 : FVec F S8x4096x14336 .f32) (main_arg2 : FVec F S8x4096x14336 .f32) (main_arg3 : IVec S64 32) (main_arg4 : IVec S64 32) (main_arg5 : IVec S64 32) (main_arg6 : IVec S64 32) (main_arg7 : IVec S40 32) (main_arg8 : IVec S40 32) : IVec S64 1 × IVec S64x40 1 × IVec S63 1 × IVec S1 1 × IVec S1 1 :=
  let main_c : IVec S_ 32 := constantI S_ 32 1#32
  let main_v0 : IVec S64 32 := broadcastInDim S64 ![] bcast_S_S64 main_c
  let main_v1 : IVec S64 1 := cmpi .eq main_arg3 main_v0
  let main_c_0 : IVec S_ 32 := constantI S_ 32 2#32
  let main_v2 : IVec S64 32 := broadcastInDim S64 ![] bcast_S_S64 main_c_0
  let main_v3 : IVec S64 1 := cmpi .eq main_arg3 main_v2
  let main_c_1 : IVec S_ 32 := constantI S_ 32 3#32
  let main_v4 : IVec S64 32 := broadcastInDim S64 ![] bcast_S_S64 main_c_1
  let main_v5 : IVec S64 1 := cmpi .eq main_arg3 main_v4
  let main_c_2 : IVec S_ 32 := constantI S_ 32 0#32
  let main_v6 : IVec S64 32 := broadcastInDim S64 ![] bcast_S_S64 main_c_2
  let main_v7 : IVec S64 1 := cmpi .eq main_arg3 main_v6
  let main_v8 : IVec S64 1 := ori main_v3 main_v5
  let main_v9 : IVec S64 1 := ori main_v8 main_v7
  let main_c_3 : IVec S_ 32 := constantI S_ 32 3#32
  let main_v10 : IVec S64 32 := broadcastInDim S64 ![] bcast_S_S64 main_c_3
  let main_v11 : IVec S64 1 := cmpi .eq main_arg6 main_v10
  let main_v12 : IVec S64 1 := andi main_v1 main_v11
  let main_v13 : IVec S64 1 := ori main_v9 main_v12
  let main_c_4 : IVec S_ 32 := constantI S_ 32 0#32
  let main_v14 : IVec S64 32 := broadcastInDim S64 ![] bcast_S_S64 main_c_4
  let main_v15 : IVec S64 1 := cmpi .sge main_arg3 main_v14
  let main_c_5 : IVec S_ 32 := constantI S_ 32 3#32
  let main_v16 : IVec S64 32 := broadcastInDim S64 ![] bcast_S_S64 main_c_5
  fn_part1 (F := F) main_arg3 main_arg4 main_arg5 main_arg6 main_arg7 main_arg8 main_v1 main_v3 main_v5 main_v7 main_v13 main_v15 main_v16
-- ==== Pre_tables_of_layer.lean ====
abbrev S8704x4096 : Shape := ⟨2, ![8704, 4096]⟩
abbrev S2x4096x10240 : Shape := ⟨3, ![2, 4096, 10240]⟩
abbrev S20 : Shape := ⟨1, ![20]⟩
abbrev S1 : Shape := ⟨1, ![1]⟩
abbrev S_ : Shape := ⟨0, ![]⟩

class Facts : Prop where
  bcast_S_S20 : S_.BroadcastsInDim S20 (![] : Fin 0 → Fin S20.rank)
  bcast_S1_S20_0 : S1.BroadcastsInDim S20 (![0] : Fin 1 → Fin S20.rank)
  bcast_S_S1 : S_.BroadcastsInDim S1 (![] : Fin 0 → Fin S1.rank)

variable [Facts]

def fn_where {F : FTy → Type} [FloatOps F] (arg0 : IVec S20 1) (arg1 : IVec S_ 32) (arg2 : IVec S_ 32) : IVec S20 32 :=
  let v0 : IVec S20 32 := broadcastInDim S20 ![] bcast_S_S20 arg1
  let v1 : IVec S20 32 := broadcastInDim S20 ![] bcast_S_S20 arg2
  let v2 : IVec S20 32 := select arg0 v0 v1
  v2

def fn_part1 {F : FTy → Type} [FloatOps F] (main_arg6 : IVec S1 32) (main_v5 : IVec S20 1) (main_v10 : IVec S20 1) (main_v13 : IVec S20 1) (main_v15 : IVec S20 1) (main_v16 : IVec S1 32) : IVec S20 1 × IVec S20 1 × IVec S20 1 × IVec S20 1 × IVec S1 1 :=
  let main_v17 : IVec S1 1 := cmpi .sge main_arg6 main_v16
  let main_c_6 : IVec S_ 32 := constantI S_ 32 2#32
  let main_v18 : IVec S1 32 := broadcastInDim S1 ![] bcast_S_S1 main_c_6
  let main_v19 : IVec S1 1 := cmpi .slt main_arg6 main_v18
  let main_v20 : IVec S1 1 := andi main_v17 main_v19
  (main_v5, main_v10, main_v13, main_v15, main_v20)

def fn {F : FTy → Type} [FloatOps F] (main_arg0 : FVec F S8704x4096 .bf16) (main_arg1 : FVec F S2x4096x10240 .f32) (main_arg2 : IVec S20 32) (main_arg3 : IVec S20 32) (main_arg4 : IVec S20 32) (main_arg5 : IVec S20 32) (main_arg6 : IVec S1 32) : IVec S20 1 × IVec S20 1 × IVec S20 1 × IVec S20 1 × IVec S1 1 :=
  let main_v0 : IVec S20 32 := iotaInDim S20 32 0
  let main_c : IVec S_ 32 := constantI S_ 32 4#32
  let main_v1 : IVec S20 32 := broadcastInDim S20 ![] bcast_S_S20 main_c
  let main_v2 : IVec S20 1 := cmpi .slt main_v0 main_v1
  let main_c_0 : IVec S_ 32 := constantI S_ 32 1#32
  let main_c_1 : IVec S_ 32 := constantI S_ 32 2#32
  let main_v3 : IVec S20 32 := fn_where (F := F) main_v2 main_c_0 main_c_1
  let main_v4 : IVec S20 32 := id main_v3
  let main_v5 : IVec S20 1 := cmpi .eq main_arg2 main_v4
  let main_c_2 : IVec S_ 32 := constantI S_ 32 3#32
  let main_v6 : IVec S20 32 := broadcastInDim S20 ![] bcast_S_S20 main_c_2
  let main_v7 : IVec S20 32 := subi main_v0 main_v6
  let main_c_3 : IVec S_ 32 := constantI S_ 32 0#32
  let main_v8 : IVec S20 32 := broadcastInDim S20 ![] bcast_S_S20 main_c_3
  let main_v9 : IVec S20 32 := maxsi main_v7 main_v8
  let main_v10 : IVec S20 1 := cmpi .eq main_arg3 main_v9
  let main_c_4 : IVec S_ 32 := constantI S_ 32 3#32
  let main_v11 : IVec S20 32 := broadcastInDim S20 ![] bcast_S_S20 main_c_4
  let main_v12 : IVec S20 32 := minsi main_v0 main_v11
  let main_v13 : IVec S20 1 := cmpi .eq main_arg5 main_v12
  let main_v14 : IVec S20 32 := broadcastInDim S20 ![0] bcast_S1_S20_0 main_arg6
  let main_v15 : IVec S20 1 := cmpi .eq main_arg4 main_v14
  let main_c_5 : IVec S_ 32 := constantI S_ 32 0#32
  let main_v16 : IVec S1 32 := broadcastInDim S1 ![] bcast_S_S1 main_c_5
  fn_part1 (F := F) main_arg6 main_v5 main_v10 main_v13 main_v15 main_v16
-- ==== Kernel.lean ====
abbrev S8704x10240 : Shape := ⟨2, ![8704, 10240]⟩
abbrev S4x2048 : Shape := ⟨2, ![4, 2048]⟩
abbrev S2048 : Shape := ⟨1, ![2048]⟩
abbrev S16x128x128 : Shape := ⟨3, ![16, 128, 128]⟩
abbrev S_ : Shape := ⟨0, ![]⟩
abbrev S4x8x2048 : Shape := ⟨3, ![4, 8, 2048]⟩
abbrev S8704x4096 : Shape := ⟨2, ![8704, 4096]⟩
abbrev S4x1x2048 : Shape := ⟨3, ![4, 1, 2048]⟩
abbrev S1x2048 : Shape := ⟨2, ![1, 2048]⟩
abbrev S256x512 : Shape := ⟨2, ![256, 512]⟩
abbrev S1x8x512 : Shape := ⟨3, ![1, 8, 512]⟩
abbrev S1x1x512 : Shape := ⟨3, ![1, 1, 512]⟩
abbrev S4x512 : Shape := ⟨2, ![4, 512]⟩
abbrev S1x512 : Shape := ⟨2, ![1, 512]⟩
abbrev S4x128x128 : Shape := ⟨3, ![4, 128, 128]⟩
abbrev S8x512 : Shape := ⟨2, ![8, 512]⟩
abbrev S264x512 : Shape := ⟨2, ![264, 512]⟩
abbrev S256x128 : Shape := ⟨2, ![256, 128]⟩
abbrev S1x128x128 : Shape := ⟨3, ![1, 128, 128]⟩
abbrev S128x128 : Shape := ⟨2, ![128, 128]⟩

abbrev nBuf : Space → Nat
  | .hbm => 21
  | .vmem => 28
  | .smem => 0
  | _ => 0

abbrev bufTy : (tb : Table) → Fin (tcTables nBuf tb) → BufTy
  | .hbm, ⟨0, _⟩ => ⟨S8704x10240, .f32⟩
  | .hbm, ⟨1, _⟩ => ⟨S4x2048, .f32⟩
  | .hbm, ⟨2, _⟩ => ⟨S2048, .f32⟩
  | .hbm, ⟨3, _⟩ => ⟨S16x128x128, .f32⟩
  | .hbm, ⟨4, _⟩ => ⟨S2048, .f32⟩
  | .hbm, ⟨5, _⟩ => ⟨S16x128x128, .f32⟩
  | .hbm, ⟨6, _⟩ => ⟨S2048, .f32⟩
  | .hbm, ⟨7, _⟩ => ⟨S2048, .f32⟩
  | .hbm, ⟨8, _⟩ => ⟨S_, .f32⟩
  | .hbm, ⟨9, _⟩ => ⟨S4x8x2048, .f32⟩
  | .hbm, ⟨10, _⟩ => ⟨S_, .f32⟩
  | .hbm, ⟨11, _⟩ => ⟨S4x2048, .f32⟩
  | .hbm, ⟨12, _⟩ => ⟨S_, .bf16⟩
  | .hbm, ⟨13, _⟩ => ⟨S8704x4096, .bf16⟩
  | .hbm, ⟨14, _⟩ => ⟨S4x1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8704x4096, .bf16⟩
  | .hbm, ⟨20, _⟩ => ⟨S4x1x2048, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S1x8x512, .f32⟩
  | .local _ .vmem, ⟨5, _⟩ => ⟨S1x8x512, .f32⟩
  | .local _ .vmem, ⟨6, _⟩ => ⟨S1x1x512, .f32⟩
  | .local _ .vmem, ⟨7, _⟩ => ⟨S1x1x512, .f32⟩
  | .local _ .vmem, ⟨8, _⟩ => ⟨S4x512, .f32⟩
  | .local _ .vmem, ⟨9, _⟩ => ⟨S4x512, .f32⟩
  | .local _ .vmem, ⟨10, _⟩ => ⟨S1x512, .f32⟩
  | .local _ .vmem, ⟨11, _⟩ => ⟨S1x512, .f32⟩
  | .local _ .vmem, ⟨12, _⟩ => ⟨S4x128x128, .f32⟩
  | .local _ .vmem, ⟨13, _⟩ => ⟨S4x128x128, .f32⟩
  | .local _ .vmem, ⟨14, _⟩ => ⟨S1x512, .f32⟩
  | .local _ .vmem, ⟨15, _⟩ => ⟨S1x512, .f32⟩
  | .local _ .vmem, ⟨16, _⟩ => ⟨S4x128x128, .f32⟩
  | .local _ .vmem, ⟨17, _⟩ => ⟨S4x128x128, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S1x1x512, .f32⟩
  | .local _ .vmem, ⟨25, _⟩ => ⟨S1x1x512, .f32⟩
  | .local _ .vmem, ⟨26, _⟩ => ⟨S8x512, .f32⟩
  | .local _ .vmem, ⟨27, _⟩ => ⟨S1x512, .f32⟩
  | _, _ => ⟨S8704x10240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v231 : BitVec 1 := Scalar.cmpi .eq arg2 c7_i32
  let v232 : BitVec 32 := Scalar.extui v231
  let c0_i32_97 : BitVec 32 := 0#32
  let v233 : BitVec 1 := Scalar.cmpi .ne v232 c0_i32_97
  v233

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg1
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c4_i32 : BitVec 32 := 4#32
  let v3 : BitVec 32 := Scalar.addi c4_i32 arg1
  let c0_i32_0 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S1x1x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== ReferenceIdeal.lean ====
abbrev S8704x10240 : Shape := ⟨2, ![8704, 10240]⟩
abbrev S4x2048 : Shape := ⟨2, ![4, 2048]⟩
abbrev S2048 : Shape := ⟨1, ![2048]⟩
abbrev S16x128x128 : Shape := ⟨3, ![16, 128, 128]⟩
abbrev S8192x10240 : Shape := ⟨2, ![8192, 10240]⟩
abbrev S4x2048x10240 : Shape := ⟨3, ![4, 2048, 10240]⟩
abbrev S4x2048x2048 : Shape := ⟨3, ![4, 2048, 2048]⟩
abbrev S_ : Shape := ⟨0, ![]⟩
abbrev S4x3x2048 : Shape := ⟨3, ![4, 3, 2048]⟩
abbrev S4x2051x2048 : Shape := ⟨3, ![4, 2051, 2048]⟩
abbrev S1x1x2048 : Shape := ⟨3, ![1, 1, 2048]⟩
abbrev S1x2048 : Shape := ⟨2, ![1, 2048]⟩
abbrev S4x2048x16x128 : Shape := ⟨4, ![4, 2048, 16, 128]⟩
abbrev S16x128x4x2048 : Shape := ⟨4, ![16, 128, 4, 2048]⟩
abbrev S2048x4x2048 : Shape := ⟨3, ![2048, 4, 2048]⟩
abbrev S1x4x2048 : Shape := ⟨3, ![1, 4, 2048]⟩
abbrev S8192x2048 : Shape := ⟨2, ![8192, 2048]⟩
abbrev S8704x4096 : Shape := ⟨2, ![8704, 4096]⟩
abbrev S4x1x2048 : Shape := ⟨3, ![4, 1, 2048]⟩

abbrev nBuf : Space → Nat
  | .hbm => 159
  | .vmem => 0
  | .smem => 0
  | _ => 0

abbrev hbmTy0_0 (i : Nat) : BufTy := match i % 128 with
  | 0 => ⟨S8704x10240, .f32⟩
  | 1 => ⟨S4x2048, .f32⟩
  | 2 => ⟨S2048, .f32⟩
  | 3 => ⟨S16x128x128, .f32⟩
  | 4 => ⟨S2048, .f32⟩
  | 5 => ⟨S16x128x128, .f32⟩
  | 6 => ⟨S2048, .f32⟩
  | 7 => ⟨S2048, .f32⟩
  | 8 => ⟨S8192x10240, .f32⟩
  | 9 => ⟨S4x2048x10240, .f32⟩
  | 10 => ⟨S4x2048x2048, .f32⟩
  | 11 => ⟨S4x2048x2048, .f32⟩
  | 12 => ⟨S_, .f32⟩
  | 13 => ⟨S4x3x2048, .f32⟩
  | 14 => ⟨S_, .f32⟩
  | 15 => ⟨S4x2048, .f32⟩
  | 16 => ⟨S4x2051x2048, .f32⟩
  | 17 => ⟨S1x1x2048, .f32⟩
  | 18 => ⟨S1x2048, .f32⟩
  | 19 => ⟨S2048, .f32⟩
  | 20 => ⟨S1x1x2048, .f32⟩
  | 21 => ⟨S4x2048x2048, .f32⟩
  | 22 => ⟨S4x2048x2048, .f32⟩
  | 23 => ⟨S4x2048x2048, .f32⟩
  | 24 => ⟨S4x2048x2048, .f32⟩
  | 25 => ⟨S4x2048x2048, .f32⟩
  | 26 => ⟨S1x2048, .f32⟩
  | 27 => ⟨S2048, .f32⟩
  | 28 => ⟨S1x1x2048, .f32⟩
  | 29 => ⟨S4x2048x2048, .f32⟩
  | 30 => ⟨S4x2048x2048, .f32⟩
  | 31 => ⟨S4x2048x2048, .f32⟩
  | 32 => ⟨S4x2048x2048, .f32⟩
  | 33 => ⟨S1x2048, .f32⟩
  | 34 => ⟨S2048, .f32⟩
  | 35 => ⟨S1x1x2048, .f32⟩
  | 36 => ⟨S4x2048x2048, .f32⟩
  | 37 => ⟨S4x2048x2048, .f32⟩
  | 38 => ⟨S4x2048x2048, .f32⟩
  | 39 => ⟨S4x2048x2048, .f32⟩
  | 40 => ⟨S1x2048, .f32⟩
  | 41 => ⟨S2048, .f32⟩
  | 42 => ⟨S1x1x2048, .f32⟩
  | 43 => ⟨S4x2048x2048, .f32⟩
  | 44 => ⟨S4x2048x2048, .f32⟩
  | 45 => ⟨S4x2048x2048, .f32⟩
  | 46 => ⟨S4x2048x2048, .f32⟩
  | 47 => ⟨S4x2048x16x128, .f32⟩
  | 48 => ⟨S16x128x4x2048, .f32⟩
  | 49 => ⟨S4x2048x16x128, .f32⟩
  | 50 => ⟨S4x2048x2048, .f32⟩
  | 51 => ⟨S1x1x2048, .f32⟩
  | 52 => ⟨S4x2048x2048, .f32⟩
  | 53 => ⟨S4x2048x2048, .f32⟩
  | 54 => ⟨S4x2048x2048, .f32⟩
  | 55 => ⟨S4x2048x2048, .f32⟩
  | 56 => ⟨S_, .f32⟩
  | 57 => ⟨S4x2048x2048, .f32⟩
  | 58 => ⟨S4x2048x2048, .f32⟩
  | 59 => ⟨S_, .f32⟩
  | 60 => ⟨S4x2048x2048, .f32⟩
  | 61 => ⟨S4x2048x2048, .f32⟩
  | 62 => ⟨S16x128x4x2048, .f32⟩
  | 63 => ⟨S4x2048x16x128, .f32⟩
  | 64 => ⟨S4x2048x2048, .f32⟩
  | 65 => ⟨S1x1x2048, .f32⟩
  | 66 => ⟨S4x2048x2048, .f32⟩
  | 67 => ⟨S4x2048x2048, .f32⟩
  | 68 => ⟨S4x2048x2048, .f32⟩
  | 69 => ⟨S4x2048x2048, .f32⟩
  | 70 => ⟨S_, .f32⟩
  | 71 => ⟨S4x2048x2048, .f32⟩
  | 72 => ⟨S4x2048x2048, .f32⟩
  | 73 => ⟨S_, .f32⟩
  | 74 => ⟨S4x2048x2048, .f32⟩
  | 75 => ⟨S4x2048x2048, .f32⟩
  | 76 => ⟨S_, .f32⟩
  | 77 => ⟨S4x2048x2048, .f32⟩
  | 78 => ⟨S4x2048x2048, .f32⟩
  | 79 => ⟨S2048, .f32⟩
  | 80 => ⟨S_, .f32⟩
  | 81 => ⟨S2048, .f32⟩
  | 82 => ⟨S2048, .f32⟩
  | 83 => ⟨S2048, .f32⟩
  | 84 => ⟨S2048, .f32⟩
  | 85 => ⟨S2048, .i1⟩
  | 86 => ⟨S2048, .f32⟩
  | 87 => ⟨S2048, .f32⟩
  | 88 => ⟨S2048, .f32⟩
  | 89 => ⟨S2048, .f32⟩
  | 90 => ⟨S2048, .f32⟩
  | 91 => ⟨S2048, .f32⟩
  | 92 => ⟨S2048, .f32⟩
  | 93 => ⟨S2048, .f32⟩
  | 94 => ⟨S1x1x2048, .f32⟩
  | 95 => ⟨S4x2048x2048, .f32⟩
  | 96 => ⟨S4x2048x2048, .f32⟩
  | 97 => ⟨S4x2048x2048, .f32⟩
  | 98 => ⟨S_, .f32⟩
  | 99 => ⟨S4x2048x2048, .f32⟩
  | 100 => ⟨S4x2048x2048, .f32⟩
  | 101 => ⟨S4x2048x2048, .f32⟩
  | 102 => ⟨S4x2048x2048, .f32⟩
  | 103 => ⟨S4x2048x2048, .f32⟩
  | 104 => ⟨S4x2048x2048, .f32⟩
  | 105 => ⟨S4x2048x2048, .f32⟩
  | 106 => ⟨S2048x4x2048, .f32⟩
  | 107 => ⟨S2048x4x2048, .f32⟩
  | 108 => ⟨S_, .f32⟩
  | 109 => ⟨S2048x4x2048, .f32⟩
  | 110 => ⟨S_, .i32⟩
  | 111 => ⟨S2048x4x2048, .f32⟩
  | 112 => ⟨S2048x4x2048, .f32⟩
  | 113 => ⟨S_, .i32⟩
  | 114 => ⟨S4x2048, .f32⟩
  | 115 => ⟨S2048x4x2048, .f32⟩
  | 116 => ⟨S_, .i32⟩
  | 117 => ⟨S_, .i1⟩
  | 118 => ⟨S_, .i32⟩
  | 119 => ⟨S_, .i32⟩
  | 120 => ⟨S1x4x2048, .f32⟩
  | 121 => ⟨S4x2048, .f32⟩
  | 122 => ⟨S_, .i32⟩
  | 123 => ⟨S_, .i32⟩
  | 124 => ⟨S1x4x2048, .f32⟩
  | 125 => ⟨S4x2048, .f32⟩
  | 126 => ⟨S4x2048, .f32⟩
  | 127 => ⟨S4x2048, .f32⟩
  | _ => ⟨S8704x10240, .f32⟩

abbrev hbmTy0_1 (i : Nat) : BufTy := match i % 128 with
  | 0 => ⟨S1x4x2048, .f32⟩
  | 1 => ⟨S_, .i32⟩
  | 2 => ⟨S_, .i32⟩
  | 3 => ⟨S2048x4x2048, .f32⟩
  | 4 => ⟨S_, .i32⟩
  | 5 => ⟨S_, .i32⟩
  | 6 => ⟨S4x2048x2048, .f32⟩
  | 7 => ⟨S4x2048x2048, .f32⟩
  | 8 => ⟨S4x2048x2048, .f32⟩
  | 9 => ⟨S_, .f32⟩
  | 10 => ⟨S4x2048x2048, .f32⟩
  | 11 => ⟨S4x2048x2048, .f32⟩
  | 12 => ⟨S4x2048x2048, .f32⟩
  | 13 => ⟨S_, .f32⟩
  | 14 => ⟨S4x2048x2048, .f32⟩
  | 15 => ⟨S4x2048x2048, .f32⟩
  | 16 => ⟨S4x2048x2048, .f32⟩
  | 17 => ⟨S_, .f32⟩
  | 18 => ⟨S4x2048x2048, .f32⟩
  | 19 => ⟨S4x2048x2048, .f32⟩
  | 20 => ⟨S_, .f32⟩
  | 21 => ⟨S4x2048x2048, .f32⟩
  | 22 => ⟨S4x2048x2048, .f32⟩
  | 23 => ⟨S4x2048x2048, .f32⟩
  | 24 => ⟨S4x2048x2048, .f32⟩
  | 25 => ⟨S8192x2048, .f32⟩
  | 26 => ⟨S_, .i32⟩
  | 27 => ⟨S_, .f32⟩
  | 28 => ⟨S8704x4096, .f32⟩
  | 29 => ⟨S8704x4096, .bf16⟩
  | 30 => ⟨S4x1x2048, .f32⟩
  | _ => ⟨S8704x10240, .f32⟩

abbrev hbmTy (i : Nat) : BufTy := match i / 128 with
  | 0 => hbmTy0_0 i
  | 1 => hbmTy0_1 i
  | _ => ⟨S8704x10240, .f32⟩

abbrev bufTy : (tb : Table) → Fin (tcTables nBuf tb) → BufTy
  | .hbm, ⟨i, _⟩ => hbmTy i
  | _, _ => ⟨S8704x10240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_1 : Ref sig .tc := ⟨.hbm, 56, rfl⟩
abbrev main_v46 : Ref sig .tc := ⟨.hbm, 57, rfl⟩
abbrev main_v47 : Ref sig .tc := ⟨.hbm, 58, rfl⟩
abbrev main_cst_2 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_cst_4 : Ref sig .tc := ⟨.hbm, 73, rfl⟩
abbrev main_v60 : Ref sig .tc := ⟨.hbm, 74, rfl⟩
abbrev main_v61 : Ref sig .tc := ⟨.hbm, 75, rfl⟩
abbrev main_cst_5 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_call0_cst : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_v8 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_6 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_7 : Ref sig .tc := ⟨.hbm, 108, rfl⟩
abbrev main_v79 : Ref sig .tc := ⟨.hbm, 109, rfl⟩
abbrev main_c : Ref sig .tc := ⟨.hbm, 110, rfl⟩
abbrev main_v80_0 : Ref sig .tc := ⟨.hbm, 111, rfl⟩
abbrev main_v80_1 : Ref sig .tc := ⟨.hbm, 112, rfl⟩
abbrev main_v80_2 : Ref sig .tc := ⟨.hbm, 113, rfl⟩
abbrev main_v80_3 : Ref sig .tc := ⟨.hbm, 114, rfl⟩
abbrev main_v80_4 : Ref sig .tc := ⟨.hbm, 115, rfl⟩
abbrev main_while0c_c_17 : Ref sig .tc := ⟨.hbm, 116, rfl⟩
abbrev main_while0c_v100 : Ref sig .tc := ⟨.hbm, 117, rfl⟩
abbrev main_while0b_call1_c : Ref sig .tc := ⟨.hbm, 118, rfl⟩
abbrev main_while0b_call1_c_0 : Ref sig .tc := ⟨.hbm, 119, rfl⟩
abbrev main_while0b_call1_v0 : Ref sig .tc := ⟨.hbm, 120, rfl⟩
abbrev main_while0b_v100 : Ref sig .tc := ⟨.hbm, 121, rfl⟩
abbrev main_while0b_call2_c : Ref sig .tc := ⟨.hbm, 122, rfl⟩
abbrev main_while0b_call2_c_0 : Ref sig .tc := ⟨.hbm, 123, rfl⟩
abbrev main_while0b_call2_v0 : Ref sig .tc := ⟨.hbm, 124, rfl⟩
abbrev main_while0b_v101 : Ref sig .tc := ⟨.hbm, 125, rfl⟩
abbrev main_while0b_v102 : Ref sig .tc := ⟨.hbm, 126, rfl⟩
abbrev main_while0b_v103 : Ref sig .tc := ⟨.hbm, 127, rfl⟩
abbrev main_while0b_call3_v0 : Ref sig .tc := ⟨.hbm, 128, rfl⟩
abbrev main_while0b_call3_c : Ref sig .tc := ⟨.hbm, 129, rfl⟩
abbrev main_while0b_call3_c_0 : Ref sig .tc := ⟨.hbm, 130, rfl⟩
abbrev main_while0b_v104 : Ref sig .tc := ⟨.hbm, 131, rfl⟩
abbrev main_while0b_c_17 : Ref sig .tc := ⟨.hbm, 132, rfl⟩
abbrev main_while0b_v105 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_cst_8 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_cst_9 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_cst_10 : Ref sig .tc := ⟨.hbm, 145, rfl⟩
abbrev main_v90 : Ref sig .tc := ⟨.hbm, 146, rfl⟩
abbrev main_v91 : Ref sig .tc := ⟨.hbm, 147, rfl⟩
abbrev main_cst_11 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_c_12 : Ref sig .tc := ⟨.hbm, 154, rfl⟩
abbrev main_call4_v0 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S20480x4096 : Shape := ⟨2, ![20480, 4096]⟩
abbrev S8x4096x14336 : Shape := ⟨3, ![8, 4096, 14336]⟩
abbrev S64 : Shape := ⟨1, ![64]⟩
abbrev S40 : Shape := ⟨1, ![40]⟩
abbrev S20480x14336 : Shape := ⟨2, ![20480, 14336]⟩
abbrev S512x4096 : Shape := ⟨2, ![512, 4096]⟩
abbrev S1 : Shape := ⟨1, ![1]⟩
abbrev S1x1024x512 : Shape := ⟨3, ![1, 1024, 512]⟩
abbrev S512x512 : Shape := ⟨2, ![512, 512]⟩
abbrev S4096x512 : Shape := ⟨2, ![4096, 512]⟩
abbrev S512x1024 : Shape := ⟨2, ![512, 1024]⟩
abbrev S1024x512 : Shape := ⟨2, ![1024, 512]⟩

abbrev nBuf : Space → Nat
  | .hbm => 6
  | .vmem => 12
  | .smem => 4
  | _ => 0

abbrev bufTy : (tb : Table) → Fin (tcTables nBuf tb) → BufTy
  | .hbm, ⟨0, _⟩ => ⟨S20480x4096, .bf16⟩
  | .hbm, ⟨1, _⟩ => ⟨S8x4096x14336, .f32⟩
  | .hbm, ⟨2, _⟩ => ⟨S8x4096x14336, .f32⟩
  | .hbm, ⟨3, _⟩ => ⟨S40, .i32⟩
  | .hbm, ⟨4, _⟩ => ⟨S40, .i32⟩
  | .hbm, ⟨5, _⟩ => ⟨S20480x14336, .bf16⟩
  | .local _ .vmem, ⟨0, _⟩ => ⟨S512x4096, .bf16⟩
  | .local _ .vmem, ⟨1, _⟩ => ⟨S512x4096, .bf16⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S512x512, .bf16⟩
  | .local _ .vmem, ⟨7, _⟩ => ⟨S512x512, .bf16⟩
  | .local _ .vmem, ⟨8, _⟩ => ⟨S4096x512, .bf16⟩
  | .local _ .vmem, ⟨9, _⟩ => ⟨S4096x512, .bf16⟩
  | .local _ .vmem, ⟨10, _⟩ => ⟨S512x512, .f32⟩
  | .local _ .vmem, ⟨11, _⟩ => ⟨S512x512, .f32⟩
  | .local _ .smem, ⟨0, _⟩ => ⟨S64, .i32⟩
  | .local _ .smem, ⟨1, _⟩ => ⟨S64, .i32⟩
  | .local _ .smem, ⟨2, _⟩ => ⟨S64, .i32⟩
  | .local _ .smem, ⟨3, _⟩ => ⟨S64, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg3 : Ref sig .tc := ⟨.smem, 0, rfl⟩
abbrev main_arg4 : Ref sig .tc := ⟨.smem, 1, rfl⟩
abbrev main_arg5 : Ref sig .tc := ⟨.smem, 2, rfl⟩
abbrev main_arg6 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![28, 64], ![false, false]⟩

abbrev pre0 : Pipeline.Prefetch sig := ⟨4, ![main_arg3.idx, main_arg4.idx, main_arg5.idx, main_arg6.idx], fun | 0 => main_arg3.names | 1 => main_arg4.names | 2 => main_arg5.names | 3 => main_arg6.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c1_i32_6 : BitVec 32 := 1#32
  let v19 : BitVec 1 := Scalar.cmpi .eq v1 c1_i32_6
  let c3_i32 : BitVec 32 := 3#32
  let v20 : BitVec 1 := Scalar.cmpi .eq v3 c3_i32
  let v21 : BitVec 1 := Scalar.andi v19 v20
  let v22 : BitVec 32 := Scalar.extui v21
  let c0_i32_7 : BitVec 32 := 0#32
  let v23 : BitVec 1 := Scalar.cmpi .ne v22 c0_i32_7
  v23

def k0_cond5 (v1 : BitVec 32) : BitVec 1 :=
  let c2_i32_8 : BitVec 32 := 2#32
  let v24 : BitVec 1 := Scalar.cmpi .eq v1 c2_i32_8
  let v25 : BitVec 32 := Scalar.extui v24
  let c0_i32_9 : BitVec 32 := 0#32
  let v26 : BitVec 1 := Scalar.cmpi .ne v25 c0_i32_9
  v26

def k0_cond6 (v1 : BitVec 32) : BitVec 1 :=
  let c3_i32_10 : BitVec 32 := 3#32
  let v27 : BitVec 1 := Scalar.cmpi .eq v1 c3_i32_10
  let v28 : BitVec 32 := Scalar.extui v27
  let c0_i32_11 : BitVec 32 := 0#32
  let v29 : BitVec 1 := Scalar.cmpi .ne v28 c0_i32_11
  v29

def cc0_transform_0 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S64) ![v0.toNat] S1.size (k0_off1_inb i)) numel1_S1
  let v2 : Index := Scalar.indexCast arg1
  let v3 : BitVec 32 := pf.at 3 (Rect.unit (s := S64) ![v2.toNat] S1.size (k0_off1_inb i)) numel1_S1
  let c0_i32 : BitVec 32 := 0#32
  ![v1.toNat, v3.toNat, arg0.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S64) ![v0.toNat] S1.size (k0_off1_inb i)) numel1_S1
  let v2 : Index := Scalar.indexCast arg1
  let v3 : BitVec 32 := pf.at 3 (Rect.unit (s := S64) ![v2.toNat] S1.size (k0_off1_inb i)) numel1_S1
  let c0_i32 : BitVec 32 := 0#32
  ![v1.toNat, v3.toNat, arg0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S64) ![v0.toNat] S1.size (k0_off1_inb i)) numel1_S1
  let c0_i32 : BitVec 32 := 0#32
  ![v1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S20480x4096 : Shape := ⟨2, ![20480, 4096]⟩
abbrev S8x4096x14336 : Shape := ⟨3, ![8, 4096, 14336]⟩
abbrev S64 : Shape := ⟨1, ![64]⟩
abbrev S40 : Shape := ⟨1, ![40]⟩
abbrev S40x1 : Shape := ⟨2, ![40, 1]⟩
abbrev S40x512 : Shape := ⟨2, ![40, 512]⟩
abbrev S20480 : Shape := ⟨1, ![20480]⟩
abbrev S20480x1 : Shape := ⟨2, ![20480, 1]⟩
abbrev S8 : Shape := ⟨1, ![8]⟩
abbrev S1x8 : Shape := ⟨2, ![1, 8]⟩
abbrev S20480x8 : Shape := ⟨2, ![20480, 8]⟩
abbrev S_ : Shape := ⟨0, ![]⟩
abbrev S20480x8x14336 : Shape := ⟨3, ![20480, 8, 14336]⟩
abbrev S20480x8x1 : Shape := ⟨3, ![20480, 8, 1]⟩
abbrev S20480x14336 : Shape := ⟨2, ![20480, 14336]⟩

abbrev nBuf : Space → Nat
  | .hbm => 49
  | .vmem => 0
  | .smem => 0
  | _ => 0

abbrev bufTy : (tb : Table) → Fin (tcTables nBuf tb) → BufTy
  | .hbm, ⟨0, _⟩ => ⟨S20480x4096, .bf16⟩
  | .hbm, ⟨1, _⟩ => ⟨S8x4096x14336, .f32⟩
  | .hbm, ⟨2, _⟩ => ⟨S8x4096x14336, .f32⟩
  | .hbm, ⟨3, _⟩ => ⟨S64, .i32⟩
  | .hbm, ⟨4, _⟩ => ⟨S64, .i32⟩
  | .hbm, ⟨5, _⟩ => ⟨S64, .i32⟩
  | .hbm, ⟨6, _⟩ => ⟨S64, .i32⟩
  | .hbm, ⟨7, _⟩ => ⟨S40, .i32⟩
  | .hbm, ⟨8, _⟩ => ⟨S40, .i32⟩
  | .hbm, ⟨9, _⟩ => ⟨S40x1, .i32⟩
  | .hbm, ⟨10, _⟩ => ⟨S40x512, .i32⟩
  | .hbm, ⟨11, _⟩ => ⟨S20480, .i32⟩
  | .hbm, ⟨12, _⟩ => ⟨S40x1, .i32⟩
  | .hbm, ⟨13, _⟩ => ⟨S40x512, .i32⟩
  | .hbm, ⟨14, _⟩ => ⟨S20480, .i32⟩
  | .hbm, ⟨15, _⟩ => ⟨S20480x1, .i32⟩
  | .hbm, ⟨16, _⟩ => ⟨S8, .i32⟩
  | .hbm, ⟨17, _⟩ => ⟨S1x8, .i32⟩
  | .hbm, ⟨18, _⟩ => ⟨S20480x8, .i32⟩
  | .hbm, ⟨19, _⟩ => ⟨S20480x8, .i32⟩
  | .hbm, ⟨20, _⟩ => ⟨S20480x8, .i1⟩
  | .hbm, ⟨21, _⟩ => ⟨S20480x1, .i32⟩
  | .hbm, ⟨22, _⟩ => ⟨S_, .i32⟩
  | .hbm, ⟨23, _⟩ => ⟨S20480x1, .i32⟩
  | .hbm, ⟨24, _⟩ => ⟨S20480x1, .i1⟩
  | .hbm, ⟨25, _⟩ => ⟨S20480x8, .i1⟩
  | .hbm, ⟨26, _⟩ => ⟨S20480x8, .i1⟩
  | .hbm, ⟨27, _⟩ => ⟨S20480x4096, .f32⟩
  | .hbm, ⟨28, _⟩ => ⟨S20480x8x14336, .f32⟩
  | .hbm, ⟨29, _⟩ => ⟨S20480x8x14336, .f32⟩
  | .hbm, ⟨30, _⟩ => ⟨S20480x8x14336, .f32⟩
  | .hbm, ⟨31, _⟩ => ⟨S_, .f32⟩
  | .hbm, ⟨32, _⟩ => ⟨S20480x8x14336, .f32⟩
  | .hbm, ⟨33, _⟩ => ⟨S20480x8x14336, .f32⟩
  | .hbm, ⟨34, _⟩ => ⟨S_, .f32⟩
  | .hbm, ⟨35, _⟩ => ⟨S20480x8x14336, .f32⟩
  | .hbm, ⟨36, _⟩ => ⟨S20480x8x14336, .f32⟩
  | .hbm, ⟨37, _⟩ => ⟨S20480x8x14336, .f32⟩
  | .hbm, ⟨38, _⟩ => ⟨S20480x8x14336, .f32⟩
  | .hbm, ⟨39, _⟩ => ⟨S20480x8x14336, .f32⟩
  | .hbm, ⟨40, _⟩ => ⟨S20480x8x1, .i1⟩
  | .hbm, ⟨41, _⟩ => ⟨S_, .f32⟩
  | .hbm, ⟨42, _⟩ => ⟨S_, .f32⟩
  | .hbm, ⟨43, _⟩ => ⟨S20480x8x14336, .i1⟩
  | .hbm, ⟨44, _⟩ => ⟨S20480x8x14336, .f32⟩
  | .hbm, ⟨45, _⟩ => ⟨S20480x8x14336, .f32⟩
  | .hbm, ⟨46, _⟩ => ⟨S_, .f32⟩
  | .hbm, ⟨47, _⟩ => ⟨S20480x14336, .f32⟩
  | .hbm, ⟨48, _⟩ => ⟨S20480x14336, .bf16⟩
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v23 : Ref sig .tc := ⟨.hbm, 45, rfl⟩
abbrev main_cst_0 : Ref sig .tc := ⟨.hbm, 46, rfl⟩
abbrev main_v24 : Ref sig .tc := ⟨.hbm, 47, rfl⟩
abbrev main_v25 : Ref sig .tc := ⟨.hbm, 48, rfl⟩

abbrev nD : Nat := 1
abbrev τ : Topo := Topo.v7x

variable {F : FTy → Type} [FloatOps F]
-- ==== Kernel3.lean ====
abbrev S20480x14336 : Shape := ⟨2, ![20480, 14336]⟩
abbrev S8x14336x4096 : Shape := ⟨3, ![8, 14336, 4096]⟩
abbrev S128 : Shape := ⟨1, ![128]⟩
abbrev S80 : Shape := ⟨1, ![80]⟩
abbrev S20480x4096 : Shape := ⟨2, ![20480, 4096]⟩
abbrev S256x14336 : Shape := ⟨2, ![256, 14336]⟩
abbrev S1 : Shape := ⟨1, ![1]⟩
abbrev S1x2048x512 : Shape := ⟨3, ![1, 2048, 512]⟩
abbrev S256x512 : Shape := ⟨2, ![256, 512]⟩
abbrev S14336x512 : Shape := ⟨2, ![14336, 512]⟩
abbrev S256x2048 : Shape := ⟨2, ![256, 2048]⟩
abbrev S2048x512 : Shape := ⟨2, ![2048, 512]⟩

abbrev nBuf : Space → Nat
  | .hbm => 5
  | .vmem => 8
  | .smem => 4
  | _ => 0

abbrev bufTy : (tb : Table) → Fin (tcTables nBuf tb) → BufTy
  | .hbm, ⟨0, _⟩ => ⟨S20480x14336, .bf16⟩
  | .hbm, ⟨1, _⟩ => ⟨S8x14336x4096, .f32⟩
  | .hbm, ⟨2, _⟩ => ⟨S80, .i32⟩
  | .hbm, ⟨3, _⟩ => ⟨S80, .i32⟩
  | .hbm, ⟨4, _⟩ => ⟨S20480x4096, .f32⟩
  | .local _ .vmem, ⟨0, _⟩ => ⟨S256x14336, .bf16⟩
  | .local _ .vmem, ⟨1, _⟩ => ⟨S256x14336, .bf16⟩
  | .local _ .vmem, ⟨2, _⟩ => ⟨S1x2048x512, .f32⟩
  | .local _ .vmem, ⟨3, _⟩ => ⟨S1x2048x512, .f32⟩
  | .local _ .vmem, ⟨4, _⟩ => ⟨S256x512, .f32⟩
  | .local _ .vmem, ⟨5, _⟩ => ⟨S256x512, .f32⟩
  | .local _ .vmem, ⟨6, _⟩ => ⟨S14336x512, .bf16⟩
  | .local _ .vmem, ⟨7, _⟩ => ⟨S256x512, .f32⟩
  | .local _ .smem, ⟨0, _⟩ => ⟨S128, .i32⟩
  | .local _ .smem, ⟨1, _⟩ => ⟨S128, .i32⟩
  | .local _ .smem, ⟨2, _⟩ => ⟨S128, .i32⟩
  | .local _ .smem, ⟨3, _⟩ => ⟨S128, .i32⟩
  | _, _ => ⟨S20480x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 128], ![false, false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond7 (v1 : BitVec 32) (v3 : BitVec 32) : BitVec 1 :=
  let c1_i32_12 : BitVec 32 := 1#32
  let v34 : BitVec 1 := Scalar.cmpi .eq v1 c1_i32_12
  let c6_i32 : BitVec 32 := 6#32
  let v35 : BitVec 1 := Scalar.cmpi .eq v3 c6_i32
  let v36 : BitVec 1 := Scalar.andi v34 v35
  let v37 : BitVec 32 := Scalar.extui v36
  let c0_i32_13 : BitVec 32 := 0#32
  let v38 : BitVec 1 := Scalar.cmpi .ne v37 c0_i32_13
  v38

def k0_cond8 (v1 : BitVec 32) : BitVec 1 :=
  let c2_i32_14 : BitVec 32 := 2#32
  let v39 : BitVec 1 := Scalar.cmpi .eq v1 c2_i32_14
  let v40 : BitVec 32 := Scalar.extui v39
  let c0_i32_15 : BitVec 32 := 0#32
  let v41 : BitVec 1 := Scalar.cmpi .ne v40 c0_i32_15
  v41

def k0_cond9 (v1 : BitVec 32) : BitVec 1 :=
  let c3_i32_16 : BitVec 32 := 3#32
  let v42 : BitVec 1 := Scalar.cmpi .eq v1 c3_i32_16
  let v43 : BitVec 32 := Scalar.extui v42
  let c0_i32_17 : BitVec 32 := 0#32
  let v44 : BitVec 1 := Scalar.cmpi .ne v43 c0_i32_17
  v44

def cc0_transform_0 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S128) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S128) ![v0.toNat] S1.size (k0_off1_inb i)) numel1_S1
  let v2 : Index := Scalar.indexCast arg1
  let v3 : BitVec 32 := pf.at 3 (Rect.unit (s := S128) ![v2.toNat] S1.size (k0_off1_inb i)) numel1_S1
  let c0_i32 : BitVec 32 := 0#32
  ![v1.toNat, v3.toNat, arg0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S128) ![v0.toNat] S1.size (k0_off1_inb i)) numel1_S1
  let c0_i32 : BitVec 32 := 0#32
  ![v1.toNat, arg0.toNat]

abbrev stage0_0 : Fin 2 → Memref sig .tc .vmem S256x14336 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S20480x14336 : Shape := ⟨2, ![20480, 14336]⟩
abbrev S8x14336x4096 : Shape := ⟨3, ![8, 14336, 4096]⟩
abbrev S128 : Shape := ⟨1, ![128]⟩
abbrev S80 : Shape := ⟨1, ![80]⟩
abbrev S80x1 : Shape := ⟨2, ![80, 1]⟩
abbrev S80x256 : Shape := ⟨2, ![80, 256]⟩
abbrev S20480 : Shape := ⟨1, ![20480]⟩
abbrev S20480x1 : Shape := ⟨2, ![20480, 1]⟩
abbrev S8 : Shape := ⟨1, ![8]⟩
abbrev S1x8 : Shape := ⟨2, ![1, 8]⟩
abbrev S20480x8 : Shape := ⟨2, ![20480, 8]⟩
abbrev S_ : Shape := ⟨0, ![]⟩
abbrev S20480x8x4096 : Shape := ⟨3, ![20480, 8, 4096]⟩
abbrev S20480x8x1 : Shape := ⟨3, ![20480, 8, 1]⟩
abbrev S20480x4096 : Shape := ⟨2, ![20480, 4096]⟩

abbrev nBuf : Space → Nat
  | .hbm => 36
  | .vmem => 0
  | .smem => 0
  | _ => 0

abbrev bufTy : (tb : Table) → Fin (tcTables nBuf tb) → BufTy
  | .hbm, ⟨0, _⟩ => ⟨S20480x14336, .bf16⟩
  | .hbm, ⟨1, _⟩ => ⟨S8x14336x4096, .f32⟩
  | .hbm, ⟨2, _⟩ => ⟨S128, .i32⟩
  | .hbm, ⟨3, _⟩ => ⟨S128, .i32⟩
  | .hbm, ⟨4, _⟩ => ⟨S128, .i32⟩
  | .hbm, ⟨5, _⟩ => ⟨S128, .i32⟩
  | .hbm, ⟨6, _⟩ => ⟨S80, .i32⟩
  | .hbm, ⟨7, _⟩ => ⟨S80, .i32⟩
  | .hbm, ⟨8, _⟩ => ⟨S80x1, .i32⟩
  | .hbm, ⟨9, _⟩ => ⟨S80x256, .i32⟩
  | .hbm, ⟨10, _⟩ => ⟨S20480, .i32⟩
  | .hbm, ⟨11, _⟩ => ⟨S80x1, .i32⟩
  | .hbm, ⟨12, _⟩ => ⟨S80x256, .i32⟩
  | .hbm, ⟨13, _⟩ => ⟨S20480, .i32⟩
  | .hbm, ⟨14, _⟩ => ⟨S20480x1, .i32⟩
  | .hbm, ⟨15, _⟩ => ⟨S8, .i32⟩
  | .hbm, ⟨16, _⟩ => ⟨S1x8, .i32⟩
  | .hbm, ⟨17, _⟩ => ⟨S20480x8, .i32⟩
  | .hbm, ⟨18, _⟩ => ⟨S20480x8, .i32⟩
  | .hbm, ⟨19, _⟩ => ⟨S20480x8, .i1⟩
  | .hbm, ⟨20, _⟩ => ⟨S20480x1, .i32⟩
  | .hbm, ⟨21, _⟩ => ⟨S_, .i32⟩
  | .hbm, ⟨22, _⟩ => ⟨S20480x1, .i32⟩
  | .hbm, ⟨23, _⟩ => ⟨S20480x1, .i1⟩
  | .hbm, ⟨24, _⟩ => ⟨S20480x8, .i1⟩
  | .hbm, ⟨25, _⟩ => ⟨S20480x8, .i1⟩
  | .hbm, ⟨26, _⟩ => ⟨S20480x14336, .f32⟩
  | .hbm, ⟨27, _⟩ => ⟨S20480x8x4096, .f32⟩
  | .hbm, ⟨28, _⟩ => ⟨S20480x8x1, .i1⟩
  | .hbm, ⟨29, _⟩ => ⟨S_, .f32⟩
  | .hbm, ⟨30, _⟩ => ⟨S_, .f32⟩
  | .hbm, ⟨31, _⟩ => ⟨S20480x8x4096, .i1⟩
  | .hbm, ⟨32, _⟩ => ⟨S20480x8x4096, .f32⟩
  | .hbm, ⟨33, _⟩ => ⟨S20480x8x4096, .f32⟩
  | .hbm, ⟨34, _⟩ => ⟨S_, .f32⟩
  | .hbm, ⟨35, _⟩ => ⟨S20480x4096, .f32⟩
  | _, _ => ⟨S20480x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v20 : Ref sig .tc := ⟨.hbm, 33, rfl⟩
abbrev main_cst_0 : Ref sig .tc := ⟨.hbm, 34, rfl⟩
abbrev main_v21 : Ref sig .tc := ⟨.hbm, 35, rfl⟩

abbrev nD : Nat := 1
abbrev τ : Topo := Topo.v7x

variable {F : FTy → Type} [FloatOps F]
-- ==== Kernel4.lean ====
abbrev S8704x4096 : Shape := ⟨2, ![8704, 4096]⟩
abbrev S2x4096x10240 : Shape := ⟨3, ![2, 4096, 10240]⟩
abbrev S20 : Shape := ⟨1, ![20]⟩
abbrev S1 : Shape := ⟨1, ![1]⟩
abbrev S8704x10240 : Shape := ⟨2, ![8704, 10240]⟩
abbrev S512x4096 : Shape := ⟨2, ![512, 4096]⟩
abbrev S1x1024x1024 : Shape := ⟨3, ![1, 1024, 1024]⟩
abbrev S512x1024 : Shape := ⟨2, ![512, 1024]⟩
abbrev S4096x1024 : Shape := ⟨2, ![4096, 1024]⟩
abbrev S1024x1024 : Shape := ⟨2, ![1024, 1024]⟩

abbrev nBuf : Space → Nat
  | .hbm => 4
  | .vmem => 8
  | .smem => 4
  | _ => 0

abbrev bufTy : (tb : Table) → Fin (tcTables nBuf tb) → BufTy
  | .hbm, ⟨0, _⟩ => ⟨S8704x4096, .bf16⟩
  | .hbm, ⟨1, _⟩ => ⟨S2x4096x10240, .f32⟩
  | .hbm, ⟨2, _⟩ => ⟨S1, .i32⟩
  | .hbm, ⟨3, _⟩ => ⟨S8704x10240, .f32⟩
  | .local _ .vmem, ⟨0, _⟩ => ⟨S512x4096, .bf16⟩
  | .local _ .vmem, ⟨1, _⟩ => ⟨S512x4096, .bf16⟩
  | .local _ .vmem, ⟨2, _⟩ => ⟨S1x1024x1024, .f32⟩
  | .local _ .vmem, ⟨3, _⟩ => ⟨S1x1024x1024, .f32⟩
  | .local _ .vmem, ⟨4, _⟩ => ⟨S512x1024, .f32⟩
  | .local _ .vmem, ⟨5, _⟩ => ⟨S512x1024, .f32⟩
  | .local _ .vmem, ⟨6, _⟩ => ⟨S4096x1024, .bf16⟩
  | .local _ .vmem, ⟨7, _⟩ => ⟨S512x1024, .f32⟩
  | .local _ .smem, ⟨0, _⟩ => ⟨S20, .i32⟩
  | .local _ .smem, ⟨1, _⟩ => ⟨S20, .i32⟩
  | .local _ .smem, ⟨2, _⟩ => ⟨S20, .i32⟩
  | .local _ .smem, ⟨3, _⟩ => ⟨S20, .i32⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg6 : Ref sig .tc := ⟨.hbm, 2, rfl⟩
abbrev main_v0 : Ref sig .tc := ⟨.hbm, 3, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![10, 20], ![false, false]⟩

abbrev pre0 : Pipeline.Prefetch sig := ⟨4, ![main_arg2.idx, main_arg3.idx, main_arg4.idx, main_arg5.idx], fun | 0 => main_arg2.names | 1 => main_arg3.names | 2 => main_arg4.names | 3 => main_arg5.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond4 (v1 : BitVec 32) (v3 : BitVec 32) : BitVec 1 :=
  let c1_i32_6 : BitVec 32 := 1#32
  let v19 : BitVec 1 := Scalar.cmpi .eq v1 c1_i32_6
  let c3_i32 : BitVec 32 := 3#32
  let v20 : BitVec 1 := Scalar.cmpi .eq v3 c3_i32
  let v21 : BitVec 1 := Scalar.andi v19 v20
  let v22 : BitVec 32 := Scalar.extui v21
  let c0_i32_7 : BitVec 32 := 0#32
  let v23 : BitVec 1 := Scalar.cmpi .ne v22 c0_i32_7
  v23

def k0_cond5 (v1 : BitVec 32) : BitVec 1 :=
  let c2_i32_8 : BitVec 32 := 2#32
  let v24 : BitVec 1 := Scalar.cmpi .eq v1 c2_i32_8
  let v25 : BitVec 32 := Scalar.extui v24
  let c0_i32_9 : BitVec 32 := 0#32
  let v26 : BitVec 1 := Scalar.cmpi .ne v25 c0_i32_9
  v26

def k0_cond6 (v1 : BitVec 32) : BitVec 1 :=
  let c3_i32_10 : BitVec 32 := 3#32
  let v27 : BitVec 1 := Scalar.cmpi .eq v1 c3_i32_10
  let v28 : BitVec 32 := Scalar.extui v27
  let c0_i32_11 : BitVec 32 := 0#32
  let v29 : BitVec 1 := Scalar.cmpi .ne v28 c0_i32_11
  v29

def cc0_transform_0 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S20) ![v0.toNat] S1.size (k0_off1_inb i)) numel1_S1
  let v2 : Index := Scalar.indexCast arg1
  let v3 : BitVec 32 := pf.at 3 (Rect.unit (s := S20) ![v2.toNat] S1.size (k0_off1_inb i)) numel1_S1
  let c0_i32 : BitVec 32 := 0#32
  ![v1.toNat, v3.toNat, arg0.toNat]

def cc0_transform_2 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S20) ![v0.toNat] S1.size (k0_off1_inb i)) numel1_S1
  let c0_i32 : BitVec 32 := 0#32
  ![v1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x4096 : Shape := ⟨2, ![8704, 4096]⟩
abbrev S2x4096x10240 : Shape := ⟨3, ![2, 4096, 10240]⟩
abbrev S20 : Shape := ⟨1, ![20]⟩
abbrev S1 : Shape := ⟨1, ![1]⟩
abbrev S1x1 : Shape := ⟨2, ![1, 1]⟩
abbrev S_ : Shape := ⟨0, ![]⟩
abbrev S1x4096x10240 : Shape := ⟨3, ![1, 4096, 10240]⟩
abbrev S4096x10240 : Shape := ⟨2, ![4096, 10240]⟩
abbrev S8704x10240 : Shape := ⟨2, ![8704, 10240]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x10240, .f32⟩
  | .hbm, ⟨2, _⟩ => ⟨S20, .i32⟩
  | .hbm, ⟨3, _⟩ => ⟨S20, .i32⟩
  | .hbm, ⟨4, _⟩ => ⟨S20, .i32⟩
  | .hbm, ⟨5, _⟩ => ⟨S20, .i32⟩
  | .hbm, ⟨6, _⟩ => ⟨S1, .i32⟩
  | .hbm, ⟨7, _⟩ => ⟨S8704x4096, .f32⟩
  | .hbm, ⟨8, _⟩ => ⟨S1x1, .i32⟩
  | .hbm, ⟨9, _⟩ => ⟨S_, .i32⟩
  | .hbm, ⟨10, _⟩ => ⟨S1x1, .i32⟩
  | .hbm, ⟨11, _⟩ => ⟨S1x1, .i1⟩
  | .hbm, ⟨12, _⟩ => ⟨S1x4096x10240, .f32⟩
  | .hbm, ⟨13, _⟩ => ⟨S4096x10240, .f32⟩
  | .hbm, ⟨14, _⟩ => ⟨S1x4096x10240, .f32⟩
  | .hbm, ⟨15, _⟩ => ⟨S4096x10240, .f32⟩
  | .hbm, ⟨16, _⟩ => ⟨S4096x10240, .i1⟩
  | .hbm, ⟨17, _⟩ => ⟨S4096x10240, .f32⟩
  | .hbm, ⟨18, _⟩ => ⟨S8704x10240, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== Proof.Scan.lean ====
/- The mathematics of the recurrence `h ↦ a·h + b` over the extended reals: the sequential run, the windows of
   consecutive steps composed into one affine map, and the doubling of those windows. -/
module

public import Idealize.ShloMosaic.PureOps.Ideal
public import Mathlib.Analysis.SpecialFunctions.Trigonometric.DerivHyp

@[expose] public section

noncomputable section

namespace Cert.Recur

open Idealize.ShloMosaic

/-- The recurrence run step by step: the state before step `n`, from the state `h` before step 0. -/
def run (a b : ℕ → EReal) (h : EReal) : ℕ → EReal
  | 0 => h
  | n + 1 => a n * run a b h n + b n

/-- Running `m + n` steps is running `n` steps of the sequences shifted by `m` from the state after `m`. -/
theorem run_add (a b : ℕ → EReal) (h : EReal) (m : ℕ) :
    ∀ n, run a b h (m + n) = run (fun i => a (m + i)) (fun i => b (m + i)) (run a b h m) n
  | 0 => rfl
  | n + 1 => by
    show a (m + n) * run a b h (m + n) + b (m + n) = _
    rw [run_add a b h m n]; rfl

/-- The product of the `k` factors ending at step `r`. -/
def winA (a : ℕ → EReal) (r : ℕ) : ℕ → EReal
  | 0 => 1
  | k + 1 => winA a r k * a (r - k)

/-- The additive part of the `k` steps ending at step `r`, composed into one affine map. -/
def winB (a b : ℕ → EReal) (r : ℕ) : ℕ → EReal
  | 0 => 0
  | k + 1 => winA a r k * b (r - k) + winB a b r k

/-- A factor that is nonnegative and not infinite distributes over a sum. -/
theorem mul_add_of (x y z : EReal) (h0 : 0 ≤ x) (h1 : x ≠ ⊤) : x * (y + z) = x * y + x * z :=
  EReal.left_distrib_of_nonneg_of_ne_top h0 h1 y z

/-- A product of two factors that are nonnegative and not infinite is so too. -/
theorem good_mul {x y : EReal} (hx : 0 ≤ x ∧ x ≠ ⊤) (hy : 0 ≤ y ∧ y ≠ ⊤) : 0 ≤ x * y ∧ x * y ≠ ⊤ := by
  obtain ⟨hx0, hx1⟩ := hx
  obtain ⟨hy0, hy1⟩ := hy
  lift x to ℝ using ⟨hx1, fun h => by simp [h] at hx0⟩
  lift y to ℝ using ⟨hy1, fun h => by simp [h] at hy0⟩
  refine ⟨mul_nonneg hx0 hy0, ?_⟩
  rw [← EReal.coe_mul]; exact EReal.coe_ne_top _

/-- The windows' products are nonnegative and not infinite when the factors are. -/
theorem winA_good (a : ℕ → EReal) (ha : ∀ n, 0 ≤ a n ∧ a n ≠ ⊤) (r : ℕ) : ∀ k, 0 ≤ winA a r k ∧ winA a r k ≠ ⊤
  | 0 => ⟨zero_le_one, EReal.coe_ne_top 1⟩
  | k + 1 => good_mul (winA_good a ha r k) (ha _)

/-- The product over `k + l` steps is the product over the last `k` times that over the `l` before them. -/
theorem winA_add (a : ℕ → EReal) (r k : ℕ) : ∀ l, winA a r (k + l) = winA a r k * winA a (r - k) l
  | 0 => (mul_one _).symm
  | l + 1 => by
    show winA a r (k + l) * a (r - (k + l)) = winA a r k * (winA a (r - k) l * a (r - k - l))
    rw [winA_add a r k l, mul_assoc, Nat.sub_sub]

/-- The additive part over `k + l` steps, from the last `k` and the `l` before them. -/
theorem winB_add (a b : ℕ → EReal) (ha : ∀ n, 0 ≤ a n ∧ a n ≠ ⊤) (r k : ℕ) :
    ∀ l, winB a b r (k + l) = winA a r k * winB a b (r - k) l + winB a b r k
  | 0 => by show winB a b r k = winA a r k * 0 + _; rw [mul_zero, zero_add]
  | l + 1 => by
    show winA a r (k + l) * b (r - (k + l)) + winB a b r (k + l)
      = winA a r k * (winA a (r - k) l * b (r - k - l) + winB a b (r - k) l) + winB a b r k
    have h := winA_good a ha r k
    rw [winB_add a b ha r k l, winA_add, mul_add_of _ _ _ h.1 h.2, mul_assoc, Nat.sub_sub, add_assoc]

/-- The state after step `r` is the affine map of the `k` steps ending there, at the state before them. -/
theorem run_win (a b : ℕ → EReal) (ha : ∀ n, 0 ≤ a n ∧ a n ≠ ⊤) (h : EReal) (r : ℕ) :
    ∀ k, k ≤ r + 1 → run a b h (r + 1) = winA a r k * run a b h (r + 1 - k) + winB a b r k
  | 0, _ => by show _ = 1 * _ + 0; rw [one_mul, add_zero]; rfl
  | k + 1, hk => by
    have e : r + 1 - k = (r - k) + 1 := by omega
    have e' : r + 1 - (k + 1) = r - k := by omega
    have g := winA_good a ha r k
    rw [run_win a b ha h r k (by omega), e, e']
    show winA a r k * (a (r - k) * run a b h (r - k) + b (r - k)) + winB a b r k
      = winA a r k * a (r - k) * run a b h (r - k) + (winA a r k * b (r - k) + winB a b r k)
    rw [mul_add_of _ _ _ g.1 g.2, mul_assoc, add_assoc]

/-- One doubling of the products: from windows of `d` steps (cut at the first row) to windows of `2d`. -/
theorem double_A (a : ℕ → EReal) (d r : ℕ) :
    (if d ≤ r then winA a (r - d) (min d (r - d + 1)) else 1) * winA a r (min d (r + 1)) = winA a r (min (d + d) (r + 1)) := by
  by_cases h : d ≤ r
  · rw [if_pos h, min_eq_left (by omega : d ≤ r + 1), mul_comm, ← winA_add]
    congr 1; omega
  · rw [if_neg h, one_mul]; congr 1; omega

/-- One doubling of the additive parts. -/
theorem double_B (a b : ℕ → EReal) (ha : ∀ n, 0 ≤ a n ∧ a n ≠ ⊤) (d r : ℕ) :
    winA a r (min d (r + 1)) * (if d ≤ r then winB a b (r - d) (min d (r - d + 1)) else 0) + winB a b r (min d (r + 1))
      = winB a b r (min (d + d) (r + 1)) := by
  by_cases h : d ≤ r
  · rw [if_pos h, min_eq_left (by omega : d ≤ r + 1), ← winB_add a b ha]
    congr 1; omega
  · rw [if_neg h, mul_zero, zero_add]; congr 1; omega

/-- Two runs over sequences that agree below `n` agree up to `n`. -/
theorem run_congr {a a' b b' : ℕ → EReal} (h : EReal) : ∀ n, (∀ i < n, a i = a' i ∧ b i = b' i) → run a b h n = run a' b' h n
  | 0, _ => rfl
  | n + 1, e => by
    show a n * run a b h n + b n = a' n * run a' b' h n + b' n
    rw [run_congr h n (fun i hi => e i (Nat.lt_succ_of_lt hi)), (e n (Nat.lt_succ_self n)).1, (e n (Nat.lt_succ_self n)).2]

/-! ## The gate's scalar identities -/

/-- `-tanh x · (e^{2x} + 1) = -(e^{2x} - 1)` at every extended real. -/
theorem tanh_expm1 (x : EReal) :
    (0 - Ideal.tanh x) * (Ideal.exp (2 * x) + 1) = -Ideal.expm1 (2 * x) := by
  induction x using EReal.rec with
  | bot =>
    have e : (2 : EReal) * ⊥ = ⊥ := EReal.coe_mul_bot_of_pos (x := 2) two_pos
    rw [e, Ideal.expm1, Ideal.exp_bot, Ideal.tanh_bot, zero_sub, neg_neg, zero_add, zero_sub, neg_neg, one_mul]
  | top =>
    have e : (2 : EReal) * ⊤ = ⊤ := EReal.coe_mul_top_of_pos (x := 2) two_pos
    rw [e, Ideal.expm1, Ideal.exp_top, Ideal.tanh_top, zero_sub]
    have h1 : (⊤ : EReal) + 1 = ⊤ := EReal.top_add_coe 1
    have h2 : (⊤ : EReal) - 1 = ⊤ := EReal.top_sub_coe 1
    rw [h1, h2, neg_mul, one_mul]
  | coe r =>
    have e : (2 : EReal) * (r : EReal) = ((2 * r : ℝ) : EReal) := rfl
    rw [e, Ideal.expm1, Ideal.exp_coe, Ideal.tanh_coe]
    have key : (0 - Real.tanh r) * (Real.exp (2 * r) + 1) = -(Real.exp (2 * r) - 1) := by
      rw [Real.tanh_eq_sinh_div_cosh, Real.sinh_eq, Real.cosh_eq, two_mul, Real.exp_add]
      have h : Real.exp (-r) = (Real.exp r)⁻¹ := Real.exp_neg r
      have hp := Real.exp_pos r
      rw [h]; field_simp; ring
    exact_mod_cast congrArg (fun x : ℝ => (x : EReal)) key

/-- The logistic function is nonnegative. -/
theorem logistic_nonneg (x : EReal) : 0 ≤ Ideal.logistic x := by
  induction x using EReal.rec with
  | bot => rw [Ideal.logistic_bot]
  | top => rw [Ideal.logistic_top]; exact zero_le_one
  | coe r => rw [Ideal.logistic_coe]; exact_mod_cast (by positivity : (0 : ℝ) ≤ (1 + Real.exp (-r))⁻¹)

/-- The exponential is nonnegative. -/
theorem exp_nonneg (x : EReal) : 0 ≤ Ideal.exp x := by
  induction x using EReal.rec with
  | bot => rw [Ideal.exp_bot]
  | top => rw [Ideal.exp_top]; exact le_top
  | coe r => rw [Ideal.exp_coe]; exact_mod_cast (Real.exp_pos r).le

/-- `log (1 + e)` is nonnegative for a nonnegative `e`. -/
theorem log1p_nonneg (x : EReal) (h : 0 ≤ x) : 0 ≤ Ideal.log1p x := by
  induction x using EReal.rec with
  | bot => simp at h
  | top =>
    have e : (1 : EReal) + ⊤ = ⊤ := EReal.coe_add_top 1
    rw [Ideal.log1p, e, Ideal.log_top]; exact le_top
  | coe r =>
    have hr : 0 ≤ r := by exact_mod_cast h
    have e : (1 : EReal) + (r : EReal) = ((1 + r : ℝ) : EReal) := rfl
    rw [Ideal.log1p, e, Ideal.log_coe, if_neg (by linarith)]
    exact_mod_cast Real.log_nonneg (by linarith)

/-- The exponential of a value at most zero is nonnegative and not infinite. -/
theorem exp_good (x : EReal) (h : x ≤ 0) : 0 ≤ Ideal.exp x ∧ Ideal.exp x ≠ ⊤ := by
  refine ⟨exp_nonneg x, ?_⟩
  induction x using EReal.rec with
  | bot => rw [Ideal.exp_bot]; exact EReal.zero_ne_top
  | top => exact absurd h (by simp)
  | coe r => rw [Ideal.exp_coe]; exact EReal.coe_ne_top _

/-- `-8 · r · s` is at most zero for nonnegative `r` and `s`. -/
theorem neg8_mul_le (r s : EReal) (hr : 0 ≤ r) (hs : 0 ≤ s) : (((-8 : ℝ) : EReal)) * r * s ≤ 0 := by
  have e : (((-8 : ℝ) : EReal)) * r * s = -((8 : ℝ) * r * s) := by
    rw [EReal.coe_neg, neg_mul, neg_mul]
  rw [e, EReal.neg_le_zero]
  exact mul_nonneg (mul_nonneg (by exact_mod_cast (by norm_num : (0:ℝ) ≤ 8)) hr) hs

end Cert.Recur

end
-- ==== Proof.Tile.lean ====
/- What one tile's doubling scan computes: each rotation under its row mask, the eight doublings, and the tile's
   recurrence, at a row and a column. -/
module

public import proofs.«01_k».proof.Proof.Gen.KernelIdeal.Skeleton
public import proofs.«01_k».proof.Proof.Scan
public import Idealize.ShloMosaic.Lib.Pointwise
public import Idealize.ShloMosaic.Lib.KernelVsHost

@[expose] public section

set_option maxRecDepth 16384

noncomputable section

namespace Cert.KernelIdeal.Tile

open Cert.KernelIdeal Cert.KernelIdeal.Gen Cert.Recur Idealize.ShloMosaic Idealize.ShloMosaic.TcCoe Idealize.SL.Sem

/-- The mask of the rows at or past `d`. -/
abbrev keep (d : BitVec 32) : IVec S256x512 1 :=
  cmpi .sge (iota .tc S256x512 32 [0] iota_S256x512_d0_w32) (broadcast S256x512 d)

/-- The mask at a row: set from row `n` on. -/
theorem keep_apply (d : BitVec 32) (n : ℕ) (hd : d.toNat = n) (hn : n < 256) (r : Fin 256) (c : Fin 512) :
    keep d (ix2 r c) = if n ≤ r.val then 1#1 else 0#1 := by
  pointwise [keep]
  have h1 : (BitVec.ofNat 32 r.val).toInt = (r.val : ℤ) := by
    rw [BitVec.toInt_eq_toNat_of_lt (by rw [BitVec.toNat_ofNat]; omega), BitVec.toNat_ofNat]; congr 1; omega
  have h2 : d.toInt = (n : ℤ) := by rw [BitVec.toInt_eq_toNat_of_lt (by omega), hd]
  show BitVec.ofBool (d.sle (BitVec.ofNat 32 r.val)) = _
  rw [BitVec.sle_eq_decide, h1, h2]
  by_cases h : n ≤ r.val
  · rw [if_pos h, decide_eq_true (by exact_mod_cast h)]; rfl
  · rw [if_neg h, decide_eq_false (by exact_mod_cast h)]; rfl

/-- A tile rotated down by `d` rows, with `z` in the rows the rotation wraps into. -/
theorem shift_apply (d : BitVec 32) (n : ℕ) (hd : d.toNat = n) (hn : n < 256) (X Z : FVec Ideal S256x512 .f32) (z : EReal)
    (hZ : ∀ i, Z i = z) (r : Fin 256) (c : Fin 512) :
    select (keep d) (dynamicRotate 0 d none X rotates_S256x512_d0) Z (ix2 r c)
      = if n ≤ r.val then X (ix2 ⟨r.val - n, by omega⟩ c) else z := by
  show (if keep d (ix2 r c) = 1#1 then dynamicRotate 0 d none X rotates_S256x512_d0 (ix2 r c) else Z (ix2 r c)) = _
  rw [keep_apply d n hd hn, hZ]
  by_cases h : n ≤ r.val
  · rw [if_pos h, if_pos rfl, if_pos h]
    refine dynamicRotate_apply 0 d X _ (ix2 r c) (ix2 ⟨r.val - n, by omega⟩ c) fun b => ?_
    fin_cases b
    · simp [ix2]; omega
    · simp [ix2]
  · rw [if_neg h, if_neg (by decide), if_neg h]

/-- The tile holds, at every row and column, the product over the last `n` rows (cut at the first row). -/
def HoldsA (a : Fin 512 → ℕ → EReal) (n : ℕ) (A : FVec Ideal S256x512 .f32) : Prop :=
  ∀ (r : Fin 256) (c : Fin 512), A (ix2 r c) = winA (a c) r.val (min n (r.val + 1))

/-- The tile holds, at every row and column, the additive part over the last `n` rows (cut at the first row). -/
def HoldsB (a b : Fin 512 → ℕ → EReal) (n : ℕ) (B : FVec Ideal S256x512 .f32) : Prop :=
  ∀ (r : Fin 256) (c : Fin 512), B (ix2 r c) = winB (a c) (b c) r.val (min n (r.val + 1))

/-- The factors themselves are the windows of one row. -/
theorem holdsA_one (a : Fin 512 → ℕ → EReal) (A : FVec Ideal S256x512 .f32) (h : ∀ r c, A (ix2 r c) = a c r.val) : HoldsA a 1 A :=
  fun r c => by
    rw [h, min_eq_left (by omega : 1 ≤ r.val + 1)]
    show _ = 1 * a c (r.val - 0); rw [one_mul, Nat.sub_zero]

/-- The additive terms themselves are the windows of one row. -/
theorem holdsB_one (a b : Fin 512 → ℕ → EReal) (B : FVec Ideal S256x512 .f32) (h : ∀ r c, B (ix2 r c) = b c r.val) : HoldsB a b 1 B :=
  fun r c => by
    rw [h, min_eq_left (by omega : 1 ≤ r.val + 1)]
    show _ = 1 * b c (r.val - 0) + 0; rw [one_mul, Nat.sub_zero, add_zero]

/-- A tile of ones. -/
abbrev ones : FVec Ideal S256x512 .f32 := broadcast S256x512 (Scalar.ofBits .f32 0x3F800000#32)

/-- A tile of zeros. -/
abbrev zeros : FVec Ideal S256x512 .f32 := broadcast S256x512 (Scalar.ofBits .f32 0x00000000#32)

theorem ones_apply (i : S256x512.Idx) : ones i = 1 := Ideal.ofBits_one_f32
theorem zeros_apply (i : S256x512.Idx) : zeros i = 0 := Ideal.ofBits_zero_f32

/-- One doubling of the products. -/
theorem stepA (a : Fin 512 → ℕ → EReal) (d : BitVec 32) (n : ℕ) (hd : d.toNat = n) (hn : n < 256) (A : FVec Ideal S256x512 .f32)
    (h : HoldsA a n A) :
    HoldsA a (n + n) (mulf (select (keep d) (dynamicRotate 0 d none A rotates_S256x512_d0) ones) A) := fun r c => by
  show select (keep d) (dynamicRotate 0 d none A rotates_S256x512_d0) ones (ix2 r c) * A (ix2 r c) = _
  rw [shift_apply d n hd hn A ones 1 ones_apply, ← double_A, h r c]
  by_cases hr : n ≤ r.val
  · rw [if_pos hr, if_pos hr, h]
  · rw [if_neg hr, if_neg hr]

/-- One doubling of the additive parts. -/
theorem stepB (a b : Fin 512 → ℕ → EReal) (ha : ∀ c n, 0 ≤ a c n ∧ a c n ≠ ⊤) (d : BitVec 32) (n : ℕ) (hd : d.toNat = n) (hn : n < 256)
    (A B : FVec Ideal S256x512 .f32) (hA : HoldsA a n A) (h : HoldsB a b n B) :
    HoldsB a b (n + n) (addf (mulf A (select (keep d) (dynamicRotate 0 d none B rotates_S256x512_d0) zeros)) B) := fun r c => by
  show A (ix2 r c) * select (keep d) (dynamicRotate 0 d none B rotates_S256x512_d0) zeros (ix2 r c) + B (ix2 r c) = _
  rw [shift_apply d n hd hn B zeros 0 zeros_apply, ← double_B _ _ (ha c), h r c, hA r c]
  by_cases hr : n ≤ r.val
  · rw [if_pos hr, if_pos hr, h]
  · rw [if_neg hr, if_neg hr]

/-! ## The eight doublings as the body computes them -/

/-- The row numbers. -/
abbrev rows : IVec S256x512 32 := iota .tc S256x512 32 [0] iota_S256x512_d0_w32

variable (a b : Fin 512 → ℕ → EReal) (ha : ∀ c n, 0 ≤ a c n ∧ a c n ≠ ⊤) (A B : FVec Ideal S256x512 .f32)

/-- The products after one doubling. -/
theorem pay21_holds (h : HoldsA a 1 A) : HoldsA a 2 (k0_pay21 A k0_pay20 1#32) := stepA a 1#32 1 rfl (by decide) A h
/-- The products after two doublings. -/
theorem pay23_holds (h : HoldsA a 1 A) : HoldsA a 4 (k0_pay23 A rows k0_pay20 1#32) :=
  stepA a 2#32 2 rfl (by decide) _ (pay21_holds a A h)
/-- The products after three doublings. -/
theorem pay25_holds (h : HoldsA a 1 A) : HoldsA a 8 (k0_pay25 A rows k0_pay20 1#32) :=
  stepA a 4#32 4 rfl (by decide) _ (pay23_holds a A h)
/-- The products after four doublings. -/
theorem pay28_holds (h : HoldsA a 1 A) : HoldsA a 16 (k0_pay28 A rows k0_pay20 1#32) :=
  stepA a 8#32 8 rfl (by decide) _ (pay25_holds a A h)
include ha in
/-- The additive parts after four doublings. -/
theorem pay27_holds (h : HoldsA a 1 A) (h' : HoldsB a b 1 B) : HoldsB a b 16 (k0_pay27 A B rows k0_pay20 1#32) :=
  stepB a b ha 8#32 8 rfl (by decide) _ _ (pay25_holds a A h)
    (stepB a b ha 4#32 4 rfl (by decide) _ _ (pay23_holds a A h)
      (stepB a b ha 2#32 2 rfl (by decide) _ _ (pay21_holds a A h) (stepB a b ha 1#32 1 rfl (by decide) _ _ h h')))
/-- The products after five doublings. -/
theorem pay30_holds (h : HoldsA a 16 A) : HoldsA a 32 (k0_pay30 rows A) := stepA a 16#32 16 rfl (by decide) A h
/-- The products after six doublings. -/
theorem pay32_holds (h : HoldsA a 16 A) : HoldsA a 64 (k0_pay32 rows A) := stepA a 32#32 32 rfl (by decide) _ (pay30_holds a A h)
/-- The products after seven doublings. -/
theorem pay35_holds (h : HoldsA a 16 A) : HoldsA a 128 (k0_pay35 rows A) := stepA a 64#32 64 rfl (by decide) _ (pay32_holds a A h)
include ha in
/-- The additive parts after seven doublings. -/
theorem pay34_holds (h : HoldsA a 16 A) (h' : HoldsB a b 16 B) : HoldsB a b 128 (k0_pay34 rows B A) :=
  stepB a b ha 64#32 64 rfl (by decide) _ _ (pay32_holds a A h)
    (stepB a b ha 32#32 32 rfl (by decide) _ _ (pay30_holds a A h) (stepB a b ha 16#32 16 rfl (by decide) _ _ h h'))

/-- The tile of states from the factors `A`, the additive terms `B` and the state `H` before the tile. -/
abbrev states (H : FVec Ideal S1x512 .f32) : FVec Ideal S256x512 .f32 :=
  let A16 := k0_pay28 A rows k0_pay20 1#32
  let B16 := k0_pay27 A B rows k0_pay20 1#32
  k0_pay40 (k0_pay34 rows B16 A16) (k0_pay35 rows A16) (k0_pay36 rows) (k0_pay37 rows A16) (k0_pay38 rows B16 A16) k0_pay39 H

include ha in
/-- The tile of states at a row and a column is the sequential recurrence, run over the tile's rows up to that row from the
    state before the tile. -/
theorem states_apply (hA : ∀ r c, A (ix2 r c) = a c r.val) (hB : ∀ r c, B (ix2 r c) = b c r.val) (H : FVec Ideal S1x512 .f32)
    (r : Fin 256) (c : Fin 512) : states A B H (ix2 r c) = run (a c) (b c) (H (ix2 0 c)) (r.val + 1) := by
  have h1 := holdsA_one a A hA
  have h1' := holdsB_one a b B hB
  have h16 := pay28_holds a A h1
  have h16' := pay27_holds a b ha A B h1 h1'
  have hAA := stepA a 128#32 128 rfl (by decide) _ (pay35_holds a _ h16) r c
  have hBB := stepB a b ha 128#32 128 rfl (by decide) _ _ (pay35_holds a _ h16) (pay34_holds a b ha _ _ h16 h16') r c
  rw [min_eq_right (by omega : r.val + 1 ≤ 128 + 128)] at hAA hBB
  have hH : broadcastTo S256x512 H broadcasts_S1x512_S256x512 (ix2 r c) = H (ix2 0 c) := by pointwise
  rw [run_win (a c) (b c) (ha c) _ r.val (r.val + 1) le_rfl, Nat.sub_self, ← hAA, ← hBB]
  show _ = _ * H (ix2 0 c) + _
  rw [← hH]; rfl

end Cert.KernelIdeal.Tile

end
-- ==== Proof.Block.lean ====
/- What the body computes of one tile, at a row and a column: the short convolution over the eight rows before the tile and
   the tile, the two gates' block products, the factor and the additive term of the recurrence. -/
module

public import proofs.«01_k».proof.Proof.Tile

@[expose] public section

set_option maxRecDepth 16384

noncomputable section

namespace Cert.KernelIdeal.Block

open Cert.KernelIdeal Cert.KernelIdeal.Gen Cert.Recur Cert.KernelIdeal.Tile Idealize.ShloMosaic Idealize.ShloMosaic.TcCoe Idealize.SL.Sem

variable (x g : FVec Ideal S256x512 .f32) (p : FVec Ideal S8x512 .f32) (w : FVec Ideal S4x512 .f32) (cb : FVec Ideal S1x512 .f32)
  (wa wx : FVec Ideal S4x128x128 .f32) (ba bx lam h : FVec Ideal S1x512 .f32)

/-- The input `k` rows above row `r` of the tile: a row of the tile, or one of the eight rows before it. -/
def back (k : ℕ) (r : Fin 256) (c : Fin 512) : EReal :=
  if h : k ≤ r.val then x (ix2 ⟨r.val - k, by omega⟩ c) else p (ix2 ⟨(r.val + 8 - k) % 8, Nat.mod_lt _ (by decide)⟩ c)

/-- The convolution at a row and a column. -/
def conv (r : Fin 256) (c : Fin 512) : EReal :=
  cb (ix2 0 c) + w (ix2 0 c) * back x p 3 r c + w (ix2 1 c) * back x p 2 r c + w (ix2 2 c) * back x p 1 r c
    + w (ix2 3 c) * x (ix2 r c)

/-- A rotation of the eight rows and the tile by `k ≤ 8`, cut to the tile's rows, is the input `k` rows above. -/
theorem roll_apply (d : BitVec 32) (k : ℕ) (hd : d.toNat = k) (hk : k ≤ 8) (r : Fin 256) (c : Fin 512) :
    extractStridedSlice S256x512 ![8, 0] (dynamicRotate 0 d none
      (concatenate S264x512 0 [⟨S8x512, p⟩, ⟨S256x512, x⟩] concatenates_S8x512_S256x512_S264x512_d0 : FVec Ideal S264x512 .f32)
        rotates_S264x512_d0) slices_S264x512_o8_0_S256x512 (ix2 r c) = back x p k r c := by
  rw [extractStridedSlice_apply ![8, 0] _ _ (ix2 r c) (ix2 (⟨r.val + 8, by omega⟩ : Fin 264) c) (by
    intro a; fin_cases a <;> simp [ix2]; omega)]
  rw [dynamicRotate_apply 0 d _ _ (ix2 (⟨r.val + 8, by omega⟩ : Fin 264) c) (ix2 (⟨r.val + 8 - k, by omega⟩ : Fin 264) c) (by
    intro a; fin_cases a
    · simp [ix2]; omega
    · simp [ix2])]
  unfold back
  pointwise
  by_cases hr : k ≤ r.val
  · rw [dif_pos hr, dif_neg (by omega)]; congr 2; exact Fin.ext (by show r.val + 8 - k - 8 = r.val - k; omega)
  · rw [dif_neg hr, dif_pos (by omega)]; congr 2; exact Fin.ext (by show r.val + 8 - k = (r.val + 8 - k) % 8; omega)

/-- The convolution payload at a row and a column. -/
theorem pay4_apply (r : Fin 256) (c : Fin 512) : (k0_pay4 (F := Ideal) x p w cb : FVec Ideal S256x512 .f32) (ix2 r c) = conv x p w cb r c := by
  unfold k0_pay4 conv
  rw [← roll_apply x p 3#32 3 rfl (by decide), ← roll_apply x p 2#32 2 rfl (by decide), ← roll_apply x p 1#32 1 rfl (by decide)]
  pointwise

/-- The four block products of a gate side by side, at a row and a column: the block is the column's quotient by 128. -/
theorem concat4_apply (f : Fin 4 → FVec Ideal S256x128 .f32) (r : Fin 256) (c : Fin 512) :
    (concatenate S256x512 1 [⟨S256x128, f 0⟩, ⟨S256x128, f 1⟩, ⟨S256x128, f 2⟩, ⟨S256x128, f 3⟩] concatenates_S256x128_S256x128_S256x128_S256x128_S256x512_d1 : FVec Ideal S256x512 .f32) (ix2 r c)
      = f ⟨c.val / 128, by omega⟩ (ix2 r ⟨c.val % 128, Nat.mod_lt _ (by decide)⟩) := by
  have key : ∀ (n : Fin 4) (k : Fin 128), c.val = 128 * n.val + k.val →
      f n (ix2 r k) = f ⟨c.val / 128, by omega⟩ (ix2 r ⟨c.val % 128, Nat.mod_lt _ (by decide)⟩) := fun n k e => by
    have e1 : n = ⟨c.val / 128, by omega⟩ := Fin.ext (by show n.val = c.val / 128; omega)
    have e2 : k = ⟨c.val % 128, Nat.mod_lt _ (by decide)⟩ := Fin.ext (by show k.val = c.val % 128; omega)
    rw [← e1, ← e2]
  pointwise
  by_cases h1 : c.val < 128
  · rw [dif_pos h1]; exact key 0 ⟨c.val, h1⟩ (by show c.val = 128 * 0 + c.val; omega)
  rw [dif_neg h1]
  by_cases h2 : c.val - 128 < 128
  · rw [dif_pos h2]; exact key 1 ⟨c.val - 128, h2⟩ (by show c.val = 128 * 1 + (c.val - 128); omega)
  rw [dif_neg h2]
  by_cases h3 : c.val - 128 - 128 < 128
  · rw [dif_pos h3]; exact key 2 ⟨c.val - 128 - 128, h3⟩ (by show c.val = 128 * 2 + (c.val - 128 - 128); omega)
  rw [dif_neg h3]
  exact key 3 ⟨c.val - 128 - 128 - 128, by omega⟩ (by show c.val = 128 * 3 + (c.val - 128 - 128 - 128); omega)

/-- The convolution tile. -/
abbrev XC : FVec Ideal S256x512 .f32 := k0_pay4 x p w cb

/-- Block `n` of a gate's weights, as the body loads it. -/
abbrev wb0 (v : FVec Ideal S4x128x128 .f32) : FVec Ideal S1x128x128 .f32 :=
  View.ld (Val := Elt Ideal) (S := S4x128x128) (e' := .f32) v (Rect.unit ![0, 0, 0] ![1, 128, 128] inb_S4x128x128_S1x128x128_0_0_0)
abbrev wb1 (v : FVec Ideal S4x128x128 .f32) : FVec Ideal S1x128x128 .f32 :=
  View.ld (Val := Elt Ideal) (S := S4x128x128) (e' := .f32) v (Rect.unit ![1, 0, 0] ![1, 128, 128] inb_S4x128x128_S1x128x128_1_0_0)
abbrev wb2 (v : FVec Ideal S4x128x128 .f32) : FVec Ideal S1x128x128 .f32 :=
  View.ld (Val := Elt Ideal) (S := S4x128x128) (e' := .f32) v (Rect.unit ![2, 0, 0] ![1, 128, 128] inb_S4x128x128_S1x128x128_2_0_0)
abbrev wb3 (v : FVec Ideal S4x128x128 .f32) : FVec Ideal S1x128x128 .f32 :=
  View.ld (Val := Elt Ideal) (S := S4x128x128) (e' := .f32) v (Rect.unit ![3, 0, 0] ![1, 128, 128] inb_S4x128x128_S1x128x128_3_0_0)

/-- The four block products of the recurrence gate. -/
def prodA : Fin 4 → FVec Ideal S256x128 .f32 :=
  ![k0_pay6 x p w cb (wb0 wa), k0_pay9 (XC x p w cb) (wb1 wa), k0_pay12 (XC x p w cb) (wb2 wa), k0_pay15 (XC x p w cb) (wb3 wa)]

/-- The four block products of the input gate. -/
def prodX : Fin 4 → FVec Ideal S256x128 .f32 :=
  ![k0_pay7 (k0_pay5 x p w cb) (wb0 wx), k0_pay10 (XC x p w cb) (wb1 wx), k0_pay13 (XC x p w cb) (wb2 wx),
    matmul dot_S256x128_S128x128_S256x128_1_0_0_1_n_n none (k0_pay14 (XC x p w cb)) (k0_pay16 (wb3 wx)) (constant S256x128 .f32 0x00000000#32)]

/-- A gate's product at a row and a column: the convolution's block of 128 columns times the block's weights. -/
def dotv (v : FVec Ideal S4x128x128 .f32) (r : Fin 256) (n : Fin 4) (j : Fin 128) : EReal :=
  ∑ i : Fin 128, conv x p w cb r ⟨128 * n.val + i.val, by omega⟩ * v (ix3 n i j)

theorem prodA_apply (n : Fin 4) (r : Fin 256) (j : Fin 128) : prodA x p w cb wa n (ix2 r j) = dotv x p w cb wa r n j := by
  unfold dotv
  simp only [← pay4_apply]
  fin_cases n
  · pointwise [prodA, XC, wb0, wb1, wb2, wb3, k0_pay6, k0_pay5]
  · pointwise [prodA, XC, wb0, wb1, wb2, wb3, k0_pay9, k0_pay8]
  · pointwise [prodA, XC, wb0, wb1, wb2, wb3, k0_pay12, k0_pay11]
  · pointwise [prodA, XC, wb0, wb1, wb2, wb3, k0_pay15, k0_pay14]

theorem prodX_apply (n : Fin 4) (r : Fin 256) (j : Fin 128) : prodX x p w cb wx n (ix2 r j) = dotv x p w cb wx r n j := by
  unfold dotv
  simp only [← pay4_apply]
  fin_cases n
  · pointwise [prodX, XC, wb0, wb1, wb2, wb3, k0_pay7, k0_pay5]
  · pointwise [prodX, XC, wb0, wb1, wb2, wb3, k0_pay10, k0_pay8]
  · pointwise [prodX, XC, wb0, wb1, wb2, wb3, k0_pay13, k0_pay11]
  · pointwise [prodX, XC, wb0, wb1, wb2, wb3, k0_pay14, k0_pay16]

/-- The factor tile, as the body computes it from the blocks. -/
abbrev TA : FVec Ideal S256x512 .f32 :=
  k0_pay18 (k0_pay6 x p w cb (wb0 wa)) (k0_pay9 (XC x p w cb) (wb1 wa)) (k0_pay12 (XC x p w cb) (wb2 wa)) (k0_pay15 (XC x p w cb) (wb3 wa)) ba lam

/-- The tile of additive terms, as the body computes it from the blocks. -/
abbrev TB : FVec Ideal S256x512 .f32 :=
  k0_pay19 (XC x p w cb) (k0_pay6 x p w cb (wb0 wa)) (k0_pay7 (k0_pay5 x p w cb) (wb0 wx)) (k0_pay9 (XC x p w cb) (wb1 wa)) (k0_pay10 (XC x p w cb) (wb1 wx))
    (k0_pay12 (XC x p w cb) (wb2 wa)) (k0_pay13 (XC x p w cb) (wb2 wx)) (k0_pay14 (XC x p w cb)) (k0_pay15 (XC x p w cb) (wb3 wa)) (k0_pay16 (wb3 wx))
    (constant S256x128 .f32 0x00000000#32) ba bx lam

/-- A gate at a row and a column. -/
def gate (v : FVec Ideal S4x128x128 .f32) (bv : FVec Ideal S1x512 .f32) (r : Fin 256) (c : Fin 512) : EReal :=
  Ideal.logistic (dotv x p w cb v r ⟨c.val / 128, by omega⟩ ⟨c.val % 128, Nat.mod_lt _ (by decide)⟩ + bv (ix2 0 c))

/-- The f32 pattern `0x40000000` is the real two. -/
theorem ofBits_two : Ideal.ofBits .f32 0x40000000#32 = 2 := by
  rw [show (2 : EReal) = ((2 : ℝ) : EReal) from rfl]
  simp [Ideal.ofBits, Ideal.ieee, -EReal.coe_mul]; norm_num

/-- The f32 pattern `0xC1000000` is the real minus eight. -/
theorem ofBits_neg_eight : Ideal.ofBits .f32 0xC1000000#32 = ((-8 : ℝ) : EReal) := by
  simp [Ideal.ofBits, Ideal.ieee, -EReal.coe_mul, -EReal.coe_neg]; norm_num

/-- The softplus of minus the recurrence parameter, as the body computes it. -/
def sp (l : EReal) : EReal := max (0 - l) 0 + Ideal.log1p (Ideal.exp (0 - FloatOps.absf (F := Ideal) (φ := .f32) (0 - l)))

theorem sp_nonneg (l : EReal) : 0 ≤ sp l := add_nonneg (le_max_right _ _) (log1p_nonneg _ (exp_nonneg _))

/-- The logarithm of the factor at a row and a column, from the side-by-side products there. -/
theorem pay17_of (v37 v47 v57 v67 : FVec Ideal S256x128 .f32) (r : Fin 256) (c : Fin 512) (s : EReal)
    (hs : (concatenate S256x512 1 [⟨S256x128, v37⟩, ⟨S256x128, v47⟩, ⟨S256x128, v57⟩, ⟨S256x128, v67⟩] concatenates_S256x128_S256x128_S256x128_S256x128_S256x512_d1 : FVec Ideal S256x512 .f32) (ix2 r c) = s) :
    (k0_pay17 (F := Ideal) v37 v47 v57 v67 ba lam : FVec Ideal S256x512 .f32) (ix2 r c)
      = ((-8 : ℝ) : EReal) * Ideal.logistic (s + ba (ix2 0 c)) * sp (lam (ix2 0 c)) := by
  rw [← hs, ← ofBits_neg_eight]; unfold sp; pointwise [k0_pay17]

/-- The logarithm of the factor at a row and a column. -/
def la (r : Fin 256) (c : Fin 512) : EReal :=
  ((-8 : ℝ) : EReal) * gate x p w cb wa ba r c * sp (lam (ix2 0 c))

theorem pay17_apply (r : Fin 256) (c : Fin 512) :
    (k0_pay17 (F := Ideal) (k0_pay6 x p w cb (wb0 wa)) (k0_pay9 (XC x p w cb) (wb1 wa)) (k0_pay12 (XC x p w cb) (wb2 wa)) (k0_pay15 (XC x p w cb) (wb3 wa)) ba lam : FVec Ideal S256x512 .f32) (ix2 r c)
      = la x p w cb wa ba lam r c :=
  pay17_of ba lam _ _ _ _ r c _ ((concat4_apply (prodA x p w cb wa) r c).trans (prodA_apply x p w cb wa _ r _))

/-- The factor tile at a row and a column. -/
theorem TA_apply (r : Fin 256) (c : Fin 512) : TA x p w cb wa ba lam (ix2 r c) = Ideal.exp (la x p w cb wa ba lam r c) := by
  rw [← pay17_apply]; rfl

/-- The additive term at a row and a column, from the side-by-side products there. -/
theorem pay19_of (v31 : FVec Ideal S256x512 .f32) (v37 v41 v47 v51 v57 v61 v67 : FVec Ideal S256x128 .f32) (v63 : FVec Ideal S256x128 .bf16) (v70 : FVec Ideal S128x128 .bf16)
    (z : FVec Ideal S256x128 .f32)
    (r : Fin 256) (c : Fin 512) (l s u : EReal)
    (hl : (k0_pay17 (F := Ideal) v37 v47 v57 v67 ba lam : FVec Ideal S256x512 .f32) (ix2 r c) = l)
    (hu : v31 (ix2 r c) = u)
    (hs : (concatenate S256x512 1 [⟨S256x128, v41⟩, ⟨S256x128, v51⟩, ⟨S256x128, v61⟩, ⟨S256x128, matmul dot_S256x128_S128x128_S256x128_1_0_0_1_n_n none v63 v70 z⟩] concatenates_S256x128_S256x128_S256x128_S256x128_S256x512_d1 : FVec Ideal S256x512 .f32) (ix2 r c) = s) :
    (k0_pay19 (F := Ideal) v31 v37 v41 v47 v51 v57 v61 v63 v67 v70 z ba bx lam : FVec Ideal S256x512 .f32) (ix2 r c)
      = Ideal.sqrt (-Ideal.expm1 (2 * l)) * (Ideal.logistic (s + bx (ix2 0 c)) * u) := by
  rw [← hs, ← hu]
  pointwise [k0_pay19]
  rw [hl, ← tanh_expm1, ← ofBits_two]

/-- The additive term at a row and a column. -/
def bt (r : Fin 256) (c : Fin 512) : EReal :=
  Ideal.sqrt (-Ideal.expm1 (2 * la x p w cb wa ba lam r c)) * (gate x p w cb wx bx r c * conv x p w cb r c)

/-- The tile of additive terms at a row and a column. -/
theorem TB_apply (r : Fin 256) (c : Fin 512) : TB x p w cb wa wx ba bx lam (ix2 r c) = bt x p w cb wa wx ba bx lam r c :=
  pay19_of ba bx lam _ _ _ _ _ _ _ _ _ _ _ r c _ _ _ (pay17_apply x p w cb wa ba lam r c) (pay4_apply x p w cb r c)
    ((concat4_apply (prodX x p w cb wx) r c).trans (prodX_apply x p w cb wx _ r _))

end Cert.KernelIdeal.Block

end
-- ==== Proof.Spec.lean ====
/- What the layer's recurrence computes over whole arrays, at a sequence, a token and a channel: the short convolution, the two
   gates, the factor and the additive term, the states, and the gated output. Both programs are shown to compute this. -/
module

public import proofs.«01_k».proof.Proof.Block

@[expose] public section

set_option maxRecDepth 16384

noncomputable section

namespace Cert.KernelIdeal.Spec

open Cert.KernelIdeal Cert.KernelIdeal.Gen Cert.Recur Idealize.ShloMosaic Idealize.ShloMosaic.TcCoe Idealize.SL.Sem

/-- The tanh form of the Gaussian error linear unit. -/
def gelu (g : EReal) : EReal :=
  g * (Ideal.ofBits .f32 0x3F000000#32 * (1 + Ideal.tanh (Ideal.ofBits .f32 0x3F4C422A#32 * (g + Ideal.ofBits .f32 0x3D372713#32 * (g * (g * g))))))

variable (P : FVec Ideal S8704x10240 .f32) (w : FVec Ideal S4x2048 .f32) (cb : FVec Ideal S2048 .f32)
  (wa : FVec Ideal S16x128x128 .f32) (ba : FVec Ideal S2048 .f32) (wx : FVec Ideal S16x128x128 .f32) (bx lam : FVec Ideal S2048 .f32)

/-- The projection of token `n` of sequence `b` at a column. -/
def tok (b : Fin 4) (n : ℕ) (j : Fin 10240) : EReal := P (ix2 ⟨(2048 * b.val + n) % 8704, Nat.mod_lt _ (by decide)⟩ j)

/-- The recurrence input of token `n` at a channel: the first 2048 columns. -/
def xin (b : Fin 4) (n : ℕ) (j : Fin 2048) : EReal := tok P b n ⟨j.val, by omega⟩

/-- The recurrence input `k` tokens before token `n`, zero before the sequence begins. -/
def xback (k : ℕ) (b : Fin 4) (n : ℕ) (j : Fin 2048) : EReal := if k ≤ n then xin P b (n - k) j else 0

/-- The convolution over four tokens. -/
def conv (b : Fin 4) (n : ℕ) (j : Fin 2048) : EReal :=
  cb (ix1 j) + w (ix2 0 j) * xback P 3 b n j + w (ix2 1 j) * xback P 2 b n j + w (ix2 2 j) * xback P 1 b n j + w (ix2 3 j) * xin P b n j

/-- A gate's block product: the channels of block `k` times the block's weights. -/
def dotv (v : FVec Ideal S16x128x128 .f32) (b : Fin 4) (n : ℕ) (k : Fin 16) (i : Fin 128) : EReal :=
  ∑ q : Fin 128, conv P w cb b n ⟨128 * k.val + q.val, by omega⟩ * v (ix3 k q i)

/-- A gate. -/
def gate (v : FVec Ideal S16x128x128 .f32) (bv : FVec Ideal S2048 .f32) (b : Fin 4) (n : ℕ) (j : Fin 2048) : EReal :=
  Ideal.logistic (dotv P w cb v b n ⟨j.val / 128, by omega⟩ ⟨j.val % 128, Nat.mod_lt _ (by decide)⟩ + bv (ix1 j))

/-- The logarithm of the recurrence factor. -/
def la (b : Fin 4) (n : ℕ) (j : Fin 2048) : EReal :=
  ((-8 : ℝ) : EReal) * gate P w cb wa ba b n j * Block.sp (lam (ix1 j))

/-- The recurrence factor. -/
def fac (b : Fin 4) (j : Fin 2048) (n : ℕ) : EReal := Ideal.exp (la P w cb wa ba lam b n j)

/-- The additive term. -/
def bt (b : Fin 4) (j : Fin 2048) (n : ℕ) : EReal :=
  Ideal.sqrt (-Ideal.expm1 (2 * la P w cb wa ba lam b n j)) * (gate P w cb wx bx b n j * conv P w cb b n j)

/-- The state after `n` tokens. -/
def hs (b : Fin 4) (j : Fin 2048) (n : ℕ) : EReal := run (fac P w cb wa ba lam b j) (bt P w cb wa ba wx bx lam b j) 0 n

/-- The gated output of token `n`. -/
def out (b : Fin 4) (n : ℕ) (j : Fin 2048) : EReal :=
  hs P w cb wa ba wx bx lam b j (n + 1) * gelu (tok P b n ⟨2048 + j.val, by omega⟩)

/-- The first result: the gated outputs of the prompt tokens in the first half of the columns, zero elsewhere. -/
def RES0 : FVec Ideal S8704x4096 .bf16 := fun i =>
  if h : (i 0).val < 8192 ∧ (i 1).val < 2048 then
    out P w cb wa ba wx bx lam ⟨(i 0).val / 2048, by omega⟩ ((i 0).val % 2048) ⟨(i 1).val, h.2⟩
  else 0

/-- The second result: each sequence's last state. -/
def RES1 : FVec Ideal S4x1x2048 .f32 := fun i => hs P w cb wa ba wx bx lam (i 0) (i 2) 2048

end Cert.KernelIdeal.Spec

end
-- ==== Proof.Point.lean ====
/- What the body leaves after each grid point, over the blocks of that point: the states of its tile, the output block, the
   last rows of the input and the last state carried to the next point. -/
module

public import proofs.«01_k».proof.Proof.Gen.KernelIdeal.Value
public import proofs.«01_k».proof.Proof.Spec
public import Idealize.ShloMosaic.Lib.Pipeline.ValueKit
public import Idealize.ShloMosaic.Lib.Pipeline.ReadBack

@[expose] public section

set_option maxRecDepth 16384

noncomputable section

namespace Cert.KernelIdeal.Point

open Cert.KernelIdeal Cert.KernelIdeal.Gen Cert.Recur Idealize.ShloMosaic Idealize.ShloMosaic.TcCoe Idealize.SL.Sem

/-- The output payload at a row and a column: the state there times the gelu of the gate input. -/
theorem pay41_apply (v1 v2 : FVec Ideal S256x512 .f32) (v3 : IVec S256x512 1) (v4 v5 v6 : FVec Ideal S256x512 .f32) (h : FVec Ideal S1x512 .f32)
    (g : FVec Ideal S256x512 .f32) (r : Fin 256) (c : Fin 512) :
    (k0_pay41 (F := Ideal) v1 v2 v3 v4 v5 v6 h g : FVec Ideal S256x512 .bf16) (ix2 r c)
      = (k0_pay40 (F := Ideal) v1 v2 v3 v4 v5 v6 h : FVec Ideal S256x512 .f32) (ix2 r c) * Spec.gelu (g (ix2 r c)) := by
  unfold Spec.gelu; rw [← Ideal.ofBits_one_f32]; rfl

/-- The state carried to the next tile is the tile's last row of states. -/
theorem pay42_apply (v1 v2 : FVec Ideal S256x512 .f32) (v3 : IVec S256x512 1) (v4 v5 v6 : FVec Ideal S256x512 .f32) (h : FVec Ideal S1x512 .f32) (c : Fin 512) :
    (k0_pay42 (F := Ideal) v1 v2 v3 v4 v5 v6 h : FVec Ideal S1x512 .f32) (ix2 0 c)
      = (k0_pay40 (F := Ideal) v1 v2 v3 v4 v5 v6 h : FVec Ideal S256x512 .f32) (ix2 255 c) := by
  pointwise [k0_pay42]

/-- The last state stored for a sequence is the tile's last row of states. -/
theorem pay1_apply (v : FVec Ideal S256x512 .f32) (c : Fin 512) :
    (k0_pay1 (F := Ideal) v : FVec Ideal S1x1x512 .f32) (ix3 0 0 c) = v (ix2 255 c) := by
  pointwise [k0_pay1]

/-- The rows carried to the next tile are the tile's last eight. -/
theorem pay43_apply (v : FVec Ideal S256x512 .f32) (i : Fin 8) (c : Fin 512) :
    (k0_pay43 (F := Ideal) v : FVec Ideal S8x512 .f32) (ix2 i c) = v (ix2 ⟨248 + i.val, by omega⟩ c) := by
  pointwise [k0_pay43]

variable (m : (ℓ : Loc nD τ sig) → Buf (Elt Ideal) ℓ) (c : Dev nD)

/-- The eight rows before a tile: the history at a sequence's first tile, the rows carried otherwise. -/
def PREV (t : Fin cfg0.N) : FVec Ideal S8x512 .f32 :=
  if t.val % 8 = 0 then k0_pay2 (iblk m c 2 t) else k0_pay43 (iblk m c 0 ⟨t.val - 1, Nat.lt_of_le_of_lt (Nat.sub_le _ _) t.isLt⟩)

/-- The state before a tile: the given one at a sequence's first tile, the state carried otherwise. -/
def HB (t : Fin cfg0.N) : FVec Ideal S1x512 .f32 :=
  if t.val % 8 = 0 then k0_pay3 (iblk m c 3 t) else (outsAt0 m c (t.val - 1) (Nat.lt_of_le_of_lt (Nat.sub_le _ _) t.isLt)).2.2.2

/-- The states of the tile of a point. -/
def ST (t : Fin cfg0.N) : FVec Ideal S256x512 .f32 :=
  Tile.states
    (Block.TA (iblk m c 0 t) (PREV m c t) (iblk m c 4 t) (iblk m c 5 t) (iblk m c 6 t) (iblk m c 7 t) (iblk m c 10 t))
    (Block.TB (iblk m c 0 t) (PREV m c t) (iblk m c 4 t) (iblk m c 5 t) (iblk m c 6 t) (iblk m c 8 t) (iblk m c 7 t) (iblk m c 9 t) (iblk m c 10 t))
    (HB m c t)

/-- After every point the carried rows are the point's last eight input rows. -/
theorem prev_at (t : Fin cfg0.N) : (outsAt0 m c t.val t.isLt).2.2.1 = k0_pay43 (iblk m c 0 t) := by
  by_cases h0 : t.val % 8 = 0
  · have h1 : ¬t.val % 8 = 7 := by omega
    rw [outsAt0_A m c t h0 h1]; dsimp only; frame_out
  · by_cases h1 : t.val % 8 = 7
    · rw [outsAt0_C m c t h0 h1]; dsimp only; frame_out
    · rw [outsAt0_B m c t h0 h1]; dsimp only; frame_out

/-- The rows before a later tile are what the point before left. -/
theorem PREV_later (t : Fin cfg0.N) (h0 : ¬t.val % 8 = 0) :
    PREV m c t = (outsAt0 m c (t.val - 1) (Nat.lt_of_le_of_lt (Nat.sub_le _ _) t.isLt)).2.2.1 := by
  unfold PREV; rw [if_neg h0]; exact (prev_at m c ⟨t.val - 1, Nat.lt_of_le_of_lt (Nat.sub_le _ _) t.isLt⟩).symm

theorem HB_later (t : Fin cfg0.N) (h0 : ¬t.val % 8 = 0) :
    HB m c t = (outsAt0 m c (t.val - 1) (Nat.lt_of_le_of_lt (Nat.sub_le _ _) t.isLt)).2.2.2 := by
  unfold HB; rw [if_neg h0]

theorem PREV_first (t : Fin cfg0.N) (h0 : t.val % 8 = 0) : PREV m c t = k0_pay2 (iblk m c 2 t) := by
  unfold PREV; rw [if_pos h0]

theorem HB_first (t : Fin cfg0.N) (h0 : t.val % 8 = 0) : HB m c t = k0_pay3 (iblk m c 3 t) := by
  unfold HB; rw [if_pos h0]

/-- After every point the output block holds the tile's states times the gelu of the gate block. -/
theorem y_at (t : Fin cfg0.N) (r : Fin 256) (j : Fin 512) :
    ((outsAt0 m c t.val t.isLt).1 : FVec Ideal S256x512 .bf16) (ix2 r j)
      = ST m c t (ix2 r j) * Spec.gelu ((iblk m c 1 t : FVec Ideal S256x512 .f32) (ix2 r j)) := by
  by_cases h0 : t.val % 8 = 0
  · have h1 : ¬t.val % 8 = 7 := by omega
    unfold ST; rw [PREV_first m c t h0, HB_first m c t h0]
    rw [outsAt0_A m c t h0 h1]; dsimp only; frame_out
    exact pay41_apply _ _ _ _ _ _ _ _ r j
  · unfold ST; rw [PREV_later m c t h0, HB_later m c t h0]
    by_cases h1 : t.val % 8 = 7
    · rw [outsAt0_C m c t h0 h1]; dsimp only; frame_out
      simp only [read_unread_whole]
      exact pay41_apply _ _ _ _ _ _ _ _ r j
    · rw [outsAt0_B m c t h0 h1]; dsimp only; frame_out
      simp only [read_unread_whole]
      exact pay41_apply _ _ _ _ _ _ _ _ r j

/-- After every point the carried state is the tile's last. -/
theorem h_at (t : Fin cfg0.N) (j : Fin 512) :
    ((outsAt0 m c t.val t.isLt).2.2.2 : FVec Ideal S1x512 .f32) (ix2 0 j) = ST m c t (ix2 255 j) := by
  by_cases h0 : t.val % 8 = 0
  · have h1 : ¬t.val % 8 = 7 := by omega
    unfold ST; rw [PREV_first m c t h0, HB_first m c t h0]
    rw [outsAt0_A m c t h0 h1]; dsimp only; frame_out
    exact pay42_apply _ _ _ _ _ _ _ j
  · unfold ST; rw [PREV_later m c t h0, HB_later m c t h0]
    by_cases h1 : t.val % 8 = 7
    · rw [outsAt0_C m c t h0 h1]; dsimp only; frame_out
      simp only [read_unread_whole]
      exact pay42_apply _ _ _ _ _ _ _ j
    · rw [outsAt0_B m c t h0 h1]; dsimp only; frame_out
      simp only [read_unread_whole]
      exact pay42_apply _ _ _ _ _ _ _ j

/-- After a sequence's last point the block of last states is the tile's last. -/
theorem hl_at (t : Fin cfg0.N) (h1 : t.val % 8 = 7) (j : Fin 512) :
    ((outsAt0 m c t.val t.isLt).2.1 : FVec Ideal S1x1x512 .f32) (ix3 0 0 j) = ST m c t (ix2 255 j) := by
  have h0 : ¬t.val % 8 = 0 := by omega
  unfold ST; rw [PREV_later m c t h0, HB_later m c t h0]
  rw [outsAt0_C m c t h0 h1]; dsimp only; frame_out
  simp only [read_unread_whole]
  exact pay1_apply _ j

end Cert.KernelIdeal.Point

end
-- ==== Proof.Reads.lean ====
/- The blocks of a grid point, read as the argument arrays: which sequence, tokens and channels point `t` works on. -/
module

public import proofs.«01_k».proof.Proof.Point
public import Idealize.ShloMosaic.Lib.Claim

@[expose] public section

set_option maxRecDepth 16384

noncomputable section

namespace Cert.KernelIdeal.Reads

open Cert.KernelIdeal Cert.KernelIdeal.Gen Cert.Recur Idealize.ShloMosaic Idealize.ShloMosaic.TcCoe Idealize.SL.Sem

variable (m : (ℓ : Loc nD τ sig) → Buf (Elt Ideal) ℓ) (c : Dev nD)

/-- The argument arrays. -/
abbrev aP : FVec Ideal S8704x10240 .f32 := m ((c : Thread nD τ).loc main_arg0)
abbrev aW : FVec Ideal S4x2048 .f32 := m ((c : Thread nD τ).loc main_arg1)
abbrev aCB : FVec Ideal S2048 .f32 := m ((c : Thread nD τ).loc main_arg2)
abbrev aWA : FVec Ideal S16x128x128 .f32 := m ((c : Thread nD τ).loc main_arg3)
abbrev aBA : FVec Ideal S2048 .f32 := m ((c : Thread nD τ).loc main_arg4)
abbrev aWX : FVec Ideal S16x128x128 .f32 := m ((c : Thread nD τ).loc main_arg5)
abbrev aBX : FVec Ideal S2048 .f32 := m ((c : Thread nD τ).loc main_arg6)
abbrev aLAM : FVec Ideal S2048 .f32 := m ((c : Thread nD τ).loc main_arg7)

/-- The sequence of point `t`. -/
def bq (t : Fin cfg0.N) : Fin 4 := ⟨t.val / 32, by have := lt_of_lt_of_eq t.isLt (show cfg0.N = 128 from N_0); omega⟩

/-- The channel of column `j` of point `t`. -/
def ch (t : Fin cfg0.N) (j : Fin 512) : Fin 2048 := ⟨512 * (t.val / 8 % 4) + j.val, by omega⟩

/-- The blocks' places. -/
theorem idx : ∀ t : Fin cfg0.N, win0_0.index t = ![t.val / 32 * 8 + t.val % 8, t.val / 8 % 4] ∧ win0_1.index t = ![t.val / 32 * 8 + t.val % 8, 4 + t.val / 8 % 4]
    ∧ win0_4.index t = ![0, t.val / 8 % 4] ∧ win0_5.index t = ![0, t.val / 8 % 4] ∧ win0_6.index t = ![t.val / 8 % 4, 0, 0] ∧ win0_7.index t = ![0, t.val / 8 % 4]
    ∧ win0_8.index t = ![t.val / 8 % 4, 0, 0] ∧ win0_9.index t = ![0, t.val / 8 % 4] ∧ win0_10.index t = ![0, t.val / 8 % 4]
    ∧ win0_11.index t = ![t.val / 32 * 8 + t.val % 8, t.val / 8 % 4] ∧ win0_12.index t = ![t.val / 32, 0, t.val / 8 % 4] ∧ t.val / 32 < 4 :=
  (by decide +kernel : ∀ t : Fin grid0.N, _)

theorem x_at (t : Fin cfg0.N) (r : Fin 256) (j : Fin 512) :
    (iblk m c 0 t : FVec Ideal S256x512 .f32) (ix2 r j) = Spec.xin (aP m c) (bq t) (256 * (t.val % 8) + r.val) (ch t j) := by
  unfold Spec.xin Spec.tok bq ch
  have := (idx t).2.2.2.2.2.2.2.2.2.2.2
  have hm : (2048 * (t.val / 32) + (256 * (t.val % 8) + r.val)) % 8704 = 2048 * (t.val / 32) + (256 * (t.val % 8) + r.val) := Nat.mod_eq_of_lt (by omega)
  simp only [hm]
  blk_point [iblk, V, idx t]

theorem g_at (t : Fin cfg0.N) (r : Fin 256) (j : Fin 512) :
    (iblk m c 1 t : FVec Ideal S256x512 .f32) (ix2 r j)
      = Spec.tok (aP m c) (bq t) (256 * (t.val % 8) + r.val) ⟨2048 + (ch t j).val, by have := (ch t j).isLt; omega⟩ := by
  unfold Spec.tok bq ch
  have := (idx t).2.2.2.2.2.2.2.2.2.2.2
  have hm : (2048 * (t.val / 32) + (256 * (t.val % 8) + r.val)) % 8704 = 2048 * (t.val / 32) + (256 * (t.val % 8) + r.val) := Nat.mod_eq_of_lt (by omega)
  simp only [hm]
  blk_point [iblk, V, idx t]

theorem w_at (t : Fin cfg0.N) (k : Fin 4) (j : Fin 512) : (iblk m c 4 t : FVec Ideal S4x512 .f32) (ix2 k j) = aW m c (ix2 k (ch t j)) := by
  unfold ch; blk_point [iblk, V, idx t]

theorem wa_at (t : Fin cfg0.N) (k : Fin 4) (p q : Fin 128) :
    (iblk m c 6 t : FVec Ideal S4x128x128 .f32) (ix3 k p q) = aWA m c (ix3 ⟨4 * (t.val / 8 % 4) + k.val, by omega⟩ p q) := by
  blk_point [iblk, V, idx t]

theorem wx_at (t : Fin cfg0.N) (k : Fin 4) (p q : Fin 128) :
    (iblk m c 8 t : FVec Ideal S4x128x128 .f32) (ix3 k p q) = aWX m c (ix3 ⟨4 * (t.val / 8 % 4) + k.val, by omega⟩ p q) := by
  blk_point [iblk, V, idx t]

theorem cb_at (t : Fin cfg0.N) (j : Fin 512) : (iblk m c 5 t : FVec Ideal S1x512 .f32) (ix2 0 j) = aCB m c (ix1 (ch t j)) := by
  have e : V m c main_v4 = shapeCast S1x2048 (aCB m c) shapeCasts_S2048_S1x2048 := by entry_read; rfl
  have e2 : ∀ q : Fin 2048, (shapeCast S1x2048 (aCB m c) shapeCasts_S2048_S1x2048 : FVec Ideal S1x2048 .f32) (ix2 0 q) = aCB m c (ix1 q) := fun q => by pointwise
  rw [← e2, ← e]; unfold ch; blk_point [iblk, idx t]

theorem ba_at (t : Fin cfg0.N) (j : Fin 512) : (iblk m c 7 t : FVec Ideal S1x512 .f32) (ix2 0 j) = aBA m c (ix1 (ch t j)) := by
  have e : V m c main_v5 = shapeCast S1x2048 (aBA m c) shapeCasts_S2048_S1x2048 := by entry_read; rfl
  have e2 : ∀ q : Fin 2048, (shapeCast S1x2048 (aBA m c) shapeCasts_S2048_S1x2048 : FVec Ideal S1x2048 .f32) (ix2 0 q) = aBA m c (ix1 q) := fun q => by pointwise
  rw [← e2, ← e]; unfold ch; blk_point [iblk, idx t]

theorem bx_at (t : Fin cfg0.N) (j : Fin 512) : (iblk m c 9 t : FVec Ideal S1x512 .f32) (ix2 0 j) = aBX m c (ix1 (ch t j)) := by
  have e : V m c main_v6 = shapeCast S1x2048 (aBX m c) shapeCasts_S2048_S1x2048 := by entry_read; rfl
  have e2 : ∀ q : Fin 2048, (shapeCast S1x2048 (aBX m c) shapeCasts_S2048_S1x2048 : FVec Ideal S1x2048 .f32) (ix2 0 q) = aBX m c (ix1 q) := fun q => by pointwise
  rw [← e2, ← e]; unfold ch; blk_point [iblk, idx t]

theorem lam_at (t : Fin cfg0.N) (j : Fin 512) : (iblk m c 10 t : FVec Ideal S1x512 .f32) (ix2 0 j) = aLAM m c (ix1 (ch t j)) := by
  have e : V m c main_v7 = shapeCast S1x2048 (aLAM m c) shapeCasts_S2048_S1x2048 := by entry_read; rfl
  have e2 : ∀ q : Fin 2048, (shapeCast S1x2048 (aLAM m c) shapeCasts_S2048_S1x2048 : FVec Ideal S1x2048 .f32) (ix2 0 q) = aLAM m c (ix1 q) := fun q => by pointwise
  rw [← e2, ← e]; unfold ch; blk_point [iblk, idx t]

/-- The history before a sequence is zero. -/
theorem hist_at (t : Fin cfg0.N) (i : Fin 8) (j : Fin 512) : (k0_pay2 (F := Ideal) (iblk m c 2 t) : FVec Ideal S8x512 .f32) (ix2 i j) = 0 := by
  have e : ∀ q : S4x8x2048.Idx, @Eq EReal (V m c main_v0 q) 0 := fun q => by entry_read; pointwise
  have e2 : (k0_pay2 (F := Ideal) (iblk m c 2 t) : FVec Ideal S8x512 .f32) (ix2 i j) = (iblk m c 2 t : FVec Ideal S1x8x512 .f32) (ix3 0 i j) := by pointwise [k0_pay2]
  rw [e2]; blk_simp [iblk]; exact e _

/-- The state before a sequence is zero. -/
theorem h0_at (t : Fin cfg0.N) (j : Fin 512) : (k0_pay3 (F := Ideal) (iblk m c 3 t) : FVec Ideal S1x512 .f32) (ix2 0 j) = 0 := by
  have e : ∀ q : S4x1x2048.Idx, @Eq EReal (V m c main_v3 q) 0 := fun q => by entry_read; pointwise
  have e2 : (k0_pay3 (F := Ideal) (iblk m c 3 t) : FVec Ideal S1x512 .f32) (ix2 0 j) = (iblk m c 3 t : FVec Ideal S1x1x512 .f32) (ix3 0 0 j) := by pointwise [k0_pay3]
  rw [e2]; blk_simp [iblk]; exact e _

/-- The rest of the first result is zero before the call. -/
theorem buf_at (q : S8704x4096.Idx) : @Eq EReal (V m c main_v2 q) 0 := by
  entry_read; pointwise

end Cert.KernelIdeal.Reads

end
-- ==== Proof.Array.lean ====
/- The result arrays after the call: every tile's states are the recurrence over whole arrays, and the blocks written back
   make up the two results. -/
module

public import proofs.«01_k».proof.Proof.Reads

@[expose] public section

set_option maxRecDepth 16384

noncomputable section

namespace Cert.KernelIdeal.Array

open Cert.KernelIdeal Cert.KernelIdeal.Gen Cert.Recur Cert.KernelIdeal.Reads Cert.KernelIdeal.Point Idealize.ShloMosaic Idealize.ShloMosaic.TcCoe Idealize.SL.Sem
open Idealize.ShloMosaic.Pipeline (Dat)

variable (m : (ℓ : Loc nD τ sig) → Buf (Elt Ideal) ℓ) (c : Dev nD)

/-- The rows before a tile are the tokens before it, zero before the sequence begins. -/
theorem prev_apply (t : Fin cfg0.N) (i : Fin 8) (j : Fin 512) :
    PREV m c t (ix2 i j) = if t.val % 8 = 0 then 0 else Spec.xin (aP m c) (bq t) (256 * (t.val % 8) - 8 + i.val) (ch t j) := by
  unfold PREV
  by_cases h0 : t.val % 8 = 0
  · rw [if_pos h0, if_pos h0]; exact hist_at m c t i j
  · rw [if_neg h0, if_neg h0, pay43_apply, x_at]
    have e1 : bq (⟨t.val - 1, Nat.lt_of_le_of_lt (Nat.sub_le _ _) t.isLt⟩ : Fin cfg0.N) = bq t := Fin.ext (by show (t.val - 1) / 32 = t.val / 32; omega)
    have e2 : ch (⟨t.val - 1, Nat.lt_of_le_of_lt (Nat.sub_le _ _) t.isLt⟩ : Fin cfg0.N) j = ch t j :=
      Fin.ext (by show 512 * ((t.val - 1) / 8 % 4) + j.val = 512 * (t.val / 8 % 4) + j.val; omega)
    rw [e1, e2]
    congr 1
    show 256 * ((t.val - 1) % 8) + (248 + i.val) = _; omega

/-- The input `k` rows above a row of the tile is the input `k` tokens before. -/
theorem back_apply (t : Fin cfg0.N) (k : ℕ) (hk : k ≤ 8) (r : Fin 256) (j : Fin 512) :
    Block.back (iblk m c 0 t) (PREV m c t) k r j = Spec.xback (aP m c) k (bq t) (256 * (t.val % 8) + r.val) (ch t j) := by
  unfold Block.back Spec.xback
  by_cases hr : k ≤ r.val
  · rw [dif_pos hr, if_pos (by omega), x_at]; congr 1
    show 256 * (t.val % 8) + (r.val - k) = _; omega
  · rw [dif_neg hr, prev_apply]
    by_cases h0 : t.val % 8 = 0
    · rw [if_pos h0, if_neg (by omega)]
    · rw [if_neg h0, if_pos (by omega)]; congr 1
      show 256 * (t.val % 8) - 8 + (r.val + 8 - k) % 8 = _; omega

theorem conv_apply (t : Fin cfg0.N) (r : Fin 256) (j : Fin 512) :
    Block.conv (iblk m c 0 t) (PREV m c t) (iblk m c 4 t) (iblk m c 5 t) r j
      = Spec.conv (aP m c) (aW m c) (aCB m c) (bq t) (256 * (t.val % 8) + r.val) (ch t j) := by
  unfold Block.conv Spec.conv
  rw [back_apply m c t 3 (by decide), back_apply m c t 2 (by decide), back_apply m c t 1 (by decide), w_at, w_at, w_at, w_at, cb_at, x_at]

/-- A gate's product, for either gate's weights. -/
theorem dotv_apply (t : Fin cfg0.N) (v : FVec Ideal S4x128x128 .f32) (v' : FVec Ideal S16x128x128 .f32)
    (hv : ∀ (k : Fin 4) (p q : Fin 128), v (ix3 k p q) = v' (ix3 ⟨4 * (t.val / 8 % 4) + k.val, by omega⟩ p q)) (r : Fin 256) (n : Fin 4) (i : Fin 128) :
    Block.dotv (iblk m c 0 t) (PREV m c t) (iblk m c 4 t) (iblk m c 5 t) v r n i
      = Spec.dotv (aP m c) (aW m c) (aCB m c) v' (bq t) (256 * (t.val % 8) + r.val) ⟨4 * (t.val / 8 % 4) + n.val, by omega⟩ i := by
  unfold Block.dotv Spec.dotv
  refine Finset.sum_congr rfl fun q _ => ?_
  rw [conv_apply, hv]
  congr 2
  exact Fin.ext (by show 512 * (t.val / 8 % 4) + (128 * n.val + q.val) = 128 * (4 * (t.val / 8 % 4) + n.val) + q.val; omega)

theorem gate_apply (t : Fin cfg0.N) (v : FVec Ideal S4x128x128 .f32) (v' : FVec Ideal S16x128x128 .f32)
    (hv : ∀ (k : Fin 4) (p q : Fin 128), v (ix3 k p q) = v' (ix3 ⟨4 * (t.val / 8 % 4) + k.val, by omega⟩ p q))
    (u : FVec Ideal S1x512 .f32) (u' : FVec Ideal S2048 .f32) (hu : ∀ j : Fin 512, u (ix2 0 j) = u' (ix1 (ch t j))) (r : Fin 256) (j : Fin 512) :
    Block.gate (iblk m c 0 t) (PREV m c t) (iblk m c 4 t) (iblk m c 5 t) v u r j
      = Spec.gate (aP m c) (aW m c) (aCB m c) v' u' (bq t) (256 * (t.val % 8) + r.val) (ch t j) := by
  unfold Block.gate Spec.gate
  rw [dotv_apply m c t v v' hv, hu]
  have e1 : (⟨4 * (t.val / 8 % 4) + j.val / 128, by omega⟩ : Fin 16) = ⟨(ch t j).val / 128, by have := (ch t j).isLt; omega⟩ :=
    Fin.ext (by show 4 * (t.val / 8 % 4) + j.val / 128 = (512 * (t.val / 8 % 4) + j.val) / 128; omega)
  have e2 : (⟨j.val % 128, Nat.mod_lt _ (by decide)⟩ : Fin 128) = ⟨(ch t j).val % 128, Nat.mod_lt _ (by decide)⟩ :=
    Fin.ext (by show j.val % 128 = (512 * (t.val / 8 % 4) + j.val) % 128; omega)
  rw [← e1, ← e2]

/-- The factor and the additive term of channel `j` after the argument arrays of the run. -/
abbrev FAC (b : Fin 4) (j : Fin 2048) (n : ℕ) : EReal := Spec.fac (aP m c) (aW m c) (aCB m c) (aWA m c) (aBA m c) (aLAM m c) b j n
abbrev BT (b : Fin 4) (j : Fin 2048) (n : ℕ) : EReal := Spec.bt (aP m c) (aW m c) (aCB m c) (aWA m c) (aBA m c) (aWX m c) (aBX m c) (aLAM m c) b j n
abbrev HS (b : Fin 4) (j : Fin 2048) (n : ℕ) : EReal := Spec.hs (aP m c) (aW m c) (aCB m c) (aWA m c) (aBA m c) (aWX m c) (aBX m c) (aLAM m c) b j n

theorem la_apply (t : Fin cfg0.N) (r : Fin 256) (j : Fin 512) :
    Block.la (iblk m c 0 t) (PREV m c t) (iblk m c 4 t) (iblk m c 5 t) (iblk m c 6 t) (iblk m c 7 t) (iblk m c 10 t) r j
      = Spec.la (aP m c) (aW m c) (aCB m c) (aWA m c) (aBA m c) (aLAM m c) (bq t) (256 * (t.val % 8) + r.val) (ch t j) := by
  unfold Block.la Spec.la
  rw [gate_apply m c t _ _ (wa_at m c t) _ _ (ba_at m c t), lam_at]

theorem TA_at (t : Fin cfg0.N) (r : Fin 256) (j : Fin 512) :
    Block.TA (iblk m c 0 t) (PREV m c t) (iblk m c 4 t) (iblk m c 5 t) (iblk m c 6 t) (iblk m c 7 t) (iblk m c 10 t) (ix2 r j)
      = FAC m c (bq t) (ch t j) (256 * (t.val % 8) + r.val) := by
  rw [Block.TA_apply, la_apply]; rfl

theorem TB_at (t : Fin cfg0.N) (r : Fin 256) (j : Fin 512) :
    Block.TB (iblk m c 0 t) (PREV m c t) (iblk m c 4 t) (iblk m c 5 t) (iblk m c 6 t) (iblk m c 8 t) (iblk m c 7 t) (iblk m c 9 t) (iblk m c 10 t) (ix2 r j)
      = BT m c (bq t) (ch t j) (256 * (t.val % 8) + r.val) := by
  rw [Block.TB_apply]; unfold Block.bt
  rw [la_apply, gate_apply m c t _ _ (wx_at m c t) _ _ (bx_at m c t), conv_apply]; rfl

/-- A factor lies between zero and infinity. -/
theorem fac_good (b : Fin 4) (j : Fin 2048) (n : ℕ) : 0 ≤ FAC m c b j n ∧ FAC m c b j n ≠ ⊤ :=
  exp_good _ (neg8_mul_le _ _ (logistic_nonneg _) (Block.sp_nonneg _))

/-- The tile's states are the recurrence from the state before the tile. -/
theorem ST_run (t : Fin cfg0.N) (r : Fin 256) (j : Fin 512) :
    ST m c t (ix2 r j) = run (fun n => FAC m c (bq t) (ch t j) (256 * (t.val % 8) + n)) (fun n => BT m c (bq t) (ch t j) (256 * (t.val % 8) + n))
      (HB m c t (ix2 0 j)) (r.val + 1) := by
  unfold Point.ST
  exact Tile.states_apply (fun j n => FAC m c (bq t) (ch t j) (256 * (t.val % 8) + n)) (fun j n => BT m c (bq t) (ch t j) (256 * (t.val % 8) + n))
    (fun j n => fac_good m c _ _ _) _ _ (TA_at m c t) (TB_at m c t) _ r j

/-- The state before a tile is the recurrence over the tokens before it, and the tile's states continue it. -/
theorem HB_at (k : ℕ) : ∀ (t : Fin cfg0.N), t.val % 8 = k → ∀ j : Fin 512, HB m c t (ix2 0 j) = HS m c (bq t) (ch t j) (256 * k) := by
  induction k with
  | zero => intro t h j; rw [HB_first m c t h]; exact h0_at m c t j
  | succ k ih =>
    intro t h j
    rw [HB_later m c t (by omega)]
    have hk : (t.val - 1) % 8 = k := by omega
    have e1 : bq (⟨t.val - 1, Nat.lt_of_le_of_lt (Nat.sub_le _ _) t.isLt⟩ : Fin cfg0.N) = bq t := Fin.ext (by show (t.val - 1) / 32 = t.val / 32; omega)
    have e2 : ch (⟨t.val - 1, Nat.lt_of_le_of_lt (Nat.sub_le _ _) t.isLt⟩ : Fin cfg0.N) j = ch t j :=
      Fin.ext (by show 512 * ((t.val - 1) / 8 % 4) + j.val = 512 * (t.val / 8 % 4) + j.val; omega)
    have hi := ih ⟨t.val - 1, Nat.lt_of_le_of_lt (Nat.sub_le _ _) t.isLt⟩ hk j
    have hr := ST_run m c ⟨t.val - 1, Nat.lt_of_le_of_lt (Nat.sub_le _ _) t.isLt⟩ 255 j
    refine (h_at m c ⟨t.val - 1, Nat.lt_of_le_of_lt (Nat.sub_le _ _) t.isLt⟩ j).trans (hr.trans ?_)
    rw [hi, e1, e2]
    simp only [hk]
    exact (run_add _ _ 0 (256 * k) 256).symm

/-- Every tile's states are the recurrence over the sequence's tokens. -/
theorem ST_at (t : Fin cfg0.N) (r : Fin 256) (j : Fin 512) : ST m c t (ix2 r j) = HS m c (bq t) (ch t j) (256 * (t.val % 8) + r.val + 1) := by
  rw [ST_run, HB_at m c _ t rfl]
  exact (run_add _ _ 0 (256 * (t.val % 8)) (r.val + 1)).symm

/-- The first result at a row and a column of the block of point `t`. -/
theorem RES0_at (t : Fin cfg0.N) (r : Fin 256) (j : Fin 512) (i : S8704x4096.Idx) (h0 : (i 0).val = 256 * (t.val / 32 * 8 + t.val % 8) + r.val)
    (h1 : (i 1).val = 512 * (t.val / 8 % 4) + j.val) :
    Spec.RES0 (aP m c) (aW m c) (aCB m c) (aWA m c) (aBA m c) (aWX m c) (aBX m c) (aLAM m c) i
      = Point.ST m c t (ix2 r j) * Spec.gelu ((iblk m c 1 t : FVec Ideal S256x512 .f32) (ix2 r j)) := by
  rw [ST_at, g_at]
  have hb := (idx t).2.2.2.2.2.2.2.2.2.2.2
  have hd : (i 0).val < 8192 ∧ (i 1).val < 2048 := ⟨by omega, by omega⟩
  have e0 : (⟨(i 0).val / 2048, by omega⟩ : Fin 4) = bq t := Fin.ext (by show (i 0).val / 2048 = t.val / 32; omega)
  have e1 : (⟨(i 1).val, hd.2⟩ : Fin 2048) = ch t j := Fin.ext h1
  have e2 : (i 0).val % 2048 = 256 * (t.val % 8) + r.val := by omega
  unfold Spec.RES0
  rw [dif_pos hd, e0, e1, e2]
  rfl

/-- The first result after the run. -/
theorem final11 : (dats m 0 c).arrAt 11 cfg0.N
    = Spec.RES0 (aP m c) (aW m c) (aCB m c) (aWA m c) (aBA m c) (aWX m c) (aBX m c) (aLAM m c) := by
  have key : (dats m 0 c).arrAt 11 cfg0.N
      = fun i => if (i 0).val < 8192 ∧ (i 1).val < 2048 then Spec.RES0 (aP m c) (aW m c) (aCB m c) (aWA m c) (aBA m c) (aWX m c) (aBX m c) (aLAM m c) i
          else V m c main_v2 i := by
    refine (dats m 0 c).arrAt_eq_of_coversWhere 11 _ (fun β => β (0 : Fin 2) < 32 ∧ β (1 : Fin 2) < 4) (by decide +kernel) (fun t hf y => ?_)
      (fun j => by blk_simp [Pipeline.Window.cell_apply]; omega)
    blk_simp
    rw [after0_11]
    have hy : y = ix2 (n0 := 256) (n1 := 512) (y 0) (y 1) := by funext a; fin_cases a <;> rfl
    refine Eq.trans (congrArg _ hy) ((y_at m c t (y 0) (y 1)).trans (RES0_at m c t (y 0) (y 1) _ ?_ ?_).symm)
    · blk_simp [idx t]; omega
    · blk_simp [idx t]; omega
  rw [key]
  funext i
  by_cases h : (i 0).val < 8192 ∧ (i 1).val < 2048
  · rw [if_pos h]
  · rw [if_neg h]; unfold Spec.RES0; rw [dif_neg h]; exact buf_at m c i

/-- The second result at the block of a sequence's last point. -/
theorem RES1_at (t : Fin cfg0.N) (h7 : t.val % 8 = 7) (j : Fin 512) (i : S4x1x2048.Idx) (h0 : (i 0).val = t.val / 32) (h2 : (i 2).val = 512 * (t.val / 8 % 4) + j.val) :
    Spec.RES1 (aP m c) (aW m c) (aCB m c) (aWA m c) (aBA m c) (aWX m c) (aBX m c) (aLAM m c) i = ST m c t (ix2 255 j) := by
  rw [ST_at, h7]
  have e0 : (i 0 : Fin 4) = bq t := Fin.ext h0
  have e1 : (i 2 : Fin 2048) = ch t j := Fin.ext h2
  unfold Spec.RES1
  rw [e0, e1]; rfl

/-- The second result after the run. -/
theorem final12 : (dats m 0 c).arrAt 12 cfg0.N
    = Spec.RES1 (aP m c) (aW m c) (aCB m c) (aWA m c) (aBA m c) (aWX m c) (aBX m c) (aLAM m c) := by
  refine (dats m 0 c).arrAt_eq_of_covers 12 _ (by decide +kernel) fun t hf y => ?_
  have h7 : t.val % 8 = 7 := (flush0_12 t).mp hf
  blk_simp
  rw [after0_12]
  have hy : y = ix3 (n0 := 1) (n1 := 1) (n2 := 512) 0 0 (y 2) := by
    funext a; fin_cases a
    · exact Fin.ext (by have : (y 0).val < 1 := (y 0).isLt; show (y 0).val = 0; omega)
    · exact Fin.ext (by have : (y 1).val < 1 := (y 1).isLt; show (y 1).val = 0; omega)
    · rfl
  refine Eq.trans (congrArg _ hy) ((hl_at m c t h7 (y 2)).trans (RES1_at m c t h7 (y 2) _ ?_ ?_).symm)
  · have : (y 0).val < 1 := (y 0).isLt
    blk_simp [idx t] <;> omega
  · blk_simp [idx t]; omega

end Cert.KernelIdeal.Array

end
-- ==== Proof.RefStretch.lean ====
module

public import proofs.«01_k».proof.Proof.Gen.ReferenceIdeal.Run
public import proofs.«01_k».proof.Proof.Spec
public import Idealize.ShloMosaic.Lib.Pointwise
public import Idealize.ShloMosaic.Lib.Claim

@[expose] public section

set_option maxRecDepth 16384

noncomputable section

namespace Cert.ReferenceIdeal.RefValue

open Cert.ReferenceIdeal Cert.ReferenceIdeal.Gen Cert.ReferenceIdeal.Value Cert.Recur Idealize.ShloMosaic Idealize.ShloMosaic.TcCoe Idealize.SL.Sem Idealize.ShloMosaic.StableHlo

open Cert.KernelIdeal (Spec.conv)

variable (V : Valuation τ sig (Elt Ideal))

abbrev aP : FVec Ideal S8704x10240 .f32 := V (Proc.devRef .tc main_arg0)
abbrev aW : FVec Ideal S4x2048 .f32 := V (Proc.devRef .tc main_arg1)
abbrev aCB : FVec Ideal S2048 .f32 := V (Proc.devRef .tc main_arg2)
abbrev aWA : FVec Ideal S16x128x128 .f32 := V (Proc.devRef .tc main_arg3)
abbrev aBA : FVec Ideal S2048 .f32 := V (Proc.devRef .tc main_arg4)
abbrev aWX : FVec Ideal S16x128x128 .f32 := V (Proc.devRef .tc main_arg5)
abbrev aBX : FVec Ideal S2048 .f32 := V (Proc.devRef .tc main_arg6)
abbrev aLAM : FVec Ideal S2048 .f32 := V (Proc.devRef .tc main_arg7)

/-- Values the stretches before the loop compute, as buffer contents `V` hold them. -/
abbrev v63 (V : Valuation τ sig (Elt Ideal)) : FVec Ideal S4x2048x2048 .f32 := V (Proc.devRef .tc main_v63)
abbrev v65 (V : Valuation τ sig (Elt Ideal)) : FVec Ideal S2048 .f32 := V (Proc.devRef .tc main_v65)
abbrev v61 (V : Valuation τ sig (Elt Ideal)) : FVec Ideal S4x2048x2048 .f32 := V (Proc.devRef .tc main_v61)
abbrev v36 (V : Valuation τ sig (Elt Ideal)) : FVec Ideal S4x2048x2048 .f32 := V (Proc.devRef .tc main_v36)
abbrev v37 (V : Valuation τ sig (Elt Ideal)) : FVec Ideal S4x2048x16x128 .f32 := V (Proc.devRef .tc main_v37)
abbrev v49 (V : Valuation τ sig (Elt Ideal)) : FVec Ideal S4x2048x2048 .f32 := V (Proc.devRef .tc main_v49)

/-- The stretch before the loop, cut in four. -/
def w0 (V : Valuation τ sig (Elt Ideal)) : Valuation τ sig (Elt Ideal) := after (hostOps0.take 9) V
def w1 (V : Valuation τ sig (Elt Ideal)) : Valuation τ sig (Elt Ideal) := after ((hostOps0.drop 9).take 30) V
def w2 (V : Valuation τ sig (Elt Ideal)) : Valuation τ sig (Elt Ideal) := after ((hostOps0.drop 39).take 15) V
def w3 (V : Valuation τ sig (Elt Ideal)) : Valuation τ sig (Elt Ideal) := after (hostOps0.drop 54) V

/-- A line of operations cut after its first 9, 39 and 54. -/
theorem cut_line (ops : List (HloOp τ sig (Elt Ideal))) (V : Valuation τ sig (Elt Ideal)) :
    after ops V = after (ops.drop 54) (after ((ops.drop 39).take 15) (after ((ops.drop 9).take 30) (after (ops.take 9) V))) := by
  have split : ∀ (k : ℕ) (l : List (HloOp τ sig (Elt Ideal))) (U : Valuation τ sig (Elt Ideal)), after l U = after (l.drop k) (after (l.take k) U) :=
    fun k l U => by rw [← after_append, List.take_append_drop]
  rw [split 9 ops V, split 30 (ops.drop 9), split 15 ((ops.drop 9).drop 30)]
  simp only [List.drop_drop, Nat.reduceAdd]

theorem cut (V : Valuation τ sig (Elt Ideal)) : after hostOps0 V = w3 (w2 (w1 (w0 V))) := cut_line _ V

theorem w0_v6 (b : Fin 4) (n : Fin 2051) (j : Fin 2048) :
    (w0 V (Proc.devRef .tc main_v6) : FVec Ideal S4x2051x2048 .f32) (ix3 b n j) = if 3 ≤ n.val then Cert.KernelIdeal.Spec.xin (aP V) b (n.val - 3) j else 0 := by
  unfold w0
  simp only [hostOps0, List.take_succ_cons, List.take_zero]
  after_results
  unfold Cert.KernelIdeal.Spec.xin Cert.KernelIdeal.Spec.tok
  pointwise
  by_cases h : n.val < 3
  · have h' : ¬ 3 ≤ n.val := by omega
    simp only [dif_pos h, if_neg h']
  · have h' : 3 ≤ n.val := by omega
    have e : b.val * 2048 + (n.val - 3) = (2048 * b.val + (n.val - 3)) % 8704 := by omega
    simp only [dif_neg h, if_pos h', e]

theorem w0_v3 (b : Fin 4) (n j : Fin 2048) :
    (w0 V (Proc.devRef .tc main_v3) : FVec Ideal S4x2048x2048 .f32) (ix3 b n j) = Cert.KernelIdeal.Spec.tok (aP V) b n.val ⟨2048 + j.val, by omega⟩ := by
  unfold w0
  simp only [hostOps0, List.take_succ_cons, List.take_zero]
  after_results
  unfold Cert.KernelIdeal.Spec.tok
  pointwise
  have e : b.val * 2048 + n.val = (2048 * b.val + n.val) % 8704 := by omega
  simp only [e]

theorem w0_v5 (b : Fin 4) (j : Fin 2048) : @Eq EReal ((w0 V (Proc.devRef .tc main_v5) : FVec Ideal S4x2048 .f32) (ix2 b j)) 0 := by
  unfold w0
  simp only [hostOps0, List.take_succ_cons, List.take_zero]
  after_results
  pointwise

theorem w1_v36 (b : Fin 4) (n : Fin 2048) (j : Fin 2048) :
    (w1 V (Proc.devRef .tc main_v36) : FVec Ideal S4x2048x2048 .f32) (ix3 b n j)
      = aCB V (ix1 j) + aW V (ix2 0 j) * (V (Proc.devRef .tc main_v6) : FVec Ideal S4x2051x2048 .f32) (ix3 b ⟨n.val, by omega⟩ j)
        + aW V (ix2 1 j) * (V (Proc.devRef .tc main_v6) : FVec Ideal S4x2051x2048 .f32) (ix3 b ⟨1 + n.val, by omega⟩ j)
        + aW V (ix2 2 j) * (V (Proc.devRef .tc main_v6) : FVec Ideal S4x2051x2048 .f32) (ix3 b ⟨2 + n.val, by omega⟩ j)
        + aW V (ix2 3 j) * (V (Proc.devRef .tc main_v6) : FVec Ideal S4x2051x2048 .f32) (ix3 b ⟨3 + n.val, by omega⟩ j) := by
  unfold w1
  simp only [hostOps0, List.drop_succ_cons, List.drop_zero, List.take_succ_cons, List.take_zero]
  after_results
  pointwise

/-- A gate over the convolved input, block by block. -/
def gateOf (u : FVec Ideal S4x2048x2048 .f32) (v : FVec Ideal S16x128x128 .f32) (bv : FVec Ideal S2048 .f32) (b : Fin 4) (n j : Fin 2048) : EReal :=
  Ideal.logistic ((∑ q : Fin 128, u (ix3 b n ⟨128 * (j.val / 128) + q.val, by omega⟩) * v (ix3 ⟨j.val / 128, by omega⟩ q ⟨j.val % 128, Nat.mod_lt _ (by decide)⟩)) + bv (ix1 j))

theorem w2_v49 (b : Fin 4) (n : Fin 2048) (j : Fin 2048) :
    (w2 V (Proc.devRef .tc main_v49) : FVec Ideal S4x2048x2048 .f32) (ix3 b n j)
      = gateOf (V (Proc.devRef .tc main_v36)) (V (Proc.devRef .tc main_arg3)) (V (Proc.devRef .tc main_arg4)) b n j := by
  unfold w2
  simp only [hostOps0, List.drop_succ_cons, List.drop_zero, List.take_succ_cons, List.take_zero]
  after_results
  unfold gateOf
  pointwise
  show Ideal.logistic _ = _
  congr 2
  refine Finset.sum_congr rfl fun q _ => ?_
  rw [mul_comm]
  refine congrArg (· * _) ?_
  exact congrArg (fun z : Fin 2048 => v36 V (ix3 b n z)) (a₁ := ⟨j.val / 128 * 128 + q.val, by omega⟩) (a₂ := ⟨128 * (j.val / 128) + q.val, by omega⟩) (Fin.ext (by show j.val / 128 * 128 + q.val = 128 * (j.val / 128) + q.val; omega))

theorem w2_v37 (b : Fin 4) (n : Fin 2048) (k : Fin 16) (q : Fin 128) :
    (w2 V (Proc.devRef .tc main_v37) : FVec Ideal S4x2048x16x128 .f32) (ix4 b n k q) = v36 V (ix3 b n ⟨128 * k.val + q.val, by omega⟩) := by
  unfold w2
  simp only [hostOps0, List.drop_succ_cons, List.drop_zero, List.take_succ_cons, List.take_zero]
  after_results
  pointwise
  exact congrArg (fun z : Fin 2048 => v36 V (ix3 b n z)) (a₁ := ⟨k.val * 128 + q.val, by omega⟩) (a₂ := ⟨128 * k.val + q.val, by omega⟩) (Fin.ext (by show k.val * 128 + q.val = 128 * k.val + q.val; omega))

theorem w3_v61 (b : Fin 4) (n : Fin 2048) (j : Fin 2048) :
    (w3 V (Proc.devRef .tc main_v61) : FVec Ideal S4x2048x2048 .f32) (ix3 b n j)
      = Ideal.logistic ((∑ q : Fin 128, v37 V (ix4 b n ⟨j.val / 128, by omega⟩ q)
          * aWX V (ix3 ⟨j.val / 128, by omega⟩ q ⟨j.val % 128, Nat.mod_lt _ (by decide)⟩)) + aBX V (ix1 j)) := by
  unfold w3
  simp only [hostOps0, List.drop_succ_cons, List.drop_zero, List.take_succ_cons, List.take_zero]
  after_results
  pointwise
  show Ideal.logistic _ = _
  congr 2
  exact Finset.sum_congr rfl fun q _ => mul_comm _ _

theorem w3_v63 (b : Fin 4) (n : Fin 2048) (j : Fin 2048) :
    (w3 V (Proc.devRef .tc main_v63) : FVec Ideal S4x2048x2048 .f32) (ix3 b n j)
      = ((-8 : ℝ) : EReal) * v49 V (ix3 b n j) := by
  unfold w3
  simp only [hostOps0, List.drop_succ_cons, List.drop_zero, List.take_succ_cons, List.take_zero]
  after_results
  rw [← Cert.KernelIdeal.Block.ofBits_neg_eight]
  pointwise

theorem w4_v65 (j : Fin 2048) :
    (after hostOps0_1 (w3 V) (Proc.devRef .tc main_v65) : FVec Ideal S2048 .f32) (ix1 j)
      = Cert.KernelIdeal.Block.sp (aLAM V (ix1 j)) := by
  unfold w3
  simp only [hostOps0, List.drop_succ_cons, List.drop_zero, List.take_succ_cons, List.take_zero]
  after_results
  simp only [TRef.ofBuf, TRef.toBuf, cast_eq]
  unfold Cert.KernelIdeal.Block.sp
  pointwise
  rw [if_neg (fun h => h rfl)]
  simp only [zero_sub]

theorem w5_v77 (b : Fin 4) (n : Fin 2048) (j : Fin 2048) :
    (after hostOps0_2 V (Proc.devRef .tc main_v80_0) : FVec Ideal S2048x4x2048 .f32) (ix3 n b j)
      = Ideal.exp (v63 V (ix3 b n j) * v65 V (ix1 j)) := by
  after_results
  simp only [id_eq]
  pointwise

theorem w5_v78 (b : Fin 4) (n : Fin 2048) (j : Fin 2048) :
    (after hostOps0_2 V (Proc.devRef .tc main_v80_1) : FVec Ideal S2048x4x2048 .f32) (ix3 n b j)
      = Ideal.sqrt (-Ideal.expm1 (2 * (v63 V (ix3 b n j) * v65 V (ix1 j))))
        * (v61 V (ix3 b n j) * v36 V (ix3 b n j)) := by
  after_results
  rw [← Cert.KernelIdeal.Block.ofBits_two]
  simp only [id_eq]
  pointwise
  rfl

theorem w5_v80_3 : after hostOps0_2 V (Proc.devRef .tc main_v80_3) = V (Proc.devRef .tc main_v5) := by
  after_results
  rfl

end Cert.ReferenceIdeal.RefValue

end
-- ==== Proof.RefLoop.lean ====
/- The reference's loop: one trip moves the state one step of the recurrence on and stores it as one row of the
   sequence of states. -/
module

public import proofs.«01_k».proof.Proof.RefStretch
public import Idealize.ShloMosaic.Lib.WordCmp

@[expose] public section

set_option maxRecDepth 16384

noncomputable section

namespace Cert.ReferenceIdeal.RefLoop

open Cert.ReferenceIdeal Cert.ReferenceIdeal.Gen Cert.ReferenceIdeal.Value Cert.Recur Idealize.ShloMosaic Idealize.ShloMosaic.TcCoe Idealize.SL.Sem Idealize.ShloMosaic.StableHlo

/-- The row of a sequence of states that a dynamic slice at row `k` takes. -/
theorem slice_at (x : FVec Ideal S2048x4x2048 .f32) (s : Fin 3 → Int) (k : Fin 2048) (h0 : s 0 = (k.val : Int)) (h1 : s 1 = 0) (h2 : s 2 = 0)
    (b : Fin 4) (j : Fin 2048) :
    shapeCast S4x2048 (Host.dynamicSlice S1x4x2048 x s sliceFits_S2048x4x2048_S1x4x2048) shapeCasts_S1x4x2048_S4x2048 (ix2 b j) = x (ix3 k b j) := by
  rw [WordCmp.dynamicSlice_eq_extract S1x4x2048 x s _ ![k.val, 0, 0] ⟨rfl, fun a => by
    have := k.isLt
    fin_cases a
    · show k.val + 1 ≤ 2048; omega
    · show 0 + 4 ≤ 4; omega
    · show 0 + 2048 ≤ 2048; omega⟩ (fun a => by
    fin_cases a
    · exact h0
    · exact h1
    · exact h2)]
  pointwise

/-- The sequence of states after row `k` is replaced. -/
theorem update_at (x : FVec Ideal S2048x4x2048 .f32) (u : FVec Ideal S4x2048 .f32) (s : Fin 3 → Int) (k : Fin 2048) (h0 : s 0 = (k.val : Int)) (h1 : s 1 = 0) (h2 : s 2 = 0)
    (n : Fin 2048) (b : Fin 4) (j : Fin 2048) :
    Host.dynamicUpdateSlice x (broadcastInDim S1x4x2048 ![1, 2] bcast_S4x2048_S1x4x2048_1_2 u) s updateFits_S2048x4x2048_S1x4x2048 (ix3 n b j)
      = if n = k then u (ix2 b j) else x (ix3 n b j) := by
  have hk : S2048x4x2048.Slices ![k.val, 0, 0] S1x4x2048 := ⟨rfl, fun a => by
    have := k.isLt
    fin_cases a
    · show k.val + 1 ≤ 2048; omega
    · show 0 + 4 ≤ 4; omega
    · show 0 + 2048 ≤ 2048; omega⟩
  have e := WordCmp.dynamicUpdateSlice_eq_update (s := S2048x4x2048) (u := S1x4x2048) x (broadcastInDim S1x4x2048 ![1, 2] bcast_S4x2048_S1x4x2048_1_2 u) s
    updateFits_S2048x4x2048_S1x4x2048 ![k.val, 0, 0] hk (fun a => by
    fin_cases a
    · exact h0
    · exact h1
    · exact h2)
  refine (congrFun e (ix3 n b j)).trans ?_
  pointwise
  by_cases h : n = k
  · subst h
    rw [dif_pos ⟨le_refl _, Nat.lt_succ_self _⟩, if_pos rfl]
  · rw [dif_neg fun h' => h (Fin.ext (by omega)), if_neg h]

variable (V : Valuation τ sig (Elt Ideal))

abbrev A0 : FVec Ideal S2048x4x2048 .f32 := V (Proc.devRef .tc main_v80_0)
abbrev A1 : FVec Ideal S2048x4x2048 .f32 := V (Proc.devRef .tc main_v80_1)
abbrev A3 : FVec Ideal S4x2048 .f32 := V (Proc.devRef .tc main_v80_3)
abbrev A4 : FVec Ideal S2048x4x2048 .f32 := V (Proc.devRef .tc main_v80_4)

theorem iv_toInt (k : ℕ) (hk : k < 2048) : (Scf.iv 0#32 1#32 k).toInt = (k : Int) := by
  rw [Scf.toInt_iv (ub := 2048#32) (by decide) (show k ≤ Scf.trips 0#32 2048#32 1#32 from hk.le)]
  show (0 : Int) + k * 1 = k
  omega

/-- The state a trip computes. -/
theorem res_at (k : Fin 2048) (hV : V (Proc.devRef .tc main_v80_2) = fun _ => Scf.iv 0#32 1#32 k.val) (b : Fin 4) (j : Fin 2048) :
    (res_main_while0b_v103 V : FVec Ideal S4x2048 .f32) (ix2 b j) = A0 V (ix3 k b j) * A3 V (ix2 b j) + A1 V (ix3 k b j) := by
  have h0 : (V (Proc.devRef .tc main_v80_2) (Shape.Idx.first h_S_) : BitVec 32).toInt = (k.val : Int) := by rw [hV]; exact iv_toInt _ k.isLt
  have e0 := slice_at (A0 V) (fun q => (((![V (Proc.devRef .tc main_v80_2), constantI S_ 32 0#32, constantI S_ 32 0#32] : Fin 3 → (⟨S_, .i32⟩ : BufTy).Contents (Elt Ideal))) q (Shape.Idx.first h_S_)).toInt) k h0 rfl rfl b j
  have e1 := slice_at (A1 V) (fun q => (((![V (Proc.devRef .tc main_v80_2), constantI S_ 32 0#32, constantI S_ 32 0#32] : Fin 3 → (⟨S_, .i32⟩ : BufTy).Contents (Elt Ideal))) q (Shape.Idx.first h_S_)).toInt) k h0 rfl rfl b j
  exact congrArg₂ (fun x y : EReal => x * A3 V (ix2 b j) + y) e0 e1

/-- The sequence of states a trip leaves. -/
theorem seq_at (k : Fin 2048) (hV : V (Proc.devRef .tc main_v80_2) = fun _ => Scf.iv 0#32 1#32 k.val) (n : Fin 2048) (b : Fin 4) (j : Fin 2048) :
    A4 (STEP V) (ix3 n b j) = if n = k then (res_main_while0b_v103 V : FVec Ideal S4x2048 .f32) (ix2 b j) else A4 V (ix3 n b j) := by
  have h0 : (V (Proc.devRef .tc main_v80_2) (Shape.Idx.first h_S_) : BitVec 32).toInt = (k.val : Int) := by rw [hV]; exact iv_toInt _ k.isLt
  show (STEP V (Proc.devRef .tc main_v80_4) : FVec Ideal S2048x4x2048 .f32) (ix3 n b j) = _
  rw [STEP_main_v80_4]
  exact update_at (A4 V) (res_main_while0b_v103 V) (fun q => (((![V (Proc.devRef .tc main_v80_2), constantI S_ 32 0#32, constantI S_ 32 0#32] : Fin 3 → (⟨S_, .i32⟩ : BufTy).Contents (Elt Ideal))) q (Shape.Idx.first h_S_)).toInt) k h0 rfl rfl n b j

variable (m : (ℓ : Loc nD τ sig) → Buf (Elt Ideal) ℓ) (c : Dev nD)

/-- The trip counter after `k` trips. -/
theorem ctr (k : ℕ) : STEP^[k] (entryContents preI m c) (Proc.devRef .tc main_v80_2) = fun _ => Scf.iv 0#32 1#32 k :=
  (atK_agree m c k main_v80_2 (by decide)).symm.trans (atK_ctr m c k)

theorem keep0 (k : ℕ) : A0 (STEP^[k] V) = A0 V := by
  induction k with
  | zero => rfl
  | succ k ih => rw [Function.iterate_succ_apply']; exact (STEP_main_v80_0 _).trans ih

theorem keep1 (k : ℕ) : A1 (STEP^[k] V) = A1 V := by
  induction k with
  | zero => rfl
  | succ k ih => rw [Function.iterate_succ_apply']; exact (STEP_main_v80_1 _).trans ih

/-- After `k` trips the state is the recurrence run `k` steps, and the rows stored are its states. -/
theorem loop_at (fac bt : Fin 4 → Fin 2048 → ℕ → EReal)
    (hf : ∀ (n : Fin 2048) b j, A0 (entryContents preI m c) (ix3 n b j) = fac b j n.val)
    (hb : ∀ (n : Fin 2048) b j, A1 (entryContents preI m c) (ix3 n b j) = bt b j n.val)
    (h0 : ∀ b j, @Eq EReal (A3 (entryContents preI m c) (ix2 b j)) 0) (k : ℕ) (hk : k ≤ 2048) :
    (∀ b j, A3 (STEP^[k] (entryContents preI m c)) (ix2 b j) = run (fac b j) (bt b j) 0 k)
      ∧ ∀ (n : Fin 2048) b j, n.val < k → A4 (STEP^[k] (entryContents preI m c)) (ix3 n b j) = run (fac b j) (bt b j) 0 (n.val + 1) := by
  induction k with
  | zero => exact ⟨fun b j => h0 b j, fun n b j h => absurd h (Nat.not_lt_zero _)⟩
  | succ k ih =>
    obtain ⟨i3, i4⟩ := ih (by omega)
    have hr : ∀ b j, (res_main_while0b_v103 (STEP^[k] (entryContents preI m c)) : FVec Ideal S4x2048 .f32) (ix2 b j) = run (fac b j) (bt b j) 0 (k + 1) := fun b j => by
      have e := res_at (STEP^[k] (entryContents preI m c)) ⟨k, by omega⟩ (ctr m c k) b j
      rw [keep0, keep1, hf, hb, i3] at e
      exact e
    rw [Function.iterate_succ_apply']
    refine ⟨fun b j => ?_, fun n b j hn => ?_⟩
    · show (STEP (STEP^[k] (entryContents preI m c)) (Proc.devRef .tc main_v80_3) : FVec Ideal S4x2048 .f32) (ix2 b j) = _
      rw [STEP_main_v80_3]
      exact hr b j
    · rw [seq_at _ ⟨k, by omega⟩ (ctr m c k)]
      by_cases h : n = ⟨k, by omega⟩
      · rw [if_pos h, hr, h]
      · rw [if_neg h]
        exact i4 n b j (by have : n.val ≠ k := fun e => h (Fin.ext e); omega)

end Cert.ReferenceIdeal.RefLoop

end
-- ==== Proof.RefValue.lean ====
/- What the reference computes: its two results as functions of its arguments, and that its arguments end unchanged. -/
module

public import proofs.«01_k».proof.Proof.RefLoop
public import Idealize.ShloMosaic.Lib.Quiescent

@[expose] public section

set_option maxRecDepth 16384

noncomputable section

namespace Cert.ReferenceIdeal.RefValue

open Cert.ReferenceIdeal Cert.ReferenceIdeal.Gen Cert.ReferenceIdeal.Value Cert.Recur Idealize.ShloMosaic Idealize.ShloMosaic.TcCoe Idealize.SL.Sem Idealize.ShloMosaic.StableHlo

open Cert.KernelIdeal (Spec.conv)

variable (V : Valuation τ sig (Elt Ideal))

/-- A part of the first stretch leaves what that stretch never writes. -/
theorem sub_keep (ops : List (HloOp τ sig (Elt Ideal))) (hsub : ∀ op ∈ ops, op ∈ hostOps0 (F := Ideal)) (r : Ref sig .tc) (hr : r ∉ hostOps0_W) :
    after ops V (Proc.devRef .tc r) = V (Proc.devRef .tc r) :=
  after_of_writes_sub ops V (List.forall_iff_forall_mem.mpr fun op h => List.forall_iff_forall_mem.mp hostOps0_writes op (hsub op h)) hr

theorem w0_keep (r : Ref sig .tc) (hr : r ∉ hostOps0_W) : w0 V (Proc.devRef .tc r) = V (Proc.devRef .tc r) :=
  sub_keep V _ (fun _ h => List.mem_of_mem_take h) r hr
theorem w1_keep (r : Ref sig .tc) (hr : r ∉ hostOps0_W) : w1 V (Proc.devRef .tc r) = V (Proc.devRef .tc r) :=
  sub_keep V _ (fun _ h => List.mem_of_mem_drop (List.mem_of_mem_take h)) r hr
theorem w2_keep (r : Ref sig .tc) (hr : r ∉ hostOps0_W) : w2 V (Proc.devRef .tc r) = V (Proc.devRef .tc r) :=
  sub_keep V _ (fun _ h => List.mem_of_mem_drop (List.mem_of_mem_take h)) r hr
theorem w3_keep (r : Ref sig .tc) (hr : r ∉ hostOps0_W) : w3 V (Proc.devRef .tc r) = V (Proc.devRef .tc r) :=
  sub_keep V _ (fun _ h => List.mem_of_mem_drop h) r hr

theorem w1_v3 : w1 V (Proc.devRef .tc main_v3) = V (Proc.devRef .tc main_v3) := by
  unfold w1
  simp only [hostOps0, List.drop_succ_cons, List.drop_zero, List.take_succ_cons, List.take_zero]
  after_results
theorem w1_v5 : w1 V (Proc.devRef .tc main_v5) = V (Proc.devRef .tc main_v5) := by
  unfold w1
  simp only [hostOps0, List.drop_succ_cons, List.drop_zero, List.take_succ_cons, List.take_zero]
  after_results
theorem w2_v3 : w2 V (Proc.devRef .tc main_v3) = V (Proc.devRef .tc main_v3) := by
  unfold w2
  simp only [hostOps0, List.drop_succ_cons, List.drop_zero, List.take_succ_cons, List.take_zero]
  after_results
theorem w2_v5 : w2 V (Proc.devRef .tc main_v5) = V (Proc.devRef .tc main_v5) := by
  unfold w2
  simp only [hostOps0, List.drop_succ_cons, List.drop_zero, List.take_succ_cons, List.take_zero]
  after_results
theorem w2_v36 : w2 V (Proc.devRef .tc main_v36) = V (Proc.devRef .tc main_v36) := by
  unfold w2
  simp only [hostOps0, List.drop_succ_cons, List.drop_zero, List.take_succ_cons, List.take_zero]
  after_results
theorem w3_v3 : w3 V (Proc.devRef .tc main_v3) = V (Proc.devRef .tc main_v3) := by
  unfold w3
  simp only [hostOps0, List.drop_succ_cons, List.drop_zero, List.take_succ_cons, List.take_zero]
  after_results
theorem w3_v5 : w3 V (Proc.devRef .tc main_v5) = V (Proc.devRef .tc main_v5) := by
  unfold w3
  simp only [hostOps0, List.drop_succ_cons, List.drop_zero, List.take_succ_cons, List.take_zero]
  after_results
theorem w3_v36 : w3 V (Proc.devRef .tc main_v36) = V (Proc.devRef .tc main_v36) := by
  unfold w3
  simp only [hostOps0, List.drop_succ_cons, List.drop_zero, List.take_succ_cons, List.take_zero]
  after_results

/-- The contents after the first stretch: the convolution. -/
theorem e_v36 (b : Fin 4) (n j : Fin 2048) :
    v36 (w1 (w0 V)) (ix3 b n j) = Cert.KernelIdeal.Spec.conv (aP V) (aW V) (aCB V) b n.val j := by
  have e := w1_v36 (w0 V) b n j
  have a0 : aCB (w0 V) = aCB V := w0_keep V main_arg2 (by decide)
  have a1 : aW (w0 V) = aW V := w0_keep V main_arg1 (by decide)
  rw [a0, a1, w0_v6, w0_v6, w0_v6, w0_v6] at e
  refine e.trans ?_
  unfold Cert.KernelIdeal.Spec.conv Cert.KernelIdeal.Spec.xback
  have h3 : ((3 : ℕ) ≤ 1 + n.val) = ((2 : ℕ) ≤ n.val) := propext (by omega)
  have h2 : ((3 : ℕ) ≤ 2 + n.val) = ((1 : ℕ) ≤ n.val) := propext (by omega)
  have h1 : ((3 : ℕ) ≤ 3 + n.val) = True := propext (by constructor <;> intro <;> [trivial; omega])
  have n3 : 1 + n.val - 3 = n.val - 2 := by omega
  have n2 : 2 + n.val - 3 = n.val - 1 := by omega
  have n1 : 3 + n.val - 3 = n.val := by omega
  simp only [h3, h2, h1, n3, n2, n1, if_true]

/-- The product with a block-diagonal weight, over the convolution. -/
theorem gate_r (b : Fin 4) (n j : Fin 2048) :
    v49 (w2 (w1 (w0 V))) (ix3 b n j) = Cert.KernelIdeal.Spec.gate (aP V) (aW V) (aCB V) (aWA V) (aBA V) b n.val j := by
  refine (w2_v49 (w1 (w0 V)) b n j).trans ?_
  have a3 : aWA (w1 (w0 V)) = aWA V := (w1_keep _ main_arg3 (by decide)).trans (w0_keep V main_arg3 (by decide))
  have a4 : aBA (w1 (w0 V)) = aBA V := (w1_keep _ main_arg4 (by decide)).trans (w0_keep V main_arg4 (by decide))
  show gateOf (v36 (w1 (w0 V))) (aWA (w1 (w0 V))) (aBA (w1 (w0 V))) b n j = _
  rw [a3, a4]
  unfold gateOf Cert.KernelIdeal.Spec.gate Cert.KernelIdeal.Spec.dotv
  exact congrArg (fun z : EReal => Ideal.logistic (z + aBA V (ix1 j))) (Finset.sum_congr rfl fun q _ =>
    congrArg (fun z : EReal => z * _) (e_v36 V b n _))

theorem gate_i (b : Fin 4) (n j : Fin 2048) :
    v61 (w3 (w2 (w1 (w0 V)))) (ix3 b n j) = Cert.KernelIdeal.Spec.gate (aP V) (aW V) (aCB V) (aWX V) (aBX V) b n.val j := by
  refine (w3_v61 (w2 (w1 (w0 V))) b n j).trans ?_
  have a5 : aWX (w2 (w1 (w0 V))) = aWX V := (w2_keep _ main_arg5 (by decide)).trans ((w1_keep _ main_arg5 (by decide)).trans (w0_keep V main_arg5 (by decide)))
  have a6 : aBX (w2 (w1 (w0 V))) = aBX V := (w2_keep _ main_arg6 (by decide)).trans ((w1_keep _ main_arg6 (by decide)).trans (w0_keep V main_arg6 (by decide)))
  have e : ∀ k q, v37 (w2 (w1 (w0 V))) (ix4 b n k q) = Cert.KernelIdeal.Spec.conv (aP V) (aW V) (aCB V) b n.val ⟨128 * k.val + q.val, by omega⟩ :=
    fun k q => (w2_v37 (w1 (w0 V)) b n k q).trans (e_v36 V b n _)
  rw [a5, a6]
  unfold Cert.KernelIdeal.Spec.gate Cert.KernelIdeal.Spec.dotv
  simp only [e]

/-- The contents at the loop's entry. -/
def ent (V : Valuation τ sig (Elt Ideal)) : Valuation τ sig (Elt Ideal) := after hostOps0_2 (after hostOps0_1 (after hostOps0 V))

theorem ops1_keep (r : Ref sig .tc) (hr : r ∉ hostOps0_1_W) : after hostOps0_1 V (Proc.devRef .tc r) = V (Proc.devRef .tc r) :=
  after_of_writes_sub _ V hostOps0_1_writes hr
theorem ops2_keep (r : Ref sig .tc) (hr : r ∉ hostOps0_2_W) : after hostOps0_2 V (Proc.devRef .tc r) = V (Proc.devRef .tc r) :=
  after_of_writes_sub _ V hostOps0_2_writes hr
theorem ops0_keep (r : Ref sig .tc) (hr : r ∉ hostOps0_W) : after hostOps0 V (Proc.devRef .tc r) = V (Proc.devRef .tc r) :=
  after_of_writes_sub _ V hostOps0_writes hr

theorem f_v63 (b : Fin 4) (n j : Fin 2048) :
    v63 (after hostOps0_1 (after hostOps0 V)) (ix3 b n j) = ((-8 : ℝ) : EReal) * Cert.KernelIdeal.Spec.gate (aP V) (aW V) (aCB V) (aWA V) (aBA V) b n.val j := by
  have k : v63 (after hostOps0_1 (after hostOps0 V)) = v63 (after hostOps0 V) := ops1_keep _ main_v63 (by decide)
  rw [k, cut]
  refine (w3_v63 _ b n j).trans ?_
  rw [gate_r]

theorem f_v61 (b : Fin 4) (n j : Fin 2048) :
    v61 (after hostOps0_1 (after hostOps0 V)) (ix3 b n j) = Cert.KernelIdeal.Spec.gate (aP V) (aW V) (aCB V) (aWX V) (aBX V) b n.val j := by
  have k : v61 (after hostOps0_1 (after hostOps0 V)) = v61 (after hostOps0 V) := ops1_keep _ main_v61 (by decide)
  rw [k, cut]
  exact gate_i V b n j

theorem f_v36 (b : Fin 4) (n j : Fin 2048) :
    v36 (after hostOps0_1 (after hostOps0 V)) (ix3 b n j) = Cert.KernelIdeal.Spec.conv (aP V) (aW V) (aCB V) b n.val j := by
  have k : v36 (after hostOps0_1 (after hostOps0 V)) = v36 (after hostOps0 V) := ops1_keep _ main_v36 (by decide)
  have k2 : v36 (w3 (w2 (w1 (w0 V)))) = v36 (w1 (w0 V)) := (w3_v36 _).trans (w2_v36 _)
  rw [k, cut, k2]
  exact e_v36 V b n j

theorem f_v65 (j : Fin 2048) :
    v65 (after hostOps0_1 (after hostOps0 V)) (ix1 j) = Cert.KernelIdeal.Block.sp (aLAM V (ix1 j)) := by
  rw [cut]
  refine (w4_v65 _ j).trans ?_
  have a7 : aLAM (w2 (w1 (w0 V))) = aLAM V := (w2_keep _ main_arg7 (by decide)).trans ((w1_keep _ main_arg7 (by decide)).trans (w0_keep V main_arg7 (by decide)))
  rw [a7]

/-- At the loop's entry: the factors, the additive terms, the zero state. -/
theorem ent_fac (n : Fin 2048) (b : Fin 4) (j : Fin 2048) :
    RefLoop.A0 (ent V) (ix3 n b j) = Cert.KernelIdeal.Spec.fac (aP V) (aW V) (aCB V) (aWA V) (aBA V) (aLAM V) b j n.val := by
  refine (w5_v77 _ b n j).trans ?_
  rw [f_v63, f_v65]
  rfl

theorem ent_bt (n : Fin 2048) (b : Fin 4) (j : Fin 2048) :
    RefLoop.A1 (ent V) (ix3 n b j) = Cert.KernelIdeal.Spec.bt (aP V) (aW V) (aCB V) (aWA V) (aBA V) (aWX V) (aBX V) (aLAM V) b j n.val := by
  refine (w5_v78 _ b n j).trans ?_
  rw [f_v63, f_v65, f_v61, f_v36]
  rfl

theorem ent_zero (b : Fin 4) (j : Fin 2048) : @Eq EReal (RefLoop.A3 (ent V) (ix2 b j)) 0 := by
  have k : RefLoop.A3 (ent V) = (w0 V (Proc.devRef .tc main_v5) : FVec Ideal S4x2048 .f32) := by
    refine (w5_v80_3 _).trans ((ops1_keep _ main_v5 (by decide)).trans ?_)
    rw [cut]
    exact (w3_v5 _).trans ((w2_v5 _).trans (w1_v5 _))
  rw [k]
  exact w0_v5 V b j

/-- The projection of the gate branch, at the loop's entry. -/
theorem ent_v3 (b : Fin 4) (n j : Fin 2048) :
    (ent V (Proc.devRef .tc main_v3) : FVec Ideal S4x2048x2048 .f32) (ix3 b n j) = Cert.KernelIdeal.Spec.tok (aP V) b n.val ⟨2048 + j.val, by omega⟩ := by
  have k : ent V (Proc.devRef .tc main_v3) = w0 V (Proc.devRef .tc main_v3) := by
    refine (ops2_keep _ main_v3 (by decide)).trans ((ops1_keep _ main_v3 (by decide)).trans ?_)
    rw [cut]
    exact (w3_v3 _).trans ((w2_v3 _).trans (w1_v3 _))
  rw [k]
  exact w0_v3 V b n j

theorem ent_keep (r : Ref sig .tc) (h0 : r ∉ hostOps0_W) (h1 : r ∉ hostOps0_1_W) (h2 : r ∉ hostOps0_2_W) : ent V (Proc.devRef .tc r) = V (Proc.devRef .tc r) :=
  (ops2_keep _ r h2).trans ((ops1_keep _ r h1).trans (ops0_keep _ r h0))

/-- What one trip never writes. -/
theorem trip_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) : afterL bodyI (after condOps V) (Proc.devRef .tc r) = V (Proc.devRef .tc r) := by
  simp only [afterL_cons, afterL_nil]
  rw [after_of_writes_sub _ _ while0Ops0_4_writes h4, after_of_writes_sub _ _ while0Ops0_3_writes h3, after_of_writes_sub _ _ while0Ops0_2_writes h2,
    after_of_writes_sub _ _ while0Ops0_1_writes h1, after_of_writes_sub _ _ while0Ops0_writes h0, after_of_writes_sub _ _ condOps_writes hc]

variable (m : (ℓ : Loc nD τ sig) → Buf (Elt Ideal) ℓ) (c : Dev nD)

theorem loop_keep (r : Ref sig .tc) (hc : r ∉ condOps_W) (h0 : r ∉ while0Ops0_W) (h1 : r ∉ while0Ops0_1_W) (h2 : r ∉ while0Ops0_2_W) (h3 : r ∉ while0Ops0_3_W)
    (h4 : r ∉ while0Ops0_4_W) (k : ℕ) : atK m k c (Proc.devRef .tc r) = entryContents preI m c (Proc.devRef .tc r) := by
  induction k with
  | zero => rfl
  | succ k ih => exact (trip_keep (atK m k c) r hc h0 h1 h2 h3 h4).trans ih

/-- The contents when the loop is over. -/
def ex : Valuation τ sig (Elt Ideal) := after condOps (atK m 2048 c)

theorem ex_keep (r : Ref sig .tc) (hc : r ∉ condOps_W) : ex m c (Proc.devRef .tc r) = atK m 2048 c (Proc.devRef .tc r) :=
  after_of_writes_sub _ _ condOps_writes hc

/-- A value times the gated unit, the cube written either way round. -/
theorem gelu_eq (a x : EReal) :
    a * (x * (Ideal.ofBits .f32 0x3F000000#32 * (1 + Ideal.tanh (Ideal.ofBits .f32 0x3F4C422A#32 * (x + Ideal.ofBits .f32 0x3D372713#32 * (x * x * x))))))
      = a * Cert.KernelIdeal.Spec.gelu x := by
  unfold Cert.KernelIdeal.Spec.gelu
  rw [mul_comm (x * x) x]

/-- The gated rows before they are padded. -/
theorem p3_v96 (r : Fin 8192) (j : Fin 2048) :
    (after hostOps0_3 V (Proc.devRef .tc main_v96) : FVec Ideal S8192x2048 .f32) (ix2 r j)
      = RefLoop.A4 V (ix3 ⟨r.val % 2048, Nat.mod_lt _ (by decide)⟩ ⟨r.val / 2048, by omega⟩ j)
        * Cert.KernelIdeal.Spec.gelu ((V (Proc.devRef .tc main_v3) : FVec Ideal S4x2048x2048 .f32) (ix3 ⟨r.val / 2048, by omega⟩ ⟨r.val % 2048, Nat.mod_lt _ (by decide)⟩ j)) := by
  rw [← gelu_eq]
  after_results
  pointwise

theorem p3_c12 : after hostOps0_3 V (Proc.devRef .tc main_c_12) = constantI S_ 32 0#32 := by
  after_results

/-- The rows padded with zeros. -/
theorem p5_v98 (i : Fin 8704) (j : Fin 4096) (hV : V (Proc.devRef .tc main_c_12) = constantI S_ 32 0#32) :
    (after hostOps0_5 (after hostOps0_4 V) (Proc.devRef .tc main_v98) : FVec Ideal S8704x4096 .bf16) (ix2 i j)
      = if h : i.val < 8192 ∧ j.val < 2048 then ((V (Proc.devRef .tc main_v96) : FVec Ideal S8192x2048 .f32) (ix2 ⟨i.val, h.1⟩ ⟨j.val, h.2⟩) : EReal) else (0 : EReal) := by
  after_results
  simp only [TRef.ofBuf, TRef.toBuf, cast_eq]
  rw [hV]
  pointwise
  have z : @Eq EReal (FloatOps.sitofp (F := Ideal) .f32 (0#32 : BitVec 32)) 0 := by
    show (((0#32 : BitVec 32).toInt : ℝ) : EReal) = 0
    simp
  by_cases h : i.val < 8192 ∧ j.val < 2048
  · rw [dif_pos h, dif_pos h]
  · rw [dif_neg h, dif_neg h]; exact z

theorem p5_v99 (b : Fin 4) (j : Fin 2048) :
    (after hostOps0_5 V (Proc.devRef .tc main_v99) : FVec Ideal S4x1x2048 .f32) (ix3 b 0 j) = RefLoop.A3 V (ix2 b j) := by
  after_results
  pointwise

/-- The references the stretches after the loop write. -/
abbrev postW : List (Ref sig .tc) := [main_v81, main_v82, main_v83, main_cst_8, main_v84, main_v85, main_v86, main_cst_9, main_v87, main_v88, main_v89, main_cst_10, main_v90, main_v91,
  main_cst_11, main_v92, main_v93, main_v94, main_v95, main_v96, main_c_12]
theorem post_writes : (hostOps0_3 (F := Ideal)).Forall fun op => op.writes ⊆ (postW.map (Proc.devRef (τ := τ) .tc)).toFinset :=
  StableHlo.forall_writes_sub_of_map rfl
theorem pad_writes : (hostOps0_4 (F := Ideal)).Forall fun op => op.writes ⊆ (([main_call4_v0, main_v97] : List (Ref sig .tc)).map (Proc.devRef (τ := τ) .tc)).toFinset :=
  StableHlo.forall_writes_sub_of_map rfl
theorem end_writes : (hostOps0_5 (F := Ideal)).Forall fun op => op.writes ⊆ (([main_v98, main_v99] : List (Ref sig .tc)).map (Proc.devRef (τ := τ) .tc)).toFinset :=
  StableHlo.forall_writes_sub_of_map rfl

theorem ops3_keep (r : Ref sig .tc) (hr : r ∉ postW) : after hostOps0_3 V (Proc.devRef .tc r) = V (Proc.devRef .tc r) :=
  after_of_writes_sub _ V post_writes hr
theorem ops4_keep (r : Ref sig .tc) (hr : r ∉ ([main_call4_v0, main_v97] : List (Ref sig .tc))) : after hostOps0_4 V (Proc.devRef .tc r) = V (Proc.devRef .tc r) :=
  after_of_writes_sub _ V pad_writes hr
theorem ops5_keep (r : Ref sig .tc) (hr : r ∉ ([main_v98, main_v99] : List (Ref sig .tc))) : after hostOps0_5 V (Proc.devRef .tc r) = V (Proc.devRef .tc r) :=
  after_of_writes_sub _ V end_writes hr

abbrev sigE (m : (ℓ : Loc nD τ sig) → Buf (Elt Ideal) ℓ) (c : Dev nD) : Valuation τ sig (Elt Ideal) := launchContents m c

theorem entry_eq : entryContents preI m c = ent (sigE m c) := rfl

/-- The state and the stored states after the whole loop. -/
theorem ex_states :
    (∀ b j, RefLoop.A3 (ex m c) (ix2 b j) = Cert.KernelIdeal.Spec.hs (aP (sigE m c)) (aW (sigE m c)) (aCB (sigE m c)) (aWA (sigE m c)) (aBA (sigE m c)) (aWX (sigE m c)) (aBX (sigE m c)) (aLAM (sigE m c)) b j 2048)
      ∧ ∀ (n : Fin 2048) b j, RefLoop.A4 (ex m c) (ix3 n b j) = Cert.KernelIdeal.Spec.hs (aP (sigE m c)) (aW (sigE m c)) (aCB (sigE m c)) (aWA (sigE m c)) (aBA (sigE m c)) (aWX (sigE m c)) (aBX (sigE m c)) (aLAM (sigE m c)) b j (n.val + 1) := by
  obtain ⟨h3, h4⟩ := RefLoop.loop_at m c
    (Cert.KernelIdeal.Spec.fac (aP (sigE m c)) (aW (sigE m c)) (aCB (sigE m c)) (aWA (sigE m c)) (aBA (sigE m c)) (aLAM (sigE m c)))
    (Cert.KernelIdeal.Spec.bt (aP (sigE m c)) (aW (sigE m c)) (aCB (sigE m c)) (aWA (sigE m c)) (aBA (sigE m c)) (aWX (sigE m c)) (aBX (sigE m c)) (aLAM (sigE m c)))
    (ent_fac (sigE m c)) (ent_bt (sigE m c)) (ent_zero (sigE m c)) 2048 (le_refl _)
  have k3 : RefLoop.A3 (ex m c) = RefLoop.A3 (STEP^[2048] (entryContents preI m c)) := (ex_keep m c main_v80_3 (by decide)).trans (atK_agree m c 2048 main_v80_3 (by decide))
  have k4 : RefLoop.A4 (ex m c) = RefLoop.A4 (STEP^[2048] (entryContents preI m c)) := (ex_keep m c main_v80_4 (by decide)).trans (atK_agree m c 2048 main_v80_4 (by decide))
  rw [k3, k4]
  exact ⟨fun b j => h3 b j, fun n b j => h4 n b j n.isLt⟩

/-- The gate branch after the loop. -/
theorem ex_v3 (b : Fin 4) (n j : Fin 2048) :
    (ex m c (Proc.devRef .tc main_v3) : FVec Ideal S4x2048x2048 .f32) (ix3 b n j) = Cert.KernelIdeal.Spec.tok (aP (sigE m c)) b n.val ⟨2048 + j.val, by omega⟩ := by
  have k : ex m c (Proc.devRef .tc main_v3) = ent (sigE m c) (Proc.devRef .tc main_v3) :=
    (ex_keep m c main_v3 (by decide)).trans (loop_keep m c main_v3 (by decide) (by decide) (by decide) (by decide) (by decide) (by decide) 2048)
  rw [k]
  exact ent_v3 (sigE m c) b n j

/-- The first result. -/
theorem res0 : finalContents condOps preI bodyI postI 2048 m c (Proc.devRef .tc main_v98)
    = Cert.KernelIdeal.Spec.RES0 (aP (sigE m c)) (aW (sigE m c)) (aCB (sigE m c)) (aWA (sigE m c)) (aBA (sigE m c)) (aWX (sigE m c)) (aBX (sigE m c)) (aLAM (sigE m c)) := by
  have key : ∀ (i : Fin 8704) (j : Fin 4096), (after hostOps0_5 (after hostOps0_4 (after hostOps0_3 (ex m c))) (Proc.devRef .tc main_v98) : FVec Ideal S8704x4096 .bf16) (ix2 i j)
      = Cert.KernelIdeal.Spec.RES0 (aP (sigE m c)) (aW (sigE m c)) (aCB (sigE m c)) (aWA (sigE m c)) (aBA (sigE m c)) (aWX (sigE m c)) (aBX (sigE m c)) (aLAM (sigE m c)) (ix2 i j) := by
    intro i j
    refine (p5_v98 (after hostOps0_3 (ex m c)) i j (p3_c12 _)).trans ?_
    unfold Cert.KernelIdeal.Spec.RES0
    by_cases h : i.val < 8192 ∧ j.val < 2048
    · refine (dif_pos h).trans (Eq.trans ?_ (dif_pos (c := ((ix2 i j : S8704x4096.Idx) 0).val < 8192 ∧ ((ix2 i j : S8704x4096.Idx) 1).val < 2048) h).symm)
      refine (p3_v96 (ex m c) ⟨i.val, h.1⟩ ⟨j.val, h.2⟩).trans ?_
      rw [(ex_states m c).2, ex_v3]
      rfl
    · refine (dif_neg h).trans ?_
      symm
      exact dif_neg h
  funext i
  have hi : i = ix2 (n0 := 8704) (n1 := 4096) (i 0) (i 1) := by funext a; fin_cases a <;> rfl
  exact (congrArg _ hi).trans ((key (i 0) (i 1)).trans (congrArg _ hi.symm))

/-- The second result. -/
theorem res1 : finalContents condOps preI bodyI postI 2048 m c (Proc.devRef .tc main_v99)
    = Cert.KernelIdeal.Spec.RES1 (aP (sigE m c)) (aW (sigE m c)) (aCB (sigE m c)) (aWA (sigE m c)) (aBA (sigE m c)) (aWX (sigE m c)) (aBX (sigE m c)) (aLAM (sigE m c)) := by
  have key : ∀ (b : Fin 4) (j : Fin 2048), (after hostOps0_5 (after hostOps0_4 (after hostOps0_3 (ex m c))) (Proc.devRef .tc main_v99) : FVec Ideal S4x1x2048 .f32) (ix3 b 0 j)
      = Cert.KernelIdeal.Spec.RES1 (aP (sigE m c)) (aW (sigE m c)) (aCB (sigE m c)) (aWA (sigE m c)) (aBA (sigE m c)) (aWX (sigE m c)) (aBX (sigE m c)) (aLAM (sigE m c)) (ix3 b 0 j) := by
    intro b j
    refine (p5_v99 _ b j).trans ?_
    have k : RefLoop.A3 (after hostOps0_4 (after hostOps0_3 (ex m c))) = RefLoop.A3 (ex m c) := (ops4_keep _ main_v80_3 (by decide)).trans (ops3_keep _ main_v80_3 (by decide))
    rw [k]
    exact (ex_states m c).1 b j
  funext i
  have hi : i = ix3 (n0 := 4) (n1 := 1) (n2 := 2048) (i 0) 0 (i 2) := by
    funext a; fin_cases a
    · rfl
    · exact Subsingleton.elim (α := Fin 1) _ _
    · rfl
  exact (congrArg _ hi).trans ((key (i 0) (i 2)).trans (congrArg _ hi.symm))

/-- A buffer that no operation writes ends as it began. -/
theorem arg_keep (r : Ref sig .tc) (h0 : r ∉ hostOps0_W) (h1 : r ∉ hostOps0_1_W) (h2 : r ∉ hostOps0_2_W) (h3 : r ∉ postW) (h4 : r ∉ ([main_call4_v0, main_v97] : List (Ref sig .tc))) (h5 : r ∉ ([main_v98, main_v99] : List (Ref sig .tc)))
    (hc : r ∉ condOps_W) (b0 : r ∉ while0Ops0_W) (b1 : r ∉ while0Ops0_1_W) (b2 : r ∉ while0Ops0_2_W) (b3 : r ∉ while0Ops0_3_W) (b4 : r ∉ while0Ops0_4_W) :
    finalContents condOps preI bodyI postI 2048 m c (Proc.devRef .tc r) = launchContents m c (Proc.devRef .tc r) :=
  (ops5_keep _ r h5).trans ((ops4_keep _ r h4).trans ((ops3_keep _ r h3).trans ((ex_keep m c r hc).trans
    ((loop_keep m c r hc b0 b1 b2 b3 b4 2048).trans (ent_keep (sigE m c) r h0 h1 h2)))))

variable (ρ : Dev nD → PrngReg)

/-- The reference's run: its results, and its arguments unchanged. -/
theorem run : θ_run (defs (F := Ideal)) (onTc (τ := τ) (main (F := Ideal))) ⟨m, fun _ => 0, ρ⟩ fun r => ∀ c : Dev nD,
    r.2.mem ((c.tc : Thread nD τ).loc main_v98) = Cert.KernelIdeal.Spec.RES0 (aP (sigE m c)) (aW (sigE m c)) (aCB (sigE m c)) (aWA (sigE m c)) (aBA (sigE m c)) (aWX (sigE m c)) (aBX (sigE m c)) (aLAM (sigE m c))
    ∧ r.2.mem ((c.tc : Thread nD τ).loc main_v99) = Cert.KernelIdeal.Spec.RES1 (aP (sigE m c)) (aW (sigE m c)) (aCB (sigE m c)) (aWA (sigE m c)) (aBA (sigE m c)) (aWX (sigE m c)) (aBX (sigE m c)) (aLAM (sigE m c))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) := by
  have k : ∀ (r : Ref sig .tc) (c : Dev nD), r ∈ [main_arg0, main_arg1, main_arg2, main_arg3, main_arg4, main_arg5, main_arg6, main_arg7] →
      finalContents condOps preI bodyI postI 2048 m c (Proc.devRef .tc r) = launchContents m c (Proc.devRef .tc r) := by
    intro r c hr
    fin_cases hr <;> exact arg_keep m c _ (by decide) (by decide) (by decide) (by decide) (by decide) (by decide) (by decide) (by decide) (by decide) (by decide) (by decide) (by decide)
  refine (θ_run _ _ _).mono (fun r h c => ?_) (run_fold m ρ)
  exact ⟨(h c main_v98 rfl).trans (res0 m c), (h c main_v99 rfl).trans (res1 m c),
    (h c main_arg0 rfl).trans (k _ c (by decide)), (h c main_arg1 rfl).trans (k _ c (by decide)), (h c main_arg2 rfl).trans (k _ c (by decide)),
    (h c main_arg3 rfl).trans (k _ c (by decide)), (h c main_arg4 rfl).trans (k _ c (by decide)), (h c main_arg5 rfl).trans (k _ c (by decide)),
    (h c main_arg6 rfl).trans (k _ c (by decide)), (h c main_arg7 rfl).trans (k _ c (by decide))⟩

end Cert.ReferenceIdeal.RefValue

end
-- ==== Proof.Setup.lean ====
/- The feed-forward call of the experts: its launch, its tables and its body's memrefs. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.ArrRel
public import Idealize.ShloMosaic.Lib.Tactic
public import Idealize.ShloMosaic.Lib.WordCmp

@[expose] public section

set_option maxRecDepth 16384

noncomputable section

namespace Cert.Kernel2Ideal.Mat

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the region's entry: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The step tables' contents. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table as the body is handed it. -/
abbrev tb0 : Memref sig .tc .smem S64 .i32 := Memref.whole main_arg3
abbrev tb1 : Memref sig .tc .smem S64 .i32 := Memref.whole main_arg4
abbrev tb2 : Memref sig .tc .smem S64 .i32 := Memref.whole main_arg5
abbrev tb3 : Memref sig .tc .smem S64 .i32 := Memref.whole main_arg6

abbrev TbBuf (c : Dev nD) (M : Memref sig .tc .smem S64 .i32) : Type := Buf (Elt F) (M.view.loc (c : Thread nD τ))
abbrev tbPt (c : Dev nD) (M : Memref sig .tc .smem S64 .i32) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [bigSep_univ_eq_bigSepL [(0 : Fin 4), (1 : Fin 4), (2 : Fin 4), (3 : Fin 4)] (by decide) (by decide)]
  rfl

/-- The scratch: the resident bf16 weights and the running sums. -/
abbrev scM0 : Memref sig .tc .vmem S4096x512 .bf16 := Memref.whole cc0_scratch0
abbrev scM1 : Memref sig .tc .vmem S4096x512 .bf16 := Memref.whole cc0_scratch1
abbrev scM2 : Memref sig .tc .vmem S512x512 .f32 := Memref.whole cc0_scratch2
abbrev scM3 : Memref sig .tc .vmem S512x512 .f32 := Memref.whole cc0_scratch3

theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d) ∗ (∃ d, owns (c : Thread nD τ) scM3 fullShare d)) ∗ (∃ r, prngReg c r)) := by
  unfold Pipeline.ΦA; rw [scopedRest0_eq]; simp only [scM0, scM1, scM2, scM3, owns_whole]; try rfl

/-- Step `i`'s kind and chunk, as the body loads them from tables 0 and 3. -/
abbrev kindOf (c : Dev nD) (xt : TbBuf (F := F) c tb0) (i : grid0.Coords) : BitVec 32 :=
  View.readAt (Elt F) tb0.view (Rect.unit (s := S64) (k0_off1 i) S1.size (k0_off1_inb i)).toLoadRect xt (Shape.Idx.first (numel1_S1.symm ▸ Nat.one_pos))
abbrev chunkOf (c : Dev nD) (xt : TbBuf (F := F) c tb3) (i : grid0.Coords) : BitVec 32 :=
  View.readAt (Elt F) tb3.view (Rect.unit (s := S64) (k0_off1 i) S1.size (k0_off1_inb i)).toLoadRect xt (Shape.Idx.first (numel1_S1.symm ▸ Nat.one_pos))

end Cert.Kernel2Ideal.Mat

end
-- ==== Proof.Run.lean ====
/- The body of the experts' feed-forward call, run once per kind of step. -/
module

public import proofs.«01_k».proof.Proof.Setup

@[expose] public section

set_option maxRecDepth 16384

noncomputable section

namespace Cert.Kernel2Ideal.Mat

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (c : Dev nD) (i : grid0.Coords)
  (a6 : Memref sig .tc .vmem S512x4096 .bf16) (h6 : a6.IsWhole) (a7 : Memref sig .tc .vmem S1x1024x512 .f32) (h7 : a7.IsWhole)
  (a8 : Memref sig .tc .vmem S1x1024x512 .f32) (h8 : a8.IsWhole) (a9 : Memref sig .tc .vmem S512x512 .bf16) (h9 : a9.IsWhole)
  (a10 : Memref sig .tc .vmem S4096x512 .bf16) (h10 : a10.IsWhole) (a11 : Memref sig .tc .vmem S4096x512 .bf16) (h11 : a11.IsWhole)
  (a12 : Memref sig .tc .vmem S512x512 .f32) (h12 : a12.IsWhole) (a13 : Memref sig .tc .vmem S512x512 .f32) (h13 : a13.IsWhole)
  (x : Vec F S512x4096 .bf16) (w1 w2 : Vec F S1x1024x512 .f32) (o : Vec F S512x512 .bf16)
  (b1 b2 : Vec F S4096x512 .bf16) (s1 s2 : Vec F S512x512 .f32)
  (t0 : TbBuf (F := F) c tb0) (t1 : TbBuf (F := F) c tb1) (t2 : TbBuf (F := F) c tb2) (t3 : TbBuf (F := F) c tb3)

/-- The body's memrefs at given contents. -/
def held (x : Vec F S512x4096 .bf16) (w1 w2 : Vec F S1x1024x512 .f32) (o : Vec F S512x512 .bf16)
    (b1 b2 : Vec F S4096x512 .bf16) (s1 s2 : Vec F S512x512 .f32) : sProp 𝕄 :=
  iprop(owns (c : Thread nD τ) a6 fullShare x ∗ owns (c : Thread nD τ) a7 fullShare w1 ∗ owns (c : Thread nD τ) a8 fullShare w2
    ∗ owns (c : Thread nD τ) a9 fullShare o ∗ owns (c : Thread nD τ) a10 fullShare b1 ∗ owns (c : Thread nD τ) a11 fullShare b2
    ∗ owns (c : Thread nD τ) a12 fullShare s1 ∗ owns (c : Thread nD τ) a13 fullShare s2
    ∗ tbPt c tb0 t0 ∗ tbPt c tb1 t1 ∗ tbPt c tb2 t2 ∗ tbPt c tb3 t3)

/-- A buffer's contents under a memref. -/
abbrev MBuf (c : Dev nD) {S : Shape} {e : EltTy} (M : Memref sig .tc .vmem S e) : Type := Buf (Elt F) (M.view.loc (c : Thread nD τ))
abbrev mPt (c : Dev nD) {S : Shape} {e : EltTy} (M : Memref sig .tc .vmem S e) (f : MBuf (F := F) c M) : sProp 𝕄 :=
  M.view.loc (c : Thread nD τ) ↦[M.view.set]{fullShare} f

/-- The body run on any words of the tables: what it leaves in the output's buffer and in the scratch,
    each a choice by the step's kind and chunk. -/
def bodyRun : Σ' (G9 : MBuf (F := F) c a9) (G10 : MBuf (F := F) c a10) (G11 : MBuf (F := F) c a11) (G12 : MBuf (F := F) c a12),
    { G13 : MBuf (F := F) c a13 // ∀ (E : Set ℕ) (K : PUnit → sProp 𝕄),
      iprop(held c a6 a7 a8 a9 a10 a11 a12 a13 t0 t1 t2 t3 x w1 w2 o b1 b2 s1 s2
        ∗ (iprop(owns (c : Thread nD τ) a6 fullShare x ∗ owns (c : Thread nD τ) a7 fullShare w1 ∗ owns (c : Thread nD τ) a8 fullShare w2
            ∗ mPt c a9 G9 ∗ mPt c a10 G10 ∗ mPt c a11 G11 ∗ mPt c a12 G12 ∗ mPt c a13 G13
            ∗ tbPt c tb0 t0 ∗ tbPt c tb1 t1 ∗ tbPt c tb2 t2 ∗ tbPt c tb3 t3) -∗ K ⟨⟩))
      ⊢ wp frame (wpE (defs₀ (F := F)) Variants.none c none) E
          (cc0_moe_gate_up i tb0 (Memref.isWhole_whole _) tb1 (Memref.isWhole_whole _) tb2 (Memref.isWhole_whole _) tb3 (Memref.isWhole_whole _)
            a6 h6 a7 h7 a8 h8 a9 h9 a10 h10 a11 h11 a12 h12 a13 h13) K } := by
  refine ⟨?_, ?_, ?_, ?_, ?_, fun E K => ?run⟩
  case run =>
    simp only [cc0_moe_gate_up_eq_skeleton]
    unfold cc0_moe_gate_up_skel held owns
    iintro ⟨⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, T0, T1, T2, T3⟩, Hk⟩
    obtain rfl := h6.eq_unread hf6; obtain rfl := h7.eq_unread hf7; obtain rfl := h8.eq_unread hf8; obtain rfl := h9.eq_unread hf9
    obtain rfl := h10.eq_unread hf10; obtain rfl := h11.eq_unread hf11; obtain rfl := h12.eq_unread hf12; obtain rfl := h13.eq_unread hf13
    sl_exec
    sl_step
    iapply Hk
    isplitl [H6]; · iexists _; isplitr; · ipureintro; exact h6.read_unread _
                    iexact H6
    isplitl [H7]; · iexists _; isplitr; · ipureintro; exact h7.read_unread _
                    iexact H7
    isplitl [H8]; · iexists _; isplitr; · ipureintro; exact h8.read_unread _
                    iexact H8
    isplitl [H9]; · iexact H9
    isplitl [H10]; · iexact H10
    isplitl [H11]; · iexact H11
    isplitl [H12]; · iexact H12
    isplitl [H13]; · iexact H13
    isplitl [T0]; · iexact T0
    isplitl [T1]; · iexact T1
    isplitl [T2]; · iexact T2
    iexact T3

end Cert.Kernel2Ideal.Mat

end
-- ==== Proof.Body.lean ====
/- The experts' feed-forward call: its proof data, its body at a point, and its launch. -/
module

public import proofs.«01_k».proof.Proof.Run

@[expose] public section

set_option maxRecDepth 16384

noncomputable section

namespace Cert.Kernel2Ideal.Mat

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a point. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x1024x512 .f32 := spec0_1.stage ((cfgM m hO).slots t 1)
abbrev ms2 (hO : Ok m) (t : Fin (cfgM m hO).N) : Memref sig .tc .vmem S1x1024x512 .f32 := spec0_2.stage ((cfgM m hO).slots t 2)
abbrev ms3 (hO : Ok m) (t : Fin (cfgM m hO).N) : Memref sig .tc .vmem S512x512 .bf16 := spec0_3.stage ((cfgM m hO).slots t 3)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)
abbrev hs3 (hO : Ok m) (t : Fin (cfgM m hO).N) : (ms3 m hO t).IsWhole := hstage0_3 (((cfgM m hO).slots t 3).cast nbuf0_3)

/-- The body at a point. -/
abbrev bodyAt (hO : Ok m) (t : Fin (cfgM m hO).N) : Prog (TpuEff nD τ sig (Elt F) Λ₀ .tc) PUnit :=
  cc0_moe_gate_up (grid0.coords t) tb0 (Memref.isWhole_whole _) tb1 (Memref.isWhole_whole _) tb2 (Memref.isWhole_whole _) tb3 (Memref.isWhole_whole _)
    (ms0 m hO t) (hs0 m hO t) (ms1 m hO t) (hs1 m hO t) (ms2 m hO t) (hs2 m hO t) (ms3 m hO t) (hs3 m hO t)
    scM0 (Memref.isWhole_whole _) scM1 (Memref.isWhole_whole _) scM2 (Memref.isWhole_whole _) scM3 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The contents of the input windows' blocks at a point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))
abbrev blk0 (hO : Ok m) (c : Dev nD) (t : Fin (cfgM m hO).N) : Vec F S512x4096 .bf16 := iblk m hO c 0 t
abbrev blk1 (hO : Ok m) (c : Dev nD) (t : Fin (cfgM m hO).N) : Vec F S1x1024x512 .f32 := iblk m hO c 1 t
abbrev blk2 (hO : Ok m) (c : Dev nD) (t : Fin (cfgM m hO).N) : Vec F S1x1024x512 .f32 := iblk m hO c 2 t

/-- The run at a point: the inputs at their blocks, the output and the scratch at given contents. -/
abbrev runAt (hO : Ok m) (c : Dev nD) (t : Fin (cfgM m hO).N) (o : Vec F S512x512 .bf16) (b1 b2 : Vec F S4096x512 .bf16) (s1 s2 : Vec F S512x512 .f32) :=
  bodyRun c (grid0.coords t) (ms0 m hO t) (hs0 m hO t) (ms1 m hO t) (hs1 m hO t) (ms2 m hO t) (hs2 m hO t) (ms3 m hO t) (hs3 m hO t)
    scM0 (Memref.isWhole_whole _) scM1 (Memref.isWhole_whole _) scM2 (Memref.isWhole_whole _) scM3 (Memref.isWhole_whole _)
    (blk0 m hO c t) (blk1 m hO c t) (blk2 m hO c t) o b1 b2 s1 s2 (tbl m 0) (tbl m 1) (tbl m 2) (tbl m 3)

/-- What holds of the scratch before a point. -/
abbrev InvT (F : FTy → Type) [FloatOps F] : Type := ℕ → Vec F S4096x512 .bf16 → Vec F S4096x512 .bf16 → Vec F S512x512 .f32 → Vec F S512x512 .f32 → Prop
/-- What the body does to the output's buffer at a point. -/
abbrev RelT (F : FTy → Type) [FloatOps F] (N : ℕ) : Type := Fin N → Vec F S512x512 .bf16 → Vec F S512x512 .bf16 → Prop

variable (hO : Ok m) (Inv : InvT F) (R : RelT F (cfgM m hO).N)

/-- The scratch before a point. -/
def scr (c : Dev nD) (n : ℕ) : sProp 𝕄 :=
  iprop(∃ b1, ∃ b2, ∃ s1, ∃ s2, ⌜Inv n b1 b2 s1 s2⌝ ∗ owns (c : Thread nD τ) scM0 fullShare b1 ∗ owns (c : Thread nD τ) scM1 fullShare b2
    ∗ owns (c : Thread nD τ) scM2 fullShare s1 ∗ owns (c : Thread nD τ) scM3 fullShare s2)

/-- The step tables, as the body is handed them. -/
def tabs (c : Dev nD) : sProp 𝕄 := iprop(tbPt c tb0 (tbl m 0) ∗ tbPt c tb1 (tbl m 1) ∗ tbPt c tb2 (tbl m 2) ∗ tbPt c tb3 (tbl m 3))

/-- What the core holds before a point, beside the staging buffers. -/
def Phi (c : Dev nD) (n : ℕ) : sProp 𝕄 := iprop(scr Inv c n ∗ (∃ r, prngReg c r) ∗ tabs m c)

/-- The proof data on a core: the inputs left as found, the output related by `R`, the scratch as `Inv` has it. -/
def rdat (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => X = Y
    | ⟨3, _⟩ => R t Y X
  Φ t := Phi m Inv c t.val
  q _ := fullShare
  owed _ := 0

/-- An input's buffer holds its block wherever the body is handed it. -/
theorem finds0 (c : Dev nD) (t : Fin (cfgM m hO).N) (Y) (h : (rdat m hO Inv R c).Finds 0 t Y) : Y = blk0 m hO c t := by
  obtain ⟨d, hd⟩ := RDat.finds_in_eq_fetched (rdat m hO Inv R c) 0 rfl (fun _ _ _ => rfl) (fun _ _ _ h => h) t Y h
  rw [hd]; rfl
theorem finds1 (c : Dev nD) (t : Fin (cfgM m hO).N) (Y) (h : (rdat m hO Inv R c).Finds 1 t Y) : Y = blk1 m hO c t := by
  obtain ⟨d, hd⟩ := RDat.finds_in_eq_fetched (rdat m hO Inv R c) 1 rfl (fun _ _ _ => rfl) (fun _ _ _ h => h) t Y h
  rw [hd]; rfl
theorem finds2 (c : Dev nD) (t : Fin (cfgM m hO).N) (Y) (h : (rdat m hO Inv R c).Finds 2 t Y) : Y = blk2 m hO c t := by
  obtain ⟨d, hd⟩ := RDat.finds_in_eq_fetched (rdat m hO Inv R c) 2 rfl (fun _ _ _ => rfl) (fun _ _ _ h => h) t Y h
  rw [hd]; rfl

/-- What a step must keep: from contents the body may find, the run leaves contents related by `R` and `Inv`. -/
def Keeps (c : Dev nD) : Prop := ∀ (t : Fin (cfgM m hO).N) o b1 b2 s1 s2, (rdat m hO Inv R c).Finds 3 t o → Inv t.val b1 b2 s1 s2 →
  R t o ((ms3 m hO t).view.read (Elt F) (runAt m hO c t o b1 b2 s1 s2).1)
  ∧ Inv (t.val + 1) (scM0.view.read (Elt F) (runAt m hO c t o b1 b2 s1 s2).2.1) (scM1.view.read (Elt F) (runAt m hO c t o b1 b2 s1 s2).2.2.1)
      (scM2.view.read (Elt F) (runAt m hO c t o b1 b2 s1 s2).2.2.2.1) (scM3.view.read (Elt F) (runAt m hO c t o b1 b2 s1 s2).2.2.2.2.1)

variable {m hO Inv R}

/-- The body at a point, from contents it may find. -/
theorem sound_body (c : Dev nD) (hK : Keeps m hO Inv R c) (t : Fin (cfgM m hO).N)
    (Y : (w : Fin (cfgM m hO).W) → ((cfgM m hO).win w).block.Idx → Elt F ((cfgM m hO).win w).elt)
    (hY : ∀ w, (rdat m hO Inv R c).Finds w t (Y w)) :
    iprop((rdat m hO Inv R c).Φ t.castSucc ∗ (rdat m hO Inv R c).owesAt () t.castSucc
        ∗ owns (c : Thread nD τ) (ms0 m hO t) fullShare (Y 0) ∗ owns (c : Thread nD τ) (ms1 m hO t) fullShare (Y 1)
        ∗ owns (c : Thread nD τ) (ms2 m hO t) fullShare (Y 2) ∗ owns (c : Thread nD τ) (ms3 m hO t) fullShare (Y 3))
      ⊢ wp frame (wpE (defs₀ (F := F)) Variants.none c none) Set.univ (bodyAt m hO t) fun _ =>
        iprop((rdat m hO Inv R c).Φ t.succ ∗ (rdat m hO Inv R c).owesAt () t.succ
          ∗ (∃ X, ⌜(rdat m hO Inv R c).after 0 t (Y 0) X⌝ ∗ owns (c : Thread nD τ) (ms0 m hO t) fullShare X)
          ∗ (∃ X, ⌜(rdat m hO Inv R c).after 1 t (Y 1) X⌝ ∗ owns (c : Thread nD τ) (ms1 m hO t) fullShare X)
          ∗ (∃ X, ⌜(rdat m hO Inv R c).after 2 t (Y 2) X⌝ ∗ owns (c : Thread nD τ) (ms2 m hO t) fullShare X)
          ∗ (∃ X, ⌜(rdat m hO Inv R c).after 3 t (Y 3) X⌝ ∗ owns (c : Thread nD τ) (ms3 m hO t) fullShare X)) := by
  have p1 : (rdat m hO Inv R c).owesAt () t.succ = (rdat m hO Inv R c).owesAt () t.castSucc := rfl
  have p2 : (rdat m hO Inv R c).Φ t.succ = Phi m Inv c (t.val + 1) := rfl
  have p3 : (rdat m hO Inv R c).Φ t.castSucc = Phi m Inv c t.val := congrArg (Phi m Inv c) (Fin.val_castSucc t)
  simp only [p1, p2, p3]
  have e0 := finds0 m hO Inv R c t _ (hY 0)
  have e1 := finds1 m hO Inv R c t _ (hY 1)
  have e2 := finds2 m hO Inv R c t _ (hY 2)
  unfold Phi scr tabs
  iintro ⟨⟨⟨%b1, %b2, %s1, %s2, %hI, B1, B2, S1, S2⟩, Hg, T0, T1, T2, T3⟩, Ho, H0, H1, H2, H3⟩
  have hk := hK t (Y 3) b1 b2 s1 s2 (hY 3) hI
  iapply ((runAt m hO c t (Y 3) b1 b2 s1 s2).2.2.2.2.2 Set.univ _)
  isplitl [H0 H1 H2 H3 B1 B2 S1 S2 T0 T1 T2 T3]
  · unfold held
    isplitl [H0]; · rw [e0]; iexact H0
    isplitl [H1]; · rw [e1]; iexact H1
    isplitl [H2]; · rw [e2]; iexact H2
    isplitl [H3]; · iexact H3
    isplitl [B1]; · iexact B1
    isplitl [B2]; · iexact B2
    isplitl [S1]; · iexact S1
    isplitl [S2]; · iexact S2
    isplitl [T0]; · iexact T0
    isplitl [T1]; · iexact T1
    isplitl [T2]; · iexact T2
    iexact T3
  iintro ⟨H0, H1, H2, H3, B1, B2, S1, S2, T0, T1, T2, T3⟩
  isplitl [B1 B2 S1 S2 Hg T0 T1 T2 T3]
  · isplitl [B1 B2 S1 S2]
    · iexists _, _, _, _
      isplitr; · ipureintro; exact hk.2
      unfold owns
      isplitl [B1]; · iexists _; isplitr; swap; · iexact B1
                      ipureintro; rfl
      isplitl [B2]; · iexists _; isplitr; swap; · iexact B2
                      ipureintro; rfl
      isplitl [S1]; · iexists _; isplitr; swap; · iexact S1
                      ipureintro; rfl
      iexists _; isplitr; swap; · iexact S2
      ipureintro; rfl
    isplitl [Hg]; · iexact Hg
    isplitl [T0]; · iexact T0
    isplitl [T1]; · iexact T1
    isplitl [T2]; · iexact T2
    iexact T3
  isplitl [Ho]; · iexact Ho
  isplitl [H0]; · iexists _; isplitr; swap; · iexact H0
                  ipureintro; exact e0.symm
  isplitl [H1]; · iexists _; isplitr; swap; · iexact H1
                  ipureintro; exact e1.symm
  isplitl [H2]; · iexists _; isplitr; swap; · iexact H2
                  ipureintro; exact e2.symm
  iexists _; isplitr
  swap
  · unfold owns; iexists _; isplitr; swap; · iexact H3
    ipureintro; rfl
  ipureintro; exact hk.1

theorem body_obligation (c : Dev nD) (hK : Keeps m hO Inv R c) :
    (rdat m hO Inv R c).BodyObligation (defs₀ (F := F)) Variants.none () Set.univ := fun t Y hY => by
  rw [bigSep_W0, bigSep_W0, defs₀_row m hO]
  exact triple_restated (sound_body c hK t Y hY) rfl .rfl fun _ => .rfl

variable (m hO Inv R)

theorem hin (h0 : ∀ b1 b2 s1 s2, Inv 0 b1 b2 s1 s2) (c : Dev nD) :
    iprop(Pipeline.ΦA spec0 c ∗ Pipeline.ΦT pre0 (tbl m) c) ⊢ (rdat m hO Inv R c).Φ 0 := by
  rw [show (rdat m hO Inv R c).Φ 0 = Phi m Inv c 0 from rfl, PhiA_eq, show Pipeline.ΦT pre0 (tbl m) c = tabs m c from PhiT_eq m c]
  unfold Phi scr
  iintro ⟨⟨⟨⟨%b1, B1⟩, ⟨%b2, B2⟩, ⟨%s1, S1⟩, ⟨%s2, S2⟩⟩, Hg⟩, HT⟩
  isplitl [B1 B2 S1 S2]
  · iexists b1, b2, s1, s2
    isplitr; · ipureintro; exact h0 _ _ _ _
    isplitl [B1]; · iexact B1
    isplitl [B2]; · iexact B2
    isplitl [S1]; · iexact S1
    iexact S2
  isplitl [Hg]; · iexact Hg
  iexact HT

theorem hout (c : Dev nD) : (rdat m hO Inv R c).Φ (Fin.last (cfgM m hO).N) ⊢ Pipeline.ΦA spec0 c := by
  rw [show (rdat m hO Inv R c).Φ (Fin.last (cfgM m hO).N) = Phi m Inv c (cfgM m hO).N from rfl, PhiA_eq]
  unfold Phi scr
  iintro ⟨⟨%b1, %b2, %s1, %s2, -, B1, B2, S1, S2⟩, Hg, -⟩
  isplitl [B1 B2 S1 S2]
  · isplitl [B1]; · iexists _; iexact B1
    isplitl [B2]; · iexists _; iexact B2
    isplitl [S1]; · iexists _; iexact S1
    iexists _; iexact S2
  iexact Hg

-- the launch lemma's implicit arguments are found by unifying its conclusion with this one
set_option backward.isDefEq.respectTransparency.types false in
/-- The launch: every run ends, each array as the proof data have it, the others as launched, every counter zero. -/
theorem run_main (h0 : ∀ b1 b2 s1 s2, Inv 0 b1 b2 s1 s2) (hK : ∀ c, Keeps m hO Inv R c) :
    θ_run defs (onTc (τ := τ) (main (F := F))) (s₀ m ρ)
      (fun r => Pipeline.RDat.FramePost (cfgM m hO) (rdat m hO Inv R) (V m) r ∧ r.2.sem = fun _ => 0) :=
  Pipeline.RDat.θ_run_frameP_track (Q' := _) pcfgs (fun _ => adm m hO) (0 : Fin 1) launch0 defs₀ Variants.none (rdat m hO Inv R) m ρ main
    (hbody := fun c => body_obligation c (hK c)) (hshare := fun c w => by unfold RDat.share; split <;> rfl)
    (howed := fun _ _ => rfl) (V := V m) (hmain := hmain m Variants.none) (hA := fun _ _ => rfl) (hpf := V_pre m)
    (hin := hin m hO Inv R h0) (hout := hout m hO Inv R)

end Cert.Kernel2Ideal.Mat

end
-- ==== Proof.Frame.lean ====
/- The experts' feed-forward call leaves its arguments unchanged. -/
module

public import proofs.«01_k».proof.Proof.Body

@[expose] public section

set_option maxRecDepth 16384

noncomputable section

namespace Cert.Kernel2Ideal.Mat

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with the nine arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩)
    (run_main m ρ hO (fun _ _ _ _ _ => True) (fun _ _ _ => True) (fun _ _ _ _ => trivial) fun _ _ _ _ _ _ _ _ _ => ⟨trivial, trivial⟩)
  have hr := h.1
  exact ⟨hr.arr_in c 0 rfl, hr.arr_in c 1 rfl, hr.arr_in c 2 rfl,
    (hr c).2 main_arg3 (Pipeline.mem_restRefs_of (win := spec0) _ (by decide) (by decide)), (hr c).2 main_arg4 (Pipeline.mem_restRefs_of (win := spec0) _ (by decide) (by decide)),
    (hr c).2 main_arg5 (Pipeline.mem_restRefs_of (win := spec0) _ (by decide) (by decide)), (hr c).2 main_arg6 (Pipeline.mem_restRefs_of (win := spec0) _ (by decide) (by decide)),
    (hr c).2 main_arg7 (Pipeline.mem_restRefs_of (win := spec0) _ (by decide) (by decide)), (hr c).2 main_arg8 (Pipeline.mem_restRefs_of (win := spec0) _ (by decide) (by decide))⟩

end Cert.Kernel2Ideal.Mat

end
-- ==== Proof.Printed.lean ====
/- The frame of the call as printed for the compiler, from the frame of its idealized print. -/
module

public import proofs.«01_k».proof.Proof.Frame
public import proofs.«01_k».proof.Proof.Gen.Kernel2.Launch
public import proofs.«01_k».proof.Proof.Gen.Kernel2

@[expose] public section
set_option maxRecDepth 16384
noncomputable section
namespace Cert.Kernel2.Mat
open Cert.Kernel2.Gen Cert.Kernel2Ideal.Gen
open Idealize.ShloMosaic Idealize.ShloMosaic.TcCoe Idealize.ShloMosaic.Tactic
open Idealize.SL.Sem
variable {F : FTy → Type} [FloatOps F]
variable (m : (ℓ : Loc nD τ sig) → Buf (Elt F) ℓ) (ρ : Dev nD → PrngReg)

/-- The two printed body tables are one table. -/
theorem defs₀_eq : defs₀ (F := F) = Cert.Kernel2Ideal.defs₀ (F := F) := by
  refine congrArg Defs.onTc (funext fun l => funext fun a => ?_)
  obtain ⟨l, hl⟩ := l
  cases l with
  | zero => rfl
  | succ n => exact absurd hl (by omega)

/-- The frame of the call as the compiler is handed it, by the frame of its idealized print: the two are one program. -/
theorem frame (hO : Cert.Kernel2Ideal.Mat.Ok (F := F) m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  have key : ∀ D : Defs nD τ sig (Elt F) Λ₀, D = Cert.Kernel2Ideal.defs₀ (F := F) →
      θ_run (Pipeline.defs pcfgs D) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
    rintro _ rfl
    exact Cert.Kernel2Ideal.Mat.frame (F := F) m ρ hO
  exact key _ defs₀_eq

end Cert.Kernel2.Mat
end
-- ==== Proof.Cases.lean ====
/- What the experts' body leaves in its buffers, by the step's kind and chunk. -/
module

public import proofs.«01_k».proof.Proof.Run
public import Idealize.ShloMosaic.Lib.VecWindow

@[expose] public section

set_option maxRecDepth 16384

noncomputable section

namespace Cert.Kernel2Ideal.Mat

open Cert.Kernel2Ideal.Gen
open Idealize.ShloMosaic Idealize.ShloMosaic.TcCoe Idealize.ShloMosaic.Tactic

variable {F : FTy → Type} [FloatOps F]

variable (c : Dev nD) (i : grid0.Coords)
  (a6 : Memref sig .tc .vmem S512x4096 .bf16) (h6 : a6.IsWhole) (a7 : Memref sig .tc .vmem S1x1024x512 .f32) (h7 : a7.IsWhole)
  (a8 : Memref sig .tc .vmem S1x1024x512 .f32) (h8 : a8.IsWhole) (a9 : Memref sig .tc .vmem S512x512 .bf16) (h9 : a9.IsWhole)
  (a10 : Memref sig .tc .vmem S4096x512 .bf16) (h10 : a10.IsWhole) (a11 : Memref sig .tc .vmem S4096x512 .bf16) (h11 : a11.IsWhole)
  (a12 : Memref sig .tc .vmem S512x512 .f32) (h12 : a12.IsWhole) (a13 : Memref sig .tc .vmem S512x512 .f32) (h13 : a13.IsWhole)
  (x : Vec F S512x4096 .bf16) (w1 w2 : Vec F S1x1024x512 .f32) (o : Vec F S512x512 .bf16)
  (b1 b2 : Vec F S4096x512 .bf16) (s1 s2 : Vec F S512x512 .f32)
  (t0 : TbBuf (F := F) c tb0) (t1 : TbBuf (F := F) c tb1) (t2 : TbBuf (F := F) c tb2) (t3 : TbBuf (F := F) c tb3)

/-- The contents a run leaves, read back through the memrefs. -/
structure Left (F : FTy → Type) where
  o : Vec F S512x512 .bf16
  b1 : Vec F S4096x512 .bf16
  b2 : Vec F S4096x512 .bf16
  s1 : Vec F S512x512 .f32
  s2 : Vec F S512x512 .f32

abbrev left : Left F :=
  let G := bodyRun c i a6 h6 a7 h7 a8 h8 a9 h9 a10 h10 a11 h11 a12 h12 a13 h13 x w1 w2 o b1 b2 s1 s2 t0 t1 t2 t3
  ⟨a9.view.read (Elt F) G.1, a10.view.read (Elt F) G.2.1, a11.view.read (Elt F) G.2.2.1, a12.view.read (Elt F) G.2.2.2.1,
    a13.view.read (Elt F) G.2.2.2.2.1⟩

theorem two_bits : ∀ p q : Bool, (BitVec.ofBool ((BitVec.ofBool p &&& BitVec.ofBool q).setWidth 32 != 0#32) = 1#1) ↔ p = true ∧ q = true := by
  decide
theorem one_bit : ∀ p : Bool, (BitVec.ofBool ((BitVec.ofBool p).setWidth 32 != 0#32) = 1#1) ↔ p = true := by decide

theorem cond_two (a b k q : BitVec 32) :
    Scalar.cmpi .ne (Scalar.extui (Scalar.andi (Scalar.cmpi .eq a k) (Scalar.cmpi .eq b q)) : BitVec 32) 0#32 = 1#1 ↔ a = k ∧ b = q := by
  have := two_bits (a == k) (b == q)
  rw [beq_iff_eq, beq_iff_eq] at this
  exact this
theorem cond_one (a k : BitVec 32) :
    Scalar.cmpi .ne (Scalar.extui (Scalar.cmpi .eq a k) : BitVec 32) 0#32 = 1#1 ↔ a = k := by
  have := one_bit (a == k)
  rw [beq_iff_eq] at this
  exact this

theorem v8_iff : bodyRun.sl.v8 c i t0 t3 = 1#1 ↔ kindOf c t0 i = 1#32 ∧ chunkOf c t3 i = 0#32 := cond_two _ _ _ _
theorem v13_iff : bodyRun.sl.v13 c i t0 t3 = 1#1 ↔ kindOf c t0 i = 1#32 ∧ chunkOf c t3 i = 1#32 := cond_two _ _ _ _
theorem v18_iff : bodyRun.sl.v18 c i t0 t3 = 1#1 ↔ kindOf c t0 i = 1#32 ∧ chunkOf c t3 i = 2#32 := cond_two _ _ _ _
theorem c4_iff : k0_cond4 (bodyRun.sl.r c i t0) (bodyRun.sl.r_1 c i t3) = 1#1 ↔ kindOf c t0 i = 1#32 ∧ chunkOf c t3 i = 3#32 := cond_two _ _ _ _
theorem c5_iff : k0_cond5 (bodyRun.sl.r c i t0) = 1#1 ↔ kindOf c t0 i = 2#32 := cond_one _ _
theorem c6_iff : k0_cond6 (bodyRun.sl.r c i t0) = 1#1 ↔ kindOf c t0 i = 3#32 := cond_one _ _

/-- The whole-buffer loads and stores at their literal sizes. -/
theorem ld_w (a : Memref sig .tc .vmem S1x1024x512 .f32) (h : a.IsWhole) (w : Vec F S1x1024x512 .f32)
    (inb : ∀ k, (![0, 0, 0] : Fin 3 → ℕ) k + (![1, 1024, 512] : Fin 3 → ℕ) k ≤ S1x1024x512.size k) :
    a.view.readAt (Elt F) (Rect.unit (s := S1x1024x512) ![0, 0, 0] ![1, 1024, 512] inb).toLoadRect (h.unread w) = w :=
  (View.readAt_full a.view (h.unread w) inb).trans (h.read_unread w)
theorem ld_x (a : Memref sig .tc .vmem S512x4096 .bf16) (h : a.IsWhole) (w : Vec F S512x4096 .bf16)
    (inb : ∀ k, (![0, 0] : Fin 2 → ℕ) k + (![512, 4096] : Fin 2 → ℕ) k ≤ S512x4096.size k) :
    a.view.readAt (Elt F) (Rect.unit (s := S512x4096) ![0, 0] ![512, 4096] inb).toLoadRect (h.unread w) = w :=
  (View.readAt_full a.view (h.unread w) inb).trans (h.read_unread w)
theorem ld_b (a : Memref sig .tc .vmem S4096x512 .bf16) (h : a.IsWhole) (w : Vec F S4096x512 .bf16)
    (inb : ∀ k, (![0, 0] : Fin 2 → ℕ) k + (![4096, 512] : Fin 2 → ℕ) k ≤ S4096x512.size k) :
    a.view.readAt (Elt F) (Rect.unit (s := S4096x512) ![0, 0] ![4096, 512] inb).toLoadRect (h.unread w) = w :=
  (View.readAt_full a.view (h.unread w) inb).trans (h.read_unread w)
theorem ld_s (a : Memref sig .tc .vmem S512x512 .f32) (h : a.IsWhole) (w : Vec F S512x512 .f32)
    (inb : ∀ k, (![0, 0] : Fin 2 → ℕ) k + (![512, 512] : Fin 2 → ℕ) k ≤ S512x512.size k) :
    a.view.readAt (Elt F) (Rect.unit (s := S512x512) ![0, 0] ![512, 512] inb).toLoadRect (h.unread w) = w :=
  (View.readAt_full a.view (h.unread w) inb).trans (h.read_unread w)
theorem ld_st (a : Memref sig .tc .vmem S512x512 .f32) (f : a.view.ty.Contents (Elt F))
    (inb inb' : ∀ k, (![0, 0] : Fin 2 → ℕ) k + (![512, 512] : Fin 2 → ℕ) k ≤ S512x512.size k) (w) (L) :
    a.view.readAt (Elt F) (Rect.unit (s := S512x512) ![0, 0] ![512, 512] inb).toLoadRect
      (a.view.writes (Elt F) f (⟨Rect.unit (s := S512x512) ![0, 0] ![512, 512] inb', w⟩ :: L)) = w :=
  View.readAt_writes_full a.view f inb inb' w L
theorem ld_cov (a : Memref sig .tc .vmem S512x512 .f32)
    (inb inb' : ∀ k, (![0, 0] : Fin 2 → ℕ) k + (![512, 512] : Fin 2 → ℕ) k ≤ S512x512.size k) (w) (L) :
    a.view.readCov (Val := Elt F) (⟨Rect.unit (s := S512x512) ![0, 0] ![512, 512] inb', w⟩ :: L)
      (Rect.unit (s := S512x512) ![0, 0] ![512, 512] inb).toLoadRect = w :=
  View.readCov_full a.view inb inb' w L
theorem st_s {e : EltTy} (a : Memref sig .tc .vmem S512x512 e) (f : a.view.ty.Contents (Elt F))
    (inb : ∀ k, (![0, 0] : Fin 2 → ℕ) k + (![512, 512] : Fin 2 → ℕ) k ≤ S512x512.size k) (w) (L) :
    a.view.read (Elt F) (a.view.writes (Elt F) f (⟨Rect.unit (s := S512x512) ![0, 0] ![512, 512] inb, w⟩ :: L)) = w :=
  View.read_writes_full a.view f inb w L

/-- Columns `[n, n + 1024)` of the block of rows. -/
abbrev cols (n : ℕ) (h : n + 1024 ≤ 4096) : Vec F S512x1024 .bf16 :=
  VecWindow.window (s := S512x4096) x ![0, n] ![512, 1024] fun k => match k with | 0 => Nat.le_refl 512 | 1 => h
theorem ld_cols (a : Memref sig .tc .vmem S512x4096 .bf16) (h : a.IsWhole) (n : ℕ) (hn : n + 1024 ≤ 4096)
    (inb : ∀ k, (![0, n] : Fin 2 → ℕ) k + (![512, 1024] : Fin 2 → ℕ) k ≤ S512x4096.size k) :
    a.view.readAt (Elt F) (Rect.unit (s := S512x4096) ![0, n] ![512, 1024] inb).toLoadRect (h.unread x) = cols x n hn := by
  rw [View.readAt_unit a.view _ inb rfl inb, h.read_unread]

/-- Rows `[n, n + 1024)` of the resident weights overwritten by a block of weights. -/
abbrev putRows (b : Vec F S4096x512 .bf16) (n : ℕ) (w : Vec F S1x1024x512 .f32) : Vec F S4096x512 .bf16 :=
  VecWindow.put (s := S4096x512) b ![n, 0] ![1024, 512] (k0_pay2 w)
theorem st_rows (a : Memref sig .tc .vmem S4096x512 .bf16) (h : a.IsWhole) (b : Vec F S4096x512 .bf16) (n : ℕ)
    (inb : ∀ k, (![n, 0] : Fin 2 → ℕ) k + (![1024, 512] : Fin 2 → ℕ) k ≤ S4096x512.size k) (w : Vec F S1x1024x512 .f32) :
    a.view.read (Elt F) (a.view.writes (Elt F) (h.unread b) [⟨Rect.unit (s := S4096x512) ![n, 0] ![1024, 512] inb, k0_pay2 w⟩])
      = putRows b n w := by
  rw [View.read_writes_cons_put a.view _ inb _ _ rfl, View.writes_nil, h.read_unread]

/-- The conditions of a step, at its kind `k` and chunk `q`. -/
theorem conds {k q : BitVec 32} (hk : kindOf c t0 i = k) (hq : chunkOf c t3 i = q) :
    (bodyRun.sl.v8 c i t0 t3 = 1#1) = (k = 1#32 ∧ q = 0#32) ∧ (bodyRun.sl.v13 c i t0 t3 = 1#1) = (k = 1#32 ∧ q = 1#32)
      ∧ (bodyRun.sl.v18 c i t0 t3 = 1#1) = (k = 1#32 ∧ q = 2#32)
      ∧ (k0_cond4 (bodyRun.sl.r c i t0) (bodyRun.sl.r_1 c i t3) = 1#1) = (k = 1#32 ∧ q = 3#32)
      ∧ (k0_cond5 (bodyRun.sl.r c i t0) = 1#1) = (k = 2#32) ∧ (k0_cond6 (bodyRun.sl.r c i t0) = 1#1) = (k = 3#32) := by
  subst hk hq
  exact ⟨propext (v8_iff ..), propext (v13_iff ..), propext (v18_iff ..), propext (c4_iff ..), propext (c5_iff ..), propext (c6_iff ..)⟩

theorem left_load0 (hk : kindOf c t0 i = 1#32) (hc : chunkOf c t3 i = 0#32) :
    left c i a6 h6 a7 h7 a8 h8 a9 h9 a10 h10 a11 h11 a12 h12 a13 h13 x w1 w2 o b1 b2 s1 s2 t0 t1 t2 t3
      = ⟨o, putRows b1 0 w1, putRows b2 0 w2, k0_pay3 (cols x 0 (by omega)) w1, k0_pay3 (cols x 0 (by omega)) w2⟩ := by
  obtain ⟨q8, q13, q18, q4, q5, q6⟩ := conds c i t0 t3 hk hc
  unfold left bodyRun
  simp +decide only [q8, q13, q18, q4, q5, q6, false_and, and_true, and_false, and_self, dite_true, dite_false,
    ld_cols x a6 h6 0 (by omega), ld_w, ld_x, ld_b, ld_s, ld_st, st_s, h7.read_unread, h8.read_unread, h9.read_unread, h10.read_unread, h11.read_unread, h12.read_unread, h13.read_unread]
  have e1 := st_rows a10 h10 b1 0
  have e2 := st_rows a11 h11 b2 0
  exact Left.mk.injEq .. ▸ ⟨rfl, e1 _ w1, e2 _ w2, rfl, rfl⟩

theorem left_load1 (hk : kindOf c t0 i = 1#32) (hc : chunkOf c t3 i = 1#32) :
    left c i a6 h6 a7 h7 a8 h8 a9 h9 a10 h10 a11 h11 a12 h12 a13 h13 x w1 w2 o b1 b2 s1 s2 t0 t1 t2 t3
      = ⟨o, putRows b1 1024 w1, putRows b2 1024 w2, k0_pay9 (cols x 1024 (by omega)) w1 s1, k0_pay9 (cols x 1024 (by omega)) w2 s2⟩ := by
  obtain ⟨q8, q13, q18, q4, q5, q6⟩ := conds c i t0 t3 hk hc
  unfold left bodyRun
  simp +decide only [q8, q13, q18, q4, q5, q6, false_and, and_true, and_false, and_self, dite_true, dite_false,
    bodyRun.sl.v38, bodyRun.sl.v50, ld_cols x a6 h6 1024 (by omega), ld_w, ld_x, ld_b, ld_s, ld_st, st_s, h7.read_unread, h8.read_unread, h9.read_unread, h10.read_unread, h11.read_unread, h12.read_unread, h13.read_unread]
  have e1 := st_rows a10 h10 b1 1024
  have e2 := st_rows a11 h11 b2 1024
  exact Left.mk.injEq .. ▸ ⟨rfl, e1 _ w1, e2 _ w2, rfl, rfl⟩

theorem left_load2 (hk : kindOf c t0 i = 1#32) (hc : chunkOf c t3 i = 2#32) :
    left c i a6 h6 a7 h7 a8 h8 a9 h9 a10 h10 a11 h11 a12 h12 a13 h13 x w1 w2 o b1 b2 s1 s2 t0 t1 t2 t3
      = ⟨o, putRows b1 2048 w1, putRows b2 2048 w2, k0_pay9 (cols x 2048 (by omega)) w1 s1, k0_pay9 (cols x 2048 (by omega)) w2 s2⟩ := by
  obtain ⟨q8, q13, q18, q4, q5, q6⟩ := conds c i t0 t3 hk hc
  unfold left bodyRun
  simp +decide only [q8, q13, q18, q4, q5, q6, false_and, and_true, and_false, and_self, dite_true, dite_false,
    bodyRun.sl.v38_1, bodyRun.sl.v50_1, ld_cols x a6 h6 2048 (by omega), ld_w, ld_x, ld_b, ld_s, ld_st, st_s, h7.read_unread, h8.read_unread, h9.read_unread, h10.read_unread, h11.read_unread, h12.read_unread, h13.read_unread]
  have e1 := st_rows a10 h10 b1 2048
  have e2 := st_rows a11 h11 b2 2048
  exact Left.mk.injEq .. ▸ ⟨rfl, e1 _ w1, e2 _ w2, rfl, rfl⟩

theorem left_load3 (hk : kindOf c t0 i = 1#32) (hc : chunkOf c t3 i = 3#32) :
    left c i a6 h6 a7 h7 a8 h8 a9 h9 a10 h10 a11 h11 a12 h12 a13 h13 x w1 w2 o b1 b2 s1 s2 t0 t1 t2 t3
      = ⟨k0_pay19 (k0_pay28 (k0_pay9 (cols x 3072 (by omega)) w1 s1) (k0_pay9 (cols x 3072 (by omega)) w2 s2)), putRows b1 3072 w1, putRows b2 3072 w2, k0_pay9 (cols x 3072 (by omega)) w1 s1, k0_pay9 (cols x 3072 (by omega)) w2 s2⟩ := by
  obtain ⟨q8, q13, q18, q4, q5, q6⟩ := conds c i t0 t3 hk hc
  unfold left bodyRun
  simp +decide only [q8, q13, q18, q4, q5, q6, false_and, and_true, and_false, and_self, dite_true, dite_false,
    bodyRun.sl.r_2, bodyRun.sl.v55, bodyRun.sl.v56, bodyRun.sl.v38_2, bodyRun.sl.v50_2, bodyRun.sl.H12_1, bodyRun.sl.H13_1, ld_cols x a6 h6 3072 (by omega), ld_w, ld_x, ld_b, ld_s, ld_st, ld_cov, st_s, h7.read_unread, h8.read_unread, h9.read_unread, h10.read_unread, h11.read_unread, h12.read_unread, h13.read_unread]
  have e1 := st_rows a10 h10 b1 3072
  have e2 := st_rows a11 h11 b2 3072
  exact Left.mk.injEq .. ▸ ⟨rfl, e1 _ w1, e2 _ w2, rfl, rfl⟩

theorem left_keep (hk : kindOf c t0 i = 2#32) :
    left c i a6 h6 a7 h7 a8 h8 a9 h9 a10 h10 a11 h11 a12 h12 a13 h13 x w1 w2 o b1 b2 s1 s2 t0 t1 t2 t3
      = ⟨k0_pay20 x b1 b2, b1, b2, s1, s2⟩ := by
  obtain ⟨q8, q13, q18, q4, q5, q6⟩ := conds c i t0 t3 hk rfl
  unfold left bodyRun
  simp +decide only [q8, q13, q18, q4, q5, q6, false_and, and_true, and_false, and_self, dite_true, dite_false,
    bodyRun.sl.v31, bodyRun.sl.v33, ld_w, ld_x, ld_b, ld_s, ld_st, st_s, h7.read_unread, h8.read_unread, h9.read_unread, h10.read_unread, h11.read_unread, h12.read_unread, h13.read_unread]

theorem left_skip (hk : kindOf c t0 i = 3#32) :
    left c i a6 h6 a7 h7 a8 h8 a9 h9 a10 h10 a11 h11 a12 h12 a13 h13 x w1 w2 o b1 b2 s1 s2 t0 t1 t2 t3
      = ⟨k0_pay21, b1, b2, s1, s2⟩ := by
  obtain ⟨q8, q13, q18, q4, q5, q6⟩ := conds c i t0 t3 hk rfl
  unfold left bodyRun
  simp +decide only [q8, q13, q18, q4, q5, q6, false_and, and_true, and_false, and_self, dite_true, dite_false,
    ld_w, ld_x, ld_b, ld_s, ld_st, st_s, h7.read_unread, h8.read_unread, h9.read_unread, h10.read_unread, h11.read_unread, h12.read_unread, h13.read_unread]

theorem left_rest (hk : kindOf c t0 i = 0#32) :
    left c i a6 h6 a7 h7 a8 h8 a9 h9 a10 h10 a11 h11 a12 h12 a13 h13 x w1 w2 o b1 b2 s1 s2 t0 t1 t2 t3
      = ⟨o, b1, b2, s1, s2⟩ := by
  obtain ⟨q8, q13, q18, q4, q5, q6⟩ := conds c i t0 t3 hk rfl
  unfold left bodyRun
  simp +decide only [q8, q13, q18, q4, q5, q6, false_and, and_true, and_false, and_self, dite_true, dite_false,
    ld_w, ld_x, ld_b, ld_s, ld_st, st_s, h7.read_unread, h8.read_unread, h9.read_unread, h10.read_unread, h11.read_unread, h12.read_unread, h13.read_unread]

end Cert.Kernel2Ideal.Mat

end
-- ==== Proof.Schedule.lean ====
/- What the schedule's condition says of the step tables, word by word. -/
module

public import proofs.«01_k».proof.Proof.Gen.Pre_schedule_covers_tiles
public import Idealize.ShloMosaic.Lib.WordCmp

@[expose] public section

set_option maxRecDepth 16384

namespace Cert.Sched

open Idealize.ShloMosaic
open Cert.Pre_schedule_covers_tiles

/-- A table's word. -/
def at64 (x : IVec S64 32) (s : Fin 64) : BitVec 32 := x fun a => match a with | 0 => s
def at40 (x : IVec S40 32) (i : Fin 40) : BitVec 32 := x fun a => match a with | 0 => i

theorem at64_eq (x : IVec S64 32) (f : S64.Idx) : x f = at64 x (f 0) :=
  congrArg x (funext fun a => match a with | 0 => rfl)
theorem at40_eq (x : IVec S40 32) (f : S40.Idx) : x f = at40 x (f 0) :=
  congrArg x (funext fun a => match a with | 0 => rfl)

theorem and_one : ∀ p q : BitVec 1, IntOp.andi p q = 1#1 ↔ p = 1#1 ∧ q = 1#1 := by decide
theorem or_one : ∀ p q : BitVec 1, IntOp.ori p q = 1#1 ↔ p = 1#1 ∨ q = 1#1 := by decide
theorem not_one : ∀ p : BitVec 1, ~~~p = 1#1 ↔ ¬p = 1#1 := by decide
theorem ofBool_one (p : Bool) : (BitVec.ofBool p = 1#1) ↔ p = true := by cases p <;> decide

theorem or_assoc4 {p1 p2 p3 p4 : Prop} (h : ((p1 ∨ p2) ∨ p3) ∨ p4) : p1 ∨ p2 ∨ p3 ∨ p4 := by
  rwa [or_assoc, or_assoc] at h

variable {F : FTy → Type} [FloatOps F] (a0 : FVec F S20480x4096 .bf16) (a1 a2 : FVec F S8x4096x14336 .f32)
  (k t e c : IVec S64 32) (va te : IVec S40 32)

/-- A step's words are in range. -/
theorem words_raw (h : (fn (F := F) a0 a1 a2 k t e c va te).1 = fun _ => 1#1) (s : Fin 64) :
    (at64 k s).toNat ≤ 3 ∧ (at64 t s).toNat < 40 ∧ (at64 e s).toNat < 8 ∧ (at64 c s).toNat ≤ 3 := by
  have q := congrFun h fun a => match a with | 0 => s
  simp only [fn, fn_part1, fn_part2, fn_part3, fn_part4, fn_part5, fn_part6, andi, ori, noti, cmpi, broadcastInDim,
    constantI, and_one, IntOp.cmpi, ofBool_one, BitVec.sle_eq_decide, BitVec.slt_eq_decide, decide_eq_true_eq,
    at64_eq k, at64_eq t, at64_eq e, at64_eq c] at q
  have h0 : (0#32 : BitVec 32).toInt = 0 := by decide
  have h3 : (3#32 : BitVec 32).toInt = 3 := by decide
  have h8 : (8#32 : BitVec 32).toInt = 8 := by decide
  have h40 : (40#32 : BitVec 32).toInt = 40 := by decide
  simp only [h0, h3, h8, h40, BitVec.toInt_eq_toNat_cond] at q
  have := (at64 k s).isLt
  have := (at64 t s).isLt
  have := (at64 e s).isLt
  have := (at64 c s).isLt
  split_ifs at q <;> omega

/-- A step at a tile agrees with the tile's expert, or the tile has no rows. -/
theorem tiles_raw (h : (fn (F := F) a0 a1 a2 k t e c va te).2.1 = fun _ => 1#1) (s : Fin 64) (i : Fin 40)
    (hi : at64 t s = BitVec.ofNat 32 i.val) :
    ((at64 k s = 1#32 ∨ at64 k s = 2#32) → at64 e s = at40 te i ∧ 0 < (at40 va i).toInt) ∧
      (at64 k s = 3#32 → (at40 va i).toInt ≤ 0) := by
  have q := congrFun h fun a => match a with | 0 => s | 1 => i
  simp only [fn, fn_part1, fn_part2, fn_part3, fn_part4, fn_part5, fn_part6, andi, ori, noti, cmpi, broadcastInDim,
    constantI, iotaInDim, and_one, or_one, not_one, IntOp.cmpi, ofBool_one, BitVec.sle_eq_decide, BitVec.slt_eq_decide,
    decide_eq_true_eq, beq_iff_eq, at64_eq k, at64_eq t, at64_eq e, at64_eq c, at40_eq va, at40_eq te] at q
  change (¬at64 t s = BitVec.ofNat 32 i.val) ∨
    ((¬(at64 k s = 1#32 ∨ at64 k s = 2#32) ∨ at64 e s = at40 te i ∧ (0#32 : BitVec 32).toInt < (at40 va i).toInt) ∧
      (¬at64 k s = 3#32 ∨ (at40 va i).toInt ≤ (0#32 : BitVec 32).toInt)) at q
  have h0 : (0#32 : BitVec 32).toInt = 0 := by decide
  rw [h0] at q
  tauto

/-- A step after which its tile's block of the result is written. -/
def Done (k c : IVec S64 32) (s : Fin 64) : Prop :=
  at64 k s = 2#32 ∨ at64 k s = 3#32 ∨ at64 k s = 0#32 ∨ at64 k s = 1#32 ∧ at64 c s = 3#32

/-- From one step to the next. -/
structure Next (k t e c : IVec S64 32) (s s' : Fin 64) : Prop where
  tile : at64 t s' = at64 t s ∨ at64 t s' = at64 t s + 1#32 ∧ Done k c s
  rest : at64 k s' = 0#32 → at64 t s' = at64 t s ∧ Done k c s
  load : at64 k s' = 1#32 → 0 < (at64 c s').toInt →
    at64 k s = 1#32 ∧ at64 c s' = at64 c s + 1#32 ∧ at64 e s' = at64 e s ∧ at64 t s' = at64 t s
  keep : at64 k s' = 2#32 → at64 e s' = at64 e s ∧ (at64 k s = 2#32 ∨ at64 k s = 1#32 ∧ at64 c s = 3#32)

theorem steps_raw (h : (fn (F := F) a0 a1 a2 k t e c va te).2.2.1 = fun _ => 1#1) (s : Fin 63) :
    Next k t e c s.castSucc s.succ := by
  have q := congrFun h fun a => match a with | 0 => s
  simp only [fn, fn_part1, fn_part2, fn_part3, fn_part4, fn_part5, fn_part6, andi, ori, noti, cmpi, broadcastInDim,
    constantI, extractStridedSlice, addi, IntOp.addi, and_one, or_one, not_one, IntOp.cmpi, ofBool_one,
    BitVec.slt_eq_decide, decide_eq_true_eq, beq_iff_eq, at64_eq k, at64_eq t, at64_eq e, at64_eq c] at q
  have h0 : (0#32 : BitVec 32).toInt = 0 := by decide
  rw [h0] at q
  have hb : 1 + s.val < 64 := by omega
  have hc : 0 + s.val < 64 := by omega
  have es : s.succ = (⟨1 + s.val, hb⟩ : Fin 64) := Fin.ext (Nat.add_comm s.val 1)
  have et : s.castSucc = (⟨0 + s.val, hc⟩ : Fin 64) := Fin.ext (Nat.zero_add s.val).symm
  rw [es, et]
  generalize hx : (⟨1 + s.val, hb⟩ : Fin 64) = b
  generalize hy : (⟨0 + s.val, hc⟩ : Fin 64) = a
  replace q : ((((at64 t b = at64 t a ∨ at64 t b = at64 t a + 1#32 ∧
      (((at64 k a = 2#32 ∨ at64 k a = 3#32) ∨ at64 k a = 0#32) ∨ at64 k a = 1#32 ∧ at64 c a = 3#32)) ∧
      (¬at64 k b = 0#32 ∨ at64 t b = at64 t a ∧
        (((at64 k a = 2#32 ∨ at64 k a = 3#32) ∨ at64 k a = 0#32) ∨ at64 k a = 1#32 ∧ at64 c a = 3#32))) ∧
      (¬(at64 k b = 1#32 ∧ 0 < (at64 c b).toInt) ∨
        (((at64 k a = 1#32 ∧ at64 c b = at64 c a + 1#32) ∧ at64 e b = at64 e a) ∧ at64 t b = at64 t a))) ∧
      (¬at64 k b = 2#32 ∨ at64 e b = at64 e a ∧ (at64 k a = 2#32 ∨ at64 k a = 1#32 ∧ at64 c a = 3#32))) := by
    subst hx hy
    exact q
  obtain ⟨⟨⟨q1, q2⟩, q3⟩, q4⟩ := q
  exact ⟨q1.imp_right fun h => ⟨h.1, or_assoc4 h.2⟩,
    fun h => ⟨(q2.resolve_left (not_not_intro h)).1, or_assoc4 (q2.resolve_left (not_not_intro h)).2⟩,
    fun h h' => have r := q3.resolve_left (not_not_intro ⟨h, h'⟩); ⟨r.1.1.1, r.1.1.2, r.1.2, r.2⟩,
    fun h => q4.resolve_left (not_not_intro h)⟩

theorem first_raw (h : (fn (F := F) a0 a1 a2 k t e c va te).2.2.2.1 = fun _ => 1#1) :
    at64 t 0 = 0#32 ∧ (at64 k 0 = 3#32 ∨ at64 k 0 = 1#32 ∧ at64 c 0 = 0#32) := by
  have q := congrFun h fun a => match a with | 0 => (0 : Fin 1)
  simp only [fn, fn_part1, fn_part2, fn_part3, fn_part4, fn_part5, fn_part6, andi, ori, noti, cmpi, broadcastInDim,
    constantI, extractStridedSlice, addi, IntOp.addi, and_one, or_one, not_one, IntOp.cmpi, ofBool_one,
    decide_eq_true_eq, beq_iff_eq, at64_eq k, at64_eq t, at64_eq e, at64_eq c] at q
  exact q

theorem end_raw (h : (fn (F := F) a0 a1 a2 k t e c va te).2.2.2.2 = fun _ => 1#1) :
    at64 t 63 = 39#32 ∧ Done k c 63 := by
  have q := congrFun h fun a => match a with | 0 => (0 : Fin 1)
  simp only [fn, fn_part1, fn_part2, fn_part3, fn_part4, fn_part5, fn_part6, andi, ori, noti, cmpi, broadcastInDim,
    constantI, extractStridedSlice, addi, IntOp.addi, and_one, or_one, not_one, IntOp.cmpi, ofBool_one,
    decide_eq_true_eq, beq_iff_eq, at64_eq k, at64_eq t, at64_eq e, at64_eq c] at q
  change at64 t 63 = 39#32 ∧ (((at64 k 63 = 2#32 ∨ at64 k 63 = 3#32) ∨ at64 k 63 = 0#32) ∨ at64 k 63 = 1#32 ∧ at64 c 63 = 3#32) at q
  unfold Done
  tauto

/-- What the kernel needs of its tables. -/
structure Good (k t e c : IVec S64 32) (va te : IVec S40 32) : Prop where
  words : ∀ s, (at64 k s).toNat ≤ 3 ∧ (at64 t s).toNat < 40 ∧ (at64 e s).toNat < 8 ∧ (at64 c s).toNat ≤ 3
  tiles : ∀ s i, at64 t s = BitVec.ofNat 32 i.val →
    ((at64 k s = 1#32 ∨ at64 k s = 2#32) → at64 e s = at40 te i ∧ 0 < (at40 va i).toInt) ∧
      (at64 k s = 3#32 → (at40 va i).toInt ≤ 0)
  next : ∀ s : Fin 63, Next k t e c s.castSucc s.succ
  first : at64 t 0 = 0#32 ∧ (at64 k 0 = 3#32 ∨ at64 k 0 = 1#32 ∧ at64 c 0 = 0#32)
  last : at64 t 63 = 39#32 ∧ Done k c 63

theorem good_of_fn
    (h : (fn (F := F) a0 a1 a2 k t e c va te).1 = (fun _ => 1#1) ∧ (fn (F := F) a0 a1 a2 k t e c va te).2.1 = (fun _ => 1#1)
      ∧ (fn (F := F) a0 a1 a2 k t e c va te).2.2.1 = (fun _ => 1#1) ∧ (fn (F := F) a0 a1 a2 k t e c va te).2.2.2.1 = (fun _ => 1#1)
      ∧ (fn (F := F) a0 a1 a2 k t e c va te).2.2.2.2 = (fun _ => 1#1)) : Good k t e c va te :=
  ⟨words_raw a0 a1 a2 k t e c va te h.1, tiles_raw a0 a1 a2 k t e c va te h.2.1, steps_raw a0 a1 a2 k t e c va te h.2.2.1,
    first_raw a0 a1 a2 k t e c va te h.2.2.2.1, end_raw a0 a1 a2 k t e c va te h.2.2.2.2⟩

end Cert.Sched
-- ==== Proof.Tables.lean ====
/- The step tables of the experts' call, word by word, and that the blocks they name lie inside their arrays. -/
module

public import proofs.«01_k».proof.Proof.Setup
public import proofs.«01_k».proof.Proof.Schedule
public import Idealize.ShloMosaic.Lib.Affine

@[expose] public section

set_option maxRecDepth 16384

noncomputable section

namespace Cert.Kernel2Ideal.Mat

open Cert.Kernel2Ideal.Gen
open Idealize.ShloMosaic Idealize.ShloMosaic.TcCoe
open Cert.Sched (at64 at40 Good)

variable {F : FTy → Type} [FloatOps F]
variable (m : (ℓ : Loc nD τ sig) → Buf (Elt F) ℓ)

/-- The step of a grid point. -/
def stepOf (i : grid0.Coords) : Fin 64 := ⟨(i 1).val, (i 1).isLt⟩
def colOf (i : grid0.Coords) : Fin 28 := ⟨(i 0).val, (i 0).isLt⟩

/-- The tables' words at step `s`. -/
def kindW (s : Fin 64) : BitVec 32 := at64 (tbl m 0) s
def tileW (s : Fin 64) : BitVec 32 := at64 (tbl m 1) s
def expertW (s : Fin 64) : BitVec 32 := at64 (tbl m 2) s
def chunkW (s : Fin 64) : BitVec 32 := at64 (tbl m 3) s

theorem off1_val (i : grid0.Coords) : k0_off1 i 0 = (i 1).val := by
  have h : (i 1).val < 64 := (i 1).isLt
  show (Scalar.indexCast (BitVec.ofNat 32 (i 1).val)).toNat = _
  simp [Scalar.indexCast]
  omega

/-- The element a step's load of a table names. -/
theorem emb_step (i : grid0.Coords) (x : S64.Idx → BitVec 32) :
    x ((Rect.unit (s := S64) (k0_off1 i) S1.size (k0_off1_inb i)).emb (Shape.Idx.first (numel1_S1.symm ▸ Nat.one_pos)))
      = at64 x (stepOf i) := by
  rw [Cert.Sched.at64_eq x]
  congr 1
  apply Fin.ext
  have h1 : (Shape.Idx.first (s := S1) (numel1_S1.symm ▸ Nat.one_pos) 0).val = 0 :=
    Nat.lt_one_iff.1 (Shape.Idx.first (s := S1) (numel1_S1.symm ▸ Nat.one_pos) 0).isLt
  show k0_off1 i 0 + 1 * (Shape.Idx.first (s := S1) (numel1_S1.symm ▸ Nat.one_pos) 0).val = (i 1).val
  rw [h1, off1_val]; rfl

theorem ix_0 (i : grid0.Coords) : cc0_transform_0 k0_off1_inb numel1_S1 (tbl m) i = ![(tileW m (stepOf i)).toNat, 0] := by
  have h := emb_step i (tbl m 1)
  show ![BitVec.toNat _, _] = _
  exact congrArg (fun w : BitVec 32 => ![w.toNat, 0]) h
theorem ix_1 (i : grid0.Coords) : cc0_transform_1 k0_off1_inb numel1_S1 (tbl m) i
    = ![(expertW m (stepOf i)).toNat, (chunkW m (stepOf i)).toNat, (colOf i).val] := by
  have h : (i 0).val < 28 := (i 0).isLt
  have h0 : (BitVec.ofNat 32 (i 0).val).toNat = (i 0).val := by simp; omega
  have h1 := emb_step i (tbl m 2)
  have h2 := emb_step i (tbl m 3)
  show ![BitVec.toNat _, BitVec.toNat _, BitVec.toNat _] = _
  rw [h0]
  exact congrArg₂ (fun u w : BitVec 32 => ![u.toNat, w.toNat, (i 0).val]) h1 h2
theorem ix_2 (i : grid0.Coords) : cc0_transform_2 k0_off1_inb numel1_S1 (tbl m) i
    = ![(expertW m (stepOf i)).toNat, (chunkW m (stepOf i)).toNat, (colOf i).val] := ix_1 m i
theorem ix_3 (i : grid0.Coords) : cc0_transform_3 k0_off1_inb numel1_S1 (tbl m) i = ![(tileW m (stepOf i)).toNat, (colOf i).val] := by
  have h : (i 0).val < 28 := (i 0).isLt
  have h0 : (BitVec.ofNat 32 (i 0).val).toNat = (i 0).val := by simp; omega
  have h1 := emb_step i (tbl m 1)
  show ![BitVec.toNat _, BitVec.toNat _] = _
  rw [h0]
  exact congrArg (fun w : BitVec 32 => ![w.toNat, (i 0).val]) h1

theorem ok_of_words (h : ∀ s, (kindW m s).toNat ≤ 3 ∧ (tileW m s).toNat < 40 ∧ (expertW m s).toNat < 8 ∧ (chunkW m s).toNat ≤ 3) : Ok m := by
  refine ⟨fun i => ⟨?_, .inr (Affine.block_words_dvd (by decide) (by decide))⟩, fun i => ⟨?_, .inl rfl⟩, fun i => ⟨?_, .inl rfl⟩,
    fun i => ⟨?_, .inr (Affine.block_words_dvd (by decide) (by decide))⟩⟩
  all_goals
    have := h (stepOf i)
    have hj := (colOf i).isLt
  · rw [ix_0]
    intro a
    match a with
    | 0 => show ((tileW m (stepOf i)).toNat + 1) * 512 ≤ 20480; omega
    | 1 => show (0 + 1) * 4096 ≤ 4096; omega
  · rw [ix_1]
    intro a
    match a with
    | 0 => show ((expertW m (stepOf i)).toNat + 1) * 1 ≤ 8; omega
    | 1 => show ((chunkW m (stepOf i)).toNat + 1) * 1024 ≤ 4096; omega
    | 2 => show ((colOf i).val + 1) * 512 ≤ 14336; omega
  · rw [ix_2]
    intro a
    match a with
    | 0 => show ((expertW m (stepOf i)).toNat + 1) * 1 ≤ 8; omega
    | 1 => show ((chunkW m (stepOf i)).toNat + 1) * 1024 ≤ 4096; omega
    | 2 => show ((colOf i).val + 1) * 512 ≤ 14336; omega
  · rw [ix_3]
    intro a
    match a with
    | 0 => show ((tileW m (stepOf i)).toNat + 1) * 512 ≤ 20480; omega
    | 1 => show ((colOf i).val + 1) * 512 ≤ 14336; omega

theorem kindOf_eq (c : Dev nD) (i : grid0.Coords) : kindOf c (tbl m 0) i = kindW m (stepOf i) := emb_step i (tbl m 0)
theorem chunkOf_eq (c : Dev nD) (i : grid0.Coords) : chunkOf c (tbl m 3) i = chunkW m (stepOf i) := emb_step i (tbl m 3)

end Cert.Kernel2Ideal.Mat

end
-- ==== Proof.MatPay.lean ====
/- The experts' payloads at the ideal instance, entry by entry. -/
module

public import proofs.«01_k».proof.Proof.Cases
public import proofs.«01_k».proof.Proof.Tables
public import Idealize.ShloMosaic.Lib.Claim
public import Idealize.ShloMosaic.Lib.Pointwise
public import Idealize.ShloMosaic.Lib.KernelVsHost
public import Idealize.ShloMosaic.Lib.MatmulPlain

@[expose] public section

set_option maxRecDepth 16384

noncomputable section

namespace Cert.Kernel2Ideal.Mat

open Cert.Kernel2Ideal Cert.Kernel2Ideal.Gen Idealize.ShloMosaic Idealize.ShloMosaic.TcCoe Idealize.SL.Sem

/-- The gate of a value: the value times its logistic. -/
def silu (z : EReal) : EReal := z * Ideal.logistic z

theorem pay2_at (w : FVec Ideal S1x1024x512 .f32) (r : Fin 1024) (q : Fin 512) :
    @Eq EReal ((k0_pay2 (F := Ideal) w : FVec Ideal S1024x512 .bf16) (ix2 r q)) (w (ix3 0 r q)) := by
  pointwise [k0_pay2, k0_pay1]

theorem pay7_at (w : FVec Ideal S1x1024x512 .f32) (r : Fin 1024) (q : Fin 512) :
    @Eq EReal ((k0_pay7 (F := Ideal) w : FVec Ideal S1024x512 .bf16) (ix2 r q)) (w (ix3 0 r q)) := by
  pointwise [k0_pay7]

theorem mm_at {K : ℕ} (x : FVec Ideal ⟨2, ![512, K]⟩ .bf16) (w : FVec Ideal ⟨2, ![K, 512]⟩ .bf16) (p q : Fin 512) :
    @Eq EReal ((FloatOps.matmul (DotDims.plain 512 K 512) none x w (constant S512x512 .f32 0x00000000#32) : FVec Ideal S512x512 .f32) (ix2 p q))
      (∑ k : Fin K, (x (ix2 p k) : EReal) * (w (ix2 k q) : EReal)) := by
  exact (Ideal.matmul_plain_apply none x w (constant S512x512 .f32 0x00000000#32) p q).trans
    ((congrArg (fun z : EReal => z + _) Ideal.ofBits_zero_f32).trans (zero_add _))

theorem pay3_at (x : FVec Ideal S512x1024 .bf16) (w : FVec Ideal S1x1024x512 .f32) (p q : Fin 512) :
    @Eq EReal ((k0_pay3 (F := Ideal) x w : FVec Ideal S512x512 .f32) (ix2 p q)) (∑ k : Fin 1024, (x (ix2 p k) : EReal) * (w (ix3 0 k q) : EReal)) := by
  have e : @Eq EReal ((k0_pay3 (F := Ideal) x w : FVec Ideal S512x512 .f32) (ix2 p q))
      ((FloatOps.matmul (DotDims.plain 512 1024 512) none x (k0_pay7 (F := Ideal) w) (constant S512x512 .f32 0x00000000#32) : FVec Ideal S512x512 .f32) (ix2 p q)) := by
    unfold k0_pay3
    rw [shapeCast_self]; rfl
  rw [e, mm_at]
  exact Finset.sum_congr rfl fun k _ => congrArg (fun z : EReal => _ * z) (pay7_at w k q)

theorem pay9_at (x : FVec Ideal S512x1024 .bf16) (w : FVec Ideal S1x1024x512 .f32) (s : FVec Ideal S512x512 .f32) (p q : Fin 512) :
    @Eq EReal ((k0_pay9 (F := Ideal) x w s : FVec Ideal S512x512 .f32) (ix2 p q))
      ((s (ix2 p q) : EReal) + ∑ k : Fin 1024, (x (ix2 p k) : EReal) * (w (ix3 0 k q) : EReal)) := by
  rw [← pay3_at]
  unfold k0_pay9 k0_pay3
  rw [shapeCast_self, shapeCast_self]; rfl

theorem pay28_at (a b : FVec Ideal S512x512 .f32) (p q : Fin 512) :
    @Eq EReal ((k0_pay19 (k0_pay28 (F := Ideal) a b) : FVec Ideal S512x512 .bf16) (ix2 p q)) (silu (a (ix2 p q)) * (b (ix2 p q) : EReal)) := rfl

theorem pay20_at (x : FVec Ideal S512x4096 .bf16) (b1 b2 : FVec Ideal S4096x512 .bf16) (p q : Fin 512) :
    @Eq EReal ((k0_pay20 (F := Ideal) x b1 b2 : FVec Ideal S512x512 .bf16) (ix2 p q))
      (silu (∑ k : Fin 4096, (x (ix2 p k) : EReal) * (b1 (ix2 k q) : EReal)) * ∑ k : Fin 4096, (x (ix2 p k) : EReal) * (b2 (ix2 k q) : EReal)) := by
  rw [← mm_at x b1, ← mm_at x b2]; rfl

theorem pay21_at (p q : Fin 512) : @Eq EReal ((k0_pay21 (F := Ideal) : FVec Ideal S512x512 .bf16) (ix2 p q)) 0 := by
  pointwise [k0_pay21]

theorem cols_at (x : FVec Ideal S512x4096 .bf16) (n : ℕ) (h : n + 1024 ≤ 4096) (p : Fin 512) (k : Fin 1024) :
    cols (F := Ideal) x n h (ix2 p k) = x (ix2 p ⟨n + k.val, by omega⟩) := by
  unfold cols VecWindow.window
  congr 1
  funext a; apply Fin.ext
  match a with
  | ⟨0, _⟩ => show 0 + 1 * p.val = p.val; omega
  | ⟨1, _⟩ => show n + 1 * k.val = n + k.val; omega

theorem putRows_in (b : FVec Ideal S4096x512 .bf16) (n : ℕ) (w : FVec Ideal S1x1024x512 .f32) (r : Fin 4096) (q : Fin 512)
    (h : n ≤ r.val) (h' : r.val < n + 1024) :
    @Eq EReal (putRows (F := Ideal) b n w (ix2 r q)) (w (ix3 0 ⟨r.val - n, by omega⟩ q)) := by
  unfold putRows VecWindow.put
  rw [dif_pos (fun a => match a with
    | ⟨0, _⟩ => ⟨h, h'⟩
    | ⟨1, _⟩ => ⟨Nat.zero_le _, by show q.val < 0 + 512; omega⟩)]
  rw [← pay2_at w]
  congr 1
  funext a; apply Fin.ext
  match a with
  | ⟨0, _⟩ => rfl
  | ⟨1, _⟩ => rfl

theorem putRows_out (b : FVec Ideal S4096x512 .bf16) (n : ℕ) (w : FVec Ideal S1x1024x512 .f32) (r : Fin 4096) (q : Fin 512) (h : r.val < n) :
    @Eq EReal (putRows (F := Ideal) b n w (ix2 r q)) (b (ix2 r q)) := by
  unfold putRows VecWindow.put
  rw [dif_neg (fun hh => absurd (hh 0).1 (by show ¬ n ≤ r.val; omega))]

end Cert.Kernel2Ideal.Mat

end
-- ==== Proof.MatStep.lean ====
/- The experts' hidden values as sums over whole arrays, and how a step's payloads extend them. -/
module

public import proofs.«01_k».proof.Proof.MatPay

@[expose] public section

set_option maxRecDepth 16384

noncomputable section

namespace Cert.Kernel2Ideal.Mat

open Cert.Kernel2Ideal Cert.Kernel2Ideal.Gen Idealize.ShloMosaic Idealize.ShloMosaic.TcCoe Idealize.SL.Sem
open Cert.Sched (at64 at40 Good)

variable (X : FVec Ideal S20480x4096 .bf16) (W Wg Wu : FVec Ideal S8x4096x14336 .f32) (va te : IVec S40 32)

/-- The entries of the arrays, at numbers. -/
def xE (r k : ℕ) : EReal := X (ix2 ⟨r % 20480, Nat.mod_lt _ (by decide)⟩ ⟨k % 4096, Nat.mod_lt _ (by decide)⟩)
def wE (e k j : ℕ) : EReal := W (ix3 ⟨e % 8, Nat.mod_lt _ (by decide)⟩ ⟨k % 4096, Nat.mod_lt _ (by decide)⟩ ⟨j % 14336, Nat.mod_lt _ (by decide)⟩)

/-- The first `n` terms of row `r`'s product with column `j` of expert `e`. -/
def dotE (e r j n : ℕ) : EReal := ∑ k ∈ Finset.range n, xE X r k * wE W e k j

/-- Row `r`'s hidden value at column `j`, by expert `e`. -/
def hidden (e r j : ℕ) : EReal := silu (dotE X Wg e r j 4096) * dotE X Wu e r j 4096

/-- The tile of a row. -/
def tileOf (r : ℕ) : Fin 40 := ⟨r / 512 % 40, Nat.mod_lt _ (by decide)⟩

/-- The result at row `r` and column `j`: zero where the row's tile has no rows. -/
def outE (r j : ℕ) : EReal := if 0 < (at40 va (tileOf r)).toInt then hidden X Wg Wu (at40 te (tileOf r)).toNat r j else 0

/-- The resident weights hold the first `n` rows of an expert's columns. -/
def Rows (e j n : ℕ) (b : FVec Ideal S4096x512 .bf16) : Prop :=
  ∀ (r : Fin 4096) (q : Fin 512), r.val < n → @Eq EReal (b (ix2 r q)) (wE W e r.val (512 * j + q.val))
/-- The running sums hold the first `n` terms. -/
def Acc (e i j n : ℕ) (s : FVec Ideal S512x512 .f32) : Prop :=
  ∀ p q : Fin 512, @Eq EReal (s (ix2 p q)) (dotE X W e (512 * i + p.val) (512 * j + q.val) n)
/-- A block of rows, and a block of weights. -/
def IsX (i : ℕ) (x : FVec Ideal S512x4096 .bf16) : Prop := ∀ (p : Fin 512) (k : Fin 4096), @Eq EReal (x (ix2 p k)) (xE X (512 * i + p.val) k.val)
def IsW (e n j : ℕ) (w : FVec Ideal S1x1024x512 .f32) : Prop :=
  ∀ (k : Fin 1024) (q : Fin 512), @Eq EReal (w (ix3 0 k q)) (wE W e (n + k.val) (512 * j + q.val))

variable {X W Wg Wu} {e i j n : ℕ} {x : FVec Ideal S512x4096 .bf16} {w : FVec Ideal S1x1024x512 .f32}

theorem rows_none (b : FVec Ideal S4096x512 .bf16) : Rows W e j 0 b := fun _ _ h => absurd h (Nat.not_lt_zero _)

theorem rows_put {b : FVec Ideal S4096x512 .bf16} (hb : Rows W e j n b) (hw : IsW W e n j w) : Rows W e j (n + 1024) (putRows (F := Ideal) b n w) := by
  intro r q h
  by_cases hr : r.val < n
  · rw [putRows_out _ _ _ _ _ hr]; exact hb r q hr
  · rw [putRows_in _ _ _ _ _ (by omega) h, hw]
    congr 1
    show n + (r.val - n) = r.val; omega

theorem sum_cols (hn : n + 1024 ≤ 4096) (hx : IsX X i x) (hw : IsW W e n j w) (p q : Fin 512) :
    ∑ k : Fin 1024, ((cols (F := Ideal) x n hn (ix2 p k) : EReal)) * (w (ix3 0 k q) : EReal)
      = ∑ k ∈ Finset.range 1024, xE X (512 * i + p.val) (n + k) * wE W e (n + k) (512 * j + q.val) := by
  rw [Finset.sum_range]
  refine Finset.sum_congr rfl fun k _ => ?_
  rw [hw k q, cols_at]
  exact congrArg (fun z : EReal => z * _) (hx p _)

theorem acc_first (hx : IsX X i x) (hw : IsW W e 0 j w) : Acc X W e i j 1024 (k0_pay3 (F := Ideal) (cols x 0 (by omega)) w) := by
  intro p q
  rw [pay3_at, sum_cols _ hx hw]
  unfold dotE
  simp only [Nat.zero_add]

theorem acc_next {s : FVec Ideal S512x512 .f32} (hn : n + 1024 ≤ 4096) (hs : Acc X W e i j n s) (hx : IsX X i x) (hw : IsW W e n j w) :
    Acc X W e i j (n + 1024) (k0_pay9 (F := Ideal) (cols x n hn) w s) := by
  intro p q
  rw [pay9_at, sum_cols _ hx hw, hs p q]
  unfold dotE
  rw [Finset.sum_range_add]

theorem out_load {s1 s2 : FVec Ideal S512x512 .f32} (h1 : Acc X Wg e i j 4096 s1) (h2 : Acc X Wu e i j 4096 s2) (p q : Fin 512) :
    @Eq EReal ((k0_pay19 (k0_pay28 (F := Ideal) s1 s2) : FVec Ideal S512x512 .bf16) (ix2 p q)) (hidden X Wg Wu e (512 * i + p.val) (512 * j + q.val)) := by
  rw [pay28_at]; unfold hidden; rw [← h1 p q, ← h2 p q]

theorem sum_rows {b : FVec Ideal S4096x512 .bf16} (hx : IsX X i x) (hb : Rows W e j 4096 b) (p q : Fin 512) :
    ∑ k : Fin 4096, (x (ix2 p k) : EReal) * (b (ix2 k q) : EReal) = dotE X W e (512 * i + p.val) (512 * j + q.val) 4096 := by
  unfold dotE
  rw [Finset.sum_range]
  exact Finset.sum_congr rfl fun k _ => by rw [hb k q k.isLt, hx p k]

theorem out_keep {b1 b2 : FVec Ideal S4096x512 .bf16} (hx : IsX X i x) (h1 : Rows Wg e j 4096 b1) (h2 : Rows Wu e j 4096 b2) (p q : Fin 512) :
    @Eq EReal ((k0_pay20 (F := Ideal) x b1 b2 : FVec Ideal S512x512 .bf16) (ix2 p q)) (hidden X Wg Wu e (512 * i + p.val) (512 * j + q.val)) := by
  rw [pay20_at, sum_rows hx h1, sum_rows hx h2]; rfl

end Cert.Kernel2Ideal.Mat

end
-- ==== Proof.MatKeep.lean ====
/- What the experts' call keeps from step to step. -/
module

public import proofs.«01_k».proof.Proof.MatStep
public import proofs.«01_k».proof.Proof.Body
public import Idealize.ShloMosaic.Lib.Pipeline.ValueKit

@[expose] public section

set_option maxRecDepth 16384

noncomputable section

namespace Cert.Kernel2Ideal.Mat

open Cert.Kernel2Ideal Cert.Kernel2Ideal.Gen Idealize.ShloMosaic Idealize.ShloMosaic.TcCoe Idealize.SL.Sem
open Cert.Sched (at64 at40 Good)
open Idealize.ShloMosaic.Pipeline (Dat RDat Cfg Window cellOf)

variable (m : (ℓ : Loc nD τ sig) → Buf (Elt Ideal) ℓ)

/-- The arrays of the call. -/
abbrev aX : FVec Ideal S20480x4096 .bf16 := m (((0 : Dev nD) : Thread nD τ).loc main_arg0)
abbrev aG : FVec Ideal S8x4096x14336 .f32 := m (((0 : Dev nD) : Thread nD τ).loc main_arg1)
abbrev aU : FVec Ideal S8x4096x14336 .f32 := m (((0 : Dev nD) : Thread nD τ).loc main_arg2)
abbrev aV : IVec S40 32 := m (((0 : Dev nD) : Thread nD τ).loc main_arg7)
abbrev aE : IVec S40 32 := m (((0 : Dev nD) : Thread nD τ).loc main_arg8)

/-- The step tables are as the kernel needs them. -/
abbrev Sound : Prop := Good (tbl m 0) (tbl m 1) (tbl m 2) (tbl m 3) (aV m) (aE m)

variable {m} in
theorem Sound.ok (h : Sound m) : Ok m := ok_of_words m h.words

variable (hO : Ok m)

theorem N_eq : (cfgM m hO).N = 1792 := rfl

theorem col_val (t : Fin (cfgM m hO).N) : (colOf (grid0.coords t)).val = t.val / 64 := by
  have h : t.val < 1792 := t.isLt
  have := Pipeline.Grid.coords_val (G := grid0) t (0 : Fin 2) (by decide : _ = 64) rfl
  show (grid0.coords t 0).val = _
  rw [this]
  show t.val / 64 % 28 = _
  omega
theorem step_val (t : Fin (cfgM m hO).N) : (stepOf (grid0.coords t)).val = t.val % 64 := by
  have := Pipeline.Grid.coords_val (G := grid0) t (1 : Fin 2) (by decide : _ = 1) rfl
  show (grid0.coords t 1).val = _
  rw [this]
  show t.val / 1 % 64 = _
  omega

/-- A point's step. -/
abbrev stp (t : Fin (cfgM m hO).N) : Fin 64 := stepOf (grid0.coords t)

/-- Where the entries of a point's blocks lie. -/
theorem emb0 (t : Fin (cfgM m hO).N) (y : S512x4096.Idx) (a : Fin 2) : ((((cfgM m hO).win 0).blk t).view.emb y a : ℕ)
    = (![(tileW m (stp m hO t)).toNat, 0] : Fin 2 → ℕ) a * S512x4096.size a + 1 * (y a).val :=
  congrArg (fun f : Fin 2 → ℕ => f a * S512x4096.size a + 1 * (y a).val) (ix_0 m (grid0.coords t))
theorem emb1 (t : Fin (cfgM m hO).N) (y : S1x1024x512.Idx) (a : Fin 3) : ((((cfgM m hO).win 1).blk t).view.emb y a : ℕ)
    = (![(expertW m (stp m hO t)).toNat, (chunkW m (stp m hO t)).toNat, (colOf (grid0.coords t)).val] : Fin 3 → ℕ) a * S1x1024x512.size a + 1 * (y a).val :=
  congrArg (fun f : Fin 3 → ℕ => f a * S1x1024x512.size a + 1 * (y a).val) (ix_1 m (grid0.coords t))
theorem emb2 (t : Fin (cfgM m hO).N) (y : S1x1024x512.Idx) (a : Fin 3) : ((((cfgM m hO).win 2).blk t).view.emb y a : ℕ)
    = (![(expertW m (stp m hO t)).toNat, (chunkW m (stp m hO t)).toNat, (colOf (grid0.coords t)).val] : Fin 3 → ℕ) a * S1x1024x512.size a + 1 * (y a).val :=
  congrArg (fun f : Fin 3 → ℕ => f a * S1x1024x512.size a + 1 * (y a).val) (ix_2 m (grid0.coords t))
theorem emb3 (t : Fin (cfgM m hO).N) (y : S512x512.Idx) (a : Fin 2) : ((((cfgM m hO).win 3).blk t).view.emb y a : ℕ)
    = (![(tileW m (stp m hO t)).toNat, (colOf (grid0.coords t)).val] : Fin 2 → ℕ) a * S512x512.size a + 1 * (y a).val :=
  congrArg (fun f : Fin 2 → ℕ => f a * S512x512.size a + 1 * (y a).val) (ix_3 m (grid0.coords t))

variable {m} (hS : Sound m)

include hS in
theorem words (s : Fin 64) : (kindW m s).toNat ≤ 3 ∧ (tileW m s).toNat < 40 ∧ (expertW m s).toNat < 8 ∧ (chunkW m s).toNat ≤ 3 := hS.words s

include hS in
theorem blk0_at (t : Fin (cfgM m hO).N) : IsX (aX m) (tileW m (stp m hO t)).toNat (blk0 m hO 0 t) := by
  intro p k
  have hw := words hS (stp m hO t)
  show aX m ((((cfgM m hO).win 0).blk t).view.emb (ix2 p k)) = _
  unfold xE
  congr 1
  funext a; apply Fin.ext
  refine (emb0 m hO t (ix2 p k) a).trans ?_
  match a with
  | ⟨0, _⟩ => show (tileW m (stp m hO t)).toNat * 512 + 1 * p.val = (512 * (tileW m (stp m hO t)).toNat + p.val) % 20480; omega
  | ⟨1, _⟩ => show 0 * 4096 + 1 * k.val = k.val % 4096; omega

include hS in
theorem blk1_at (t : Fin (cfgM m hO).N) :
    IsW (aG m) (expertW m (stp m hO t)).toNat (1024 * (chunkW m (stp m hO t)).toNat) (t.val / 64) (blk1 m hO 0 t) := by
  intro k q
  have hw := words hS (stp m hO t)
  have hc := col_val m hO t
  have ht : t.val < 1792 := t.isLt
  show aG m ((((cfgM m hO).win 1).blk t).view.emb (ix3 0 k q)) = _
  unfold wE
  congr 1
  funext a; apply Fin.ext
  refine (emb1 m hO t (ix3 0 k q) a).trans ?_
  match a with
  | ⟨0, _⟩ => show (expertW m (stp m hO t)).toNat * 1 + 1 * 0 = (expertW m (stp m hO t)).toNat % 8; omega
  | ⟨1, _⟩ => show (chunkW m (stp m hO t)).toNat * 1024 + 1 * k.val = (1024 * (chunkW m (stp m hO t)).toNat + k.val) % 4096; omega
  | ⟨2, _⟩ => show (colOf (grid0.coords t)).val * 512 + 1 * q.val = (512 * (t.val / 64) + q.val) % 14336; omega

include hS in
theorem blk2_at (t : Fin (cfgM m hO).N) :
    IsW (aU m) (expertW m (stp m hO t)).toNat (1024 * (chunkW m (stp m hO t)).toNat) (t.val / 64) (blk2 m hO 0 t) := by
  intro k q
  have hw := words hS (stp m hO t)
  have hc := col_val m hO t
  have ht : t.val < 1792 := t.isLt
  show aU m ((((cfgM m hO).win 2).blk t).view.emb (ix3 0 k q)) = _
  unfold wE
  congr 1
  funext a; apply Fin.ext
  refine (emb2 m hO t (ix3 0 k q) a).trans ?_
  match a with
  | ⟨0, _⟩ => show (expertW m (stp m hO t)).toNat * 1 + 1 * 0 = (expertW m (stp m hO t)).toNat % 8; omega
  | ⟨1, _⟩ => show (chunkW m (stp m hO t)).toNat * 1024 + 1 * k.val = (1024 * (chunkW m (stp m hO t)).toNat + k.val) % 4096; omega
  | ⟨2, _⟩ => show (colOf (grid0.coords t)).val * 512 + 1 * q.val = (512 * (t.val / 64) + q.val) % 14336; omega

end Cert.Kernel2Ideal.Mat

end
-- ==== Proof.MatInv.lean ====
/- What holds of the scratch between the steps of the experts' call, and that every step keeps it. -/
module

public import proofs.«01_k».proof.Proof.MatKeep

@[expose] public section

set_option maxRecDepth 16384

noncomputable section

namespace Cert.Kernel2Ideal.Mat

open Cert.Kernel2Ideal Cert.Kernel2Ideal.Gen Idealize.ShloMosaic Idealize.ShloMosaic.TcCoe Idealize.SL.Sem
open Cert.Sched (at64 at40 Good Done Next)
open Idealize.ShloMosaic.Pipeline (Dat RDat Cfg Window cellOf)

variable (m : (ℓ : Loc nD τ sig) → Buf (Elt Ideal) ℓ)

/-- How many rows of its expert's weights are resident after a step. -/
def lim (s : Fin 64) : ℕ := if kindW m s = 2#32 then 4096 else 1024 * (chunkW m s).toNat + 1024

/-- The scratch after step `s` of column `j`. -/
def After (j : ℕ) (s : Fin 64) (b1 b2 : FVec Ideal S4096x512 .bf16) (s1 s2 : FVec Ideal S512x512 .f32) : Prop :=
  (kindW m s = 1#32 ∨ kindW m s = 2#32 → Rows (aG m) (expertW m s).toNat j (lim m s) b1 ∧ Rows (aU m) (expertW m s).toNat j (lim m s) b2)
  ∧ (kindW m s = 1#32 → Acc (aX m) (aG m) (expertW m s).toNat (tileW m s).toNat j (lim m s) s1
      ∧ Acc (aX m) (aU m) (expertW m s).toNat (tileW m s).toNat j (lim m s) s2)

/-- The scratch before point `n`: as the step before it left it, where there is one in the column. -/
def InvM : InvT Ideal := fun n b1 b2 s1 s2 => ∀ s : Fin 64, n % 64 = s.val + 1 → After m (n / 64) s b1 b2 s1 s2

/-- The result's block at tile `i` and column `j`. -/
def IsOut (i j : ℕ) (x : FVec Ideal S512x512 .bf16) : Prop :=
  ∀ p q : Fin 512, @Eq EReal (x (ix2 p q)) (outE (aX m) (aG m) (aU m) (aV m) (aE m) (512 * i + p.val) (512 * j + q.val))

/-- What a step does to the result's block. -/
def RelM (hO : Ok m) : RelT Ideal (cfgM m hO).N := fun t Y X =>
  (Done (tbl m 0) (tbl m 3) (stp m hO t) → kindW m (stp m hO t) ≠ 0#32 → IsOut m (tileW m (stp m hO t)).toNat (t.val / 64) X)
  ∧ (kindW m (stp m hO t) = 0#32 → X = Y)

theorem word4 (w : BitVec 32) (h : w.toNat ≤ 3) : w = 0#32 ∨ w = 1#32 ∨ w = 2#32 ∨ w = 3#32 := by
  have : w.toNat = 0 ∨ w.toNat = 1 ∨ w.toNat = 2 ∨ w.toNat = 3 := by omega
  rcases this with h | h | h | h
  · exact .inl (BitVec.eq_of_toNat_eq h)
  · exact .inr (.inl (BitVec.eq_of_toNat_eq h))
  · exact .inr (.inr (.inl (BitVec.eq_of_toNat_eq h)))
  · exact .inr (.inr (.inr (BitVec.eq_of_toNat_eq h)))

variable {m} (hS : Sound m)

include hS in
theorem tile_word (s : Fin 64) (p : Fin 512) :
    at64 (tbl m 1) s = BitVec.ofNat 32 (tileOf (512 * (tileW m s).toNat + p.val)).val := by
  have hw := (hS.words s).2.1
  apply BitVec.eq_of_toNat_eq
  rw [BitVec.toNat_ofNat]
  unfold tileOf
  show (at64 (tbl m 1) s).toNat = ((512 * (at64 (tbl m 1) s).toNat + p.val) / 512 % 40) % 2 ^ 32
  omega

include hS in
/-- A step at an expert computes its tile's result, and a step without rows stores its zero. -/
theorem out_expert {s : Fin 64} {j : ℕ} {x : FVec Ideal S512x512 .bf16} (hk : kindW m s = 1#32 ∨ kindW m s = 2#32)
    (hx : ∀ p q : Fin 512, @Eq EReal (x (ix2 p q))
      (hidden (aX m) (aG m) (aU m) (expertW m s).toNat (512 * (tileW m s).toNat + p.val) (512 * j + q.val))) :
    IsOut m (tileW m s).toNat j x := by
  intro p q
  have h := (hS.tiles s _ (tile_word hS s p)).1 hk
  rw [hx p q]
  unfold outE
  rw [if_pos h.2, ← h.1]; rfl

include hS in
theorem out_skip {s : Fin 64} {j : ℕ} {x : FVec Ideal S512x512 .bf16} (hk : kindW m s = 3#32)
    (hx : ∀ p q : Fin 512, @Eq EReal (x (ix2 p q)) 0) : IsOut m (tileW m s).toNat j x := by
  intro p q
  have h := (hS.tiles s _ (tile_word hS s p)).2 hk
  rw [hx p q]
  unfold outE
  rw [if_neg (by omega)]

variable {j : ℕ} {b1 b2 : FVec Ideal S4096x512 .bf16} {s1 s2 : FVec Ideal S512x512 .f32}

/-- The step before a step. -/
theorem prev_step {s : Fin 64} (h : s.val ≠ 0) : ∃ p : Fin 63, p.succ = s :=
  ⟨⟨s.val - 1, by omega⟩, Fin.ext (by show s.val - 1 + 1 = s.val; omega)⟩

theorem kind_ne {w : BitVec 32} (h : w = 1#32) : ¬ w = 2#32 := by rw [h]; decide

include hS in
/-- Before a load of a later chunk, the chunks before it are there. -/
theorem before_load {s : Fin 64} {n : ℕ} (hk : kindW m s = 1#32) (hq : (chunkW m s).toNat = n + 1)
    (hI : ∀ p : Fin 64, s.val = p.val + 1 → After m j p b1 b2 s1 s2) :
    (Rows (aG m) (expertW m s).toNat j (1024 * (n + 1)) b1 ∧ Rows (aU m) (expertW m s).toNat j (1024 * (n + 1)) b2)
    ∧ Acc (aX m) (aG m) (expertW m s).toNat (tileW m s).toNat j (1024 * (n + 1)) s1
      ∧ Acc (aX m) (aU m) (expertW m s).toNat (tileW m s).toNat j (1024 * (n + 1)) s2 := by
  have hw := (hS.words s).2.2.2
  have h0 : s.val ≠ 0 := fun h => by
    have e : s = 0 := Fin.ext h
    subst e
    rcases hS.first.2 with h | h
    · rw [show kindW m 0 = 3#32 from h] at hk; exact absurd hk (by decide)
    · rw [show chunkW m 0 = 0#32 from h.2] at hq; exact absurd hq (by simp)
  obtain ⟨p, rfl⟩ := prev_step h0
  have hl := (hS.next p).load hk (by
    rw [BitVec.toInt_eq_toNat_cond]
    have : (at64 (tbl m 3) p.succ).toNat = n + 1 := hq
    split_ifs <;> omega)
  obtain ⟨l1, l2, l3, l4⟩ := hl
  have hp := (hS.words p.castSucc).2.2.2
  have hn : (chunkW m p.castSucc).toNat = n := by
    have e : (at64 (tbl m 3) p.succ).toNat = n + 1 := hq
    rw [l2, BitVec.toNat_add] at e
    show (at64 (tbl m 3) p.castSucc).toNat = n
    have : (1#32 : BitVec 32).toNat = 1 := by decide
    omega
  have ha := hI p.castSucc (by simp)
  have hlim : lim m p.castSucc = 1024 * (n + 1) := by
    unfold lim
    rw [if_neg (show ¬ kindW m p.castSucc = 2#32 from kind_ne l1), hn]; omega
  unfold After at ha
  rw [hlim, show expertW m p.castSucc = expertW m p.succ from l3.symm, show tileW m p.castSucc = tileW m p.succ from l4.symm] at ha
  exact ⟨ha.1 (.inl l1), ha.2 l1⟩

include hS in
/-- Before a step that keeps its expert, all its weights are there. -/
theorem before_keep {s : Fin 64} (hk : kindW m s = 2#32) (hI : ∀ p : Fin 64, s.val = p.val + 1 → After m j p b1 b2 s1 s2) :
    Rows (aG m) (expertW m s).toNat j 4096 b1 ∧ Rows (aU m) (expertW m s).toNat j 4096 b2 := by
  have h0 : s.val ≠ 0 := fun h => by
    have e : s = 0 := Fin.ext h
    subst e
    rcases hS.first.2 with h | h
    · rw [show kindW m 0 = 3#32 from h] at hk; exact absurd hk (by decide)
    · rw [show kindW m 0 = 1#32 from h.1] at hk; exact absurd hk (by decide)
  obtain ⟨p, rfl⟩ := prev_step h0
  obtain ⟨l1, l2⟩ := (hS.next p).keep hk
  have ha := hI p.castSucc (by simp)
  have hlim : lim m p.castSucc = 4096 := by
    unfold lim
    rcases l2 with l | l
    · rw [if_pos (show kindW m p.castSucc = 2#32 from l)]
    · rw [if_neg (show ¬ kindW m p.castSucc = 2#32 from kind_ne l.1), show chunkW m p.castSucc = 3#32 from l.2]; decide
  unfold After at ha
  rw [hlim, show expertW m p.castSucc = expertW m p.succ from l1.symm] at ha
  exact ha.1 (l2.elim .inr fun l => .inl l.1)

theorem after_load {s : Fin 64} {n : ℕ} (hk : kindW m s = 1#32) (hn : 1024 * (chunkW m s).toNat + 1024 = n)
    (h1 : Rows (aG m) (expertW m s).toNat j n b1) (h2 : Rows (aU m) (expertW m s).toNat j n b2)
    (h3 : Acc (aX m) (aG m) (expertW m s).toNat (tileW m s).toNat j n s1) (h4 : Acc (aX m) (aU m) (expertW m s).toNat (tileW m s).toNat j n s2) :
    After m j s b1 b2 s1 s2 := by
  have e : lim m s = n := by unfold lim; rw [if_neg (kind_ne hk), hn]
  unfold After
  rw [e]
  exact ⟨fun _ => ⟨h1, h2⟩, fun _ => ⟨h3, h4⟩⟩

theorem after_keep {s : Fin 64} (hk : kindW m s = 2#32)
    (h : Rows (aG m) (expertW m s).toNat j 4096 b1 ∧ Rows (aU m) (expertW m s).toNat j 4096 b2) : After m j s b1 b2 s1 s2 := by
  have e : lim m s = 4096 := by unfold lim; rw [if_pos hk]
  unfold After
  rw [e]
  exact ⟨fun _ => h, fun h' => absurd hk (kind_ne h')⟩

theorem after_other {s : Fin 64} (h1 : kindW m s ≠ 1#32) (h2 : kindW m s ≠ 2#32) : After m j s b1 b2 s1 s2 :=
  ⟨fun h => h.elim (fun h => absurd h h1) fun h => absurd h h2, fun h => absurd h h1⟩

variable (hO : Ok m)

theorem inv_next (t : Fin (cfgM m hO).N) (h : After m (t.val / 64) (stp m hO t) b1 b2 s1 s2) : InvM m (t.val + 1) b1 b2 s1 s2 := by
  intro s hs
  have ht := step_val m hO t
  have e1 : s = stp m hO t := Fin.ext (by show s.val = (stepOf (grid0.coords t)).val; omega)
  have e2 : (t.val + 1) / 64 = t.val / 64 := by omega
  rw [e1, e2]; exact h

/-- The contents a point's run leaves. -/
abbrev leftAt (t : Fin (cfgM m hO).N) (o : FVec Ideal S512x512 .bf16) (b1 b2 : FVec Ideal S4096x512 .bf16) (s1 s2 : FVec Ideal S512x512 .f32) : Left Ideal :=
  left 0 (grid0.coords t) (ms0 m hO t) (hs0 m hO t) (ms1 m hO t) (hs1 m hO t) (ms2 m hO t) (hs2 m hO t) (ms3 m hO t) (hs3 m hO t)
    scM0 (Memref.isWhole_whole _) scM1 (Memref.isWhole_whole _) scM2 (Memref.isWhole_whole _) scM3 (Memref.isWhole_whole _)
    (blk0 m hO 0 t) (blk1 m hO 0 t) (blk2 m hO 0 t) o b1 b2 s1 s2 (tbl m 0) (tbl m 1) (tbl m 2) (tbl m 3)

/-- What a step must leave. -/
def Kept (t : Fin (cfgM m hO).N) (o : FVec Ideal S512x512 .bf16) (L : Left Ideal) : Prop :=
  RelM m hO t o L.o ∧ InvM m (t.val + 1) L.b1 L.b2 L.s1 L.s2

variable {hO} in
theorem kept_of {t : Fin (cfgM m hO).N} {o} {L L' : Left Ideal} (e : L = L') (h : Kept hO t o L') : Kept hO t o L := e ▸ h

theorem not_done_load {s : Fin 64} (hk : kindW m s = 1#32) (hq : chunkW m s ≠ 3#32) : ¬ Done (tbl m 0) (tbl m 3) s := by
  have hk' : at64 (tbl m 0) s = 1#32 := hk
  unfold Done
  rw [hk']
  rintro (h | h | h | h)
  · exact absurd h (by decide)
  · exact absurd h (by decide)
  · exact absurd h (by decide)
  · exact hq h.2

include hS in
theorem kept_load (t : Fin (cfgM m hO).N) (o) (hk : kindW m (stp m hO t) = 1#32)
    (hI : ∀ p : Fin 64, (stp m hO t).val = p.val + 1 → After m (t.val / 64) p b1 b2 s1 s2) : Kept hO t o (leftAt hO t o b1 b2 s1 s2) := by
  have hx := blk0_at hO hS t
  have hw1 := blk1_at hO hS t
  have hw2 := blk2_at hO hS t
  have hk' : kindOf 0 (tbl m 0) (grid0.coords t) = 1#32 := (kindOf_eq m 0 _).trans hk
  have hc' : ∀ q, chunkW m (stp m hO t) = q → chunkOf 0 (tbl m 3) (grid0.coords t) = q := fun q h => (chunkOf_eq m 0 _).trans h
  have hr : kindW m (stp m hO t) ≠ 0#32 := by rw [hk]; decide
  rcases word4 _ (words hS (stp m hO t)).2.2.2 with hq | hq | hq | hq
  · rw [hq] at hw1 hw2
    refine kept_of (left_load0 (hk := hk') (hc := hc' _ hq) ..) ?_
    exact ⟨⟨fun h => absurd h (not_done_load hk (by rw [hq]; decide)), fun h => absurd h hr⟩,
      inv_next hO t (after_load hk (by rw [hq]; rfl) (rows_put (rows_none b1) hw1) (rows_put (rows_none b2) hw2)
        (acc_first hx hw1) (acc_first hx hw2))⟩
  · have hb := before_load (n := 0) hS hk (by rw [hq]; rfl) hI
    rw [hq] at hw1 hw2
    refine kept_of (left_load1 (hk := hk') (hc := hc' _ hq) ..) ?_
    exact ⟨⟨fun h => absurd h (not_done_load hk (by rw [hq]; decide)), fun h => absurd h hr⟩,
      inv_next hO t (after_load hk (by rw [hq]; rfl) (rows_put hb.1.1 hw1) (rows_put hb.1.2 hw2)
        (acc_next (by omega) hb.2.1 hx hw1) (acc_next (by omega) hb.2.2 hx hw2))⟩
  · have hb := before_load (n := 1) hS hk (by rw [hq]; rfl) hI
    rw [hq] at hw1 hw2
    refine kept_of (left_load2 (hk := hk') (hc := hc' _ hq) ..) ?_
    exact ⟨⟨fun h => absurd h (not_done_load hk (by rw [hq]; decide)), fun h => absurd h hr⟩,
      inv_next hO t (after_load hk (by rw [hq]; rfl) (rows_put hb.1.1 hw1) (rows_put hb.1.2 hw2)
        (acc_next (by omega) hb.2.1 hx hw1) (acc_next (by omega) hb.2.2 hx hw2))⟩
  · have hb := before_load (n := 2) hS hk (by rw [hq]; rfl) hI
    rw [hq] at hw1 hw2
    refine kept_of (left_load3 (hk := hk') (hc := hc' _ hq) ..) ?_
    have a1 := acc_next (n := 1024 * 3) (by omega) hb.2.1 hx hw1
    have a2 := acc_next (n := 1024 * 3) (by omega) hb.2.2 hx hw2
    exact ⟨⟨fun _ _ => out_expert hS (.inl hk) (out_load a1 a2), fun h => absurd h hr⟩,
      inv_next hO t (after_load hk (by rw [hq]; rfl) (rows_put hb.1.1 hw1) (rows_put hb.1.2 hw2) a1 a2)⟩

include hS in
theorem kept (t : Fin (cfgM m hO).N) (o)
    (hI' : ∀ p : Fin 64, (stp m hO t).val = p.val + 1 → After m (t.val / 64) p b1 b2 s1 s2) : Kept hO t o (leftAt hO t o b1 b2 s1 s2) := by
  have hk' : ∀ k, kindW m (stp m hO t) = k → kindOf 0 (tbl m 0) (grid0.coords t) = k := fun k h => (kindOf_eq m 0 _).trans h
  rcases word4 _ (words hS (stp m hO t)).1 with hk | hk | hk | hk
  · refine kept_of (left_rest (hk := hk' _ hk) ..) ?_
    exact ⟨⟨fun _ h => absurd hk h, fun _ => rfl⟩, inv_next hO t (after_other (by rw [hk]; decide) (by rw [hk]; decide))⟩
  · exact kept_load hS hO t o hk hI'
  · have hb := before_keep hS hk hI'
    refine kept_of (left_keep (hk := hk' _ hk) ..) ?_
    exact ⟨⟨fun _ _ => out_expert hS (.inr hk) (out_keep (blk0_at hO hS t) hb.1 hb.2), fun h => absurd h (by rw [hk]; decide)⟩,
      inv_next hO t (after_keep hk hb)⟩
  · refine kept_of (left_skip (hk := hk' _ hk) ..) ?_
    exact ⟨⟨fun _ _ => out_skip hS hk pay21_at, fun h => absurd h (by rw [hk]; decide)⟩,
      inv_next hO t (after_other (by rw [hk]; decide) (by rw [hk]; decide))⟩

include hS in
/-- Every step keeps what holds of the scratch, and stores what the result's block is to hold. -/
theorem keeps (c : Dev nD) : Keeps m hO (InvM m) (RelM m hO) c := by
  obtain rfl : c = 0 := Subsingleton.elim _ _
  intro t o b1 b2 s1 s2 _ hI
  exact kept hS hO t o fun p hp => hI p (by rw [← step_val m hO t]; exact hp)

end Cert.Kernel2Ideal.Mat

end
-- ==== Proof.MatOut.lean ====
/- The result of the experts' call after the run: what each written-back block holds, and that the blocks make up the array. -/
module

public import proofs.«01_k».proof.Proof.MatInv
public import Idealize.ShloMosaic.Lib.Pipeline.ArrRel

@[expose] public section

set_option maxRecDepth 16384

noncomputable section

namespace Cert.Kernel2Ideal.Mat

open Cert.Kernel2Ideal Cert.Kernel2Ideal.Gen Idealize.ShloMosaic Idealize.ShloMosaic.TcCoe Idealize.SL.Sem
open Cert.Sched (at64 at40 Good Done Next)
open Idealize.ShloMosaic.Pipeline (Dat RDat Cfg Window cellOf)

variable {m : (ℓ : Loc nD τ sig) → Buf (Elt Ideal) ℓ} (hS : Sound m) (hO : Ok m)

/-- The output's block at a point. -/
theorem index3 (t : Fin (cfgM m hO).N) : ((cfgM m hO).win 3).index t = ![(tileW m (stp m hO t)).toNat, t.val / 64] :=
  (ix_3 m (grid0.coords t)).trans (by rw [col_val m hO t])

/-- The point before a point, and its step. -/
abbrev pre1 (t : Fin (cfgM m hO).N) : Fin (cfgM m hO).N := ⟨t.val - 1, Nat.lt_of_le_of_lt (Nat.sub_le _ _) t.isLt⟩

theorem stp_pred (t : Fin (cfgM m hO).N) (p : Fin 63) (h : stp m hO t = p.succ) :
    stp m hO (pre1 hO t) = p.castSucc ∧ (pre1 hO t).val / 64 = t.val / 64 ∧ t.val ≠ 0 ∧ (pre1 hO t).val + 1 = t.val := by
  have h1 := step_val m hO t
  have h2 := step_val m hO (pre1 hO t)
  have h3 : (stepOf (grid0.coords t)).val = p.val + 1 := congrArg Fin.val h
  have h4 : (pre1 hO t).val = t.val - 1 := rfl
  refine ⟨Fin.ext ?_, by omega, by omega, by omega⟩
  show (stepOf (grid0.coords (pre1 hO t))).val = p.val
  omega

include hS in
/-- What the body leaves in the output's buffer after a step that completes a tile. -/
theorem leaves_out (c : Dev nD) (n : ℕ) : ∀ (t : Fin (cfgM m hO).N), t.val = n → ∀ X : FVec Ideal S512x512 .bf16,
    (rdat m hO (InvM m) (RelM m hO) c).Leaves 3 t X → Done (tbl m 0) (tbl m 3) (stp m hO t) →
    IsOut m (tileW m (stp m hO t)).toNat (t.val / 64) X := by
  induction n using Nat.strong_induction_on with
  | _ n ih =>
    intro t hn X hL hD
    obtain ⟨Y, hF, hR⟩ := hL
    have hR' : RelM m hO t Y X := hR
    by_cases hk : kindW m (stp m hO t) = 0#32
    · have h0 : (stp m hO t).val ≠ 0 := fun h => by
        have e : stp m hO t = 0 := Fin.ext h
        rw [e] at hk
        rcases hS.first.2 with h | h
        · rw [show kindW m 0 = 3#32 from h] at hk; exact absurd hk (by decide)
        · rw [show kindW m 0 = 1#32 from h.1] at hk; exact absurd hk (by decide)
      obtain ⟨p, hp⟩ := prev_step h0
      obtain ⟨q1, q2, q3, q4⟩ := stp_pred hO t p hp.symm
      have hr := (hS.next p).rest (by rw [hp]; exact hk)
      have hfl : ¬ ((cfgM m hO).win 3).flush (pre1 hO t) = true := fun hf => by
        rcases (Pipeline.Window.flush_out ((cfgM m hO).win 3) rfl (pre1 hO t)).1 hf with h | ⟨h, hne⟩
        · have := t.isLt
          have e : (pre1 hO t).val + 1 = (cfgM m hO).N := h
          omega
        · refine hne ?_
          have e : (⟨(pre1 hO t).val + 1, h⟩ : Fin (cfgM m hO).N) = t := Fin.ext q4
          refine (congrArg _ e).trans ?_
          rw [index3, index3, q1, q2, ← hp]
          have : tileW m p.succ = tileW m p.castSucc := hr.1
          rw [this]
      have hL' := ((RDat.finds_of_pos (rdat m hO (InvM m) (RelM m hO) c) (Pipeline.Window.fetch_out ((cfgM m hO).win 3) rfl t) q3 Y).1 hF).resolve_left hfl
      have hY := ih (pre1 hO t).val (by omega) (pre1 hO t) rfl Y hL' (by rw [q1]; exact hr.2)
      have hX : X = Y := hR'.2 hk
      rw [q1, q2] at hY
      have : tileW m (stp m hO t) = tileW m p.castSucc := by rw [← hp]; exact hr.1
      rw [hX, this]
      exact hY
    · exact hR'.1 hD hk

include hS in
/-- A block is written back only after its tile is complete. -/
theorem done_of_flush (t : Fin (cfgM m hO).N) (hf : ((cfgM m hO).win 3).flush t = true) : Done (tbl m 0) (tbl m 3) (stp m hO t) := by
  have h1 := step_val m hO t
  by_cases h63 : stp m hO t = 63
  · rw [h63]; exact hS.last.2
  have hlt : (stepOf (grid0.coords t)).val < 63 := by
    have := (stepOf (grid0.coords t)).isLt
    have : (stepOf (grid0.coords t)).val ≠ 63 := fun h => h63 (Fin.ext h)
    omega
  rcases (Pipeline.Window.flush_out ((cfgM m hO).win 3) rfl t).1 hf with h | ⟨h, hne⟩
  · have e : t.val + 1 = 1792 := h
    omega
  · have hh : t.val + 1 < 1792 := h
    let u : Fin (cfgM m hO).N := ⟨t.val + 1, h⟩
    let p : Fin 63 := ⟨(stepOf (grid0.coords t)).val, hlt⟩
    have h2 := step_val m hO u
    have hu : u.val = t.val + 1 := rfl
    have e1 : stp m hO u = p.succ := Fin.ext (by show (stepOf (grid0.coords u)).val = (stepOf (grid0.coords t)).val + 1; omega)
    have e2 : stp m hO t = p.castSucc := Fin.ext rfl
    rcases (hS.next p).tile with hs | hs
    · refine absurd ?_ hne
      show ((cfgM m hO).win 3).index u = ((cfgM m hO).win 3).index t
      rw [index3, index3, e1, e2, show tileW m p.succ = tileW m p.castSucc from hs, show u.val / 64 = t.val / 64 by omega]
    · rw [e2]; exact hs.2

include hS in
/-- Every tile has a step after which another tile follows, or the column ends. -/
theorem tile_end (i : ℕ) (hi : i < 40) : ∃ s : Fin 64, (tileW m s).toNat = i ∧ ∀ p : Fin 63, p.castSucc = s → (tileW m p.succ).toNat ≠ i := by
  by_contra hno
  have hno' : ∀ s : Fin 64, (tileW m s).toNat = i → ∃ p : Fin 63, p.castSucc = s ∧ (tileW m p.succ).toNat = i := by
    intro s hs
    by_contra h
    exact hno ⟨s, hs, fun p hp he => h ⟨p, hp, he⟩⟩
  have hle : ∀ n : ℕ, ∀ s : Fin 64, s.val = n → (tileW m s).toNat ≤ i := by
    intro n
    induction n with
    | zero =>
      intro s hs
      have e : s = 0 := Fin.ext hs
      rw [e, show tileW m 0 = 0#32 from hS.first.1]; exact Nat.zero_le _
    | succ n ih =>
      intro s hs
      obtain ⟨p, rfl⟩ := prev_step (s := s) (by omega)
      have hp : p.val + 1 = n + 1 := hs
      have h1 := ih p.castSucc (by show p.val = n; omega)
      by_cases h2 : (tileW m p.castSucc).toNat = i
      · obtain ⟨q, hq, he⟩ := hno' _ h2
        have : q = p := Fin.castSucc_injective _ hq
        rw [← this]; exact le_of_eq he
      · rcases (hS.next p).tile with h | h
        · rw [show tileW m p.succ = tileW m p.castSucc from h]; exact h1
        · have hlt := (hS.words p.castSucc).2.1
          rw [show tileW m p.succ = tileW m p.castSucc + 1#32 from h.1, BitVec.toNat_add]
          have : (1#32 : BitVec 32).toNat = 1 := by decide
          have : (tileW m p.castSucc).toNat < 40 := hlt
          omega
  have h63 := hle 63 63 rfl
  rw [show tileW m 63 = 39#32 from hS.last.1] at h63
  have e39 : (39#32 : BitVec 32).toNat = 39 := by decide
  obtain ⟨p, hp, -⟩ := hno' 63 (by rw [show tileW m 63 = 39#32 from hS.last.1]; omega)
  have : p.val = 63 := congrArg Fin.val hp
  omega

include hS in
theorem flush_at (i j : ℕ) (hi : i < 40) (hj : j < 28) :
    ∃ t : Fin (cfgM m hO).N, ((cfgM m hO).win 3).flush t = true ∧ (tileW m (stp m hO t)).toNat = i ∧ t.val / 64 = j := by
  obtain ⟨s, hs, hn⟩ := tile_end hS i hi
  have ht : 64 * j + s.val < 1792 := by omega
  let t : Fin (cfgM m hO).N := ⟨64 * j + s.val, ht⟩
  have hv : t.val = 64 * j + s.val := rfl
  have hst := step_val m hO t
  have es : stp m hO t = s := Fin.ext (by show (stepOf (grid0.coords t)).val = s.val; omega)
  refine ⟨t, (Pipeline.Window.flush_out ((cfgM m hO).win 3) rfl t).2 ?_, by rw [es]; exact hs, by omega⟩
  by_cases hl : t.val + 1 = 1792
  · exact .inl hl
  · refine .inr ⟨by show t.val + 1 < 1792; omega, fun he => ?_⟩
    rw [index3, index3] at he
    have a0 := congrFun he 0
    have a1 := congrFun he 1
    have a1' : (t.val + 1) / 64 = t.val / 64 := a1
    have hs63 : s.val < 63 := by omega
    refine hn ⟨s.val, hs63⟩ rfl ?_
    have hst' := step_val m hO ⟨t.val + 1, by show t.val + 1 < 1792; omega⟩
    have e' : stp m hO ⟨t.val + 1, by show t.val + 1 < 1792; omega⟩ = Fin.succ ⟨s.val, hs63⟩ :=
      Fin.ext (by
        refine hst'.trans ?_
        show (t.val + 1) % 64 = s.val + 1
        omega)
    rw [e', es] at a0
    exact Eq.trans a0 hs

include hS in
theorem covers3 : ((cfgM m hO).win 3).Covers := by
  refine ⟨fun a => ?_, fun β => ?_⟩
  · match a with
    | ⟨0, _⟩ => show 0 < 512; decide
    | ⟨1, _⟩ => show 0 < 512; decide
  · obtain ⟨t, hf, e0, e1⟩ := flush_at hS hO _ _ (lt_of_lt_of_eq (β ⟨0, Nat.zero_lt_two⟩).isLt (show (20480 + 512 - 1) / 512 = 40 by decide))
      (lt_of_lt_of_eq (β ⟨1, Nat.one_lt_two⟩).isLt (show (14336 + 512 - 1) / 512 = 28 by decide))
    refine ⟨t, hf, fun a => ⟨?_, .inl ?_⟩⟩
    · rw [index3]
      match a with
      | ⟨0, _⟩ => exact e0
      | ⟨1, _⟩ => exact e1
    · match a with
      | ⟨0, _⟩ => rfl
      | ⟨1, _⟩ => rfl

include hS in
/-- A tile with rows has one of the eight experts. -/
theorem expert_lt (i : Fin 40) (hv : 0 < (at40 (aV m) i).toInt) : (at40 (aE m) i).toNat < 8 := by
  have key : ∀ n : ℕ, ∀ s : Fin 64, s.val = n → (tileW m s).toNat = i.val → (at40 (aE m) i).toNat < 8 := by
    intro n
    induction n with
    | zero =>
      intro s hs ht
      obtain rfl : s = 0 := Fin.ext hs
      have hi : tileW m 0 = BitVec.ofNat 32 i.val := by rw [← ht, BitVec.ofNat_toNat, BitVec.setWidth_eq]
      have hT := hS.tiles 0 i hi
      rcases hS.first.2 with h | h
      · exact absurd (hT.2 h) (by omega)
      · rw [← (hT.1 (.inl h.1)).1]; exact (words hS 0).2.2.1
    | succ n ih =>
      intro s hs ht
      have hi : tileW m s = BitVec.ofNat 32 i.val := by rw [← ht, BitVec.ofNat_toNat, BitVec.setWidth_eq]
      have hT := hS.tiles s i hi
      have hw := words hS s
      by_cases h0 : kindW m s = 0#32
      · obtain ⟨p, hp⟩ := prev_step (s := s) (by rw [hs]; exact Nat.succ_ne_zero n)
        have hr := (hS.next p).rest (by rw [hp]; exact h0)
        refine ih p.castSucc ?_ ?_
        · have : p.succ.val = n + 1 := by rw [hp]; exact hs
          exact Nat.succ.inj this
        · rw [← ht, ← hp]; exact congrArg BitVec.toNat hr.1.symm
      · have hk : kindW m s = 1#32 ∨ kindW m s = 2#32 ∨ kindW m s = 3#32 := by
          have h0' : (kindW m s).toNat ≠ 0 := fun h => h0 (BitVec.eq_of_toNat_eq h)
          have : (kindW m s).toNat = 1 ∨ (kindW m s).toNat = 2 ∨ (kindW m s).toNat = 3 := by omega
          exact this.imp (fun h => BitVec.eq_of_toNat_eq h) (Or.imp (fun h => BitVec.eq_of_toNat_eq h) (fun h => BitVec.eq_of_toNat_eq h))
        rcases hk with h | h | h
        · rw [← (hT.1 (.inl h)).1]; exact hw.2.2.1
        · rw [← (hT.1 (.inr h)).1]; exact hw.2.2.1
        · exact absurd (hT.2 h) (by omega)
  obtain ⟨s, hs, -⟩ := tile_end hS i.val i.isLt
  exact key s.val s rfl hs

/-- The result. -/
def RES (m : (ℓ : Loc nD τ sig) → Buf (Elt Ideal) ℓ) : FVec Ideal S20480x14336 .bf16 :=
  fun i => outE (aX m) (aG m) (aU m) (aV m) (aE m) (i 0).val (i 1).val

theorem out_at (t : Fin (cfgM m hO).N) (x : FVec Ideal S512x512 .bf16) (hx : IsOut m (tileW m (stp m hO t)).toNat (t.val / 64) x)
    (y : S512x512.Idx) : @Eq EReal (x y) (RES m ((((cfgM m hO).win 3).blk t).view.emb y)) := by
  have hy : y = ix2 (n0 := 512) (n1 := 512) (y 0) (y 1) := by funext a; fin_cases a <;> rfl
  refine Eq.trans (congrArg x hy) ((hx (y 0) (y 1)).trans ?_)
  have e0 := emb3 m hO t y 0
  have e1 := emb3 m hO t y 1
  have hc := col_val m hO t
  unfold RES
  congr 1
  · refine Eq.trans ?_ e0.symm
    show 512 * (tileW m (stp m hO t)).toNat + (y 0).val = (tileW m (stp m hO t)).toNat * 512 + 1 * (y 0).val
    omega
  · refine Eq.trans ?_ e1.symm
    show 512 * (t.val / 64) + (y 1).val = (colOf (grid0.coords t)).val * 512 + 1 * (y 1).val
    omega

include hS in
theorem arr3 (c : Dev nD) (after : (w' : Fin (cfgM m hO).W) → Fin (cfgM m hO).N → ((cfgM m hO).win w').block.Idx → Elt Ideal ((cfgM m hO).win w').elt)
    (h : ∀ u, ((cfgM m hO).win 3).flush u = true → (rdat m hO (InvM m) (RelM m hO) c).Leaves 3 u (after 3 u)) :
    ((rdat m hO (InvM m) (RelM m hO) c).withAfter after).arrAt 3 (cfgM m hO).N = RES m := by
  refine Dat.arrAt_eq_of_covers ((rdat m hO (InvM m) (RelM m hO) c).withAfter after) 3 (RES m) (covers3 hS hO) (fun t hf y => ?_) (Memref.isWhole_whole _)
  exact (cast_eq rfl _).trans (out_at hO t (after 3 t) (leaves_out hS hO c _ t rfl _ (h t hf) (done_of_flush hS hO t hf)) y)

variable (ρ : Dev nD → PrngReg)

include hS in
/-- Every run ends with the result as stated and the nine arguments unchanged. -/
theorem value : θ_run defs (onTc (τ := τ) (main (F := Ideal))) ⟨m, fun _ => 0, ρ⟩ (fun r => ∀ c : Dev nD,
      r.2.mem ((c.tc : Thread nD τ).loc main_v0) = RES m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  have hO : Ok m := hS.ok
  refine (θ_run defs _ _).mono (fun r h c => ?_)
    (run_main m ρ hO (InvM m) (RelM m hO) (fun _ _ _ _ s hs => absurd hs (by omega)) (keeps hS hO))
  have hr := h.1
  obtain ⟨after, hL, hA⟩ := RDat.FramePost.exists_exact hr c
  exact ⟨(hA 3).trans (arr3 hS hO c after (hL 3)), hr.arr_in c 0 rfl, hr.arr_in c 1 rfl, hr.arr_in c 2 rfl,
    (hr c).2 main_arg3 (Pipeline.mem_restRefs_of (win := spec0) _ (by decide) (by decide)), (hr c).2 main_arg4 (Pipeline.mem_restRefs_of (win := spec0) _ (by decide) (by decide)),
    (hr c).2 main_arg5 (Pipeline.mem_restRefs_of (win := spec0) _ (by decide) (by decide)), (hr c).2 main_arg6 (Pipeline.mem_restRefs_of (win := spec0) _ (by decide) (by decide)),
    (hr c).2 main_arg7 (Pipeline.mem_restRefs_of (win := spec0) _ (by decide) (by decide)), (hr c).2 main_arg8 (Pipeline.mem_restRefs_of (win := spec0) _ (by decide) (by decide))⟩

end Cert.Kernel2Ideal.Mat

end
-- ==== Proof.MatRef.lean ====
/- The reference's result, entry by entry: each row's product with its tile's expert. -/
module

public import proofs.«01_k».proof.Proof.MatStep
public import proofs.«01_k».proof.Proof.Gen.Reference2Ideal.Run
public import Idealize.ShloMosaic.Lib.Pointwise
public import Idealize.ShloMosaic.Lib.KernelVsHost

@[expose] public section

set_option maxRecDepth 16384

noncomputable section

namespace Cert.Reference2Ideal.Mat

open Cert.Reference2Ideal Cert.Reference2Ideal.Gen Idealize.ShloMosaic Idealize.ShloMosaic.TcCoe Idealize.SL.Sem
open Cert.Sched (at64 at40)
open Cert.Kernel2Ideal.Mat (xE wE dotE hidden tileOf outE)

variable (X : FVec Ideal S20480x4096 .bf16) (W Wg Wu : FVec Ideal S8x4096x14336 .f32) (va te : IVec S40 32)

/-- A word of each tile, at each of its rows. -/
def rows (x : IVec S40 32) : IVec S20480 32 :=
  shapeCast _ (broadcastInDim S40x512 ![0, 1] bcast_S40x1_S40x512_0_1 (broadcastInDim S40x1 ![0] bcast_S40_S40x1_0 x)) shapeCasts_S40x512_S20480

/-- Which expert each row is of. -/
def mine : IVec S20480x8 1 :=
  andi (cmpi .eq (broadcastInDim S20480x8 ![0, 1] bcast_S20480x1_S20480x8_0_1 (broadcastInDim S20480x1 ![0] bcast_S20480_S20480x1_0 (rows te)))
      (broadcastInDim S20480x8 ![0, 1] bcast_S1x8_S20480x8_0_1 (broadcastInDim S1x8 ![1] bcast_S8_S1x8_1 (iotaInDim S8 32 0))))
    (broadcastInDim S20480x8 ![0, 1] bcast_S20480x1_S20480x8_0_1 (cmpi .sgt (broadcastInDim S20480x1 ![0] bcast_S20480_S20480x1_0 (rows va))
      (broadcastInDim S20480x1 ![] bcast_S_S20480x1 (constantI S_ 32 0#32))))

/-- Every row's product with every expert's weights. -/
def prod : FVec Ideal S20480x8x14336 .f32 :=
  Host.dotGeneral dot_S20480x4096_S8x4096x14336_S20480x8x14336_1_1_0_02_n_n none (extf .f32 X bitsLt_bf16_f32) W

/-- Every row's hidden values by every expert. -/
def hid : FVec Ideal S20480x8x14336 .f32 :=
  mulf (mulf (prod X Wg) (Host.divf (broadcastInDim S20480x8x14336 ![] bcast_S_S20480x8x14336 (constant S_ .f32 0x3F800000#32))
    (addf (broadcastInDim S20480x8x14336 ![] bcast_S_S20480x8x14336 (constant S_ .f32 0x3F800000#32)) (Host.exp (Host.negf (prod X Wg)))))) (prod X Wu)

/-- The result. -/
def res : FVec Ideal S20480x14336 .bf16 :=
  truncf .bf16 (Host.reduceAdd (select (broadcastInDim S20480x8x14336 ![0, 1, 2] bcast_S20480x8x1_S20480x8x14336_0_1_2
      (broadcastInDim S20480x8x1 ![0, 1] bcast_S20480x8_S20480x8x1_0_1 (mine va te))) (hid X Wg Wu)
    (broadcastInDim S20480x8x14336 ![] bcast_S_S20480x8x14336 (id (constant S_ .f32 0x00000000#32)))) (constant S_ .f32 0x00000000#32)
    reducesTo_S20480x8x14336_S20480x14336_d1 h_S_) bitsLt_bf16_f32

theorem rows_at (x : IVec S40 32) (r : Fin 20480) : rows x (ix1 r) = at40 x (tileOf r.val) := by
  pointwise [rows]
  refine (Cert.Sched.at40_eq x _).trans (congrArg (at40 x) (Fin.ext ?_))
  show r.val / 512 = r.val / 512 % 40
  omega

theorem mine_at (r : Fin 20480) (e : Fin 8) : mine va te (ix2 r e) = 1#1 ↔
    at40 te (tileOf r.val) = BitVec.ofNat 32 e.val ∧ 0 < (at40 va (tileOf r.val)).toInt := by
  have h : mine va te (ix2 r e) = IntOp.andi (IntOp.cmpi .eq (rows te (ix1 r)) (BitVec.ofNat 32 e.val)) (IntOp.cmpi .sgt (rows va (ix1 r)) 0#32) := by
    pointwise [mine]
  rw [h, rows_at, rows_at, Cert.Sched.and_one]
  simp only [IntOp.cmpi, Cert.Sched.ofBool_one, beq_iff_eq, BitVec.slt_eq_decide, decide_eq_true_eq]
  exact Iff.rfl

theorem prod_at (r : Fin 20480) (e : Fin 8) (j : Fin 14336) : @Eq EReal (prod X W (ix3 r e j)) (dotE X W e.val r.val j.val 4096) := by
  have h : @Eq EReal (prod X W (ix3 r e j)) (∑ k : Fin 4096, (X (ix2 r k) : EReal) * (W (ix3 e k j) : EReal)) := by
    pointwise [prod]
  rw [h]
  unfold dotE
  rw [Finset.sum_range]
  refine Finset.sum_congr rfl fun k _ => ?_
  unfold xE wE
  congr 2 <;> congr 1 <;> exact Fin.ext (Nat.mod_eq_of_lt (Fin.isLt _)).symm

theorem hid_at (r : Fin 20480) (e : Fin 8) (j : Fin 14336) : @Eq EReal (hid X Wg Wu (ix3 r e j)) (hidden X Wg Wu e.val r.val j.val) := by
  unfold Cert.Kernel2Ideal.Mat.hidden
  rw [← prod_at, ← prod_at]
  unfold Cert.Kernel2Ideal.Mat.silu Ideal.logistic
  rw [← Ideal.ofBits_one_f32]
  rfl

theorem res_at (r : Fin 20480) (j : Fin 14336) : @Eq EReal (res X Wg Wu va te (ix2 r j))
    (∑ e : Fin 8, if mine va te (ix2 r e) = 1#1 then hidden X Wg Wu e.val r.val j.val else 0) := by
  have h : @Eq EReal (res X Wg Wu va te (ix2 r j))
      (∑ e : Fin 8, if mine va te (ix2 r e) = 1#1 then hid X Wg Wu (ix3 r e j) else 0) := by
    pointwise [res]
    exact Finset.sum_congr rfl fun e _ => by
      unfold Scalar.select
      rw [show @Eq EReal (id (constant (F := Ideal) S_ .f32 0#32) ix0) 0 from Ideal.ofBits_zero_f32]
      split_ifs <;> simp_all
  rw [h]
  exact Finset.sum_congr rfl fun e _ => by rw [hid_at]

/-- Where a tile with rows has one of the eight experts, the result is the product with that expert's weights. -/
theorem res_eq (hte : ∀ i : Fin 40, 0 < (at40 va i).toInt → (at40 te i).toNat < 8) (r : Fin 20480) (j : Fin 14336) :
    @Eq EReal (res X Wg Wu va te (ix2 r j)) (outE X Wg Wu va te r.val j.val) := by
  rw [res_at]
  unfold outE
  by_cases hv : 0 < (at40 va (tileOf r.val)).toInt
  · rw [if_pos hv]
    have hlt := hte _ hv
    rw [Finset.sum_eq_single (⟨_, hlt⟩ : Fin 8)]
    · rw [if_pos ((mine_at ..).2 ⟨(BitVec.ofNat_toNat ..).symm ▸ by simp, hv⟩)]
    · intro e _ hne
      rw [if_neg]
      intro h
      refine hne (Fin.ext ?_)
      have := congrArg BitVec.toNat ((mine_at ..).1 h).1
      rw [BitVec.toNat_ofNat] at this
      show e.val = (at40 te (tileOf r.val)).toNat
      omega
    · exact fun h => absurd (Finset.mem_univ _) h
  · rw [if_neg hv]
    exact Finset.sum_eq_zero fun e _ => if_neg fun h => hv ((mine_at ..).1 h).2

end Cert.Reference2Ideal.Mat

end
-- ==== Proof.DownSetup.lean ====
/- The experts' down projection: its launch, its tables and its body's memrefs. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Pipeline.ArrRel
public import Idealize.ShloMosaic.Lib.Tactic
public import Idealize.ShloMosaic.Lib.WordCmp

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the region's entry: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The step tables' contents. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table as the body is handed it. -/
abbrev tb0 : Memref sig .tc .smem S128 .i32 := Memref.whole main_arg2
abbrev tb1 : Memref sig .tc .smem S128 .i32 := Memref.whole main_arg3
abbrev tb2 : Memref sig .tc .smem S128 .i32 := Memref.whole main_arg4
abbrev tb3 : Memref sig .tc .smem S128 .i32 := Memref.whole main_arg5

abbrev TbBuf (c : Dev nD) (M : Memref sig .tc .smem S128 .i32) : Type := Buf (Elt F) (M.view.loc (c : Thread nD τ))
abbrev tbPt (c : Dev nD) (M : Memref sig .tc .smem S128 .i32) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [bigSep_univ_eq_bigSepL [(0 : Fin 4), (1 : Fin 4), (2 : Fin 4), (3 : Fin 4)] (by decide) (by decide)]
  rfl

/-- The scratch: the resident bf16 weights and the running sums. -/
abbrev scM0 : Memref sig .tc .vmem S14336x512 .bf16 := Memref.whole cc0_scratch0
abbrev scM1 : Memref sig .tc .vmem S256x512 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Step `i`'s kind and chunk, as the body loads them from tables 0 and 3. -/
abbrev kindOf (c : Dev nD) (xt : TbBuf (F := F) c tb0) (i : grid0.Coords) : BitVec 32 :=
  View.readAt (Elt F) tb0.view (Rect.unit (s := S128) (k0_off1 i) S1.size (k0_off1_inb i)).toLoadRect xt (Shape.Idx.first (numel1_S1.symm ▸ Nat.one_pos))
abbrev chunkOf (c : Dev nD) (xt : TbBuf (F := F) c tb3) (i : grid0.Coords) : BitVec 32 :=
  View.readAt (Elt F) tb3.view (Rect.unit (s := S128) (k0_off1 i) S1.size (k0_off1_inb i)).toLoadRect xt (Shape.Idx.first (numel1_S1.symm ▸ Nat.one_pos))

end Cert.Kernel3Ideal.Down

end
-- ==== Proof.DownRun.lean ====
/- The body of the experts' down projection, run once per kind of step. -/
module

public import proofs.«01_k».proof.Proof.DownSetup

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (c : Dev nD) (i : grid0.Coords)
  (a6 : Memref sig .tc .vmem S256x14336 .bf16) (h6 : a6.IsWhole) (a7 : Memref sig .tc .vmem S1x2048x512 .f32) (h7 : a7.IsWhole)
  (a8 : Memref sig .tc .vmem S256x512 .f32) (h8 : a8.IsWhole)
  (a9 : Memref sig .tc .vmem S14336x512 .bf16) (h9 : a9.IsWhole) (a10 : Memref sig .tc .vmem S256x512 .f32) (h10 : a10.IsWhole)
  (x : Vec F S256x14336 .bf16) (w : Vec F S1x2048x512 .f32) (o : Vec F S256x512 .f32)
  (b : Vec F S14336x512 .bf16) (s : Vec F S256x512 .f32)
  (t0 : TbBuf (F := F) c tb0) (t1 : TbBuf (F := F) c tb1) (t2 : TbBuf (F := F) c tb2) (t3 : TbBuf (F := F) c tb3)

/-- The body's memrefs at given contents. -/
def held (x : Vec F S256x14336 .bf16) (w : Vec F S1x2048x512 .f32) (o : Vec F S256x512 .f32)
    (b : Vec F S14336x512 .bf16) (s : Vec F S256x512 .f32) : sProp 𝕄 :=
  iprop(owns (c : Thread nD τ) a6 fullShare x ∗ owns (c : Thread nD τ) a7 fullShare w ∗ owns (c : Thread nD τ) a8 fullShare o
    ∗ owns (c : Thread nD τ) a9 fullShare b ∗ owns (c : Thread nD τ) a10 fullShare s
    ∗ tbPt c tb0 t0 ∗ tbPt c tb1 t1 ∗ tbPt c tb2 t2 ∗ tbPt c tb3 t3)

/-- A buffer's contents under a memref. -/
abbrev MBuf (c : Dev nD) {S : Shape} {e : EltTy} (M : Memref sig .tc .vmem S e) : Type := Buf (Elt F) (M.view.loc (c : Thread nD τ))
abbrev mPt (c : Dev nD) {S : Shape} {e : EltTy} (M : Memref sig .tc .vmem S e) (f : MBuf (F := F) c M) : sProp 𝕄 :=
  M.view.loc (c : Thread nD τ) ↦[M.view.set]{fullShare} f

/-- The body run on any words of the tables: what it leaves in the output's buffer and in the scratch,
    each a choice by the step's kind and chunk. -/
def bodyRun : Σ' (G8 : MBuf (F := F) c a8) (G9 : MBuf (F := F) c a9),
    { G10 : MBuf (F := F) c a10 // ∀ (E : Set ℕ) (K : PUnit → sProp 𝕄),
      iprop(held c a6 a7 a8 a9 a10 t0 t1 t2 t3 x w o b s
        ∗ (iprop(owns (c : Thread nD τ) a6 fullShare x ∗ owns (c : Thread nD τ) a7 fullShare w
            ∗ mPt c a8 G8 ∗ mPt c a9 G9 ∗ mPt c a10 G10
            ∗ tbPt c tb0 t0 ∗ tbPt c tb1 t1 ∗ tbPt c tb2 t2 ∗ tbPt c tb3 t3) -∗ K ⟨⟩))
      ⊢ wp frame (wpE (defs₀ (F := F)) Variants.none c none) E
          (cc0_moe_down i tb0 (Memref.isWhole_whole _) tb1 (Memref.isWhole_whole _) tb2 (Memref.isWhole_whole _) tb3 (Memref.isWhole_whole _)
            a6 h6 a7 h7 a8 h8 a9 h9 a10 h10) K } := by
  refine ⟨?_, ?_, ?_, fun E K => ?run⟩
  case run =>
    simp only [cc0_moe_down_eq_skeleton]
    unfold cc0_moe_down_skel held owns
    iintro ⟨⟨⟨%f6, %hf6, H6⟩, ⟨%f7, %hf7, H7⟩, ⟨%f8, %hf8, H8⟩, ⟨%f9, %hf9, H9⟩, ⟨%f10, %hf10, H10⟩, T0, T1, T2, T3⟩, Hk⟩
    obtain rfl := h6.eq_unread hf6; obtain rfl := h7.eq_unread hf7; obtain rfl := h8.eq_unread hf8; obtain rfl := h9.eq_unread hf9
    obtain rfl := h10.eq_unread hf10
    sl_exec
    sl_step
    iapply Hk
    isplitl [H6]; · iexists _; isplitr; · ipureintro; exact h6.read_unread _
                    iexact H6
    isplitl [H7]; · iexists _; isplitr; · ipureintro; exact h7.read_unread _
                    iexact H7
    isplitl [H8]; · iexact H8
    isplitl [H9]; · iexact H9
    isplitl [H10]; · iexact H10
    isplitl [T0]; · iexact T0
    isplitl [T1]; · iexact T1
    isplitl [T2]; · iexact T2
    iexact T3

end Cert.Kernel3Ideal.Down

end
-- ==== Proof.DownCases.lean ====
/- What the down projection's body leaves in its buffers, by the step's kind and chunk. -/
module

public import proofs.«01_k».proof.Proof.DownRun
public import proofs.«01_k».proof.Proof.Cases
public import Idealize.ShloMosaic.Lib.VecWindow

@[expose] public section

set_option maxRecDepth 16384

noncomputable section

namespace Cert.Kernel3Ideal.Down

open Cert.Kernel3Ideal.Gen
open Idealize.ShloMosaic Idealize.ShloMosaic.TcCoe Idealize.ShloMosaic.Tactic
open Cert.Kernel2Ideal.Mat (cond_one cond_two)

variable {F : FTy → Type} [FloatOps F]

variable (c : Dev nD) (i : grid0.Coords)
  (a6 : Memref sig .tc .vmem S256x14336 .bf16) (h6 : a6.IsWhole) (a7 : Memref sig .tc .vmem S1x2048x512 .f32) (h7 : a7.IsWhole)
  (a8 : Memref sig .tc .vmem S256x512 .f32) (h8 : a8.IsWhole)
  (a9 : Memref sig .tc .vmem S14336x512 .bf16) (h9 : a9.IsWhole) (a10 : Memref sig .tc .vmem S256x512 .f32) (h10 : a10.IsWhole)
  (x : Vec F S256x14336 .bf16) (w : Vec F S1x2048x512 .f32) (o : Vec F S256x512 .f32)
  (b : Vec F S14336x512 .bf16) (s : Vec F S256x512 .f32)
  (t0 : TbBuf (F := F) c tb0) (t1 : TbBuf (F := F) c tb1) (t2 : TbBuf (F := F) c tb2) (t3 : TbBuf (F := F) c tb3)

/-- The contents a run leaves, read back through the memrefs. -/
structure Left (F : FTy → Type) where
  o : Vec F S256x512 .f32
  b : Vec F S14336x512 .bf16
  s : Vec F S256x512 .f32

abbrev left : Left F :=
  let G := bodyRun c i a6 h6 a7 h7 a8 h8 a9 h9 a10 h10 x w o b s t0 t1 t2 t3
  ⟨a8.view.read (Elt F) G.1, a9.view.read (Elt F) G.2.1, a10.view.read (Elt F) G.2.2.1⟩

/-- The whole-buffer loads and stores at their literal sizes. -/
theorem ld_w (a : Memref sig .tc .vmem S1x2048x512 .f32) (h : a.IsWhole) (w : Vec F S1x2048x512 .f32)
    (inb : ∀ k, (![0, 0, 0] : Fin 3 → ℕ) k + (![1, 2048, 512] : Fin 3 → ℕ) k ≤ S1x2048x512.size k) :
    a.view.readAt (Elt F) (Rect.unit (s := S1x2048x512) ![0, 0, 0] ![1, 2048, 512] inb).toLoadRect (h.unread w) = w :=
  (View.readAt_full a.view (h.unread w) inb).trans (h.read_unread w)
theorem ld_x (a : Memref sig .tc .vmem S256x14336 .bf16) (h : a.IsWhole) (w : Vec F S256x14336 .bf16)
    (inb : ∀ k, (![0, 0] : Fin 2 → ℕ) k + (![256, 14336] : Fin 2 → ℕ) k ≤ S256x14336.size k) :
    a.view.readAt (Elt F) (Rect.unit (s := S256x14336) ![0, 0] ![256, 14336] inb).toLoadRect (h.unread w) = w :=
  (View.readAt_full a.view (h.unread w) inb).trans (h.read_unread w)
theorem ld_b (a : Memref sig .tc .vmem S14336x512 .bf16) (h : a.IsWhole) (w : Vec F S14336x512 .bf16)
    (inb : ∀ k, (![0, 0] : Fin 2 → ℕ) k + (![14336, 512] : Fin 2 → ℕ) k ≤ S14336x512.size k) :
    a.view.readAt (Elt F) (Rect.unit (s := S14336x512) ![0, 0] ![14336, 512] inb).toLoadRect (h.unread w) = w :=
  (View.readAt_full a.view (h.unread w) inb).trans (h.read_unread w)
theorem ld_s (a : Memref sig .tc .vmem S256x512 .f32) (h : a.IsWhole) (w : Vec F S256x512 .f32)
    (inb : ∀ k, (![0, 0] : Fin 2 → ℕ) k + (![256, 512] : Fin 2 → ℕ) k ≤ S256x512.size k) :
    a.view.readAt (Elt F) (Rect.unit (s := S256x512) ![0, 0] ![256, 512] inb).toLoadRect (h.unread w) = w :=
  (View.readAt_full a.view (h.unread w) inb).trans (h.read_unread w)
theorem ld_cov (a : Memref sig .tc .vmem S256x512 .f32)
    (inb inb' : ∀ k, (![0, 0] : Fin 2 → ℕ) k + (![256, 512] : Fin 2 → ℕ) k ≤ S256x512.size k) (w) (L) :
    a.view.readCov (Val := Elt F) (⟨Rect.unit (s := S256x512) ![0, 0] ![256, 512] inb', w⟩ :: L)
      (Rect.unit (s := S256x512) ![0, 0] ![256, 512] inb).toLoadRect = w :=
  View.readCov_full a.view inb inb' w L
theorem st_s (a : Memref sig .tc .vmem S256x512 .f32) (f : a.view.ty.Contents (Elt F))
    (inb : ∀ k, (![0, 0] : Fin 2 → ℕ) k + (![256, 512] : Fin 2 → ℕ) k ≤ S256x512.size k) (w) (L) :
    a.view.read (Elt F) (a.view.writes (Elt F) f (⟨Rect.unit (s := S256x512) ![0, 0] ![256, 512] inb, w⟩ :: L)) = w :=
  View.read_writes_full a.view f inb w L

/-- Columns `[n, n + 2048)` of the block of rows. -/
abbrev cols (n : ℕ) (h : n + 2048 ≤ 14336) : Vec F S256x2048 .bf16 :=
  VecWindow.window (s := S256x14336) x ![0, n] ![256, 2048] fun k => match k with | 0 => Nat.le_refl 256 | 1 => h
theorem ld_cols (a : Memref sig .tc .vmem S256x14336 .bf16) (h : a.IsWhole) (n : ℕ) (hn : n + 2048 ≤ 14336)
    (inb : ∀ k, (![0, n] : Fin 2 → ℕ) k + (![256, 2048] : Fin 2 → ℕ) k ≤ S256x14336.size k) :
    a.view.readAt (Elt F) (Rect.unit (s := S256x14336) ![0, n] ![256, 2048] inb).toLoadRect (h.unread x) = cols x n hn := by
  rw [View.readAt_unit a.view _ inb rfl inb, h.read_unread]

/-- Rows `[n, n + 2048)` of the resident weights overwritten by a block of weights. -/
abbrev putRows (b : Vec F S14336x512 .bf16) (n : ℕ) (w : Vec F S1x2048x512 .f32) : Vec F S14336x512 .bf16 :=
  VecWindow.put (s := S14336x512) b ![n, 0] ![2048, 512] (k0_pay7 w)
theorem st_rows (a : Memref sig .tc .vmem S14336x512 .bf16) (h : a.IsWhole) (b : Vec F S14336x512 .bf16) (n : ℕ)
    (inb : ∀ k, (![n, 0] : Fin 2 → ℕ) k + (![2048, 512] : Fin 2 → ℕ) k ≤ S14336x512.size k) (w : Vec F S1x2048x512 .f32) :
    a.view.read (Elt F) (a.view.writes (Elt F) (h.unread b) [⟨Rect.unit (s := S14336x512) ![n, 0] ![2048, 512] inb, k0_pay7 w⟩])
      = putRows b n w := by
  rw [View.read_writes_cons_put a.view _ inb _ _ rfl, View.writes_nil, h.read_unread]

/-- The conditions of a step, at its kind `k` and chunk `q`. -/
theorem conds {k q : BitVec 32} (hk : kindOf c t0 i = k) (hq : chunkOf c t3 i = q) :
    (bodyRun.sl.v8 c i t0 t3 = 1#1) = (k = 1#32 ∧ q = 0#32) ∧ (bodyRun.sl.v13 c i t0 t3 = 1#1) = (k = 1#32 ∧ q = 1#32)
      ∧ (bodyRun.sl.v18 c i t0 t3 = 1#1) = (k = 1#32 ∧ q = 2#32) ∧ (bodyRun.sl.v23 c i t0 t3 = 1#1) = (k = 1#32 ∧ q = 3#32)
      ∧ (bodyRun.sl.v28 c i t0 t3 = 1#1) = (k = 1#32 ∧ q = 4#32) ∧ (bodyRun.sl.v33 c i t0 t3 = 1#1) = (k = 1#32 ∧ q = 5#32)
      ∧ (k0_cond7 (bodyRun.sl.r c i t0) (bodyRun.sl.r_1 c i t3) = 1#1) = (k = 1#32 ∧ q = 6#32)
      ∧ (k0_cond8 (bodyRun.sl.r c i t0) = 1#1) = (k = 2#32) ∧ (k0_cond9 (bodyRun.sl.r c i t0) = 1#1) = (k = 3#32) := by
  subst hk hq
  exact ⟨propext (cond_two ..), propext (cond_two ..), propext (cond_two ..), propext (cond_two ..), propext (cond_two ..),
    propext (cond_two ..), propext (cond_two ..), propext (cond_one ..), propext (cond_one ..)⟩

theorem left_load0 (hk : kindOf c t0 i = 1#32) (hc : chunkOf c t3 i = 0#32) :
    left c i a6 h6 a7 h7 a8 h8 a9 h9 a10 h10 x w o b s t0 t1 t2 t3
      = ⟨o, putRows b 0 w, k0_pay8 (cols x 0 (by omega)) w⟩ := by
  obtain ⟨q1, q2, q3, q4, q5, q6, q7, q8, q9⟩ := conds c i t0 t3 hk hc
  unfold left bodyRun
  simp +decide only [q1, q2, q3, q4, q5, q6, q7, q8, q9, false_and, and_true, and_false, and_self, dite_true, dite_false,
    ld_cols x a6 h6 0 (by omega), ld_w, ld_x, ld_b, ld_s, ld_cov, st_s, h7.read_unread, h8.read_unread, h9.read_unread, h10.read_unread]
  exact Left.mk.injEq .. ▸ ⟨rfl, st_rows a9 h9 b 0 _ w, rfl⟩

/-- The loads between the first and the last. -/
theorem left_mid {n : ℕ} (h1 : 1 ≤ n) (h5 : n ≤ 5) (hk : kindOf c t0 i = 1#32) (hc : chunkOf c t3 i = BitVec.ofNat 32 n) :
    left c i a6 h6 a7 h7 a8 h8 a9 h9 a10 h10 x w o b s t0 t1 t2 t3
      = ⟨o, putRows b (2048 * n) w, k0_pay11 (cols x (2048 * n) (by omega)) w s⟩ := by
  obtain ⟨q1, q2, q3, q4, q5, q6, q7, q8, q9⟩ := conds c i t0 t3 hk hc
  unfold left bodyRun
  obtain rfl | rfl | rfl | rfl | rfl : n = 1 ∨ n = 2 ∨ n = 3 ∨ n = 4 ∨ n = 5 := by omega
  all_goals
    simp +decide only [q1, q2, q3, q4, q5, q6, q7, q8, q9, false_and, and_true, and_false, and_self, dite_true, dite_false,
      bodyRun.sl.v53, bodyRun.sl.v53_1, bodyRun.sl.v53_2, bodyRun.sl.v53_3, bodyRun.sl.v53_4, ld_cols x a6 h6 2048 (by omega),
      ld_cols x a6 h6 4096 (by omega), ld_cols x a6 h6 6144 (by omega), ld_cols x a6 h6 8192 (by omega), ld_cols x a6 h6 10240 (by omega),
      ld_w, ld_x, ld_b, ld_s, ld_cov, st_s, h7.read_unread, h8.read_unread, h9.read_unread, h10.read_unread]
    exact Left.mk.injEq .. ▸ ⟨rfl, st_rows a9 h9 b _ _ w, rfl⟩

theorem left_last (hk : kindOf c t0 i = 1#32) (hc : chunkOf c t3 i = 6#32) :
    left c i a6 h6 a7 h7 a8 h8 a9 h9 a10 h10 x w o b s t0 t1 t2 t3
      = ⟨k0_pay11 (cols x 12288 (by omega)) w s, putRows b 12288 w, k0_pay11 (cols x 12288 (by omega)) w s⟩ := by
  obtain ⟨q1, q2, q3, q4, q5, q6, q7, q8, q9⟩ := conds c i t0 t3 hk hc
  unfold left bodyRun
  simp +decide only [q1, q2, q3, q4, q5, q6, q7, q8, q9, false_and, and_true, and_false, and_self, dite_true, dite_false,
    bodyRun.sl.v53_5, bodyRun.sl.v58, bodyRun.sl.H10_1, ld_cols x a6 h6 12288 (by omega), ld_w, ld_x, ld_b, ld_s, ld_cov, st_s, h7.read_unread, h8.read_unread, h9.read_unread, h10.read_unread]
  exact Left.mk.injEq .. ▸ ⟨rfl, st_rows a9 h9 b 12288 _ w, rfl⟩

theorem left_keep (hk : kindOf c t0 i = 2#32) :
    left c i a6 h6 a7 h7 a8 h8 a9 h9 a10 h10 x w o b s t0 t1 t2 t3
      = ⟨k0_pay4 x b, b, s⟩ := by
  obtain ⟨q1, q2, q3, q4, q5, q6, q7, q8, q9⟩ := conds c i t0 t3 hk rfl
  unfold left bodyRun
  simp +decide only [q1, q2, q3, q4, q5, q6, q7, q8, q9, false_and, and_true, and_false, and_self, dite_true, dite_false,
    bodyRun.sl.v46, ld_w, ld_x, ld_b, ld_s, ld_cov, st_s, h7.read_unread, h8.read_unread, h9.read_unread, h10.read_unread]

theorem left_skip (hk : kindOf c t0 i = 3#32) :
    left c i a6 h6 a7 h7 a8 h8 a9 h9 a10 h10 x w o b s t0 t1 t2 t3
      = ⟨k0_pay5, b, s⟩ := by
  obtain ⟨q1, q2, q3, q4, q5, q6, q7, q8, q9⟩ := conds c i t0 t3 hk rfl
  unfold left bodyRun
  simp +decide only [q1, q2, q3, q4, q5, q6, q7, q8, q9, false_and, and_true, and_false, and_self, dite_true, dite_false,
    ld_w, ld_x, ld_b, ld_s, ld_cov, st_s, h7.read_unread, h8.read_unread, h9.read_unread, h10.read_unread]

theorem left_rest (hk : kindOf c t0 i = 0#32) :
    left c i a6 h6 a7 h7 a8 h8 a9 h9 a10 h10 x w o b s t0 t1 t2 t3
      = ⟨o, b, s⟩ := by
  obtain ⟨q1, q2, q3, q4, q5, q6, q7, q8, q9⟩ := conds c i t0 t3 hk rfl
  unfold left bodyRun
  simp +decide only [q1, q2, q3, q4, q5, q6, q7, q8, q9, false_and, and_true, and_false, and_self, dite_true, dite_false,
    ld_w, ld_x, ld_b, ld_s, ld_cov, st_s, h7.read_unread, h8.read_unread, h9.read_unread, h10.read_unread]

end Cert.Kernel3Ideal.Down

end
-- ==== Proof.Plan.lean ====
/- Step tables of any size that name every tile in order: what holds between their steps. -/
module

public import Idealize.ShloMosaic.Lib.WordCmp

@[expose] public section

namespace Cert.Plan

variable {S T L : ℕ}

/-- A step after which its tile's block of the result is written; `L` is an expert's last chunk. -/
def Done (L : ℕ) (k c : Fin (S + 1) → BitVec 32) (s : Fin (S + 1)) : Prop :=
  k s = 2#32 ∨ k s = 3#32 ∨ k s = 0#32 ∨ k s = 1#32 ∧ c s = BitVec.ofNat 32 L

/-- From one step to the next. -/
structure Next (L : ℕ) (k t e c : Fin (S + 1) → BitVec 32) (s s' : Fin (S + 1)) : Prop where
  tile : t s' = t s ∨ t s' = t s + 1#32 ∧ Done L k c s
  rest : k s' = 0#32 → t s' = t s ∧ Done L k c s
  load : k s' = 1#32 → 0 < (c s').toInt → k s = 1#32 ∧ c s' = c s + 1#32 ∧ e s' = e s ∧ t s' = t s
  keep : k s' = 2#32 → e s' = e s ∧ (k s = 2#32 ∨ k s = 1#32 ∧ c s = BitVec.ofNat 32 L)

/-- What a kernel needs of its tables: the steps' kinds, tiles, experts and chunks, and the tiles' row counts and experts. -/
structure Good (L : ℕ) (k t e c : Fin (S + 1) → BitVec 32) (va te : Fin T → BitVec 32) : Prop where
  words : ∀ s, (k s).toNat ≤ 3 ∧ (t s).toNat < T ∧ (e s).toNat < 8 ∧ (c s).toNat ≤ L
  tiles : ∀ s i, t s = BitVec.ofNat 32 i.val →
    ((k s = 1#32 ∨ k s = 2#32) → e s = te i ∧ 0 < (va i).toInt) ∧ (k s = 3#32 → (va i).toInt ≤ 0)
  next : ∀ s : Fin S, Next L k t e c s.castSucc s.succ
  first : t 0 = 0#32 ∧ (k 0 = 3#32 ∨ k 0 = 1#32 ∧ c 0 = 0#32)
  last : (t (Fin.last S)).toNat + 1 = T ∧ Done L k c (Fin.last S)

theorem prev_step {s : Fin (S + 1)} (h : s.val ≠ 0) : ∃ p : Fin S, p.succ = s :=
  ⟨⟨s.val - 1, by omega⟩, Fin.ext (by show s.val - 1 + 1 = s.val; omega)⟩

theorem not_done_load {k c : Fin (S + 1) → BitVec 32} {s : Fin (S + 1)} (hk : k s = 1#32) (hq : c s ≠ BitVec.ofNat 32 L) : ¬ Done L k c s := by
  unfold Done
  rw [hk]
  rintro (h | h | h | h)
  · exact absurd h (by decide)
  · exact absurd h (by decide)
  · exact absurd h (by decide)
  · exact hq h.2

variable {k t e c : Fin (S + 1) → BitVec 32} {va te : Fin T → BitVec 32} (h : Good L k t e c va te)

include h

theorem Good.kinds (s : Fin (S + 1)) : k s = 0#32 ∨ k s = 1#32 ∨ k s = 2#32 ∨ k s = 3#32 := by
  have hw := (h.words s).1
  have : (k s).toNat = 0 ∨ (k s).toNat = 1 ∨ (k s).toNat = 2 ∨ (k s).toNat = 3 := by omega
  exact this.imp (fun h => BitVec.eq_of_toNat_eq h) (Or.imp (fun h => BitVec.eq_of_toNat_eq h)
    (Or.imp (fun h => BitVec.eq_of_toNat_eq h) fun h => BitVec.eq_of_toNat_eq h))

/-- A step that is not the first of a tile's has one before it. -/
theorem Good.pos_of {s : Fin (S + 1)} (hk : k s ≠ 3#32) (hc : k s = 1#32 → c s ≠ 0#32) : s.val ≠ 0 := fun hs => by
  obtain rfl : s = 0 := Fin.ext hs
  exact h.first.2.elim hk fun q => hc q.1 q.2

/-- Before a load of a later chunk comes the load of the chunk before it, of the same expert and tile. -/
theorem Good.before_load (hL : L < 2147483648) {s : Fin (S + 1)} {n : ℕ} (hk : k s = 1#32) (hq : (c s).toNat = n + 1) :
    ∃ p : Fin S, p.succ = s ∧ k p.castSucc = 1#32 ∧ (c p.castSucc).toNat = n ∧ e p.castSucc = e s ∧ t p.castSucc = t s := by
  have hw := (h.words s).2.2.2
  obtain ⟨p, rfl⟩ := prev_step (h.pos_of (s := s) (by rw [hk]; decide) fun _ q => by rw [q] at hq; exact absurd hq (by simp))
  obtain ⟨l1, l2, l3, l4⟩ := (h.next p).load hk (by rw [BitVec.toInt_eq_toNat_cond]; split_ifs <;> omega)
  refine ⟨p, rfl, l1, ?_, l3.symm, l4.symm⟩
  rw [l2, BitVec.toNat_add] at hq
  have : (1#32 : BitVec 32).toNat = 1 := by decide
  have := (c p.castSucc).isLt
  omega

/-- Before a step that keeps its expert comes one of the same expert that had all its weights. -/
theorem Good.before_keep {s : Fin (S + 1)} (hk : k s = 2#32) :
    ∃ p : Fin S, p.succ = s ∧ e p.castSucc = e s ∧ (k p.castSucc = 2#32 ∨ k p.castSucc = 1#32 ∧ c p.castSucc = BitVec.ofNat 32 L) := by
  obtain ⟨p, rfl⟩ := prev_step (h.pos_of (s := s) (by rw [hk]; decide) fun q => by rw [hk] at q; exact absurd q (by decide))
  obtain ⟨l1, l2⟩ := (h.next p).keep hk
  exact ⟨p, rfl, l1.symm, l2⟩

/-- Before a step that does nothing comes a step after which the tile is written. -/
theorem Good.before_rest {s : Fin (S + 1)} (hk : k s = 0#32) : ∃ p : Fin S, p.succ = s ∧ t s = t p.castSucc ∧ Done L k c p.castSucc := by
  obtain ⟨p, rfl⟩ := prev_step (h.pos_of (s := s) (by rw [hk]; decide) fun q => by rw [hk] at q; exact absurd q (by decide))
  exact ⟨p, rfl, (h.next p).rest hk⟩

/-- Every tile has a step after which another tile follows, or the tables end. -/
theorem Good.tile_end (i : ℕ) (hi : i < T) : ∃ s : Fin (S + 1), (t s).toNat = i ∧ ∀ p : Fin S, p.castSucc = s → (t p.succ).toNat ≠ i := by
  by_contra hno
  have hno' : ∀ s : Fin (S + 1), (t s).toNat = i → ∃ p : Fin S, p.castSucc = s ∧ (t p.succ).toNat = i := by
    intro s hs
    by_contra h
    exact hno ⟨s, hs, fun p hp he => h ⟨p, hp, he⟩⟩
  have hT := h.last.1
  have hB := (t (Fin.last S)).isLt
  have hle : ∀ n : ℕ, ∀ s : Fin (S + 1), s.val = n → (t s).toNat ≤ i := by
    intro n
    induction n with
    | zero =>
      intro s hs
      obtain rfl : s = 0 := Fin.ext hs
      rw [h.first.1]; exact Nat.zero_le _
    | succ n ih =>
      intro s hs
      obtain ⟨p, rfl⟩ := prev_step (s := s) (by omega)
      have hp : p.val + 1 = n + 1 := hs
      have h1 := ih p.castSucc (by show p.val = n; omega)
      by_cases h2 : (t p.castSucc).toNat = i
      · obtain ⟨q, hq, he⟩ := hno' _ h2
        have : q = p := Fin.castSucc_injective _ hq
        rw [← this]; exact le_of_eq he
      · rcases (h.next p).tile with h | h
        · rw [h]; exact h1
        · rw [h.1, BitVec.toNat_add]
          have : (1#32 : BitVec 32).toNat = 1 := by decide
          omega
  have hl := hle S (Fin.last S) rfl
  obtain ⟨p, hp, -⟩ := hno' (Fin.last S) (by omega)
  have e1 : p.val = S := congrArg Fin.val hp
  have := p.isLt
  omega

/-- A tile with rows has one of the eight experts. -/
theorem Good.expert_lt (i : Fin T) (hv : 0 < (va i).toInt) : (te i).toNat < 8 := by
  have key : ∀ n : ℕ, ∀ s : Fin (S + 1), s.val = n → (t s).toNat = i.val → (te i).toNat < 8 := by
    intro n
    induction n using Nat.strong_induction_on with
    | _ n ih =>
      intro s hs ht
      have hi : t s = BitVec.ofNat 32 i.val := by rw [← ht, BitVec.ofNat_toNat, BitVec.setWidth_eq]
      have hT := h.tiles s i hi
      have hw := h.words s
      rcases h.kinds s with h0 | h0 | h0 | h0
      · obtain ⟨p, rfl, hp, -⟩ := h.before_rest h0
        exact ih p.val (by rw [← hs]; exact Nat.lt_succ_self _) p.castSucc rfl (by rw [← ht, hp])
      · rw [← (hT.1 (.inl h0)).1]; exact hw.2.2.1
      · rw [← (hT.1 (.inr h0)).1]; exact hw.2.2.1
      · exact absurd (hT.2 h0) (by omega)
  obtain ⟨s, hs, -⟩ := h.tile_end i.val i.isLt
  exact key s.val s rfl hs

end Cert.Plan
-- ==== Proof.DownSched.lean ====
/- What the down projection's condition says of its step tables, word by word. -/
module

public import proofs.«01_k».proof.Proof.Gen.Pre_schedule_covers_down_tiles
public import proofs.«01_k».proof.Proof.Plan
public import proofs.«01_k».proof.Proof.Schedule

@[expose] public section

set_option maxRecDepth 16384

namespace Cert.DownSched

open Idealize.ShloMosaic
open Cert.Pre_schedule_covers_down_tiles
open Cert.Sched (and_one or_one not_one ofBool_one or_assoc4)
open Cert.Plan (Done Next Good)

/-- A table's word. -/
def word {n : ℕ} (x : IVec ⟨1, ![n]⟩ 32) (s : Fin n) : BitVec 32 := x fun a => match a with | 0 => s

theorem word_eq {n : ℕ} (x : IVec ⟨1, ![n]⟩ 32) (f : Shape.Idx ⟨1, ![n]⟩) : x f = word x (f 0) :=
  congrArg x (funext fun a => match a with | 0 => rfl)

variable {F : FTy → Type} [FloatOps F] (a0 : FVec F S20480x14336 .bf16) (a1 : FVec F S8x14336x4096 .f32)
  (k t e c : IVec S128 32) (va te : IVec S80 32)

theorem words_raw (h : (fn (F := F) a0 a1 k t e c va te).1 = fun _ => 1#1) (s : Fin 128) :
    (word k s).toNat ≤ 3 ∧ (word t s).toNat < 80 ∧ (word e s).toNat < 8 ∧ (word c s).toNat ≤ 6 := by
  have q := congrFun h fun a => match a with | 0 => s
  simp only [fn, fn_part1, fn_part2, fn_part3, fn_part4, fn_part5, fn_part6, andi, ori, noti, cmpi, broadcastInDim,
    constantI, and_one, IntOp.cmpi, ofBool_one, BitVec.sle_eq_decide, BitVec.slt_eq_decide, decide_eq_true_eq,
    word_eq k, word_eq t, word_eq e, word_eq c] at q
  have h0 : (0#32 : BitVec 32).toInt = 0 := by decide
  have h3 : (3#32 : BitVec 32).toInt = 3 := by decide
  have h6 : (6#32 : BitVec 32).toInt = 6 := by decide
  have h8 : (8#32 : BitVec 32).toInt = 8 := by decide
  have h80 : (80#32 : BitVec 32).toInt = 80 := by decide
  simp only [h0, h3, h6, h8, h80, BitVec.toInt_eq_toNat_cond] at q
  have := (word k s).isLt
  have := (word t s).isLt
  have := (word e s).isLt
  have := (word c s).isLt
  split_ifs at q <;> omega

theorem tiles_raw (h : (fn (F := F) a0 a1 k t e c va te).2.1 = fun _ => 1#1) (s : Fin 128) (i : Fin 80)
    (hi : word t s = BitVec.ofNat 32 i.val) :
    ((word k s = 1#32 ∨ word k s = 2#32) → word e s = word te i ∧ 0 < (word va i).toInt) ∧
      (word k s = 3#32 → (word va i).toInt ≤ 0) := by
  have q := congrFun h fun a => match a with | 0 => s | 1 => i
  simp only [fn, fn_part1, fn_part2, fn_part3, fn_part4, fn_part5, fn_part6, andi, ori, noti, cmpi, broadcastInDim,
    constantI, iotaInDim, and_one, or_one, not_one, IntOp.cmpi, ofBool_one, BitVec.sle_eq_decide, BitVec.slt_eq_decide,
    decide_eq_true_eq, beq_iff_eq, word_eq k, word_eq t, word_eq e, word_eq c, word_eq va, word_eq te] at q
  change (¬word t s = BitVec.ofNat 32 i.val) ∨
    ((¬(word k s = 1#32 ∨ word k s = 2#32) ∨ word e s = word te i ∧ (0#32 : BitVec 32).toInt < (word va i).toInt) ∧
      (¬word k s = 3#32 ∨ (word va i).toInt ≤ (0#32 : BitVec 32).toInt)) at q
  have h0 : (0#32 : BitVec 32).toInt = 0 := by decide
  rw [h0] at q
  obtain ⟨q1, q2⟩ := q.resolve_left (not_not_intro hi)
  exact ⟨fun h => q1.resolve_left (not_not_intro h), fun h => q2.resolve_left (not_not_intro h)⟩

theorem steps_raw (h : (fn (F := F) a0 a1 k t e c va te).2.2.1 = fun _ => 1#1) (s : Fin 127) :
    Next (S := 127) 6 (word k) (word t) (word e) (word c) s.castSucc s.succ := by
  have q := congrFun h fun a => match a with | 0 => s
  simp only [fn, fn_part1, fn_part2, fn_part3, fn_part4, fn_part5, fn_part6, andi, ori, noti, cmpi, broadcastInDim,
    constantI, extractStridedSlice, addi, IntOp.addi, and_one, or_one, not_one, IntOp.cmpi, ofBool_one,
    BitVec.slt_eq_decide, decide_eq_true_eq, beq_iff_eq, word_eq k, word_eq t, word_eq e, word_eq c] at q
  have h0 : (0#32 : BitVec 32).toInt = 0 := by decide
  rw [h0] at q
  have hb : 1 + s.val < 128 := by omega
  have hc : 0 + s.val < 128 := by omega
  have es : s.succ = (⟨1 + s.val, hb⟩ : Fin 128) := Fin.ext (Nat.add_comm s.val 1)
  have et : s.castSucc = (⟨0 + s.val, hc⟩ : Fin 128) := Fin.ext (Nat.zero_add s.val).symm
  rw [es, et]
  generalize hx : (⟨1 + s.val, hb⟩ : Fin 128) = b
  generalize hy : (⟨0 + s.val, hc⟩ : Fin 128) = a
  replace q : ((((word t b = word t a ∨ word t b = word t a + 1#32 ∧
      (((word k a = 2#32 ∨ word k a = 3#32) ∨ word k a = 0#32) ∨ word k a = 1#32 ∧ word c a = 6#32)) ∧
      (¬word k b = 0#32 ∨ word t b = word t a ∧
        (((word k a = 2#32 ∨ word k a = 3#32) ∨ word k a = 0#32) ∨ word k a = 1#32 ∧ word c a = 6#32))) ∧
      (¬(word k b = 1#32 ∧ 0 < (word c b).toInt) ∨
        (((word k a = 1#32 ∧ word c b = word c a + 1#32) ∧ word e b = word e a) ∧ word t b = word t a))) ∧
      (¬word k b = 2#32 ∨ word e b = word e a ∧ (word k a = 2#32 ∨ word k a = 1#32 ∧ word c a = 6#32))) := by
    subst hx hy
    exact q
  obtain ⟨⟨⟨q1, q2⟩, q3⟩, q4⟩ := q
  exact ⟨q1.imp_right fun h => ⟨h.1, or_assoc4 h.2⟩,
    fun h => ⟨(q2.resolve_left (not_not_intro h)).1, or_assoc4 (q2.resolve_left (not_not_intro h)).2⟩,
    fun h h' => have r := q3.resolve_left (not_not_intro ⟨h, h'⟩); ⟨r.1.1.1, r.1.1.2, r.1.2, r.2⟩,
    fun h => q4.resolve_left (not_not_intro h)⟩

theorem first_raw (h : (fn (F := F) a0 a1 k t e c va te).2.2.2.1 = fun _ => 1#1) :
    word t 0 = 0#32 ∧ (word k 0 = 3#32 ∨ word k 0 = 1#32 ∧ word c 0 = 0#32) := by
  have q := congrFun h fun a => match a with | 0 => (0 : Fin 1)
  simp only [fn, fn_part1, fn_part2, fn_part3, fn_part4, fn_part5, fn_part6, andi, ori, noti, cmpi, broadcastInDim,
    constantI, extractStridedSlice, addi, IntOp.addi, and_one, or_one, not_one, IntOp.cmpi, ofBool_one,
    decide_eq_true_eq, beq_iff_eq, word_eq k, word_eq t, word_eq e, word_eq c] at q
  exact q

theorem end_raw (h : (fn (F := F) a0 a1 k t e c va te).2.2.2.2 = fun _ => 1#1) :
    word t 127 = 79#32 ∧ Done (S := 127) 6 (word k) (word c) 127 := by
  have q := congrFun h fun a => match a with | 0 => (0 : Fin 1)
  simp only [fn, fn_part1, fn_part2, fn_part3, fn_part4, fn_part5, fn_part6, andi, ori, noti, cmpi, broadcastInDim,
    constantI, extractStridedSlice, addi, IntOp.addi, and_one, or_one, not_one, IntOp.cmpi, ofBool_one,
    decide_eq_true_eq, beq_iff_eq, word_eq k, word_eq t, word_eq e, word_eq c] at q
  change word t 127 = 79#32 ∧ (((word k 127 = 2#32 ∨ word k 127 = 3#32) ∨ word k 127 = 0#32) ∨ word k 127 = 1#32 ∧ word c 127 = 6#32) at q
  exact ⟨q.1, or_assoc4 q.2⟩

theorem good_of_fn
    (h : (fn (F := F) a0 a1 k t e c va te).1 = (fun _ => 1#1) ∧ (fn (F := F) a0 a1 k t e c va te).2.1 = (fun _ => 1#1)
      ∧ (fn (F := F) a0 a1 k t e c va te).2.2.1 = (fun _ => 1#1) ∧ (fn (F := F) a0 a1 k t e c va te).2.2.2.1 = (fun _ => 1#1)
      ∧ (fn (F := F) a0 a1 k t e c va te).2.2.2.2 = (fun _ => 1#1)) :
    Good (S := 127) (T := 80) 6 (word k) (word t) (word e) (word c) (word va) (word te) :=
  have hl := end_raw a0 a1 k t e c va te h.2.2.2.2
  ⟨words_raw a0 a1 k t e c va te h.1, tiles_raw a0 a1 k t e c va te h.2.1, steps_raw a0 a1 k t e c va te h.2.2.1,
    first_raw a0 a1 k t e c va te h.2.2.2.1,
    (congrArg (fun w : BitVec 32 => w.toNat + 1) hl.1).trans (by decide), hl.2⟩

end Cert.DownSched
-- ==== Proof.DownTables.lean ====
/- The step tables of the experts' down projection, word by word, and that the blocks they name lie inside their arrays. -/
module

public import proofs.«01_k».proof.Proof.DownSetup
public import proofs.«01_k».proof.Proof.DownSched
public import Idealize.ShloMosaic.Lib.Affine

@[expose] public section

set_option maxRecDepth 16384

noncomputable section

namespace Cert.Kernel3Ideal.Down

open Cert.Kernel3Ideal.Gen
open Idealize.ShloMosaic Idealize.ShloMosaic.TcCoe
open Cert.DownSched (word)

variable {F : FTy → Type} [FloatOps F]
variable (m : (ℓ : Loc nD τ sig) → Buf (Elt F) ℓ)

/-- The step of a grid point, and its column. -/
def stepOf (i : grid0.Coords) : Fin 128 := ⟨(i 1).val, (i 1).isLt⟩
def colOf (i : grid0.Coords) : Fin 8 := ⟨(i 0).val, (i 0).isLt⟩

/-- The tables' words at step `s`. -/
def kindW (s : Fin 128) : BitVec 32 := word (n := 128) (tbl m 0) s
def tileW (s : Fin 128) : BitVec 32 := word (n := 128) (tbl m 1) s
def expertW (s : Fin 128) : BitVec 32 := word (n := 128) (tbl m 2) s
def chunkW (s : Fin 128) : BitVec 32 := word (n := 128) (tbl m 3) s

theorem off1_val (i : grid0.Coords) : k0_off1 i 0 = (i 1).val := by
  have h : (i 1).val < 128 := (i 1).isLt
  show (Scalar.indexCast (BitVec.ofNat 32 (i 1).val)).toNat = _
  simp [Scalar.indexCast]
  omega

/-- The element a step's load of a table names. -/
theorem emb_step (i : grid0.Coords) (x : S128.Idx → BitVec 32) :
    x ((Rect.unit (s := S128) (k0_off1 i) S1.size (k0_off1_inb i)).emb (Shape.Idx.first (numel1_S1.symm ▸ Nat.one_pos)))
      = word (n := 128) x (stepOf i) := by
  rw [Cert.DownSched.word_eq (n := 128) x]
  congr 1
  apply Fin.ext
  have h1 : (Shape.Idx.first (s := S1) (numel1_S1.symm ▸ Nat.one_pos) 0).val = 0 :=
    Nat.lt_one_iff.1 (Shape.Idx.first (s := S1) (numel1_S1.symm ▸ Nat.one_pos) 0).isLt
  show k0_off1 i 0 + 1 * (Shape.Idx.first (s := S1) (numel1_S1.symm ▸ Nat.one_pos) 0).val = (i 1).val
  rw [h1, off1_val]; rfl

theorem col_word (i : grid0.Coords) : (BitVec.ofNat 32 (i 0).val).toNat = (i 0).val := by
  have h : (i 0).val < 8 := (i 0).isLt
  simp; omega

theorem ix_0 (i : grid0.Coords) : cc0_transform_0 k0_off1_inb numel1_S1 (tbl m) i = ![(tileW m (stepOf i)).toNat, 0] := by
  have h := emb_step i (tbl m 1)
  show ![BitVec.toNat _, _] = _
  exact congrArg (fun w : BitVec 32 => ![w.toNat, 0]) h
theorem ix_1 (i : grid0.Coords) : cc0_transform_1 k0_off1_inb numel1_S1 (tbl m) i
    = ![(expertW m (stepOf i)).toNat, (chunkW m (stepOf i)).toNat, (colOf i).val] := by
  have h1 := emb_step i (tbl m 2)
  have h2 := emb_step i (tbl m 3)
  show ![BitVec.toNat _, BitVec.toNat _, BitVec.toNat _] = _
  rw [col_word]
  exact congrArg₂ (fun u w : BitVec 32 => ![u.toNat, w.toNat, (i 0).val]) h1 h2
theorem ix_2 (i : grid0.Coords) : cc0_transform_2 k0_off1_inb numel1_S1 (tbl m) i = ![(tileW m (stepOf i)).toNat, (colOf i).val] := by
  have h1 := emb_step i (tbl m 1)
  show ![BitVec.toNat _, BitVec.toNat _] = _
  rw [col_word]
  exact congrArg (fun w : BitVec 32 => ![w.toNat, (i 0).val]) h1

theorem ok_of_words (h : ∀ s, (kindW m s).toNat ≤ 3 ∧ (tileW m s).toNat < 80 ∧ (expertW m s).toNat < 8 ∧ (chunkW m s).toNat ≤ 6) : Ok m := by
  refine ⟨fun i => ⟨?_, .inr (Affine.block_words_dvd (by decide) (by decide))⟩, fun i => ⟨?_, .inl rfl⟩, fun i => ⟨?_, .inl rfl⟩⟩
  all_goals
    have := h (stepOf i)
    have hj := (colOf i).isLt
  · rw [ix_0]
    intro a
    match a with
    | 0 => show ((tileW m (stepOf i)).toNat + 1) * 256 ≤ 20480; omega
    | 1 => show (0 + 1) * 14336 ≤ 14336; omega
  · rw [ix_1]
    intro a
    match a with
    | 0 => show ((expertW m (stepOf i)).toNat + 1) * 1 ≤ 8; omega
    | 1 => show ((chunkW m (stepOf i)).toNat + 1) * 2048 ≤ 14336; omega
    | 2 => show ((colOf i).val + 1) * 512 ≤ 4096; omega
  · rw [ix_2]
    intro a
    match a with
    | 0 => show ((tileW m (stepOf i)).toNat + 1) * 256 ≤ 20480; omega
    | 1 => show ((colOf i).val + 1) * 512 ≤ 4096; omega

theorem kindOf_eq (c : Dev nD) (i : grid0.Coords) : kindOf c (tbl m 0) i = kindW m (stepOf i) := emb_step i (tbl m 0)
theorem chunkOf_eq (c : Dev nD) (i : grid0.Coords) : chunkOf c (tbl m 3) i = chunkW m (stepOf i) := emb_step i (tbl m 3)

end Cert.Kernel3Ideal.Down

end
-- ==== Proof.DownStep.lean ====
/- The down projection's payloads entry by entry, its results as sums over whole arrays, and how a step extends the sums. -/
module

public import proofs.«01_k».proof.Proof.DownCases
public import proofs.«01_k».proof.Proof.DownTables
public import Idealize.ShloMosaic.Lib.Claim
public import Idealize.ShloMosaic.Lib.Pointwise
public import Idealize.ShloMosaic.Lib.KernelVsHost
public import Idealize.ShloMosaic.Lib.MatmulPlain

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Cert.DownSched (word)

theorem pay6_at (w : FVec Ideal S1x2048x512 .f32) (r : Fin 2048) (q : Fin 512) :
    @Eq EReal ((k0_pay6 (F := Ideal) w : FVec Ideal S2048x512 .bf16) (ix2 r q)) (w (ix3 0 r q)) := by
  pointwise [k0_pay6]

theorem pay7_at (w : FVec Ideal S1x2048x512 .f32) (r : Fin 2048) (q : Fin 512) :
    @Eq EReal ((k0_pay7 (F := Ideal) w : FVec Ideal S2048x512 .bf16) (ix2 r q)) (w (ix3 0 r q)) := by
  pointwise [k0_pay7, k0_pay6]

theorem mm_at {K : ℕ} (x : FVec Ideal ⟨2, ![256, K]⟩ .bf16) (w : FVec Ideal ⟨2, ![K, 512]⟩ .bf16) (p : Fin 256) (q : Fin 512) :
    @Eq EReal ((FloatOps.matmul (DotDims.plain 256 K 512) none x w (constant S256x512 .f32 0x00000000#32) : FVec Ideal S256x512 .f32) (ix2 p q))
      (∑ k : Fin K, (x (ix2 p k) : EReal) * (w (ix2 k q) : EReal)) := by
  exact (Ideal.matmul_plain_apply none x w (constant S256x512 .f32 0x00000000#32) p q).trans
    ((congrArg (fun z : EReal => z + _) Ideal.ofBits_zero_f32).trans (zero_add _))

theorem pay8_at (x : FVec Ideal S256x2048 .bf16) (w : FVec Ideal S1x2048x512 .f32) (p : Fin 256) (q : Fin 512) :
    @Eq EReal ((k0_pay8 (F := Ideal) x w : FVec Ideal S256x512 .f32) (ix2 p q)) (∑ k : Fin 2048, (x (ix2 p k) : EReal) * (w (ix3 0 k q) : EReal)) := by
  have e : @Eq EReal ((k0_pay8 (F := Ideal) x w : FVec Ideal S256x512 .f32) (ix2 p q))
      ((FloatOps.matmul (DotDims.plain 256 2048 512) none x (k0_pay6 (F := Ideal) w) (constant S256x512 .f32 0x00000000#32) : FVec Ideal S256x512 .f32) (ix2 p q)) := by
    unfold k0_pay8
    rw [shapeCast_self]; rfl
  rw [e, mm_at]
  exact Finset.sum_congr rfl fun k _ => congrArg (fun z : EReal => _ * z) (pay6_at w k q)

theorem pay11_at (x : FVec Ideal S256x2048 .bf16) (w : FVec Ideal S1x2048x512 .f32) (s : FVec Ideal S256x512 .f32) (p : Fin 256) (q : Fin 512) :
    @Eq EReal ((k0_pay11 (F := Ideal) x w s : FVec Ideal S256x512 .f32) (ix2 p q))
      ((s (ix2 p q) : EReal) + ∑ k : Fin 2048, (x (ix2 p k) : EReal) * (w (ix3 0 k q) : EReal)) := by
  rw [← pay8_at]
  unfold k0_pay11 k0_pay8
  rw [shapeCast_self, shapeCast_self]; rfl

theorem pay4_at (x : FVec Ideal S256x14336 .bf16) (b : FVec Ideal S14336x512 .bf16) (p : Fin 256) (q : Fin 512) :
    @Eq EReal ((k0_pay4 (F := Ideal) x b : FVec Ideal S256x512 .f32) (ix2 p q)) (∑ k : Fin 14336, (x (ix2 p k) : EReal) * (b (ix2 k q) : EReal)) := by
  rw [← mm_at x b]; rfl

theorem pay5_at (p : Fin 256) (q : Fin 512) : @Eq EReal ((k0_pay5 (F := Ideal) : FVec Ideal S256x512 .f32) (ix2 p q)) 0 := by
  pointwise [k0_pay5]

theorem cols_at (x : FVec Ideal S256x14336 .bf16) (n : ℕ) (h : n + 2048 ≤ 14336) (p : Fin 256) (k : Fin 2048) :
    cols (F := Ideal) x n h (ix2 p k) = x (ix2 p ⟨n + k.val, by omega⟩) := by
  unfold cols VecWindow.window
  congr 1
  funext a; apply Fin.ext
  match a with
  | ⟨0, _⟩ => show 0 + 1 * p.val = p.val; omega
  | ⟨1, _⟩ => show n + 1 * k.val = n + k.val; omega

theorem putRows_in (b : FVec Ideal S14336x512 .bf16) (n : ℕ) (w : FVec Ideal S1x2048x512 .f32) (r : Fin 14336) (q : Fin 512)
    (h : n ≤ r.val) (h' : r.val < n + 2048) :
    @Eq EReal (putRows (F := Ideal) b n w (ix2 r q)) (w (ix3 0 ⟨r.val - n, by omega⟩ q)) := by
  unfold putRows VecWindow.put
  rw [dif_pos (fun a => match a with
    | ⟨0, _⟩ => ⟨h, h'⟩
    | ⟨1, _⟩ => ⟨Nat.zero_le _, by show q.val < 0 + 512; omega⟩)]
  rw [← pay7_at w]
  congr 1
  funext a; apply Fin.ext
  match a with
  | ⟨0, _⟩ => rfl
  | ⟨1, _⟩ => rfl

theorem putRows_out (b : FVec Ideal S14336x512 .bf16) (n : ℕ) (w : FVec Ideal S1x2048x512 .f32) (r : Fin 14336) (q : Fin 512) (h : r.val < n) :
    @Eq EReal (putRows (F := Ideal) b n w (ix2 r q)) (b (ix2 r q)) := by
  unfold putRows VecWindow.put
  rw [dif_neg (fun hh => absurd (hh 0).1 (by show ¬ n ≤ r.val; omega))]

variable (X : FVec Ideal S20480x14336 .bf16) (W : FVec Ideal S8x14336x4096 .f32) (va te : IVec S80 32)

/-- The entries of the arrays, at numbers. -/
def xE (r k : ℕ) : EReal := X (ix2 ⟨r % 20480, Nat.mod_lt _ (by decide)⟩ ⟨k % 14336, Nat.mod_lt _ (by decide)⟩)
def wE (e k j : ℕ) : EReal := W (ix3 ⟨e % 8, Nat.mod_lt _ (by decide)⟩ ⟨k % 14336, Nat.mod_lt _ (by decide)⟩ ⟨j % 4096, Nat.mod_lt _ (by decide)⟩)

/-- The first `n` terms of row `r`'s product with column `j` of expert `e`. -/
def dotE (e r j n : ℕ) : EReal := ∑ k ∈ Finset.range n, xE X r k * wE W e k j

/-- The tile of a row. -/
def tileOf (r : ℕ) : Fin 80 := ⟨r / 256 % 80, Nat.mod_lt _ (by decide)⟩

/-- The result at row `r` and column `j`: zero where the row's tile has no rows. -/
def outE (r j : ℕ) : EReal :=
  if 0 < (word (n := 80) va (tileOf r)).toInt then dotE X W (word (n := 80) te (tileOf r)).toNat r j 14336 else 0

/-- The resident weights hold the first `n` rows of an expert's columns. -/
def Rows (e j n : ℕ) (b : FVec Ideal S14336x512 .bf16) : Prop :=
  ∀ (r : Fin 14336) (q : Fin 512), r.val < n → @Eq EReal (b (ix2 r q)) (wE W e r.val (512 * j + q.val))
/-- The running sums hold the first `n` terms. -/
def Acc (e i j n : ℕ) (s : FVec Ideal S256x512 .f32) : Prop :=
  ∀ (p : Fin 256) (q : Fin 512), @Eq EReal (s (ix2 p q)) (dotE X W e (256 * i + p.val) (512 * j + q.val) n)
/-- A block of rows, and a block of weights. -/
def IsX (i : ℕ) (x : FVec Ideal S256x14336 .bf16) : Prop := ∀ (p : Fin 256) (k : Fin 14336), @Eq EReal (x (ix2 p k)) (xE X (256 * i + p.val) k.val)
def IsW (e n j : ℕ) (w : FVec Ideal S1x2048x512 .f32) : Prop :=
  ∀ (k : Fin 2048) (q : Fin 512), @Eq EReal (w (ix3 0 k q)) (wE W e (n + k.val) (512 * j + q.val))

variable {X W} {e i j n : ℕ} {x : FVec Ideal S256x14336 .bf16} {w : FVec Ideal S1x2048x512 .f32}

theorem rows_none (b : FVec Ideal S14336x512 .bf16) : Rows W e j 0 b := fun _ _ h => absurd h (Nat.not_lt_zero _)

theorem rows_put {b : FVec Ideal S14336x512 .bf16} (hb : Rows W e j n b) (hw : IsW W e n j w) : Rows W e j (n + 2048) (putRows (F := Ideal) b n w) := by
  intro r q h
  by_cases hr : r.val < n
  · rw [putRows_out _ _ _ _ _ hr]; exact hb r q hr
  · rw [putRows_in _ _ _ _ _ (by omega) h, hw]
    congr 1
    show n + (r.val - n) = r.val; omega

theorem sum_cols (hn : n + 2048 ≤ 14336) (hx : IsX X i x) (hw : IsW W e n j w) (p : Fin 256) (q : Fin 512) :
    ∑ k : Fin 2048, ((cols (F := Ideal) x n hn (ix2 p k) : EReal)) * (w (ix3 0 k q) : EReal)
      = ∑ k ∈ Finset.range 2048, xE X (256 * i + p.val) (n + k) * wE W e (n + k) (512 * j + q.val) := by
  rw [Finset.sum_range]
  refine Finset.sum_congr rfl fun k _ => ?_
  rw [hw k q, cols_at]
  exact congrArg (fun z : EReal => z * _) (hx p _)

theorem acc_first (hx : IsX X i x) (hw : IsW W e 0 j w) : Acc X W e i j 2048 (k0_pay8 (F := Ideal) (cols x 0 (by omega)) w) := by
  intro p q
  rw [pay8_at, sum_cols _ hx hw]
  unfold dotE
  simp only [Nat.zero_add]

theorem acc_next {s : FVec Ideal S256x512 .f32} (hn : n + 2048 ≤ 14336) (hs : Acc X W e i j n s) (hx : IsX X i x) (hw : IsW W e n j w) :
    Acc X W e i j (n + 2048) (k0_pay11 (F := Ideal) (cols x n hn) w s) := by
  intro p q
  rw [pay11_at, sum_cols _ hx hw, hs p q]
  unfold dotE
  rw [Finset.sum_range_add]

theorem out_keep {b : FVec Ideal S14336x512 .bf16} (hx : IsX X i x) (hb : Rows W e j 14336 b) (p : Fin 256) (q : Fin 512) :
    @Eq EReal ((k0_pay4 (F := Ideal) x b : FVec Ideal S256x512 .f32) (ix2 p q)) (dotE X W e (256 * i + p.val) (512 * j + q.val) 14336) := by
  rw [pay4_at]
  unfold dotE
  rw [Finset.sum_range]
  exact Finset.sum_congr rfl fun k _ => by rw [hb k q k.isLt, hx p k]

end Cert.Kernel3Ideal.Down

end
-- ==== Proof.DownBody.lean ====
/- The experts' down projection: its proof data, its body at a point, and its launch. -/
module

public import proofs.«01_k».proof.Proof.DownRun

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a point. -/
abbrev ms0 (hO : Ok m) (t : Fin (cfgM m hO).N) : Memref sig .tc .vmem S256x14336 .bf16 := spec0_0.stage ((cfgM m hO).slots t 0)
abbrev ms1 (hO : Ok m) (t : Fin (cfgM m hO).N) : Memref sig .tc .vmem S1x2048x512 .f32 := spec0_1.stage ((cfgM m hO).slots t 1)
abbrev ms2 (hO : Ok m) (t : Fin (cfgM m hO).N) : Memref sig .tc .vmem S256x512 .f32 := spec0_2.stage ((cfgM m hO).slots t 2)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)

/-- The body at a point. -/
abbrev bodyAt (hO : Ok m) (t : Fin (cfgM m hO).N) : Prog (TpuEff nD τ sig (Elt F) Λ₀ .tc) PUnit :=
  cc0_moe_down (grid0.coords t) tb0 (Memref.isWhole_whole _) tb1 (Memref.isWhole_whole _) tb2 (Memref.isWhole_whole _) tb3 (Memref.isWhole_whole _)
    (ms0 m hO t) (hs0 m hO t) (ms1 m hO t) (hs1 m hO t) (ms2 m hO t) (hs2 m hO t)
    scM0 (Memref.isWhole_whole _) scM1 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The contents of the input windows' blocks at a point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))
abbrev blk0 (hO : Ok m) (c : Dev nD) (t : Fin (cfgM m hO).N) : Vec F S256x14336 .bf16 := iblk m hO c 0 t
abbrev blk1 (hO : Ok m) (c : Dev nD) (t : Fin (cfgM m hO).N) : Vec F S1x2048x512 .f32 := iblk m hO c 1 t

/-- The run at a point: the inputs at their blocks, the output and the scratch at given contents. -/
abbrev runAt (hO : Ok m) (c : Dev nD) (t : Fin (cfgM m hO).N) (o : Vec F S256x512 .f32) (b : Vec F S14336x512 .bf16) (s : Vec F S256x512 .f32) :=
  bodyRun c (grid0.coords t) (ms0 m hO t) (hs0 m hO t) (ms1 m hO t) (hs1 m hO t) (ms2 m hO t) (hs2 m hO t)
    scM0 (Memref.isWhole_whole _) scM1 (Memref.isWhole_whole _)
    (blk0 m hO c t) (blk1 m hO c t) o b s (tbl m 0) (tbl m 1) (tbl m 2) (tbl m 3)

/-- What holds of the scratch before a point. -/
abbrev InvT (F : FTy → Type) [FloatOps F] : Type := ℕ → Vec F S14336x512 .bf16 → Vec F S256x512 .f32 → Prop
/-- What the body does to the output's buffer at a point. -/
abbrev RelT (F : FTy → Type) [FloatOps F] (N : ℕ) : Type := Fin N → Vec F S256x512 .f32 → Vec F S256x512 .f32 → Prop

variable (hO : Ok m) (Inv : InvT F) (R : RelT F (cfgM m hO).N)

/-- The scratch before a point. -/
def scr (c : Dev nD) (n : ℕ) : sProp 𝕄 :=
  iprop(∃ b, ∃ s, ⌜Inv n b s⌝ ∗ owns (c : Thread nD τ) scM0 fullShare b ∗ owns (c : Thread nD τ) scM1 fullShare s)

/-- The step tables, as the body is handed them. -/
def tabs (c : Dev nD) : sProp 𝕄 := iprop(tbPt c tb0 (tbl m 0) ∗ tbPt c tb1 (tbl m 1) ∗ tbPt c tb2 (tbl m 2) ∗ tbPt c tb3 (tbl m 3))

/-- What the core holds before a point, beside the staging buffers. -/
def Phi (c : Dev nD) (n : ℕ) : sProp 𝕄 := iprop(scr Inv c n ∗ (∃ r, prngReg c r) ∗ tabs m c)

/-- The proof data on a core: the inputs left as found, the output related by `R`, the scratch as `Inv` has it. -/
def rdat (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => R t Y X
  Φ t := Phi m Inv c t.val
  q _ := fullShare
  owed _ := 0

/-- An input's buffer holds its block wherever the body is handed it. -/
theorem finds0 (c : Dev nD) (t : Fin (cfgM m hO).N) (Y) (h : (rdat m hO Inv R c).Finds 0 t Y) : Y = blk0 m hO c t := by
  obtain ⟨d, hd⟩ := RDat.finds_in_eq_fetched (rdat m hO Inv R c) 0 rfl (fun _ _ _ => rfl) (fun _ _ _ h => h) t Y h
  rw [hd]; rfl
theorem finds1 (c : Dev nD) (t : Fin (cfgM m hO).N) (Y) (h : (rdat m hO Inv R c).Finds 1 t Y) : Y = blk1 m hO c t := by
  obtain ⟨d, hd⟩ := RDat.finds_in_eq_fetched (rdat m hO Inv R c) 1 rfl (fun _ _ _ => rfl) (fun _ _ _ h => h) t Y h
  rw [hd]; rfl

/-- What a step must keep: from contents the body may find, the run leaves contents related by `R` and `Inv`. -/
def Keeps (c : Dev nD) : Prop := ∀ (t : Fin (cfgM m hO).N) o b s, (rdat m hO Inv R c).Finds 2 t o → Inv t.val b s →
  R t o ((ms2 m hO t).view.read (Elt F) (runAt m hO c t o b s).1)
  ∧ Inv (t.val + 1) (scM0.view.read (Elt F) (runAt m hO c t o b s).2.1) (scM1.view.read (Elt F) (runAt m hO c t o b s).2.2.1)

variable {m hO Inv R}

/-- The body at a point, from contents it may find. -/
theorem sound_body (c : Dev nD) (hK : Keeps m hO Inv R c) (t : Fin (cfgM m hO).N)
    (Y : (w : Fin (cfgM m hO).W) → ((cfgM m hO).win w).block.Idx → Elt F ((cfgM m hO).win w).elt)
    (hY : ∀ w, (rdat m hO Inv R c).Finds w t (Y w)) :
    iprop((rdat m hO Inv R c).Φ t.castSucc ∗ (rdat m hO Inv R c).owesAt () t.castSucc
        ∗ owns (c : Thread nD τ) (ms0 m hO t) fullShare (Y 0) ∗ owns (c : Thread nD τ) (ms1 m hO t) fullShare (Y 1)
        ∗ owns (c : Thread nD τ) (ms2 m hO t) fullShare (Y 2))
      ⊢ wp frame (wpE (defs₀ (F := F)) Variants.none c none) Set.univ (bodyAt m hO t) fun _ =>
        iprop((rdat m hO Inv R c).Φ t.succ ∗ (rdat m hO Inv R c).owesAt () t.succ
          ∗ (∃ X, ⌜(rdat m hO Inv R c).after 0 t (Y 0) X⌝ ∗ owns (c : Thread nD τ) (ms0 m hO t) fullShare X)
          ∗ (∃ X, ⌜(rdat m hO Inv R c).after 1 t (Y 1) X⌝ ∗ owns (c : Thread nD τ) (ms1 m hO t) fullShare X)
          ∗ (∃ X, ⌜(rdat m hO Inv R c).after 2 t (Y 2) X⌝ ∗ owns (c : Thread nD τ) (ms2 m hO t) fullShare X)) := by
  have p1 : (rdat m hO Inv R c).owesAt () t.succ = (rdat m hO Inv R c).owesAt () t.castSucc := rfl
  have p2 : (rdat m hO Inv R c).Φ t.succ = Phi m Inv c (t.val + 1) := rfl
  have p3 : (rdat m hO Inv R c).Φ t.castSucc = Phi m Inv c t.val := congrArg (Phi m Inv c) (Fin.val_castSucc t)
  simp only [p1, p2, p3]
  have e0 := finds0 m hO Inv R c t _ (hY 0)
  have e1 := finds1 m hO Inv R c t _ (hY 1)
  unfold Phi scr tabs
  iintro ⟨⟨⟨%b, %s, %hI, B, S⟩, Hg, T0, T1, T2, T3⟩, Ho, H0, H1, H2⟩
  have hk := hK t (Y 2) b s (hY 2) hI
  iapply ((runAt m hO c t (Y 2) b s).2.2.2 Set.univ _)
  isplitl [H0 H1 H2 B S T0 T1 T2 T3]
  · unfold held
    isplitl [H0]; · rw [e0]; iexact H0
    isplitl [H1]; · rw [e1]; iexact H1
    isplitl [H2]; · iexact H2
    isplitl [B]; · iexact B
    isplitl [S]; · iexact S
    isplitl [T0]; · iexact T0
    isplitl [T1]; · iexact T1
    isplitl [T2]; · iexact T2
    iexact T3
  iintro ⟨H0, H1, H2, B, S, T0, T1, T2, T3⟩
  isplitl [B S Hg T0 T1 T2 T3]
  · isplitl [B S]
    · iexists _, _
      isplitr; · ipureintro; exact hk.2
      unfold owns
      isplitl [B]; · iexists _; isplitr; swap; · iexact B
                     ipureintro; rfl
      iexists _; isplitr; swap; · iexact S
      ipureintro; rfl
    isplitl [Hg]; · iexact Hg
    isplitl [T0]; · iexact T0
    isplitl [T1]; · iexact T1
    isplitl [T2]; · iexact T2
    iexact T3
  isplitl [Ho]; · iexact Ho
  isplitl [H0]; · iexists _; isplitr; swap; · iexact H0
                  ipureintro; exact e0.symm
  isplitl [H1]; · iexists _; isplitr; swap; · iexact H1
                  ipureintro; exact e1.symm
  iexists _; isplitr
  swap
  · unfold owns; iexists _; isplitr; swap; · iexact H2
    ipureintro; rfl
  ipureintro; exact hk.1

theorem body_obligation (c : Dev nD) (hK : Keeps m hO Inv R c) :
    (rdat m hO Inv R c).BodyObligation (defs₀ (F := F)) Variants.none () Set.univ := fun t Y hY => by
  rw [bigSep_W0, bigSep_W0, defs₀_row m hO]
  exact triple_restated (sound_body c hK t Y hY) rfl .rfl fun _ => .rfl

variable (m hO Inv R)

theorem hin (h0 : ∀ b s, Inv 0 b s) (c : Dev nD) :
    iprop(Pipeline.ΦA spec0 c ∗ Pipeline.ΦT pre0 (tbl m) c) ⊢ (rdat m hO Inv R c).Φ 0 := by
  rw [show (rdat m hO Inv R c).Φ 0 = Phi m Inv c 0 from rfl, PhiA_eq, show Pipeline.ΦT pre0 (tbl m) c = tabs m c from PhiT_eq m c]
  unfold Phi scr
  iintro ⟨⟨⟨⟨%b, B⟩, ⟨%s, S⟩⟩, Hg⟩, HT⟩
  isplitl [B S]
  · iexists b, s
    isplitr; · ipureintro; exact h0 _ _
    isplitl [B]; · iexact B
    iexact S
  isplitl [Hg]; · iexact Hg
  iexact HT

theorem hout (c : Dev nD) : (rdat m hO Inv R c).Φ (Fin.last (cfgM m hO).N) ⊢ Pipeline.ΦA spec0 c := by
  rw [show (rdat m hO Inv R c).Φ (Fin.last (cfgM m hO).N) = Phi m Inv c (cfgM m hO).N from rfl, PhiA_eq]
  unfold Phi scr
  iintro ⟨⟨%b, %s, -, B, S⟩, Hg, -⟩
  isplitl [B S]
  · isplitl [B]; · iexists _; iexact B
    iexists _; iexact S
  iexact Hg

-- the launch lemma's implicit arguments are found by unifying its conclusion with this one
set_option backward.isDefEq.respectTransparency.types false in
/-- The launch: every run ends, each array as the proof data have it, the others as launched, every counter zero. -/
theorem run_main (h0 : ∀ b s, Inv 0 b s) (hK : ∀ c, Keeps m hO Inv R c) :
    θ_run defs (onTc (τ := τ) (main (F := F))) (s₀ m ρ)
      (fun r => Pipeline.RDat.FramePost (cfgM m hO) (rdat m hO Inv R) (V m) r ∧ r.2.sem = fun _ => 0) :=
  Pipeline.RDat.θ_run_frameP_track (Q' := _) pcfgs (fun _ => adm m hO) (0 : Fin 1) launch0 defs₀ Variants.none (rdat m hO Inv R) m ρ main
    (hbody := fun c => body_obligation c (hK c)) (hshare := fun c w => by unfold RDat.share; split <;> rfl)
    (howed := fun _ _ => rfl) (V := V m) (hmain := hmain m Variants.none) (hA := fun _ _ => rfl) (hpf := V_pre m)
    (hin := hin m hO Inv R h0) (hout := hout m hO Inv R)

end Cert.Kernel3Ideal.Down

end
-- ==== Proof.DownInv.lean ====
/- What holds of the down projection's scratch between its steps, and that every step keeps it. -/
module

public import proofs.«01_k».proof.Proof.DownStep
public import proofs.«01_k».proof.Proof.DownBody
public import Idealize.ShloMosaic.Lib.Pipeline.ValueKit

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Cert.DownSched (word)
open Cert.Plan (Done Good)
open Idealize.ShloMosaic.Pipeline (Dat RDat Cfg Window cellOf)

variable (m : (ℓ : Loc nD τ sig) → Buf (Elt Ideal) ℓ)

/-- The arrays of the call. -/
abbrev aX : FVec Ideal S20480x14336 .bf16 := m (((0 : Dev nD) : Thread nD τ).loc main_arg0)
abbrev aW : FVec Ideal S8x14336x4096 .f32 := m (((0 : Dev nD) : Thread nD τ).loc main_arg1)
abbrev aV : IVec S80 32 := m (((0 : Dev nD) : Thread nD τ).loc main_arg6)
abbrev aE : IVec S80 32 := m (((0 : Dev nD) : Thread nD τ).loc main_arg7)

/-- The step tables are as the kernel needs them. -/
abbrev Sound : Prop := Good (S := 127) (T := 80) 6 (kindW m) (tileW m) (expertW m) (chunkW m) (word (n := 80) (aV m)) (word (n := 80) (aE m))

variable {m} in
theorem Sound.ok (h : Sound m) : Ok m := ok_of_words m h.words

variable (hO : Ok m)

theorem col_val (t : Fin (cfgM m hO).N) : (colOf (grid0.coords t)).val = t.val / 128 := by
  have h : t.val < 1024 := t.isLt
  have := Pipeline.Grid.coords_val (G := grid0) t (0 : Fin 2) (by decide : _ = 128) rfl
  show (grid0.coords t 0).val = _
  rw [this]
  show t.val / 128 % 8 = _
  omega
theorem step_val (t : Fin (cfgM m hO).N) : (stepOf (grid0.coords t)).val = t.val % 128 := by
  have := Pipeline.Grid.coords_val (G := grid0) t (1 : Fin 2) (by decide : _ = 1) rfl
  show (grid0.coords t 1).val = _
  rw [this]
  show t.val / 1 % 128 = _
  omega

/-- A point's step. -/
abbrev stp (t : Fin (cfgM m hO).N) : Fin 128 := stepOf (grid0.coords t)

/-- Where the entries of a point's blocks lie. -/
theorem emb0 (t : Fin (cfgM m hO).N) (y : S256x14336.Idx) (a : Fin 2) : ((((cfgM m hO).win 0).blk t).view.emb y a : ℕ)
    = (![(tileW m (stp m hO t)).toNat, 0] : Fin 2 → ℕ) a * S256x14336.size a + 1 * (y a).val :=
  congrArg (fun f : Fin 2 → ℕ => f a * S256x14336.size a + 1 * (y a).val) (ix_0 m (grid0.coords t))
theorem emb1 (t : Fin (cfgM m hO).N) (y : S1x2048x512.Idx) (a : Fin 3) : ((((cfgM m hO).win 1).blk t).view.emb y a : ℕ)
    = (![(expertW m (stp m hO t)).toNat, (chunkW m (stp m hO t)).toNat, (colOf (grid0.coords t)).val] : Fin 3 → ℕ) a * S1x2048x512.size a + 1 * (y a).val :=
  congrArg (fun f : Fin 3 → ℕ => f a * S1x2048x512.size a + 1 * (y a).val) (ix_1 m (grid0.coords t))
theorem emb2 (t : Fin (cfgM m hO).N) (y : S256x512.Idx) (a : Fin 2) : ((((cfgM m hO).win 2).blk t).view.emb y a : ℕ)
    = (![(tileW m (stp m hO t)).toNat, (colOf (grid0.coords t)).val] : Fin 2 → ℕ) a * S256x512.size a + 1 * (y a).val :=
  congrArg (fun f : Fin 2 → ℕ => f a * S256x512.size a + 1 * (y a).val) (ix_2 m (grid0.coords t))

/-- How many rows of its expert's weights are resident after a step. -/
def lim (s : Fin 128) : ℕ := if kindW m s = 2#32 then 14336 else 2048 * (chunkW m s).toNat + 2048

/-- The scratch after step `s` of column `j`. -/
def After (j : ℕ) (s : Fin 128) (b : FVec Ideal S14336x512 .bf16) (u : FVec Ideal S256x512 .f32) : Prop :=
  (kindW m s = 1#32 ∨ kindW m s = 2#32 → Rows (aW m) (expertW m s).toNat j (lim m s) b)
  ∧ (kindW m s = 1#32 → Acc (aX m) (aW m) (expertW m s).toNat (tileW m s).toNat j (lim m s) u)

/-- The scratch before point `n`: as the step before it left it, where there is one in the column. -/
def InvM : InvT Ideal := fun n b u => ∀ s : Fin 128, n % 128 = s.val + 1 → After m (n / 128) s b u

/-- The result's block at tile `i` and column `j`. -/
def IsOut (i j : ℕ) (x : FVec Ideal S256x512 .f32) : Prop :=
  ∀ (p : Fin 256) (q : Fin 512), @Eq EReal (x (ix2 p q)) (outE (aX m) (aW m) (aV m) (aE m) (256 * i + p.val) (512 * j + q.val))

/-- What a step does to the result's block. -/
def RelM : RelT Ideal (cfgM m hO).N := fun t Y X =>
  (Done (S := 127) 6 (kindW m) (chunkW m) (stp m hO t) → kindW m (stp m hO t) ≠ 0#32 → IsOut m (tileW m (stp m hO t)).toNat (t.val / 128) X)
  ∧ (kindW m (stp m hO t) = 0#32 → X = Y)

variable {m} (hS : Sound m)

include hS in
theorem blk0_at (t : Fin (cfgM m hO).N) : IsX (aX m) (tileW m (stp m hO t)).toNat (blk0 m hO 0 t) := by
  intro p k
  have hw := hS.words (stp m hO t)
  show aX m ((((cfgM m hO).win 0).blk t).view.emb (ix2 p k)) = _
  unfold xE
  congr 1
  funext a; apply Fin.ext
  refine (emb0 m hO t (ix2 p k) a).trans ?_
  match a with
  | ⟨0, _⟩ => show (tileW m (stp m hO t)).toNat * 256 + 1 * p.val = (256 * (tileW m (stp m hO t)).toNat + p.val) % 20480; omega
  | ⟨1, _⟩ => show 0 * 14336 + 1 * k.val = k.val % 14336; omega

include hS in
theorem blk1_at (t : Fin (cfgM m hO).N) :
    IsW (aW m) (expertW m (stp m hO t)).toNat (2048 * (chunkW m (stp m hO t)).toNat) (t.val / 128) (blk1 m hO 0 t) := by
  intro k q
  have hw := hS.words (stp m hO t)
  have hc := col_val m hO t
  have ht : t.val < 1024 := t.isLt
  show aW m ((((cfgM m hO).win 1).blk t).view.emb (ix3 0 k q)) = _
  unfold wE
  congr 1
  funext a; apply Fin.ext
  refine (emb1 m hO t (ix3 0 k q) a).trans ?_
  match a with
  | ⟨0, _⟩ => show (expertW m (stp m hO t)).toNat * 1 + 1 * 0 = (expertW m (stp m hO t)).toNat % 8; omega
  | ⟨1, _⟩ => show (chunkW m (stp m hO t)).toNat * 2048 + 1 * k.val = (2048 * (chunkW m (stp m hO t)).toNat + k.val) % 14336; omega
  | ⟨2, _⟩ => show (colOf (grid0.coords t)).val * 512 + 1 * q.val = (512 * (t.val / 128) + q.val) % 4096; omega

include hS in
theorem tile_word (s : Fin 128) (p : Fin 256) :
    tileW m s = BitVec.ofNat 32 (tileOf (256 * (tileW m s).toNat + p.val)).val := by
  have hw : (tileW m s).toNat < 80 := (hS.words s).2.1
  apply BitVec.eq_of_toNat_eq
  rw [BitVec.toNat_ofNat]
  unfold tileOf
  show (tileW m s).toNat = ((256 * (tileW m s).toNat + p.val) / 256 % 80) % 2 ^ 32
  omega

include hS in
/-- A step at an expert computes its tile's result, and a step without rows stores its zero. -/
theorem out_expert {s : Fin 128} {j : ℕ} {x : FVec Ideal S256x512 .f32} (hk : kindW m s = 1#32 ∨ kindW m s = 2#32)
    (hx : ∀ (p : Fin 256) (q : Fin 512), @Eq EReal (x (ix2 p q))
      (dotE (aX m) (aW m) (expertW m s).toNat (256 * (tileW m s).toNat + p.val) (512 * j + q.val) 14336)) :
    IsOut m (tileW m s).toNat j x := by
  intro p q
  have h := (hS.tiles s _ (tile_word hS s p)).1 hk
  rw [hx p q]
  unfold outE
  rw [if_pos h.2, ← h.1]

include hS in
theorem out_skip {s : Fin 128} {j : ℕ} {x : FVec Ideal S256x512 .f32} (hk : kindW m s = 3#32)
    (hx : ∀ (p : Fin 256) (q : Fin 512), @Eq EReal (x (ix2 p q)) 0) : IsOut m (tileW m s).toNat j x := by
  intro p q
  have h := (hS.tiles s _ (tile_word hS s p)).2 hk
  rw [hx p q]
  unfold outE
  rw [if_neg (by omega)]

variable {j : ℕ} {b : FVec Ideal S14336x512 .bf16} {u : FVec Ideal S256x512 .f32}

theorem kind_ne {w : BitVec 32} (h : w = 1#32) : ¬ w = 2#32 := by rw [h]; decide

include hS in
/-- Before a load of a later chunk, the chunks before it are there. -/
theorem before_load {s : Fin 128} {n : ℕ} (hk : kindW m s = 1#32) (hq : (chunkW m s).toNat = n) (h0 : n ≠ 0)
    (hI : ∀ p : Fin 128, s.val = p.val + 1 → After m j p b u) :
    Rows (aW m) (expertW m s).toNat j (2048 * n) b ∧ Acc (aX m) (aW m) (expertW m s).toNat (tileW m s).toNat j (2048 * n) u := by
  obtain ⟨n, rfl⟩ := Nat.exists_eq_succ_of_ne_zero h0
  obtain ⟨p, rfl, l1, l2, l3, l4⟩ := hS.before_load (by decide) hk hq
  have ha := hI p.castSucc rfl
  have hlim : lim m p.castSucc = 2048 * (n + 1) := by
    unfold lim
    rw [if_neg (kind_ne l1), l2]; omega
  unfold After at ha
  rw [hlim, l3, l4] at ha
  exact ⟨ha.1 (.inl l1), ha.2 l1⟩

include hS in
/-- Before a step that keeps its expert, all its weights are there. -/
theorem before_keep {s : Fin 128} (hk : kindW m s = 2#32) (hI : ∀ p : Fin 128, s.val = p.val + 1 → After m j p b u) :
    Rows (aW m) (expertW m s).toNat j 14336 b := by
  obtain ⟨p, rfl, l1, l2⟩ := hS.before_keep hk
  have ha := hI p.castSucc rfl
  have hlim : lim m p.castSucc = 14336 := by
    unfold lim
    rcases l2 with l | l
    · rw [if_pos l]
    · rw [if_neg (kind_ne l.1), l.2]; decide
  unfold After at ha
  rw [hlim, l1] at ha
  exact ha.1 (l2.elim .inr fun l => .inl l.1)

theorem after_load {s : Fin 128} {n : ℕ} (hk : kindW m s = 1#32) (hn : (chunkW m s).toNat = n)
    (h1 : Rows (aW m) (expertW m s).toNat j (2048 * n + 2048) b)
    (h2 : Acc (aX m) (aW m) (expertW m s).toNat (tileW m s).toNat j (2048 * n + 2048) u) : After m j s b u := by
  have e : lim m s = 2048 * n + 2048 := by unfold lim; rw [if_neg (kind_ne hk), hn]
  unfold After
  rw [e]
  exact ⟨fun _ => h1, fun _ => h2⟩

theorem after_keep {s : Fin 128} (hk : kindW m s = 2#32) (h : Rows (aW m) (expertW m s).toNat j 14336 b) : After m j s b u := by
  have e : lim m s = 14336 := by unfold lim; rw [if_pos hk]
  unfold After
  rw [e]
  exact ⟨fun _ => h, fun h' => absurd hk (kind_ne h')⟩

theorem after_other {s : Fin 128} (h1 : kindW m s ≠ 1#32) (h2 : kindW m s ≠ 2#32) : After m j s b u :=
  ⟨fun h => h.elim (fun h => absurd h h1) fun h => absurd h h2, fun h => absurd h h1⟩

theorem inv_next (t : Fin (cfgM m hO).N) (h : After m (t.val / 128) (stp m hO t) b u) : InvM m (t.val + 1) b u := by
  intro s hs
  have ht := step_val m hO t
  have e1 : s = stp m hO t := Fin.ext (by show s.val = (stepOf (grid0.coords t)).val; omega)
  have e2 : (t.val + 1) / 128 = t.val / 128 := by omega
  rw [e1, e2]; exact h

/-- The contents a point's run leaves. -/
abbrev leftAt (t : Fin (cfgM m hO).N) (o : FVec Ideal S256x512 .f32) (b : FVec Ideal S14336x512 .bf16) (u : FVec Ideal S256x512 .f32) : Left Ideal :=
  left 0 (grid0.coords t) (ms0 m hO t) (hs0 m hO t) (ms1 m hO t) (hs1 m hO t) (ms2 m hO t) (hs2 m hO t)
    scM0 (Memref.isWhole_whole _) scM1 (Memref.isWhole_whole _)
    (blk0 m hO 0 t) (blk1 m hO 0 t) o b u (tbl m 0) (tbl m 1) (tbl m 2) (tbl m 3)

/-- What a step must leave. -/
def Kept (t : Fin (cfgM m hO).N) (o : FVec Ideal S256x512 .f32) (L : Left Ideal) : Prop :=
  RelM m hO t o L.o ∧ InvM m (t.val + 1) L.b L.s

variable {hO} in
theorem kept_of {t : Fin (cfgM m hO).N} {o} {L L' : Left Ideal} (e : L = L') (h : Kept hO t o L') : Kept hO t o L := e ▸ h

include hS in
/-- A load leaves its chunk's rows and sums, and the last one the tile's result. -/
theorem kept_load (t : Fin (cfgM m hO).N) (o) (hk : kindW m (stp m hO t) = 1#32)
    (hI : ∀ p : Fin 128, (stp m hO t).val = p.val + 1 → After m (t.val / 128) p b u) : Kept hO t o (leftAt hO t o b u) := by
  have hx := blk0_at hO hS t
  have hw := blk1_at hO hS t
  have h6 : (chunkW m (stp m hO t)).toNat ≤ 6 := (hS.words (stp m hO t)).2.2.2
  have hk' : kindOf 0 (tbl m 0) (grid0.coords t) = 1#32 := (kindOf_eq m 0 _).trans hk
  have hr : kindW m (stp m hO t) ≠ 0#32 := by rw [hk]; decide
  generalize hn : (chunkW m (stp m hO t)).toNat = n at hw h6
  have hq : chunkW m (stp m hO t) = BitVec.ofNat 32 n := by rw [← hn, BitVec.ofNat_toNat, BitVec.setWidth_eq]
  have hc : chunkOf 0 (tbl m 3) (grid0.coords t) = BitVec.ofNat 32 n := (chunkOf_eq m 0 _).trans hq
  have hD : n ≠ 6 → ¬ Done (S := 127) 6 (kindW m) (chunkW m) (stp m hO t) := fun h => Cert.Plan.not_done_load hk fun h' => h (by
    rw [h'] at hn; exact hn.symm)
  by_cases h0 : n = 0
  · subst h0
    refine kept_of (left_load0 (hk := hk') (hc := hc) ..) ?_
    exact ⟨⟨fun h => absurd h (hD (by decide)), fun h => absurd h hr⟩,
      inv_next hO t (after_load hk hn (rows_put (rows_none b) hw) (acc_first hx hw))⟩
  have hb := before_load hS hk hn h0 hI
  have ha := acc_next (n := 2048 * n) (by omega) hb.2 hx hw
  by_cases h5 : n ≤ 5
  · refine kept_of (left_mid (n := n) (h1 := by omega) (h5 := h5) (hk := hk') (hc := hc) ..) ?_
    exact ⟨⟨fun h => absurd h (hD (by omega)), fun h => absurd h hr⟩, inv_next hO t (after_load hk hn (rows_put hb.1 hw) ha)⟩
  · obtain rfl : n = 6 := by omega
    refine kept_of (left_last (hk := hk') (hc := hc) ..) ?_
    exact ⟨⟨fun _ _ => out_expert hS (.inl hk) ha, fun h => absurd h hr⟩, inv_next hO t (after_load hk hn (rows_put hb.1 hw) ha)⟩

include hS in
theorem kept (t : Fin (cfgM m hO).N) (o)
    (hI : ∀ p : Fin 128, (stp m hO t).val = p.val + 1 → After m (t.val / 128) p b u) : Kept hO t o (leftAt hO t o b u) := by
  have hk' : ∀ k, kindW m (stp m hO t) = k → kindOf 0 (tbl m 0) (grid0.coords t) = k := fun k h => (kindOf_eq m 0 _).trans h
  rcases hS.kinds (stp m hO t) with hk | hk | hk | hk
  · refine kept_of (left_rest (hk := hk' _ hk) ..) ?_
    exact ⟨⟨fun _ h => absurd hk h, fun _ => rfl⟩, inv_next hO t (after_other (by rw [hk]; decide) (by rw [hk]; decide))⟩
  · exact kept_load hO hS t o hk hI
  · have hb := before_keep hS hk hI
    refine kept_of (left_keep (hk := hk' _ hk) ..) ?_
    exact ⟨⟨fun _ _ => out_expert hS (.inr hk) (out_keep (blk0_at hO hS t) hb), fun h => absurd h (by rw [hk]; decide)⟩,
      inv_next hO t (after_keep hk hb)⟩
  · refine kept_of (left_skip (hk := hk' _ hk) ..) ?_
    exact ⟨⟨fun _ _ => out_skip hS hk pay5_at, fun h => absurd h (by rw [hk]; decide)⟩,
      inv_next hO t (after_other (by rw [hk]; decide) (by rw [hk]; decide))⟩

include hS in
/-- Every step keeps what holds of the scratch, and stores what the result's block is to hold. -/
theorem keeps (c : Dev nD) : Keeps m hO (InvM m) (RelM m hO) c := by
  obtain rfl : c = 0 := Subsingleton.elim _ _
  intro t o b u _ hI
  exact kept hO hS t o fun p hp => hI p (by rw [← step_val m hO t]; exact hp)

end Cert.Kernel3Ideal.Down

end
-- ==== Proof.DownOut.lean ====
/- The down projection's result after the run: what each written-back block holds, and that the blocks make up the array. -/
module

public import proofs.«01_k».proof.Proof.DownInv
public import Idealize.ShloMosaic.Lib.Pipeline.ArrRel

@[expose] public section

set_option maxRecDepth 16384

noncomputable section

namespace Cert.Kernel3Ideal.Down

open Cert.Kernel3Ideal Cert.Kernel3Ideal.Gen Idealize.ShloMosaic Idealize.ShloMosaic.TcCoe Idealize.SL.Sem
open Cert.DownSched (word)
open Cert.Plan (Done Good)
open Idealize.ShloMosaic.Pipeline (Dat RDat Cfg Window cellOf)

variable {m : (ℓ : Loc nD τ sig) → Buf (Elt Ideal) ℓ} (hS : Sound m) (hO : Ok m)

/-- The output's block at a point. -/
theorem index2 (t : Fin (cfgM m hO).N) : ((cfgM m hO).win 2).index t = ![(tileW m (stp m hO t)).toNat, t.val / 128] :=
  (ix_2 m (grid0.coords t)).trans (by rw [col_val m hO t])

/-- The point before a point, and its step. -/
abbrev pre1 (t : Fin (cfgM m hO).N) : Fin (cfgM m hO).N := ⟨t.val - 1, Nat.lt_of_le_of_lt (Nat.sub_le _ _) t.isLt⟩

theorem stp_pred (t : Fin (cfgM m hO).N) (p : Fin 127) (h : stp m hO t = p.succ) :
    stp m hO (pre1 hO t) = p.castSucc ∧ (pre1 hO t).val / 128 = t.val / 128 ∧ t.val ≠ 0 ∧ (pre1 hO t).val + 1 = t.val := by
  have h1 := step_val m hO t
  have h2 := step_val m hO (pre1 hO t)
  have h3 : (stepOf (grid0.coords t)).val = p.val + 1 := congrArg Fin.val h
  have h4 : (pre1 hO t).val = t.val - 1 := rfl
  refine ⟨Fin.ext ?_, by omega, by omega, by omega⟩
  show (stepOf (grid0.coords (pre1 hO t))).val = p.val
  omega

include hS in
/-- What the body leaves in the output's buffer after a step that completes a tile. -/
theorem leaves_out (c : Dev nD) (n : ℕ) : ∀ (t : Fin (cfgM m hO).N), t.val = n → ∀ X : FVec Ideal S256x512 .f32,
    (rdat m hO (InvM m) (RelM m hO) c).Leaves 2 t X → Done (S := 127) 6 (kindW m) (chunkW m) (stp m hO t) →
    IsOut m (tileW m (stp m hO t)).toNat (t.val / 128) X := by
  induction n using Nat.strong_induction_on with
  | _ n ih =>
    intro t hn X hL hD
    obtain ⟨Y, hF, hR⟩ := hL
    have hR' : RelM m hO t Y X := hR
    by_cases hk : kindW m (stp m hO t) = 0#32
    · obtain ⟨p, hp, hr, hd⟩ := hS.before_rest hk
      obtain ⟨q1, q2, q3, q4⟩ := stp_pred hO t p hp.symm
      have hfl : ¬ ((cfgM m hO).win 2).flush (pre1 hO t) = true := fun hf => by
        rcases (Pipeline.Window.flush_out ((cfgM m hO).win 2) rfl (pre1 hO t)).1 hf with h | ⟨h, hne⟩
        · have := t.isLt
          have e : (pre1 hO t).val + 1 = (cfgM m hO).N := h
          omega
        · refine hne ?_
          have e : (⟨(pre1 hO t).val + 1, h⟩ : Fin (cfgM m hO).N) = t := Fin.ext q4
          refine (congrArg _ e).trans ?_
          rw [index2, index2, q1, q2, hr]
      have hL' := ((RDat.finds_of_pos (rdat m hO (InvM m) (RelM m hO) c) (Pipeline.Window.fetch_out ((cfgM m hO).win 2) rfl t) q3 Y).1 hF).resolve_left hfl
      have hY := ih (pre1 hO t).val (by omega) (pre1 hO t) rfl Y hL' (by rw [q1]; exact hd)
      have hX : X = Y := hR'.2 hk
      rw [q1, q2, ← hr] at hY
      rw [hX]
      exact hY
    · exact hR'.1 hD hk

include hS in
/-- A block is written back only after its tile is complete. -/
theorem done_of_flush (t : Fin (cfgM m hO).N) (hf : ((cfgM m hO).win 2).flush t = true) :
    Done (S := 127) 6 (kindW m) (chunkW m) (stp m hO t) := by
  have h1 := step_val m hO t
  by_cases hl : stp m hO t = Fin.last 127
  · rw [hl]; exact hS.last.2
  have hlt : (stepOf (grid0.coords t)).val < 127 := by
    have := (stepOf (grid0.coords t)).isLt
    have : (stepOf (grid0.coords t)).val ≠ 127 := fun h => hl (Fin.ext h)
    omega
  rcases (Pipeline.Window.flush_out ((cfgM m hO).win 2) rfl t).1 hf with h | ⟨h, hne⟩
  · have e : t.val + 1 = 1024 := h
    omega
  · have hh : t.val + 1 < 1024 := h
    let u : Fin (cfgM m hO).N := ⟨t.val + 1, h⟩
    let p : Fin 127 := ⟨(stepOf (grid0.coords t)).val, hlt⟩
    have h2 := step_val m hO u
    have hu : u.val = t.val + 1 := rfl
    have e1 : stp m hO u = p.succ := Fin.ext (by show (stepOf (grid0.coords u)).val = (stepOf (grid0.coords t)).val + 1; omega)
    have e2 : stp m hO t = p.castSucc := Fin.ext rfl
    rcases (hS.next p).tile with hs | hs
    · refine absurd ?_ hne
      show ((cfgM m hO).win 2).index u = ((cfgM m hO).win 2).index t
      rw [index2, index2, e1, e2, hs, show u.val / 128 = t.val / 128 by omega]
    · rw [e2]; exact hs.2

include hS in
theorem flush_at (i j : ℕ) (hi : i < 80) (hj : j < 8) :
    ∃ t : Fin (cfgM m hO).N, ((cfgM m hO).win 2).flush t = true ∧ (tileW m (stp m hO t)).toNat = i ∧ t.val / 128 = j := by
  obtain ⟨s, hs, hn⟩ := hS.tile_end i hi
  have ht : 128 * j + s.val < 1024 := by omega
  let t : Fin (cfgM m hO).N := ⟨128 * j + s.val, ht⟩
  have hv : t.val = 128 * j + s.val := rfl
  have hst := step_val m hO t
  have es : stp m hO t = s := Fin.ext (by show (stepOf (grid0.coords t)).val = s.val; omega)
  refine ⟨t, (Pipeline.Window.flush_out ((cfgM m hO).win 2) rfl t).2 ?_, by rw [es]; exact hs, by omega⟩
  by_cases hl : t.val + 1 = 1024
  · exact .inl hl
  · refine .inr ⟨by show t.val + 1 < 1024; omega, fun he => ?_⟩
    rw [index2, index2] at he
    have a0 := congrFun he 0
    have a1 : (t.val + 1) / 128 = t.val / 128 := congrFun he 1
    have hlt : s.val < 127 := by omega
    refine hn ⟨s.val, hlt⟩ rfl ?_
    have hst' := step_val m hO ⟨t.val + 1, by show t.val + 1 < 1024; omega⟩
    have e' : stp m hO ⟨t.val + 1, by show t.val + 1 < 1024; omega⟩ = Fin.succ ⟨s.val, hlt⟩ :=
      Fin.ext (by
        refine hst'.trans ?_
        show (t.val + 1) % 128 = s.val + 1
        omega)
    rw [e', es] at a0
    exact Eq.trans a0 hs

include hS in
theorem covers2 : ((cfgM m hO).win 2).Covers := by
  refine ⟨fun a => ?_, fun β => ?_⟩
  · match a with
    | ⟨0, _⟩ => show 0 < 256; decide
    | ⟨1, _⟩ => show 0 < 512; decide
  · obtain ⟨t, hf, e0, e1⟩ := flush_at hS hO _ _ (lt_of_lt_of_eq (β ⟨0, Nat.zero_lt_two⟩).isLt (show (20480 + 256 - 1) / 256 = 80 by decide))
      (lt_of_lt_of_eq (β ⟨1, Nat.one_lt_two⟩).isLt (show (4096 + 512 - 1) / 512 = 8 by decide))
    refine ⟨t, hf, fun a => ⟨?_, .inl ?_⟩⟩
    · rw [index2]
      match a with
      | ⟨0, _⟩ => exact e0
      | ⟨1, _⟩ => exact e1
    · match a with
      | ⟨0, _⟩ => rfl
      | ⟨1, _⟩ => rfl

/-- The result. -/
def RES (m : (ℓ : Loc nD τ sig) → Buf (Elt Ideal) ℓ) : FVec Ideal S20480x4096 .f32 :=
  fun i => outE (aX m) (aW m) (aV m) (aE m) (i 0).val (i 1).val

theorem out_at (t : Fin (cfgM m hO).N) (x : FVec Ideal S256x512 .f32) (hx : IsOut m (tileW m (stp m hO t)).toNat (t.val / 128) x)
    (y : S256x512.Idx) : @Eq EReal (x y) (RES m ((((cfgM m hO).win 2).blk t).view.emb y)) := by
  have hy : y = ix2 (n0 := 256) (n1 := 512) (y 0) (y 1) := by funext a; fin_cases a <;> rfl
  refine Eq.trans (congrArg x hy) ((hx (y 0) (y 1)).trans ?_)
  have e0 := emb2 m hO t y 0
  have e1 := emb2 m hO t y 1
  have hc := col_val m hO t
  unfold RES
  congr 1
  · refine Eq.trans ?_ e0.symm
    show 256 * (tileW m (stp m hO t)).toNat + (y 0).val = (tileW m (stp m hO t)).toNat * 256 + 1 * (y 0).val
    omega
  · refine Eq.trans ?_ e1.symm
    show 512 * (t.val / 128) + (y 1).val = (colOf (grid0.coords t)).val * 512 + 1 * (y 1).val
    omega

include hS in
theorem arr2 (c : Dev nD) (after : (w' : Fin (cfgM m hO).W) → Fin (cfgM m hO).N → ((cfgM m hO).win w').block.Idx → Elt Ideal ((cfgM m hO).win w').elt)
    (h : ∀ u, ((cfgM m hO).win 2).flush u = true → (rdat m hO (InvM m) (RelM m hO) c).Leaves 2 u (after 2 u)) :
    ((rdat m hO (InvM m) (RelM m hO) c).withAfter after).arrAt 2 (cfgM m hO).N = RES m := by
  refine Dat.arrAt_eq_of_covers ((rdat m hO (InvM m) (RelM m hO) c).withAfter after) 2 (RES m) (covers2 hS hO) (fun t hf y => ?_) (Memref.isWhole_whole _)
  exact (cast_eq rfl _).trans (out_at hO t (after 2 t) (leaves_out hS hO c _ t rfl _ (h t hf) (done_of_flush hS hO t hf)) y)

variable (ρ : Dev nD → PrngReg)

include hS in
/-- Every run ends with the result as stated and the eight arguments unchanged. -/
theorem value : θ_run defs (onTc (τ := τ) (main (F := Ideal))) ⟨m, fun _ => 0, ρ⟩ (fun r => ∀ c : Dev nD,
      r.2.mem ((c.tc : Thread nD τ).loc main_v0) = RES m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hO : Ok m := hS.ok
  refine (θ_run defs _ _).mono (fun r h c => ?_)
    (run_main m ρ hO (InvM m) (RelM m hO) (fun _ _ s hs => absurd hs (by omega)) (keeps hO hS))
  have hr := h.1
  obtain ⟨after, hL, hA⟩ := RDat.FramePost.exists_exact hr c
  exact ⟨(hA 2).trans (arr2 hS hO c after (hL 2)), hr.arr_in c 0 rfl, hr.arr_in c 1 rfl,
    (hr c).2 main_arg2 (Pipeline.mem_restRefs_of (win := spec0) _ (by decide) (by decide)), (hr c).2 main_arg3 (Pipeline.mem_restRefs_of (win := spec0) _ (by decide) (by decide)),
    (hr c).2 main_arg4 (Pipeline.mem_restRefs_of (win := spec0) _ (by decide) (by decide)), (hr c).2 main_arg5 (Pipeline.mem_restRefs_of (win := spec0) _ (by decide) (by decide)),
    (hr c).2 main_arg6 (Pipeline.mem_restRefs_of (win := spec0) _ (by decide) (by decide)), (hr c).2 main_arg7 (Pipeline.mem_restRefs_of (win := spec0) _ (by decide) (by decide))⟩

end Cert.Kernel3Ideal.Down

end
-- ==== Proof.DownRef.lean ====
/- The down projection's reference, entry by entry: each row's product with its tile's expert. -/
module

public import proofs.«01_k».proof.Proof.DownStep
public import proofs.«01_k».proof.Proof.Gen.Reference3Ideal.Run

@[expose] public section

set_option maxRecDepth 16384

noncomputable section

namespace Cert.Reference3Ideal.Down

open Cert.Reference3Ideal Cert.Reference3Ideal.Gen Idealize.ShloMosaic Idealize.ShloMosaic.TcCoe Idealize.SL.Sem
open Cert.DownSched (word word_eq)
open Cert.Kernel3Ideal.Down (xE wE dotE tileOf outE)

variable (X : FVec Ideal S20480x14336 .bf16) (W : FVec Ideal S8x14336x4096 .f32) (va te : IVec S80 32)

/-- A word of each tile, at each of its rows. -/
def rows (x : IVec S80 32) : IVec S20480 32 :=
  shapeCast _ (broadcastInDim S80x256 ![0, 1] bcast_S80x1_S80x256_0_1 (broadcastInDim S80x1 ![0] bcast_S80_S80x1_0 x)) shapeCasts_S80x256_S20480

/-- Which expert each row is of. -/
def mine : IVec S20480x8 1 :=
  andi (cmpi .eq (broadcastInDim S20480x8 ![0, 1] bcast_S20480x1_S20480x8_0_1 (broadcastInDim S20480x1 ![0] bcast_S20480_S20480x1_0 (rows te)))
      (broadcastInDim S20480x8 ![0, 1] bcast_S1x8_S20480x8_0_1 (broadcastInDim S1x8 ![1] bcast_S8_S1x8_1 (iotaInDim S8 32 0))))
    (broadcastInDim S20480x8 ![0, 1] bcast_S20480x1_S20480x8_0_1 (cmpi .sgt (broadcastInDim S20480x1 ![0] bcast_S20480_S20480x1_0 (rows va))
      (broadcastInDim S20480x1 ![] bcast_S_S20480x1 (constantI S_ 32 0#32))))

/-- Every row's product with every expert's weights. -/
def prod : FVec Ideal S20480x8x4096 .f32 :=
  Host.dotGeneral dot_S20480x14336_S8x14336x4096_S20480x8x4096_1_1_0_02_n_n none (extf .f32 X bitsLt_bf16_f32) W

/-- The result. -/
def res : FVec Ideal S20480x4096 .f32 :=
  Host.reduceAdd (select (broadcastInDim S20480x8x4096 ![0, 1, 2] bcast_S20480x8x1_S20480x8x4096_0_1_2
      (broadcastInDim S20480x8x1 ![0, 1] bcast_S20480x8_S20480x8x1_0_1 (mine va te))) (prod X W)
    (broadcastInDim S20480x8x4096 ![] bcast_S_S20480x8x4096 (id (constant S_ .f32 0x00000000#32)))) (constant S_ .f32 0x00000000#32)
    reducesTo_S20480x8x4096_S20480x4096_d1 h_S_

theorem rows_at (x : IVec S80 32) (r : Fin 20480) : rows x (ix1 r) = word (n := 80) x (tileOf r.val) := by
  pointwise [rows]
  refine (word_eq (n := 80) x _).trans (congrArg (word (n := 80) x) (Fin.ext ?_))
  show r.val / 256 = r.val / 256 % 80
  omega

theorem mine_at (r : Fin 20480) (e : Fin 8) : mine va te (ix2 r e) = 1#1 ↔
    word (n := 80) te (tileOf r.val) = BitVec.ofNat 32 e.val ∧ 0 < (word (n := 80) va (tileOf r.val)).toInt := by
  have h : mine va te (ix2 r e) = IntOp.andi (IntOp.cmpi .eq (rows te (ix1 r)) (BitVec.ofNat 32 e.val)) (IntOp.cmpi .sgt (rows va (ix1 r)) 0#32) := by
    pointwise [mine]
  rw [h, rows_at, rows_at, Cert.Sched.and_one]
  simp only [IntOp.cmpi, Cert.Sched.ofBool_one, beq_iff_eq, BitVec.slt_eq_decide, decide_eq_true_eq]
  exact Iff.rfl

theorem prod_at (r : Fin 20480) (e : Fin 8) (j : Fin 4096) : @Eq EReal (prod X W (ix3 r e j)) (dotE X W e.val r.val j.val 14336) := by
  have h : @Eq EReal (prod X W (ix3 r e j)) (∑ k : Fin 14336, (X (ix2 r k) : EReal) * (W (ix3 e k j) : EReal)) := by
    pointwise [prod]
  rw [h]
  unfold dotE
  rw [Finset.sum_range]
  refine Finset.sum_congr rfl fun k _ => ?_
  unfold xE wE
  congr 2 <;> congr 1 <;> exact Fin.ext (Nat.mod_eq_of_lt (Fin.isLt _)).symm

theorem res_at (r : Fin 20480) (j : Fin 4096) : @Eq EReal (res X W va te (ix2 r j))
    (∑ e : Fin 8, if mine va te (ix2 r e) = 1#1 then dotE X W e.val r.val j.val 14336 else 0) := by
  have h : @Eq EReal (res X W va te (ix2 r j))
      (∑ e : Fin 8, if mine va te (ix2 r e) = 1#1 then prod X W (ix3 r e j) else 0) := by
    pointwise [res]
    exact Finset.sum_congr rfl fun e _ => by
      unfold Scalar.select
      rw [show @Eq EReal (id (constant (F := Ideal) S_ .f32 0#32) ix0) 0 from Ideal.ofBits_zero_f32]
      split_ifs <;> simp_all
  rw [h]
  exact Finset.sum_congr rfl fun e _ => by rw [prod_at]

/-- Where a tile with rows has one of the eight experts, the result is the product with that expert's weights. -/
theorem res_eq (hte : ∀ i : Fin 80, 0 < (word (n := 80) va i).toInt → (word (n := 80) te i).toNat < 8) (r : Fin 20480) (j : Fin 4096) :
    @Eq EReal (res X W va te (ix2 r j)) (outE X W va te r.val j.val) := by
  rw [res_at]
  unfold outE
  by_cases hv : 0 < (word (n := 80) va (tileOf r.val)).toInt
  · rw [if_pos hv]
    have hlt := hte _ hv
    rw [Finset.sum_eq_single (⟨_, hlt⟩ : Fin 8)]
    · rw [if_pos ((mine_at ..).2 ⟨(BitVec.ofNat_toNat ..).symm ▸ by simp, hv⟩)]
    · intro e _ hne
      rw [if_neg]
      intro h
      refine hne (Fin.ext ?_)
      have := congrArg BitVec.toNat ((mine_at ..).1 h).1
      rw [BitVec.toNat_ofNat] at this
      show e.val = (word (n := 80) te (tileOf r.val)).toNat
      omega
    · exact fun h => absurd (Finset.mem_univ _) h
  · rw [if_neg hv]
    exact Finset.sum_eq_zero fun e _ => if_neg fun h => hv ((mine_at ..).1 h).2

end Cert.Reference3Ideal.Down

end
-- ==== Proof.DownFrame.lean ====
/- The experts' down projection leaves its arguments unchanged. -/
module

public import proofs.«01_k».proof.Proof.DownBody

@[expose] public section

set_option maxRecDepth 16384

noncomputable section

namespace Cert.Kernel3Ideal.Down

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with the eight arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  refine (θ_run defs _ _).mono (fun r h => ⟨fun c => ?_, h.2⟩)
    (run_main m ρ hO (fun _ _ _ => True) (fun _ _ _ => True) (fun _ _ => trivial) fun _ _ _ _ _ _ _ => ⟨trivial, trivial⟩)
  have hr := h.1
  exact ⟨hr.arr_in c 0 rfl, hr.arr_in c 1 rfl,
    (hr c).2 main_arg2 (Pipeline.mem_restRefs_of (win := spec0) _ (by decide) (by decide)),
    (hr c).2 main_arg3 (Pipeline.mem_restRefs_of (win := spec0) _ (by decide) (by decide)),
    (hr c).2 main_arg4 (Pipeline.mem_restRefs_of (win := spec0) _ (by decide) (by decide)),
    (hr c).2 main_arg5 (Pipeline.mem_restRefs_of (win := spec0) _ (by decide) (by decide)),
    (hr c).2 main_arg6 (Pipeline.mem_restRefs_of (win := spec0) _ (by decide) (by decide)),
    (hr c).2 main_arg7 (Pipeline.mem_restRefs_of (win := spec0) _ (by decide) (by decide))⟩

end Cert.Kernel3Ideal.Down

end
-- ==== Proof.DownPrinted.lean ====
/- The frame of the down projection as printed for the compiler, from the frame of its idealized print. -/
module

public import proofs.«01_k».proof.Proof.DownFrame
public import proofs.«01_k».proof.Proof.Gen.Kernel3.Launch
public import proofs.«01_k».proof.Proof.Gen.Kernel3

@[expose] public section
set_option maxRecDepth 16384
noncomputable section
namespace Cert.Kernel3.Down
open Cert.Kernel3.Gen Cert.Kernel3Ideal.Gen
open Idealize.ShloMosaic Idealize.ShloMosaic.TcCoe Idealize.ShloMosaic.Tactic
open Idealize.SL.Sem
variable {F : FTy → Type} [FloatOps F]
variable (m : (ℓ : Loc nD τ sig) → Buf (Elt F) ℓ) (ρ : Dev nD → PrngReg)

/-- The two printed body tables are one table. -/
theorem defs₀_eq : defs₀ (F := F) = Cert.Kernel3Ideal.defs₀ (F := F) := by
  refine congrArg Defs.onTc (funext fun l => funext fun a => ?_)
  obtain ⟨l, hl⟩ := l
  cases l with
  | zero => rfl
  | succ n => exact absurd hl (by omega)

/-- The frame of the call as the compiler is handed it, by the frame of its idealized print: the two are one program. -/
theorem frame (hO : Cert.Kernel3Ideal.Down.Ok (F := F) m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  have key : ∀ D : Defs nD τ sig (Elt F) Λ₀, D = Cert.Kernel3Ideal.defs₀ (F := F) →
      θ_run (Pipeline.defs pcfgs D) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
    rintro _ rfl
    exact Cert.Kernel3Ideal.Down.frame (F := F) m ρ hO
  exact key _ defs₀_eq

end Cert.Kernel3.Down
end
-- ==== Proof.ProjSetup.lean ====
/- The input projection: its launch, its tables and its body's memrefs. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Pipeline.ArrRel
public import Idealize.ShloMosaic.Lib.Tactic
public import Idealize.ShloMosaic.Lib.WordCmp

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers at the region's entry: as launched. -/
abbrev V (c : Dev nD) (b : Ref sig .tc) : Buf (Elt F) ((c : Thread nD τ).loc b) := m ((c : Thread nD τ).loc b)

theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The step tables' contents. -/
def tbl : pre0.Contents (Elt F) := fun j => V m (0 : Dev nD) (pre0.ref j)

theorem V_pre (c : Dev nD) (j : Fin 4) : V m c (pre0.ref j) = tbl m j := by
  obtain rfl : c = 0 := Subsingleton.elim _ _; rfl

/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- A table as the body is handed it. -/
abbrev tb0 : Memref sig .tc .smem S20 .i32 := Memref.whole main_arg2
abbrev tb1 : Memref sig .tc .smem S20 .i32 := Memref.whole main_arg3
abbrev tb2 : Memref sig .tc .smem S20 .i32 := Memref.whole main_arg4
abbrev tb3 : Memref sig .tc .smem S20 .i32 := Memref.whole main_arg5

abbrev TbBuf (c : Dev nD) (M : Memref sig .tc .smem S20 .i32) : Type := Buf (Elt F) (M.view.loc (c : Thread nD τ))
abbrev tbPt (c : Dev nD) (M : Memref sig .tc .smem S20 .i32) (f : TbBuf (F := F) c M) : sProp 𝕄 :=
  M.view.loc (c : Thread nD τ) ↦{fullShare.right} f

theorem PhiT_eq (c : Dev nD) : (Pipeline.ΦT pre0 (tbl m) c : sProp 𝕄)
    = iprop(tbPt c tb0 (tbl m 0) ∗ tbPt c tb1 (tbl m 1) ∗ tbPt c tb2 (tbl m 2) ∗ tbPt c tb3 (tbl m 3)) := by
  unfold Pipeline.ΦT Pipeline.prefHeld
  rw [bigSep_univ_eq_bigSepL [(0 : Fin 4), (1 : Fin 4), (2 : Fin 4), (3 : Fin 4)] (by decide) (by decide)]
  rfl

/-- The scratch: the resident bf16 weights and the running sums. -/
abbrev scM0 : Memref sig .tc .vmem S4096x1024 .bf16 := Memref.whole cc0_scratch0
abbrev scM1 : Memref sig .tc .vmem S512x1024 .f32 := Memref.whole cc0_scratch1

theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- Step `i`'s kind and chunk, as the body loads them from tables 0 and 3. -/
abbrev kindOf (c : Dev nD) (xt : TbBuf (F := F) c tb0) (i : grid0.Coords) : BitVec 32 :=
  View.readAt (Elt F) tb0.view (Rect.unit (s := S20) (k0_off1 i) S1.size (k0_off1_inb i)).toLoadRect xt (Shape.Idx.first (numel1_S1.symm ▸ Nat.one_pos))
abbrev chunkOf (c : Dev nD) (xt : TbBuf (F := F) c tb3) (i : grid0.Coords) : BitVec 32 :=
  View.readAt (Elt F) tb3.view (Rect.unit (s := S20) (k0_off1 i) S1.size (k0_off1_inb i)).toLoadRect xt (Shape.Idx.first (numel1_S1.symm ▸ Nat.one_pos))

end Cert.Kernel4Ideal.Proj

end
-- ==== Proof.ProjRun.lean ====
/- The body of the input projection, run once per kind of step. -/
module

public import proofs.«01_k».proof.Proof.ProjSetup

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (c : Dev nD) (i : grid0.Coords)
  (a6 : Memref sig .tc .vmem S512x4096 .bf16) (h6 : a6.IsWhole) (a7 : Memref sig .tc .vmem S1x1024x1024 .f32) (h7 : a7.IsWhole)
  (a8 : Memref sig .tc .vmem S512x1024 .f32) (h8 : a8.IsWhole)
  (a9 : Memref sig .tc .vmem S4096x1024 .bf16) (h9 : a9.IsWhole) (a10 : Memref sig .tc .vmem S512x1024 .f32) (h10 : a10.IsWhole)
  (x : Vec F S512x4096 .bf16) (w : Vec F S1x1024x1024 .f32) (o : Vec F S512x1024 .f32)
  (b : Vec F S4096x1024 .bf16) (s : Vec F S512x1024 .f32)
  (t0 : TbBuf (F := F) c tb0) (t1 : TbBuf (F := F) c tb1) (t2 : TbBuf (F := F) c tb2) (t3 : TbBuf (F := F) c tb3)

/-- The body's memrefs at given contents. -/
def held (x : Vec F S512x4096 .bf16) (w : Vec F S1x1024x1024 .f32) (o : Vec F S512x1024 .f32)
    (b : Vec F S4096x1024 .bf16) (s : Vec F S512x1024 .f32) : sProp 𝕄 :=
  iprop(owns (c : Thread nD τ) a6 fullShare x ∗ owns (c : Thread nD τ) a7 fullShare w ∗ owns (c : Thread nD τ) a8 fullShare o
    ∗ owns (c : Thread nD τ) a9 fullShare b ∗ owns (c : Thread nD τ) a10 fullShare s
    ∗ tbPt c tb0 t0 ∗ tbPt c tb1 t1 ∗ tbPt c tb2 t2 ∗ tbPt c tb3 t3)

/-- A buffer's contents under a memref. -/
abbrev MBuf (c : Dev nD) {S : Shape} {e : EltTy} (M : Memref sig .tc .vmem S e) : Type := Buf (Elt F) (M.view.loc (c : Thread nD τ))
abbrev mPt (c : Dev nD) {S : Shape} {e : EltTy} (M : Memref sig .tc .vmem S e) (f : MBuf (F := F) c M) : sProp 𝕄 :=
  M.view.loc (c : Thread nD τ) ↦[M.view.set]{fullShare} f

/-- The body run on any words of the tables: what it leaves in the output's buffer and in the scratch,
    each a choice by the step's kind and chunk. -/
def bodyRun : Σ' (G8 : MBuf (F := F) c a8) (G9 : MBuf (F := F) c a9),
    { G10 : MBuf (F := F) c a10 // ∀ (E : Set ℕ) (K : PUnit → sProp 𝕄),
      iprop(held c a6 a7 a8 a9 a10 t0 t1 t2 t3 x w o b s
        ∗ (iprop(owns (c : Thread nD τ) a6 fullShare x ∗ owns (c : Thread nD τ) a7 fullShare w
            ∗ mPt c a8 G8 ∗ mPt c a9 G9 ∗ mPt c a10 G10
            ∗ tbPt c tb0 t0 ∗ tbPt c tb1 t1 ∗ tbPt c tb2 t2 ∗ tbPt c tb3 t3) -∗ K ⟨⟩))
      ⊢ wp frame (wpE (defs₀ (F := F)) Variants.none c none) E
          (cc0_w_in i tb0 (Memref.isWhole_whole _) tb1 (Memref.isWhole_whole _) tb2 (Memref.isWhole_whole _) tb3 (Memref.isWhole_whole _)
            a6 h6 a7 h7 a8 h8 a9 h9 a10 h10) K } := by
  refine ⟨?_, ?_, ?_, fun E K => ?run⟩
  case run =>
    simp only [cc0_w_in_eq_skeleton]
    unfold cc0_w_in_skel held owns
    iintro ⟨⟨⟨%f6, %hf6, H6⟩, ⟨%f7, %hf7, H7⟩, ⟨%f8, %hf8, H8⟩, ⟨%f9, %hf9, H9⟩, ⟨%f10, %hf10, H10⟩, T0, T1, T2, T3⟩, Hk⟩
    obtain rfl := h6.eq_unread hf6; obtain rfl := h7.eq_unread hf7; obtain rfl := h8.eq_unread hf8; obtain rfl := h9.eq_unread hf9
    obtain rfl := h10.eq_unread hf10
    sl_exec
    sl_step
    iapply Hk
    isplitl [H6]; · iexists _; isplitr; · ipureintro; exact h6.read_unread _
                    iexact H6
    isplitl [H7]; · iexists _; isplitr; · ipureintro; exact h7.read_unread _
                    iexact H7
    isplitl [H8]; · iexact H8
    isplitl [H9]; · iexact H9
    isplitl [H10]; · iexact H10
    isplitl [T0]; · iexact T0
    isplitl [T1]; · iexact T1
    isplitl [T2]; · iexact T2
    iexact T3

end Cert.Kernel4Ideal.Proj

end
-- ==== Proof.ProjBody.lean ====
/- The input projection: its proof data, its body at a point, and its launch. -/
module

public import proofs.«01_k».proof.Proof.ProjRun

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The staging memrefs at a point. -/
abbrev ms0 (hO : Ok m) (t : Fin (cfgM m hO).N) : Memref sig .tc .vmem S512x4096 .bf16 := spec0_0.stage ((cfgM m hO).slots t 0)
abbrev ms1 (hO : Ok m) (t : Fin (cfgM m hO).N) : Memref sig .tc .vmem S1x1024x1024 .f32 := spec0_1.stage ((cfgM m hO).slots t 1)
abbrev ms2 (hO : Ok m) (t : Fin (cfgM m hO).N) : Memref sig .tc .vmem S512x1024 .f32 := spec0_2.stage ((cfgM m hO).slots t 2)
abbrev hs0 (hO : Ok m) (t : Fin (cfgM m hO).N) : (ms0 m hO t).IsWhole := hstage0_0 (((cfgM m hO).slots t 0).cast nbuf0_0)
abbrev hs1 (hO : Ok m) (t : Fin (cfgM m hO).N) : (ms1 m hO t).IsWhole := hstage0_1 (((cfgM m hO).slots t 1).cast nbuf0_1)
abbrev hs2 (hO : Ok m) (t : Fin (cfgM m hO).N) : (ms2 m hO t).IsWhole := hstage0_2 (((cfgM m hO).slots t 2).cast nbuf0_2)

/-- The body at a point. -/
abbrev bodyAt (hO : Ok m) (t : Fin (cfgM m hO).N) : Prog (TpuEff nD τ sig (Elt F) Λ₀ .tc) PUnit :=
  cc0_w_in (grid0.coords t) tb0 (Memref.isWhole_whole _) tb1 (Memref.isWhole_whole _) tb2 (Memref.isWhole_whole _) tb3 (Memref.isWhole_whole _)
    (ms0 m hO t) (hs0 m hO t) (ms1 m hO t) (hs1 m hO t) (ms2 m hO t) (hs2 m hO t)
    scM0 (Memref.isWhole_whole _) scM1 (Memref.isWhole_whole _)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The contents of the input windows' blocks at a point. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))
abbrev blk0 (hO : Ok m) (c : Dev nD) (t : Fin (cfgM m hO).N) : Vec F S512x4096 .bf16 := iblk m hO c 0 t
abbrev blk1 (hO : Ok m) (c : Dev nD) (t : Fin (cfgM m hO).N) : Vec F S1x1024x1024 .f32 := iblk m hO c 1 t

/-- The run at a point: the inputs at their blocks, the output and the scratch at given contents. -/
abbrev runAt (hO : Ok m) (c : Dev nD) (t : Fin (cfgM m hO).N) (o : Vec F S512x1024 .f32) (b : Vec F S4096x1024 .bf16) (s : Vec F S512x1024 .f32) :=
  bodyRun c (grid0.coords t) (ms0 m hO t) (hs0 m hO t) (ms1 m hO t) (hs1 m hO t) (ms2 m hO t) (hs2 m hO t)
    scM0 (Memref.isWhole_whole _) scM1 (Memref.isWhole_whole _)
    (blk0 m hO c t) (blk1 m hO c t) o b s (tbl m 0) (tbl m 1) (tbl m 2) (tbl m 3)

/-- What holds of the scratch before a point. -/
abbrev InvT (F : FTy → Type) [FloatOps F] : Type := ℕ → Vec F S4096x1024 .bf16 → Vec F S512x1024 .f32 → Prop
/-- What the body does to the output's buffer at a point. -/
abbrev RelT (F : FTy → Type) [FloatOps F] (N : ℕ) : Type := Fin N → Vec F S512x1024 .f32 → Vec F S512x1024 .f32 → Prop

variable (hO : Ok m) (Inv : InvT F) (R : RelT F (cfgM m hO).N)

/-- The scratch before a point. -/
def scr (c : Dev nD) (n : ℕ) : sProp 𝕄 :=
  iprop(∃ b, ∃ s, ⌜Inv n b s⌝ ∗ owns (c : Thread nD τ) scM0 fullShare b ∗ owns (c : Thread nD τ) scM1 fullShare s)

/-- The step tables, as the body is handed them. -/
def tabs (c : Dev nD) : sProp 𝕄 := iprop(tbPt c tb0 (tbl m 0) ∗ tbPt c tb1 (tbl m 1) ∗ tbPt c tb2 (tbl m 2) ∗ tbPt c tb3 (tbl m 3))

/-- What the core holds before a point, beside the staging buffers. -/
def Phi (c : Dev nD) (n : ℕ) : sProp 𝕄 := iprop(scr Inv c n ∗ (∃ r, prngReg c r) ∗ tabs m c)

/-- The proof data on a core: the inputs left as found, the output related by `R`, the scratch as `Inv` has it. -/
def rdat (c : Dev nD) : RDat τ (Elt F) Unit ℕ (UR sig nD τ) ℕ (cfgM m hO) c where
  A w := V m c (Pipeline.arrRef spec0 w)
  after w t Y X := match w with
    | ⟨0, _⟩ => X = Y
    | ⟨1, _⟩ => X = Y
    | ⟨2, _⟩ => R t Y X
  Φ t := Phi m Inv c t.val
  q _ := fullShare
  owed _ := 0

/-- An input's buffer holds its block wherever the body is handed it. -/
theorem finds0 (c : Dev nD) (t : Fin (cfgM m hO).N) (Y) (h : (rdat m hO Inv R c).Finds 0 t Y) : Y = blk0 m hO c t := by
  obtain ⟨d, hd⟩ := RDat.finds_in_eq_fetched (rdat m hO Inv R c) 0 rfl (fun _ _ _ => rfl) (fun _ _ _ h => h) t Y h
  rw [hd]; rfl
theorem finds1 (c : Dev nD) (t : Fin (cfgM m hO).N) (Y) (h : (rdat m hO Inv R c).Finds 1 t Y) : Y = blk1 m hO c t := by
  obtain ⟨d, hd⟩ := RDat.finds_in_eq_fetched (rdat m hO Inv R c) 1 rfl (fun _ _ _ => rfl) (fun _ _ _ h => h) t Y h
  rw [hd]; rfl

/-- What a step must keep: from contents the body may find, the run leaves contents related by `R` and `Inv`. -/
def Keeps (c : Dev nD) : Prop := ∀ (t : Fin (cfgM m hO).N) o b s, (rdat m hO Inv R c).Finds 2 t o → Inv t.val b s →
  R t o ((ms2 m hO t).view.read (Elt F) (runAt m hO c t o b s).1)
  ∧ Inv (t.val + 1) (scM0.view.read (Elt F) (runAt m hO c t o b s).2.1) (scM1.view.read (Elt F) (runAt m hO c t o b s).2.2.1)

variable {m hO Inv R}

/-- The body at a point, from contents it may find. -/
theorem sound_body (c : Dev nD) (hK : Keeps m hO Inv R c) (t : Fin (cfgM m hO).N)
    (Y : (w : Fin (cfgM m hO).W) → ((cfgM m hO).win w).block.Idx → Elt F ((cfgM m hO).win w).elt)
    (hY : ∀ w, (rdat m hO Inv R c).Finds w t (Y w)) :
    iprop((rdat m hO Inv R c).Φ t.castSucc ∗ (rdat m hO Inv R c).owesAt () t.castSucc
        ∗ owns (c : Thread nD τ) (ms0 m hO t) fullShare (Y 0) ∗ owns (c : Thread nD τ) (ms1 m hO t) fullShare (Y 1)
        ∗ owns (c : Thread nD τ) (ms2 m hO t) fullShare (Y 2))
      ⊢ wp frame (wpE (defs₀ (F := F)) Variants.none c none) Set.univ (bodyAt m hO t) fun _ =>
        iprop((rdat m hO Inv R c).Φ t.succ ∗ (rdat m hO Inv R c).owesAt () t.succ
          ∗ (∃ X, ⌜(rdat m hO Inv R c).after 0 t (Y 0) X⌝ ∗ owns (c : Thread nD τ) (ms0 m hO t) fullShare X)
          ∗ (∃ X, ⌜(rdat m hO Inv R c).after 1 t (Y 1) X⌝ ∗ owns (c : Thread nD τ) (ms1 m hO t) fullShare X)
          ∗ (∃ X, ⌜(rdat m hO Inv R c).after 2 t (Y 2) X⌝ ∗ owns (c : Thread nD τ) (ms2 m hO t) fullShare X)) := by
  have p1 : (rdat m hO Inv R c).owesAt () t.succ = (rdat m hO Inv R c).owesAt () t.castSucc := rfl
  have p2 : (rdat m hO Inv R c).Φ t.succ = Phi m Inv c (t.val + 1) := rfl
  have p3 : (rdat m hO Inv R c).Φ t.castSucc = Phi m Inv c t.val := congrArg (Phi m Inv c) (Fin.val_castSucc t)
  simp only [p1, p2, p3]
  have e0 := finds0 m hO Inv R c t _ (hY 0)
  have e1 := finds1 m hO Inv R c t _ (hY 1)
  unfold Phi scr tabs
  iintro ⟨⟨⟨%b, %s, %hI, B, S⟩, Hg, T0, T1, T2, T3⟩, Ho, H0, H1, H2⟩
  have hk := hK t (Y 2) b s (hY 2) hI
  iapply ((runAt m hO c t (Y 2) b s).2.2.2 Set.univ _)
  isplitl [H0 H1 H2 B S T0 T1 T2 T3]
  · unfold held
    isplitl [H0]; · rw [e0]; iexact H0
    isplitl [H1]; · rw [e1]; iexact H1
    isplitl [H2]; · iexact H2
    isplitl [B]; · iexact B
    isplitl [S]; · iexact S
    isplitl [T0]; · iexact T0
    isplitl [T1]; · iexact T1
    isplitl [T2]; · iexact T2
    iexact T3
  iintro ⟨H0, H1, H2, B, S, T0, T1, T2, T3⟩
  isplitl [B S Hg T0 T1 T2 T3]
  · isplitl [B S]
    · iexists _, _
      isplitr; · ipureintro; exact hk.2
      unfold owns
      isplitl [B]; · iexists _; isplitr; swap; · iexact B
                     ipureintro; rfl
      iexists _; isplitr; swap; · iexact S
      ipureintro; rfl
    isplitl [Hg]; · iexact Hg
    isplitl [T0]; · iexact T0
    isplitl [T1]; · iexact T1
    isplitl [T2]; · iexact T2
    iexact T3
  isplitl [Ho]; · iexact Ho
  isplitl [H0]; · iexists _; isplitr; swap; · iexact H0
                  ipureintro; exact e0.symm
  isplitl [H1]; · iexists _; isplitr; swap; · iexact H1
                  ipureintro; exact e1.symm
  iexists _; isplitr
  swap
  · unfold owns; iexists _; isplitr; swap; · iexact H2
    ipureintro; rfl
  ipureintro; exact hk.1

theorem body_obligation (c : Dev nD) (hK : Keeps m hO Inv R c) :
    (rdat m hO Inv R c).BodyObligation (defs₀ (F := F)) Variants.none () Set.univ := fun t Y hY => by
  rw [bigSep_W0, bigSep_W0, defs₀_row m hO]
  exact triple_restated (sound_body c hK t Y hY) rfl .rfl fun _ => .rfl

variable (m hO Inv R)

theorem hin (h0 : ∀ b s, Inv 0 b s) (c : Dev nD) :
    iprop(Pipeline.ΦA spec0 c ∗ Pipeline.ΦT pre0 (tbl m) c) ⊢ (rdat m hO Inv R c).Φ 0 := by
  rw [show (rdat m hO Inv R c).Φ 0 = Phi m Inv c 0 from rfl, PhiA_eq, show Pipeline.ΦT pre0 (tbl m) c = tabs m c from PhiT_eq m c]
  unfold Phi scr
  iintro ⟨⟨⟨⟨%b, B⟩, ⟨%s, S⟩⟩, Hg⟩, HT⟩
  isplitl [B S]
  · iexists b, s
    isplitr; · ipureintro; exact h0 _ _
    isplitl [B]; · iexact B
    iexact S
  isplitl [Hg]; · iexact Hg
  iexact HT

theorem hout (c : Dev nD) : (rdat m hO Inv R c).Φ (Fin.last (cfgM m hO).N) ⊢ Pipeline.ΦA spec0 c := by
  rw [show (rdat m hO Inv R c).Φ (Fin.last (cfgM m hO).N) = Phi m Inv c (cfgM m hO).N from rfl, PhiA_eq]
  unfold Phi scr
  iintro ⟨⟨%b, %s, -, B, S⟩, Hg, -⟩
  isplitl [B S]
  · isplitl [B]; · iexists _; iexact B
    iexists _; iexact S
  iexact Hg

-- the launch lemma's implicit arguments are found by unifying its conclusion with this one
set_option backward.isDefEq.respectTransparency.types false in
/-- The launch: every run ends, each array as the proof data have it, the others as launched, every counter zero. -/
theorem run_main (h0 : ∀ b s, Inv 0 b s) (hK : ∀ c, Keeps m hO Inv R c) :
    θ_run defs (onTc (τ := τ) (main (F := F))) (s₀ m ρ)
      (fun r => Pipeline.RDat.FramePost (cfgM m hO) (rdat m hO Inv R) (V m) r ∧ r.2.sem = fun _ => 0) :=
  Pipeline.RDat.θ_run_frameP_track (Q' := _) pcfgs (fun _ => adm m hO) (0 : Fin 1) launch0 defs₀ Variants.none (rdat m hO Inv R) m ρ main
    (hbody := fun c => body_obligation c (hK c)) (hshare := fun c w => by unfold RDat.share; split <;> rfl)
    (howed := fun _ _ => rfl) (V := V m) (hmain := hmain m Variants.none) (hA := fun _ _ => rfl) (hpf := V_pre m)
    (hin := hin m hO Inv R h0) (hout := hout m hO Inv R)

end Cert.Kernel4Ideal.Proj

end
-- ==== Proof.ProjFrame.lean ====
/- The input projection leaves its arguments unchanged. -/
module

public import proofs.«01_k».proof.Proof.ProjBody

@[expose] public section

set_option maxRecDepth 16384

noncomputable section

namespace Cert.Kernel4Ideal.Proj

open Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every run ends with the seven arguments unchanged and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩)
    (run_main m ρ hO (fun _ _ _ => True) (fun _ _ _ => True) (fun _ _ => trivial) fun _ _ _ _ _ _ _ => ⟨trivial, trivial⟩)
  have hr := h.1
  exact ⟨hr.arr_in c 0 rfl, hr.arr_in c 1 rfl,
    (hr c).2 main_arg2 (Pipeline.mem_restRefs_of (win := spec0) _ (by decide) (by decide)),
    (hr c).2 main_arg3 (Pipeline.mem_restRefs_of (win := spec0) _ (by decide) (by decide)),
    (hr c).2 main_arg4 (Pipeline.mem_restRefs_of (win := spec0) _ (by decide) (by decide)),
    (hr c).2 main_arg5 (Pipeline.mem_restRefs_of (win := spec0) _ (by decide) (by decide)),
    (hr c).2 main_arg6 (Pipeline.mem_restRefs_of (win := spec0) _ (by decide) (by decide))⟩

end Cert.Kernel4Ideal.Proj

end
-- ==== Proof.ProjPrinted.lean ====
/- The frame of the input projection as printed for the compiler, from the frame of its idealized print. -/
module

public import proofs.«01_k».proof.Proof.ProjFrame
public import proofs.«01_k».proof.Proof.Gen.Kernel4.Launch
public import proofs.«01_k».proof.Proof.Gen.Kernel4

@[expose] public section
set_option maxRecDepth 16384
noncomputable section
namespace Cert.Kernel4.Proj
open Cert.Kernel4.Gen Cert.Kernel4Ideal.Gen
open Idealize.ShloMosaic Idealize.ShloMosaic.TcCoe Idealize.ShloMosaic.Tactic
open Idealize.SL.Sem
variable {F : FTy → Type} [FloatOps F]
variable (m : (ℓ : Loc nD τ sig) → Buf (Elt F) ℓ) (ρ : Dev nD → PrngReg)

/-- The two printed body tables are one table. -/
theorem defs₀_eq : defs₀ (F := F) = Cert.Kernel4Ideal.defs₀ (F := F) := by
  refine congrArg Defs.onTc (funext fun l => funext fun a => ?_)
  obtain ⟨l, hl⟩ := l
  cases l with
  | zero => rfl
  | succ n => exact absurd hl (by omega)

/-- The frame of the call as the compiler is handed it, by the frame of its idealized print: the two are one program. -/
theorem frame (hO : Cert.Kernel4Ideal.Proj.Ok (F := F) m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  have key : ∀ D : Defs nD τ sig (Elt F) Λ₀, D = Cert.Kernel4Ideal.defs₀ (F := F) →
      θ_run (Pipeline.defs pcfgs D) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
    rintro _ rfl
    exact Cert.Kernel4Ideal.Proj.frame (F := F) m ρ hO
  exact key _ defs₀_eq

end Cert.Kernel4.Proj
end
-- ==== Proof.ProjCases.lean ====
/- What the input projection's body leaves in its buffers, for each kind of step its tables name. -/
module

public import proofs.«01_k».proof.Proof.ProjRun
public import proofs.«01_k».proof.Proof.Cases
public import Idealize.ShloMosaic.Lib.VecWindow

@[expose] public section

set_option maxRecDepth 16384

noncomputable section

namespace Cert.Kernel4Ideal.Proj

open Cert.Kernel4Ideal.Gen
open Idealize.ShloMosaic Idealize.ShloMosaic.TcCoe Idealize.ShloMosaic.Tactic
open Cert.Kernel2Ideal.Mat (cond_one cond_two)

variable {F : FTy → Type} [FloatOps F]

variable (c : Dev nD) (i : grid0.Coords)
  (a6 : Memref sig .tc .vmem S512x4096 .bf16) (h6 : a6.IsWhole) (a7 : Memref sig .tc .vmem S1x1024x1024 .f32) (h7 : a7.IsWhole)
  (a8 : Memref sig .tc .vmem S512x1024 .f32) (h8 : a8.IsWhole)
  (a9 : Memref sig .tc .vmem S4096x1024 .bf16) (h9 : a9.IsWhole) (a10 : Memref sig .tc .vmem S512x1024 .f32) (h10 : a10.IsWhole)
  (x : Vec F S512x4096 .bf16) (w : Vec F S1x1024x1024 .f32) (o : Vec F S512x1024 .f32)
  (b : Vec F S4096x1024 .bf16) (s : Vec F S512x1024 .f32)
  (t0 : TbBuf (F := F) c tb0) (t1 : TbBuf (F := F) c tb1) (t2 : TbBuf (F := F) c tb2) (t3 : TbBuf (F := F) c tb3)

/-- The contents a run leaves, read back through the memrefs. -/
structure Left (F : FTy → Type) where
  o : Vec F S512x1024 .f32
  b : Vec F S4096x1024 .bf16
  s : Vec F S512x1024 .f32

abbrev left : Left F :=
  let G := bodyRun c i a6 h6 a7 h7 a8 h8 a9 h9 a10 h10 x w o b s t0 t1 t2 t3
  ⟨a8.view.read (Elt F) G.1, a9.view.read (Elt F) G.2.1, a10.view.read (Elt F) G.2.2.1⟩

/-- The load of a whole matrix. -/
theorem ld_whole {n k : ℕ} {e : EltTy} (a : Memref sig .tc .vmem ⟨2, ![n, k]⟩ e) (h : a.IsWhole) (v : Vec F ⟨2, ![n, k]⟩ e)
    (inb : ∀ j, (![0, 0] : Fin 2 → ℕ) j + (![n, k] : Fin 2 → ℕ) j ≤ Shape.size ⟨2, ![n, k]⟩ j) :
    a.view.readAt (Elt F) (Rect.unit (s := ⟨2, ![n, k]⟩) ![0, 0] ![n, k] inb).toLoadRect (h.unread v) = v :=
  (View.readAt_full a.view (h.unread v) inb).trans (h.read_unread v)
theorem ld_w (a : Memref sig .tc .vmem S1x1024x1024 .f32) (h : a.IsWhole) (w : Vec F S1x1024x1024 .f32)
    (inb : ∀ k, (![0, 0, 0] : Fin 3 → ℕ) k + (![1, 1024, 1024] : Fin 3 → ℕ) k ≤ S1x1024x1024.size k) :
    a.view.readAt (Elt F) (Rect.unit (s := S1x1024x1024) ![0, 0, 0] ![1, 1024, 1024] inb).toLoadRect (h.unread w) = w :=
  (View.readAt_full a.view (h.unread w) inb).trans (h.read_unread w)
/-- The load of a block just stored, and what its store leaves. -/
theorem ld_cov (a : Memref sig .tc .vmem S512x1024 .f32)
    (inb inb' : ∀ k, (![0, 0] : Fin 2 → ℕ) k + (![512, 1024] : Fin 2 → ℕ) k ≤ S512x1024.size k) (w) (L) :
    a.view.readCov (Val := Elt F) (⟨Rect.unit (s := S512x1024) ![0, 0] ![512, 1024] inb', w⟩ :: L)
      (Rect.unit (s := S512x1024) ![0, 0] ![512, 1024] inb).toLoadRect = w :=
  View.readCov_full a.view inb inb' w L
theorem st_s (a : Memref sig .tc .vmem S512x1024 .f32) (f : a.view.ty.Contents (Elt F))
    (inb : ∀ k, (![0, 0] : Fin 2 → ℕ) k + (![512, 1024] : Fin 2 → ℕ) k ≤ S512x1024.size k) (w) (L) :
    a.view.read (Elt F) (a.view.writes (Elt F) f (⟨Rect.unit (s := S512x1024) ![0, 0] ![512, 1024] inb, w⟩ :: L)) = w :=
  View.read_writes_full a.view f inb w L

/-- Columns `[n, n + 1024)` of the block of rows. -/
abbrev cols (n : ℕ) (h : n + 1024 ≤ 4096) : Vec F S512x1024 .bf16 :=
  VecWindow.window (s := S512x4096) x ![0, n] ![512, 1024] fun k => match k with | 0 => Nat.le_refl 512 | 1 => h
theorem ld_cols (a : Memref sig .tc .vmem S512x4096 .bf16) (h : a.IsWhole) (n : ℕ) (hn : n + 1024 ≤ 4096)
    (inb : ∀ k, (![0, n] : Fin 2 → ℕ) k + (![512, 1024] : Fin 2 → ℕ) k ≤ S512x4096.size k) :
    a.view.readAt (Elt F) (Rect.unit (s := S512x4096) ![0, n] ![512, 1024] inb).toLoadRect (h.unread x) = cols x n hn := by
  rw [View.readAt_unit a.view _ inb rfl inb, h.read_unread]

/-- Rows `[n, n + 1024)` of the resident weights overwritten by a block of weights. -/
abbrev putRows (b : Vec F S4096x1024 .bf16) (n : ℕ) (w : Vec F S1x1024x1024 .f32) : Vec F S4096x1024 .bf16 :=
  VecWindow.put (s := S4096x1024) b ![n, 0] ![1024, 1024] (k0_pay2 w)
theorem st_rows (a : Memref sig .tc .vmem S4096x1024 .bf16) (h : a.IsWhole) (b : Vec F S4096x1024 .bf16) (n : ℕ)
    (inb : ∀ k, (![n, 0] : Fin 2 → ℕ) k + (![1024, 1024] : Fin 2 → ℕ) k ≤ S4096x1024.size k) (w : Vec F S1x1024x1024 .f32) :
    a.view.read (Elt F) (a.view.writes (Elt F) (h.unread b) [⟨Rect.unit (s := S4096x1024) ![n, 0] ![1024, 1024] inb, k0_pay2 w⟩])
      = putRows b n w := by
  rw [View.read_writes_cons_put a.view _ inb _ _ rfl, View.writes_nil, h.read_unread]

/-- The conditions of a step, at its kind `k` and chunk `q`. -/
theorem conds {k q : BitVec 32} (hk : kindOf c t0 i = k) (hq : chunkOf c t3 i = q) :
    (bodyRun.sl.v8 c i t0 t3 = 1#1) = (k = 1#32 ∧ q = 0#32) ∧ (bodyRun.sl.v13 c i t0 t3 = 1#1) = (k = 1#32 ∧ q = 1#32)
      ∧ (bodyRun.sl.v18 c i t0 t3 = 1#1) = (k = 1#32 ∧ q = 2#32)
      ∧ (k0_cond4 (bodyRun.sl.r c i t0) (bodyRun.sl.r_1 c i t3) = 1#1) = (k = 1#32 ∧ q = 3#32)
      ∧ (k0_cond5 (bodyRun.sl.r c i t0) = 1#1) = (k = 2#32) ∧ (k0_cond6 (bodyRun.sl.r c i t0) = 1#1) = (k = 3#32) := by
  subst hk hq
  exact ⟨propext (cond_two ..), propext (cond_two ..), propext (cond_two ..), propext (cond_two ..), propext (cond_one ..), propext (cond_one ..)⟩

/-- The first chunk's load starts the sums. -/
theorem left_first (hk : kindOf c t0 i = 1#32) (hc : chunkOf c t3 i = 0#32) :
    left c i a6 h6 a7 h7 a8 h8 a9 h9 a10 h10 x w o b s t0 t1 t2 t3 = ⟨o, putRows b 0 w, k0_pay3 (cols x 0 (by omega)) w⟩ := by
  obtain ⟨q1, q2, q3, q4, q5, q6⟩ := conds c i t0 t3 hk hc
  unfold left bodyRun
  simp +decide only [q1, q2, q3, q4, q5, q6, false_and, and_true, and_false, and_self, dite_true, dite_false,
    ld_cols x a6 h6 0 (by omega), ld_w, ld_whole, ld_cov, st_s, h7.read_unread, h8.read_unread, h9.read_unread, h10.read_unread]
  exact Left.mk.injEq .. ▸ ⟨rfl, st_rows a9 h9 b 0 _ w, rfl⟩

/-- The loads between the first and the last. -/
theorem left_mid {n : ℕ} (hn : n = 1 ∨ n = 2) (hk : kindOf c t0 i = 1#32) (hc : chunkOf c t3 i = BitVec.ofNat 32 n) :
    left c i a6 h6 a7 h7 a8 h8 a9 h9 a10 h10 x w o b s t0 t1 t2 t3
      = ⟨o, putRows b (1024 * n) w, k0_pay6 (cols x (1024 * n) (by omega)) w s⟩ := by
  obtain ⟨q1, q2, q3, q4, q5, q6⟩ := conds c i t0 t3 hk hc
  unfold left bodyRun
  obtain rfl | rfl := hn
  all_goals
    simp +decide only [q1, q2, q3, q4, q5, q6, false_and, and_true, and_false, and_self, dite_true, dite_false,
      bodyRun.sl.v38, bodyRun.sl.v38_1, ld_cols x a6 h6 1024 (by omega), ld_cols x a6 h6 2048 (by omega), ld_w, ld_whole, ld_cov, st_s,
      h7.read_unread, h8.read_unread, h9.read_unread, h10.read_unread]
    exact Left.mk.injEq .. ▸ ⟨rfl, st_rows a9 h9 b _ _ w, rfl⟩

/-- The last chunk's load stores the sums. -/
theorem left_last (hk : kindOf c t0 i = 1#32) (hc : chunkOf c t3 i = 3#32) :
    left c i a6 h6 a7 h7 a8 h8 a9 h9 a10 h10 x w o b s t0 t1 t2 t3
      = ⟨k0_pay6 (cols x 3072 (by omega)) w s, putRows b 3072 w, k0_pay6 (cols x 3072 (by omega)) w s⟩ := by
  obtain ⟨q1, q2, q3, q4, q5, q6⟩ := conds c i t0 t3 hk hc
  unfold left bodyRun
  simp +decide only [q1, q2, q3, q4, q5, q6, false_and, and_true, and_false, and_self, dite_true, dite_false,
    bodyRun.sl.v38_2, bodyRun.sl.v43, bodyRun.sl.H10_1, ld_cols x a6 h6 3072 (by omega), ld_w, ld_whole, ld_cov, st_s, h7.read_unread, h8.read_unread, h9.read_unread, h10.read_unread]
  exact Left.mk.injEq .. ▸ ⟨rfl, st_rows a9 h9 b 3072 _ w, rfl⟩

/-- A later tile is multiplied by the resident weights. -/
theorem left_keep (hk : kindOf c t0 i = 2#32) :
    left c i a6 h6 a7 h7 a8 h8 a9 h9 a10 h10 x w o b s t0 t1 t2 t3 = ⟨k0_pay13 x b, b, s⟩ := by
  obtain ⟨q1, q2, q3, q4, q5, q6⟩ := conds c i t0 t3 hk rfl
  unfold left bodyRun
  simp +decide only [q1, q2, q3, q4, q5, q6, false_and, and_true, and_false, and_self, dite_true, dite_false,
    bodyRun.sl.v31, ld_w, ld_whole, ld_cov, st_s, h7.read_unread, h8.read_unread, h9.read_unread, h10.read_unread]

end Cert.Kernel4Ideal.Proj

end
-- ==== Proof.ProjSched.lean ====
/- What the input projection's condition says of its step tables, word by word. -/
module

public import proofs.«01_k».proof.Proof.Gen.Pre_tables_of_layer
public import proofs.«01_k».proof.Proof.DownSched

@[expose] public section

set_option maxRecDepth 16384

namespace Cert.ProjSched

open Idealize.ShloMosaic
open Cert.Pre_tables_of_layer
open Cert.Sched (and_one ofBool_one)
open Cert.DownSched (word word_eq)

/-- The tables of a projection by one layer's weights: a step for each chunk of the weights at the first tile, then a step a tile. -/
structure Layered (k t e c : IVec ⟨1, ![20]⟩ 32) (l : IVec ⟨1, ![1]⟩ 32) : Prop where
  kind : ∀ s : Fin 20, word k s = if s.val < 4 then 1#32 else 2#32
  tile : ∀ s : Fin 20, word t s = BitVec.ofNat 32 (s.val - 3)
  chunk : ∀ s : Fin 20, word c s = BitVec.ofNat 32 (min s.val 3)
  expert : ∀ s : Fin 20, word e s = word l 0
  layer : (word l 0).toNat < 2

theorem kind_word : ∀ s : Fin 20, Scalar.select (BitVec.ofBool ((BitVec.ofNat 32 s.val).slt 4#32)) 1#32 2#32 = if s.val < 4 then 1#32 else 2#32 := by decide
theorem tile_word : ∀ s : Fin 20, IntOp.maxsi (IntOp.subi (BitVec.ofNat 32 s.val) 3#32) 0#32 = BitVec.ofNat 32 (s.val - 3) := by decide
theorem chunk_word : ∀ s : Fin 20, IntOp.minsi (BitVec.ofNat 32 s.val) 3#32 = BitVec.ofNat 32 (min s.val 3) := by decide

variable {F : FTy → Type} [FloatOps F] (a0 : FVec F S8704x4096 .bf16) (a1 : FVec F S2x4096x10240 .f32)
  (k t e c : IVec S20 32) (l : IVec S1 32)

theorem layered_of_fn
    (h : (fn (F := F) a0 a1 k t e c l).1 = (fun _ => 1#1) ∧ (fn (F := F) a0 a1 k t e c l).2.1 = (fun _ => 1#1)
      ∧ (fn (F := F) a0 a1 k t e c l).2.2.1 = (fun _ => 1#1) ∧ (fn (F := F) a0 a1 k t e c l).2.2.2.1 = (fun _ => 1#1)
      ∧ (fn (F := F) a0 a1 k t e c l).2.2.2.2 = (fun _ => 1#1)) : Layered k t e c l := by
  obtain ⟨h1, h2, h3, h4, h5⟩ := h
  refine ⟨fun s => ?_, fun s => ?_, fun s => ?_, fun s => ?_, ?_⟩
  · have q := congrFun h1 fun a => match a with | 0 => s
    simp only [fn, fn_part1, fn_where, cmpi, broadcastInDim, constantI, IntOp.cmpi, ofBool_one, beq_iff_eq, word_eq k] at q
    exact Eq.trans q (kind_word s)
  · have q := congrFun h2 fun a => match a with | 0 => s
    simp only [fn, fn_part1, fn_where, cmpi, broadcastInDim, constantI, IntOp.cmpi, ofBool_one, beq_iff_eq, word_eq t] at q
    exact Eq.trans q (tile_word s)
  · have q := congrFun h3 fun a => match a with | 0 => s
    simp only [fn, fn_part1, fn_where, cmpi, broadcastInDim, constantI, IntOp.cmpi, ofBool_one, beq_iff_eq, word_eq c] at q
    exact Eq.trans q (chunk_word s)
  · have q := congrFun h4 fun a => match a with | 0 => s
    simp only [fn, fn_part1, fn_where, cmpi, broadcastInDim, constantI, IntOp.cmpi, ofBool_one, beq_iff_eq, word_eq e, word_eq l] at q
    exact q
  · have q := congrFun h5 fun a => match a with | 0 => (0 : Fin 1)
    simp only [fn, fn_part1, fn_where, andi, and_one, cmpi, broadcastInDim, constantI, IntOp.cmpi, ofBool_one,
      BitVec.sle_eq_decide, BitVec.slt_eq_decide, decide_eq_true_eq, word_eq l] at q
    have q' : (0#32 : BitVec 32).toInt ≤ (word l 0).toInt ∧ (word l 0).toInt < (2#32 : BitVec 32).toInt := q
    have h0 : (0#32 : BitVec 32).toInt = 0 := by decide
    have h2 : (2#32 : BitVec 32).toInt = 2 := by decide
    rw [h0, h2, BitVec.toInt_eq_toNat_cond] at q'
    have := (word l 0).isLt
    split_ifs at q' <;> omega

end Cert.ProjSched
-- ==== Proof.ProjTables.lean ====
/- The step tables of the input projection, word by word, and that the blocks they name lie inside their arrays. -/
module

public import proofs.«01_k».proof.Proof.ProjSetup
public import proofs.«01_k».proof.Proof.ProjSched
public import Idealize.ShloMosaic.Lib.Affine

@[expose] public section

set_option maxRecDepth 16384

noncomputable section

namespace Cert.Kernel4Ideal.Proj

open Cert.Kernel4Ideal.Gen
open Idealize.ShloMosaic Idealize.ShloMosaic.TcCoe
open Cert.DownSched (word)

variable {F : FTy → Type} [FloatOps F]
variable (m : (ℓ : Loc nD τ sig) → Buf (Elt F) ℓ)

/-- The step of a grid point, and its column. -/
def stepOf (i : grid0.Coords) : Fin 20 := ⟨(i 1).val, (i 1).isLt⟩
def colOf (i : grid0.Coords) : Fin 10 := ⟨(i 0).val, (i 0).isLt⟩

/-- The tables' words at step `s`. -/
def kindW (s : Fin 20) : BitVec 32 := word (n := 20) (tbl m 0) s
def tileW (s : Fin 20) : BitVec 32 := word (n := 20) (tbl m 1) s
def expertW (s : Fin 20) : BitVec 32 := word (n := 20) (tbl m 2) s
def chunkW (s : Fin 20) : BitVec 32 := word (n := 20) (tbl m 3) s

theorem off1_val (i : grid0.Coords) : k0_off1 i 0 = (i 1).val := by
  have h : (i 1).val < 20 := (i 1).isLt
  show (Scalar.indexCast (BitVec.ofNat 32 (i 1).val)).toNat = _
  simp [Scalar.indexCast]
  omega

/-- The element a step's load of a table names. -/
theorem emb_step (i : grid0.Coords) (x : S20.Idx → BitVec 32) :
    x ((Rect.unit (s := S20) (k0_off1 i) S1.size (k0_off1_inb i)).emb (Shape.Idx.first (numel1_S1.symm ▸ Nat.one_pos)))
      = word (n := 20) x (stepOf i) := by
  rw [Cert.DownSched.word_eq (n := 20) x]
  congr 1
  apply Fin.ext
  have h1 : (Shape.Idx.first (s := S1) (numel1_S1.symm ▸ Nat.one_pos) 0).val = 0 :=
    Nat.lt_one_iff.1 (Shape.Idx.first (s := S1) (numel1_S1.symm ▸ Nat.one_pos) 0).isLt
  show k0_off1 i 0 + 1 * (Shape.Idx.first (s := S1) (numel1_S1.symm ▸ Nat.one_pos) 0).val = (i 1).val
  rw [h1, off1_val]; rfl

theorem col_word (i : grid0.Coords) : (BitVec.ofNat 32 (i 0).val).toNat = (i 0).val := by
  have h : (i 0).val < 10 := (i 0).isLt
  simp; omega

theorem ix_0 (i : grid0.Coords) : cc0_transform_0 k0_off1_inb numel1_S1 (tbl m) i = ![(tileW m (stepOf i)).toNat, 0] := by
  have h := emb_step i (tbl m 1)
  show ![BitVec.toNat _, _] = _
  exact congrArg (fun w : BitVec 32 => ![w.toNat, 0]) h
theorem ix_1 (i : grid0.Coords) : cc0_transform_1 k0_off1_inb numel1_S1 (tbl m) i
    = ![(expertW m (stepOf i)).toNat, (chunkW m (stepOf i)).toNat, (colOf i).val] := by
  have h1 := emb_step i (tbl m 2)
  have h2 := emb_step i (tbl m 3)
  show ![BitVec.toNat _, BitVec.toNat _, BitVec.toNat _] = _
  rw [col_word]
  exact congrArg₂ (fun u w : BitVec 32 => ![u.toNat, w.toNat, (i 0).val]) h1 h2
theorem ix_2 (i : grid0.Coords) : cc0_transform_2 k0_off1_inb numel1_S1 (tbl m) i = ![(tileW m (stepOf i)).toNat, (colOf i).val] := by
  have h1 := emb_step i (tbl m 1)
  show ![BitVec.toNat _, BitVec.toNat _] = _
  rw [col_word]
  exact congrArg (fun w : BitVec 32 => ![w.toNat, (i 0).val]) h1

theorem ok_of_words (h : ∀ s, (tileW m s).toNat < 17 ∧ (expertW m s).toNat < 2 ∧ (chunkW m s).toNat < 4) : Ok m := by
  refine ⟨fun i => ⟨?_, .inr (Affine.block_words_dvd (by decide) (by decide))⟩, fun i => ⟨?_, .inl rfl⟩, fun i => ⟨?_, .inl rfl⟩⟩
  all_goals
    have := h (stepOf i)
    have hj := (colOf i).isLt
  · rw [ix_0]
    intro a
    match a with
    | 0 => show ((tileW m (stepOf i)).toNat + 1) * 512 ≤ 8704; omega
    | 1 => show (0 + 1) * 4096 ≤ 4096; omega
  · rw [ix_1]
    intro a
    match a with
    | 0 => show ((expertW m (stepOf i)).toNat + 1) * 1 ≤ 2; omega
    | 1 => show ((chunkW m (stepOf i)).toNat + 1) * 1024 ≤ 4096; omega
    | 2 => show ((colOf i).val + 1) * 1024 ≤ 10240; omega
  · rw [ix_2]
    intro a
    match a with
    | 0 => show ((tileW m (stepOf i)).toNat + 1) * 512 ≤ 8704; omega
    | 1 => show ((colOf i).val + 1) * 1024 ≤ 10240; omega

/-- The layer, as the call is handed it. -/
abbrev aL : IVec S1 32 := m (((0 : Dev nD) : Thread nD τ).loc main_arg6)
abbrev lay : ℕ := (word (n := 1) (aL m) 0).toNat

/-- The step tables are one layer's. -/
abbrev Sound : Prop := Cert.ProjSched.Layered (tbl m 0) (tbl m 1) (tbl m 2) (tbl m 3) (aL m)

variable {m} in
/-- A step's tile, chunk and layer as numbers. -/
theorem Sound.nums (h : Sound m) (s : Fin 20) :
    (tileW m s).toNat = s.val - 3 ∧ (expertW m s).toNat = lay m ∧ (chunkW m s).toNat = min s.val 3 := by
  have h1 : tileW m s = BitVec.ofNat 32 (s.val - 3) := h.tile s
  have h2 : chunkW m s = BitVec.ofNat 32 (min s.val 3) := h.chunk s
  refine ⟨?_, congrArg BitVec.toNat (h.expert s), ?_⟩
  · rw [h1, BitVec.toNat_ofNat]; omega
  · rw [h2, BitVec.toNat_ofNat]; omega

variable {m} in
theorem Sound.ok (h : Sound m) : Ok m := ok_of_words m fun s => by
  have hl : lay m < 2 := h.layer
  obtain ⟨h1, h2, h3⟩ := h.nums s
  omega

theorem kindOf_eq (c : Dev nD) (i : grid0.Coords) : kindOf c (tbl m 0) i = kindW m (stepOf i) := emb_step i (tbl m 0)
theorem chunkOf_eq (c : Dev nD) (i : grid0.Coords) : chunkOf c (tbl m 3) i = chunkW m (stepOf i) := emb_step i (tbl m 3)

end Cert.Kernel4Ideal.Proj

end
-- ==== Proof.ProjStep.lean ====
/- The input projection's payloads entry by entry, its results as sums over whole arrays, and how a step extends the sums. -/
module

public import proofs.«01_k».proof.Proof.ProjCases
public import proofs.«01_k».proof.Proof.ProjTables
public import Idealize.ShloMosaic.Lib.Claim
public import Idealize.ShloMosaic.Lib.Pointwise
public import Idealize.ShloMosaic.Lib.KernelVsHost
public import Idealize.ShloMosaic.Lib.MatmulPlain

@[expose] public section

set_option maxRecDepth 16384

noncomputable section

namespace Cert.Kernel4Ideal.Proj

open Cert.Kernel4Ideal Cert.Kernel4Ideal.Gen Idealize.ShloMosaic Idealize.ShloMosaic.TcCoe Idealize.SL.Sem

theorem pay1_at (w : FVec Ideal S1x1024x1024 .f32) (r q : Fin 1024) :
    @Eq EReal ((k0_pay1 (F := Ideal) w : FVec Ideal S1024x1024 .bf16) (ix2 r q)) (w (ix3 0 r q)) := by
  pointwise [k0_pay1]

theorem pay2_at (w : FVec Ideal S1x1024x1024 .f32) (r q : Fin 1024) :
    @Eq EReal ((k0_pay2 (F := Ideal) w : FVec Ideal S1024x1024 .bf16) (ix2 r q)) (w (ix3 0 r q)) := by
  pointwise [k0_pay2, k0_pay1]

theorem mm_at {K : ℕ} (x : FVec Ideal ⟨2, ![512, K]⟩ .bf16) (w : FVec Ideal ⟨2, ![K, 1024]⟩ .bf16) (p : Fin 512) (q : Fin 1024) :
    @Eq EReal ((FloatOps.matmul (DotDims.plain 512 K 1024) none x w (constant S512x1024 .f32 0x00000000#32) : FVec Ideal S512x1024 .f32) (ix2 p q))
      (∑ k : Fin K, (x (ix2 p k) : EReal) * (w (ix2 k q) : EReal)) := by
  exact (Ideal.matmul_plain_apply none x w (constant S512x1024 .f32 0x00000000#32) p q).trans
    ((congrArg (fun z : EReal => z + _) Ideal.ofBits_zero_f32).trans (zero_add _))

theorem pay3_at (x : FVec Ideal S512x1024 .bf16) (w : FVec Ideal S1x1024x1024 .f32) (p : Fin 512) (q : Fin 1024) :
    @Eq EReal ((k0_pay3 (F := Ideal) x w : FVec Ideal S512x1024 .f32) (ix2 p q)) (∑ k : Fin 1024, (x (ix2 p k) : EReal) * (w (ix3 0 k q) : EReal)) := by
  have e : @Eq EReal ((k0_pay3 (F := Ideal) x w : FVec Ideal S512x1024 .f32) (ix2 p q))
      ((FloatOps.matmul (DotDims.plain 512 1024 1024) none x (k0_pay1 (F := Ideal) w) (constant S512x1024 .f32 0x00000000#32) : FVec Ideal S512x1024 .f32) (ix2 p q)) := by
    unfold k0_pay3
    rw [shapeCast_self]; rfl
  rw [e, mm_at]
  exact Finset.sum_congr rfl fun k _ => congrArg (fun z : EReal => _ * z) (pay1_at w k q)

theorem pay6_at (x : FVec Ideal S512x1024 .bf16) (w : FVec Ideal S1x1024x1024 .f32) (s : FVec Ideal S512x1024 .f32) (p : Fin 512) (q : Fin 1024) :
    @Eq EReal ((k0_pay6 (F := Ideal) x w s : FVec Ideal S512x1024 .f32) (ix2 p q))
      ((s (ix2 p q) : EReal) + ∑ k : Fin 1024, (x (ix2 p k) : EReal) * (w (ix3 0 k q) : EReal)) := by
  rw [← pay3_at]
  unfold k0_pay6 k0_pay3
  rw [shapeCast_self, shapeCast_self]; rfl

theorem pay13_at (x : FVec Ideal S512x4096 .bf16) (b : FVec Ideal S4096x1024 .bf16) (p : Fin 512) (q : Fin 1024) :
    @Eq EReal ((k0_pay13 (F := Ideal) x b : FVec Ideal S512x1024 .f32) (ix2 p q)) (∑ k : Fin 4096, (x (ix2 p k) : EReal) * (b (ix2 k q) : EReal)) := by
  rw [← mm_at x b]; rfl

theorem cols_at (x : FVec Ideal S512x4096 .bf16) (n : ℕ) (h : n + 1024 ≤ 4096) (p : Fin 512) (k : Fin 1024) :
    cols (F := Ideal) x n h (ix2 p k) = x (ix2 p ⟨n + k.val, by omega⟩) := by
  unfold cols VecWindow.window
  congr 1
  funext a; apply Fin.ext
  match a with
  | ⟨0, _⟩ => show 0 + 1 * p.val = p.val; omega
  | ⟨1, _⟩ => show n + 1 * k.val = n + k.val; omega

theorem putRows_in (b : FVec Ideal S4096x1024 .bf16) (n : ℕ) (w : FVec Ideal S1x1024x1024 .f32) (r : Fin 4096) (q : Fin 1024)
    (h : n ≤ r.val) (h' : r.val < n + 1024) :
    @Eq EReal (putRows (F := Ideal) b n w (ix2 r q)) (w (ix3 0 ⟨r.val - n, by omega⟩ q)) := by
  unfold putRows VecWindow.put
  rw [dif_pos (fun a => match a with
    | ⟨0, _⟩ => ⟨h, h'⟩
    | ⟨1, _⟩ => ⟨Nat.zero_le _, by show q.val < 0 + 1024; omega⟩)]
  rw [← pay2_at w]
  congr 1
  funext a; apply Fin.ext
  match a with
  | ⟨0, _⟩ => rfl
  | ⟨1, _⟩ => rfl

theorem putRows_out (b : FVec Ideal S4096x1024 .bf16) (n : ℕ) (w : FVec Ideal S1x1024x1024 .f32) (r : Fin 4096) (q : Fin 1024) (h : r.val < n) :
    @Eq EReal (putRows (F := Ideal) b n w (ix2 r q)) (b (ix2 r q)) := by
  unfold putRows VecWindow.put
  rw [dif_neg (fun hh => absurd (hh 0).1 (by show ¬ n ≤ r.val; omega))]

variable (X : FVec Ideal S8704x4096 .bf16) (W : FVec Ideal S2x4096x10240 .f32) (l : ℕ)

/-- The entries of the arrays, at numbers. -/
def xE (r k : ℕ) : EReal := X (ix2 ⟨r % 8704, Nat.mod_lt _ (by decide)⟩ ⟨k % 4096, Nat.mod_lt _ (by decide)⟩)
def wE (k j : ℕ) : EReal := W (ix3 ⟨l % 2, Nat.mod_lt _ (by decide)⟩ ⟨k % 4096, Nat.mod_lt _ (by decide)⟩ ⟨j % 10240, Nat.mod_lt _ (by decide)⟩)

/-- The first `n` terms of row `r`'s product with column `j` of layer `l`'s weights. -/
def dotE (r j n : ℕ) : EReal := ∑ k ∈ Finset.range n, xE X r k * wE W l k j

/-- The resident weights hold the first `n` rows of the layer's block of columns `j`. -/
def Rows (j n : ℕ) (b : FVec Ideal S4096x1024 .bf16) : Prop :=
  ∀ (r : Fin 4096) (q : Fin 1024), r.val < n → @Eq EReal (b (ix2 r q)) (wE W l r.val (1024 * j + q.val))
/-- A block holds the first `n` terms of tile `i`'s products. -/
def Acc (i j n : ℕ) (s : FVec Ideal S512x1024 .f32) : Prop :=
  ∀ (p : Fin 512) (q : Fin 1024), @Eq EReal (s (ix2 p q)) (dotE X W l (512 * i + p.val) (1024 * j + q.val) n)
/-- A block of rows, and a block of weights. -/
def IsX (i : ℕ) (x : FVec Ideal S512x4096 .bf16) : Prop := ∀ (p : Fin 512) (k : Fin 4096), @Eq EReal (x (ix2 p k)) (xE X (512 * i + p.val) k.val)
def IsW (n j : ℕ) (w : FVec Ideal S1x1024x1024 .f32) : Prop :=
  ∀ k q : Fin 1024, @Eq EReal (w (ix3 0 k q)) (wE W l (n + k.val) (1024 * j + q.val))

variable {X W l} {i j n : ℕ} {x : FVec Ideal S512x4096 .bf16} {w : FVec Ideal S1x1024x1024 .f32}

theorem rows_none (b : FVec Ideal S4096x1024 .bf16) : Rows W l j 0 b := fun _ _ h => absurd h (Nat.not_lt_zero _)

theorem rows_put {b : FVec Ideal S4096x1024 .bf16} (hb : Rows W l j n b) (hw : IsW W l n j w) : Rows W l j (n + 1024) (putRows (F := Ideal) b n w) := by
  intro r q h
  by_cases hr : r.val < n
  · rw [putRows_out _ _ _ _ _ hr]; exact hb r q hr
  · rw [putRows_in _ _ _ _ _ (by omega) h, hw]
    congr 1
    show n + (r.val - n) = r.val; omega

theorem sum_cols (hn : n + 1024 ≤ 4096) (hx : IsX X i x) (hw : IsW W l n j w) (p : Fin 512) (q : Fin 1024) :
    ∑ k : Fin 1024, ((cols (F := Ideal) x n hn (ix2 p k) : EReal)) * (w (ix3 0 k q) : EReal)
      = ∑ k ∈ Finset.range 1024, xE X (512 * i + p.val) (n + k) * wE W l (n + k) (1024 * j + q.val) := by
  rw [Finset.sum_range]
  refine Finset.sum_congr rfl fun k _ => ?_
  rw [hw k q, cols_at]
  exact congrArg (fun z : EReal => z * _) (hx p _)

theorem acc_first (hx : IsX X i x) (hw : IsW W l 0 j w) : Acc X W l i j 1024 (k0_pay3 (F := Ideal) (cols x 0 (by omega)) w) := by
  intro p q
  rw [pay3_at, sum_cols _ hx hw]
  unfold dotE
  simp only [Nat.zero_add]

theorem acc_next {s : FVec Ideal S512x1024 .f32} (hn : n + 1024 ≤ 4096) (hs : Acc X W l i j n s) (hx : IsX X i x) (hw : IsW W l n j w) :
    Acc X W l i j (n + 1024) (k0_pay6 (F := Ideal) (cols x n hn) w s) := by
  intro p q
  rw [pay6_at, sum_cols _ hx hw, hs p q]
  unfold dotE
  rw [Finset.sum_range_add]

theorem acc_keep {b : FVec Ideal S4096x1024 .bf16} (hx : IsX X i x) (hb : Rows W l j 4096 b) : Acc X W l i j 4096 (k0_pay13 (F := Ideal) x b) := by
  intro p q
  rw [pay13_at]
  unfold dotE
  rw [Finset.sum_range]
  exact Finset.sum_congr rfl fun k _ => by rw [hb k q k.isLt, hx p k]

end Cert.Kernel4Ideal.Proj

end
-- ==== Proof.ProjInv.lean ====
/- What holds of the input projection's scratch between its steps, and that every step keeps it. -/
module

public import proofs.«01_k».proof.Proof.ProjStep
public import proofs.«01_k».proof.Proof.ProjBody
public import Idealize.ShloMosaic.Lib.Pipeline.ValueKit

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat RDat Cfg Window cellOf)

variable (m : (ℓ : Loc nD τ sig) → Buf (Elt Ideal) ℓ)

/-- The arrays of the call. -/
abbrev aX : FVec Ideal S8704x4096 .bf16 := m (((0 : Dev nD) : Thread nD τ).loc main_arg0)
abbrev aW : FVec Ideal S2x4096x10240 .f32 := m (((0 : Dev nD) : Thread nD τ).loc main_arg1)

variable (hO : Ok m)

theorem col_val (t : Fin (cfgM m hO).N) : (colOf (grid0.coords t)).val = t.val / 20 := by
  have h : t.val < 200 := t.isLt
  have := Pipeline.Grid.coords_val (G := grid0) t (0 : Fin 2) (by decide : _ = 20) rfl
  show (grid0.coords t 0).val = _
  rw [this]
  show t.val / 20 % 10 = _
  omega
theorem step_val (t : Fin (cfgM m hO).N) : (stepOf (grid0.coords t)).val = t.val % 20 := by
  have := Pipeline.Grid.coords_val (G := grid0) t (1 : Fin 2) (by decide : _ = 1) rfl
  show (grid0.coords t 1).val = _
  rw [this]
  show t.val / 1 % 20 = _
  omega

/-- Where the entries of a point's blocks lie. -/
theorem emb0 (t : Fin (cfgM m hO).N) (y : S512x4096.Idx) (a : Fin 2) : ((((cfgM m hO).win 0).blk t).view.emb y a : ℕ)
    = (![(tileW m (stepOf (grid0.coords t))).toNat, 0] : Fin 2 → ℕ) a * S512x4096.size a + 1 * (y a).val :=
  congrArg (fun f : Fin 2 → ℕ => f a * S512x4096.size a + 1 * (y a).val) (ix_0 m (grid0.coords t))
theorem emb1 (t : Fin (cfgM m hO).N) (y : S1x1024x1024.Idx) (a : Fin 3) : ((((cfgM m hO).win 1).blk t).view.emb y a : ℕ)
    = (![(expertW m (stepOf (grid0.coords t))).toNat, (chunkW m (stepOf (grid0.coords t))).toNat, (colOf (grid0.coords t)).val] : Fin 3 → ℕ) a
      * S1x1024x1024.size a + 1 * (y a).val :=
  congrArg (fun f : Fin 3 → ℕ => f a * S1x1024x1024.size a + 1 * (y a).val) (ix_1 m (grid0.coords t))
theorem emb2 (t : Fin (cfgM m hO).N) (y : S512x1024.Idx) (a : Fin 2) : ((((cfgM m hO).win 2).blk t).view.emb y a : ℕ)
    = (![(tileW m (stepOf (grid0.coords t))).toNat, (colOf (grid0.coords t)).val] : Fin 2 → ℕ) a * S512x1024.size a + 1 * (y a).val :=
  congrArg (fun f : Fin 2 → ℕ => f a * S512x1024.size a + 1 * (y a).val) (ix_2 m (grid0.coords t))

/-- The scratch before point `n`: the rows its column's steps have loaded, and the first tile's sums so far. -/
def InvM : InvT Ideal := fun n b u => n % 20 ≠ 0 →
  Rows (aW m) (lay m) (n / 20) (1024 * min (n % 20) 4) b
  ∧ (n % 20 < 4 → Acc (aX m) (aW m) (lay m) 0 (n / 20) (1024 * (n % 20)) u)

/-- What a step does to the result's block: from the last chunk on it holds the step's tile. -/
def RelM : RelT Ideal (cfgM m hO).N := fun t _ X => 3 ≤ t.val % 20 → Acc (aX m) (aW m) (lay m) (t.val % 20 - 3) (t.val / 20) 4096 X

variable {m} (hS : Sound m)

include hS in
theorem blk0_at (t : Fin (cfgM m hO).N) : IsX (aX m) (t.val % 20 - 3) (blk0 m hO 0 t) := by
  intro p k
  have hw := (hS.nums (stepOf (grid0.coords t))).1
  rw [step_val] at hw
  show aX m ((((cfgM m hO).win 0).blk t).view.emb (ix2 p k)) = _
  unfold xE
  congr 1
  funext a; apply Fin.ext
  refine (emb0 m hO t (ix2 p k) a).trans ?_
  match a with
  | ⟨0, _⟩ => show (tileW m (stepOf (grid0.coords t))).toNat * 512 + 1 * p.val = (512 * (t.val % 20 - 3) + p.val) % 8704; omega
  | ⟨1, _⟩ => show 0 * 4096 + 1 * k.val = k.val % 4096; omega

include hS in
theorem blk1_at (t : Fin (cfgM m hO).N) : IsW (aW m) (lay m) (1024 * min (t.val % 20) 3) (t.val / 20) (blk1 m hO 0 t) := by
  intro k q
  obtain ⟨-, hw, hn⟩ := hS.nums (stepOf (grid0.coords t))
  have hl : lay m < 2 := hS.layer
  have hc := col_val m hO t
  have ht : t.val < 200 := t.isLt
  rw [step_val] at hn
  show aW m ((((cfgM m hO).win 1).blk t).view.emb (ix3 0 k q)) = _
  unfold wE
  congr 1
  funext a; apply Fin.ext
  refine (emb1 m hO t (ix3 0 k q) a).trans ?_
  match a with
  | ⟨0, _⟩ => show (expertW m (stepOf (grid0.coords t))).toNat * 1 + 1 * 0 = lay m % 2; omega
  | ⟨1, _⟩ => show (chunkW m (stepOf (grid0.coords t))).toNat * 1024 + 1 * k.val = (1024 * min (t.val % 20) 3 + k.val) % 4096; omega
  | ⟨2, _⟩ => show (colOf (grid0.coords t)).val * 1024 + 1 * q.val = (1024 * (t.val / 20) + q.val) % 10240; omega

variable {b : FVec Ideal S4096x1024 .bf16} {u : FVec Ideal S512x1024 .f32}

theorem inv_next (t : Fin (cfgM m hO).N) (h1 : Rows (aW m) (lay m) (t.val / 20) (1024 * min (t.val % 20 + 1) 4) b)
    (h2 : t.val % 20 < 3 → Acc (aX m) (aW m) (lay m) 0 (t.val / 20) (1024 * (t.val % 20 + 1)) u) : InvM m (t.val + 1) b u := by
  intro h0
  have e1 : (t.val + 1) % 20 = t.val % 20 + 1 := by omega
  have e2 : (t.val + 1) / 20 = t.val / 20 := by omega
  rw [e1, e2]
  exact ⟨h1, fun h => h2 (by omega)⟩

/-- The contents a point's run leaves. -/
abbrev leftAt (t : Fin (cfgM m hO).N) (o : FVec Ideal S512x1024 .f32) (b : FVec Ideal S4096x1024 .bf16) (u : FVec Ideal S512x1024 .f32) : Left Ideal :=
  left 0 (grid0.coords t) (ms0 m hO t) (hs0 m hO t) (ms1 m hO t) (hs1 m hO t) (ms2 m hO t) (hs2 m hO t)
    scM0 (Memref.isWhole_whole _) scM1 (Memref.isWhole_whole _)
    (blk0 m hO 0 t) (blk1 m hO 0 t) o b u (tbl m 0) (tbl m 1) (tbl m 2) (tbl m 3)

variable (m) in
/-- What step `s` of column `j` must leave, before point `n`. -/
def Kept (n s j : ℕ) (L : Left Ideal) : Prop :=
  (3 ≤ s → Acc (aX m) (aW m) (lay m) (s - 3) j 4096 L.o) ∧ InvM m n L.b L.s

theorem kept_of {n s j : ℕ} {L L' : Left Ideal} (e : L = L') (h : Kept m n s j L') : Kept m n s j L := e ▸ h

include hS in
theorem kept (t : Fin (cfgM m hO).N) (o) (hI : InvM m t.val b u) : Kept m (t.val + 1) (t.val % 20) (t.val / 20) (leftAt hO t o b u) := by
  have hx := blk0_at hO hS t
  have hw := blk1_at hO hS t
  have hsv := step_val m hO t
  have hk : kindOf 0 (tbl m 0) (grid0.coords t) = if t.val % 20 < 4 then 1#32 else 2#32 := by
    rw [← hsv]; exact (kindOf_eq m 0 _).trans (hS.kind _)
  have hc : chunkOf 0 (tbl m 3) (grid0.coords t) = BitVec.ofNat 32 (min (t.val % 20) 3) := by
    rw [← hsv]; exact (chunkOf_eq m 0 _).trans (hS.chunk _)
  have hn := fun b u => inv_next (m := m) (b := b) (u := u) hO t
  unfold InvM at hI
  generalize t.val % 20 = s at *
  generalize hj : t.val / 20 = j at *
  by_cases h4 : s < 4
  · rw [if_pos h4] at hk
    rw [Nat.min_eq_left (by omega : s ≤ 3)] at hc hw
    have e4 : min (s + 1) 4 = s + 1 := by omega
    rw [e4] at hn
    by_cases h0 : s = 0
    · subst h0
      refine kept_of (left_first (hk := hk) (hc := hc) ..) ?_
      exact ⟨fun h => absurd h (by decide), hn _ _ (rows_put (rows_none b) hw) fun _ => acc_first hx hw⟩
    obtain ⟨hb, hu⟩ := hI h0
    rw [Nat.min_eq_left (by omega : s ≤ 4)] at hb
    have hr := rows_put hb hw
    rw [Nat.sub_eq_zero_of_le (by omega : s ≤ 3)] at hx
    have ha := acc_next (by omega) (hu h4) hx hw
    by_cases h3 : s = 3
    · subst h3
      refine kept_of (left_last (hk := hk) (hc := hc) ..) ?_
      exact ⟨fun _ => ha, hn _ _ hr fun h => absurd h (by decide)⟩
    · refine kept_of (left_mid (n := s) (hn := by omega) (hk := hk) (hc := hc) ..) ?_
      exact ⟨fun h => absurd h (by omega), hn _ _ hr fun _ => ha⟩
  · rw [if_neg h4] at hk
    have hb := (hI (by omega)).1
    have e4 : min s 4 = 4 := by omega
    have e5 : min (s + 1) 4 = 4 := by omega
    rw [e4] at hb
    rw [e5] at hn
    refine kept_of (left_keep (hk := hk) ..) ?_
    exact ⟨fun _ => acc_keep hx hb, hn _ _ hb fun h => absurd h (by omega)⟩

include hS in
/-- Every step keeps what holds of the scratch, and stores what the result's block is to hold. -/
theorem keeps (c : Dev nD) : Keeps m hO (InvM m) (RelM m hO) c := by
  obtain rfl : c = 0 := Subsingleton.elim _ _
  intro t o b u _ hI
  exact kept hO hS t o hI

end Cert.Kernel4Ideal.Proj

end
-- ==== Proof.ProjOut.lean ====
/- The input projection's result after the run: what each written-back block holds, and that the blocks make up the array. -/
module

public import proofs.«01_k».proof.Proof.ProjInv
public import Idealize.ShloMosaic.Lib.Pipeline.ArrRel

@[expose] public section

set_option maxRecDepth 16384

noncomputable section

namespace Cert.Kernel4Ideal.Proj

open Cert.Kernel4Ideal Cert.Kernel4Ideal.Gen Idealize.ShloMosaic Idealize.ShloMosaic.TcCoe Idealize.SL.Sem
open Idealize.ShloMosaic.Pipeline (Dat RDat Cfg Window cellOf)

variable {m : (ℓ : Loc nD τ sig) → Buf (Elt Ideal) ℓ} (hS : Sound m) (hO : Ok m)

include hS in
/-- The output's block at a point. -/
theorem index2 (t : Fin (cfgM m hO).N) : ((cfgM m hO).win 2).index t = ![t.val % 20 - 3, t.val / 20] :=
  (ix_2 m (grid0.coords t)).trans (by rw [col_val m hO t, (hS.nums _).1, step_val m hO t])

include hS in
/-- A block is written back only after its tile is complete. -/
theorem done_of_flush (t : Fin (cfgM m hO).N) (hf : ((cfgM m hO).win 2).flush t = true) : 3 ≤ t.val % 20 := by
  by_contra hlt
  rcases (Pipeline.Window.flush_out ((cfgM m hO).win 2) rfl t).1 hf with h | ⟨h, hne⟩
  · have e : t.val + 1 = 200 := h
    omega
  · refine hne ?_
    rw [index2 hS, index2 hS]
    show ![(t.val + 1) % 20 - 3, (t.val + 1) / 20] = ![t.val % 20 - 3, t.val / 20]
    congr 1
    · omega
    · congr 1; omega

include hS in
theorem flush_at (i j : ℕ) (hi : i < 17) (hj : j < 10) :
    ∃ t : Fin (cfgM m hO).N, ((cfgM m hO).win 2).flush t = true ∧ t.val % 20 - 3 = i ∧ t.val / 20 = j := by
  have ht : 20 * j + (i + 3) < 200 := by omega
  let t : Fin (cfgM m hO).N := ⟨20 * j + (i + 3), ht⟩
  have hv : t.val = 20 * j + (i + 3) := rfl
  refine ⟨t, (Pipeline.Window.flush_out ((cfgM m hO).win 2) rfl t).2 ?_, by omega, by omega⟩
  by_cases hl : t.val + 1 = 200
  · exact .inl hl
  · refine .inr ⟨by show t.val + 1 < 200; omega, fun he => ?_⟩
    rw [index2 hS, index2 hS] at he
    have a0 : (t.val + 1) % 20 - 3 = t.val % 20 - 3 := congrFun he 0
    omega

include hS in
theorem covers2 : ((cfgM m hO).win 2).Covers := by
  refine ⟨fun a => ?_, fun β => ?_⟩
  · match a with
    | ⟨0, _⟩ => show 0 < 512; decide
    | ⟨1, _⟩ => show 0 < 1024; decide
  · obtain ⟨t, hf, e0, e1⟩ := flush_at hS hO _ _ (lt_of_lt_of_eq (β ⟨0, Nat.zero_lt_two⟩).isLt (show (8704 + 512 - 1) / 512 = 17 by decide))
      (lt_of_lt_of_eq (β ⟨1, Nat.one_lt_two⟩).isLt (show (10240 + 1024 - 1) / 1024 = 10 by decide))
    refine ⟨t, hf, fun a => ⟨?_, .inl ?_⟩⟩
    · rw [index2 hS]
      match a with
      | ⟨0, _⟩ => exact e0
      | ⟨1, _⟩ => exact e1
    · match a with
      | ⟨0, _⟩ => rfl
      | ⟨1, _⟩ => rfl

/-- The result: every row's product with the layer's weights. -/
def RES (m : (ℓ : Loc nD τ sig) → Buf (Elt Ideal) ℓ) : FVec Ideal S8704x10240 .f32 :=
  fun i => dotE (aX m) (aW m) (lay m) (i 0).val (i 1).val 4096

include hS in
theorem out_at (t : Fin (cfgM m hO).N) (x : FVec Ideal S512x1024 .f32) (hx : Acc (aX m) (aW m) (lay m) (t.val % 20 - 3) (t.val / 20) 4096 x)
    (y : S512x1024.Idx) : @Eq EReal (x y) (RES m ((((cfgM m hO).win 2).blk t).view.emb y)) := by
  have hy : y = ix2 (n0 := 512) (n1 := 1024) (y 0) (y 1) := by funext a; fin_cases a <;> rfl
  refine Eq.trans (congrArg x hy) ((hx (y 0) (y 1)).trans ?_)
  have e0 := emb2 m hO t y 0
  have e1 := emb2 m hO t y 1
  have hc := col_val m hO t
  have hw := (hS.nums (stepOf (grid0.coords t))).1
  rw [step_val] at hw
  unfold RES
  congr 1
  · refine Eq.trans ?_ e0.symm
    show 512 * (t.val % 20 - 3) + (y 0).val = (tileW m (stepOf (grid0.coords t))).toNat * 512 + 1 * (y 0).val
    omega
  · refine Eq.trans ?_ e1.symm
    show 1024 * (t.val / 20) + (y 1).val = (colOf (grid0.coords t)).val * 1024 + 1 * (y 1).val
    omega

include hS in
theorem arr2 (c : Dev nD) (after : (w' : Fin (cfgM m hO).W) → Fin (cfgM m hO).N → ((cfgM m hO).win w').block.Idx → Elt Ideal ((cfgM m hO).win w').elt)
    (h : ∀ u, ((cfgM m hO).win 2).flush u = true → (rdat m hO (InvM m) (RelM m hO) c).Leaves 2 u (after 2 u)) :
    ((rdat m hO (InvM m) (RelM m hO) c).withAfter after).arrAt 2 (cfgM m hO).N = RES m := by
  refine Dat.arrAt_eq_of_covers ((rdat m hO (InvM m) (RelM m hO) c).withAfter after) 2 (RES m) (covers2 hS hO) (fun t hf y => ?_) (Memref.isWhole_whole _)
  obtain ⟨Y, -, hR⟩ := h t hf
  have hR' : RelM m hO t Y (after 2 t) := hR
  exact (cast_eq rfl _).trans (out_at hS hO t (after 2 t) (hR' (done_of_flush hS hO t hf)) y)

variable (ρ : Dev nD → PrngReg)

include hS in
/-- Every run ends with the result as stated and the seven arguments unchanged. -/
theorem value : θ_run defs (onTc (τ := τ) (main (F := Ideal))) ⟨m, fun _ => 0, ρ⟩ (fun r => ∀ c : Dev nD,
      r.2.mem ((c.tc : Thread nD τ).loc main_v0) = RES m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  have hO : Ok m := hS.ok
  refine (θ_run defs _ _).mono (fun r h c => ?_)
    (run_main m ρ hO (InvM m) (RelM m hO) (fun _ _ h => absurd rfl h) (keeps hO hS))
  have hr := h.1
  obtain ⟨after, hL, hA⟩ := RDat.FramePost.exists_exact hr c
  exact ⟨(hA 2).trans (arr2 hS hO c after (hL 2)), hr.arr_in c 0 rfl, hr.arr_in c 1 rfl,
    (hr c).2 main_arg2 (Pipeline.mem_restRefs_of (win := spec0) _ (by decide) (by decide)), (hr c).2 main_arg3 (Pipeline.mem_restRefs_of (win := spec0) _ (by decide) (by decide)),
    (hr c).2 main_arg4 (Pipeline.mem_restRefs_of (win := spec0) _ (by decide) (by decide)), (hr c).2 main_arg5 (Pipeline.mem_restRefs_of (win := spec0) _ (by decide) (by decide)),
    (hr c).2 main_arg6 (Pipeline.mem_restRefs_of (win := spec0) _ (by decide) (by decide))⟩

end Cert.Kernel4Ideal.Proj

end
-- ==== Proof.ProjRef.lean ====
/- The input projection's reference, entry by entry: each row's product with its layer's weights. -/
module

public import proofs.«01_k».proof.Proof.ProjStep
public import proofs.«01_k».proof.Proof.Gen.Reference4Ideal.Run

@[expose] public section

set_option maxRecDepth 16384

noncomputable section

namespace Cert.Reference4Ideal.Proj

open Cert.Reference4Ideal Cert.Reference4Ideal.Gen Idealize.ShloMosaic Idealize.ShloMosaic.TcCoe Idealize.SL.Sem
open Cert.DownSched (word word_eq)
open Cert.Kernel4Ideal.Proj (xE wE dotE)

variable (X : FVec Ideal S8704x4096 .bf16) (W : FVec Ideal S2x4096x10240 .f32) (l : IVec S1 32)

/-- The layer's weights. -/
def weights : FVec Ideal S4096x10240 .f32 :=
  select (broadcastInDim S4096x10240 ![0, 1] bcast_S1x1_S4096x10240_0_1 (cmpi .eq (broadcastInDim S1x1 ![0] bcast_S1_S1x1_0 l)
      (broadcastInDim S1x1 ![] bcast_S_S1x1 (constantI S_ 32 0#32))))
    (shapeCast _ (extractStridedSlice S1x4096x10240 ![0, 0, 0] W slices_S2x4096x10240_S1x4096x10240_0_0_0) shapeCasts_S1x4096x10240_S4096x10240)
    (shapeCast _ (extractStridedSlice S1x4096x10240 ![1, 0, 0] W slices_S2x4096x10240_S1x4096x10240_1_0_0) shapeCasts_S1x4096x10240_S4096x10240)

/-- The result. -/
def res : FVec Ideal S8704x10240 .f32 :=
  Host.dotGeneral dot_S8704x4096_S4096x10240_S8704x10240_1_0_0_1_n_n none (extf .f32 X bitsLt_bf16_f32) (weights W l)

theorem weights_at (h : (word (n := 1) l 0).toNat < 2) (k : Fin 4096) (j : Fin 10240) :
    @Eq EReal (weights W l (ix2 k j)) (wE W (word (n := 1) l 0).toNat k.val j.val) := by
  have e : @Eq EReal (weights W l (ix2 k j)) (Scalar.select (IntOp.cmpi .eq (word (n := 1) l 0) 0#32) (W (ix3 0 k j) : EReal) (W (ix3 1 k j))) := by
    pointwise [weights]
    rw [word_eq (n := 1) l]
    rfl
  rw [e]
  have hw : ∀ a : Fin 2, @Eq EReal (W (ix3 a k j)) (wE W a.val k.val j.val) := fun a => by
    unfold wE
    congr 2 <;> exact Fin.ext (Nat.mod_eq_of_lt (Fin.isLt _)).symm
  rw [hw 0, hw 1]
  obtain h0 | h1 : (word (n := 1) l 0).toNat = 0 ∨ (word (n := 1) l 0).toNat = 1 := by omega
  · rw [show word (n := 1) l 0 = 0#32 from BitVec.eq_of_toNat_eq h0]; rfl
  · rw [show word (n := 1) l 0 = 1#32 from BitVec.eq_of_toNat_eq h1]; rfl

theorem res_at (h : (word (n := 1) l 0).toNat < 2) (r : Fin 8704) (j : Fin 10240) :
    @Eq EReal (res X W l (ix2 r j)) (dotE X W (word (n := 1) l 0).toNat r.val j.val 4096) := by
  have e : @Eq EReal (res X W l (ix2 r j)) (∑ k : Fin 4096, (X (ix2 r k) : EReal) * (weights W l (ix2 k j) : EReal)) := by
    pointwise [res]
  rw [e]
  unfold dotE
  rw [Finset.sum_range]
  refine Finset.sum_congr rfl fun k _ => ?_
  rw [weights_at W l h]
  unfold xE
  congr 2 <;> congr 1 <;> exact Fin.ext (Nat.mod_eq_of_lt (Fin.isLt _)).symm

end Cert.Reference4Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.RefValue
public import proofs.«01_k».proof.Proof.Printed
public import proofs.«01_k».proof.Proof.MatOut
public import proofs.«01_k».proof.Proof.MatRef
public import proofs.«01_k».proof.Proof.DownOut
public import proofs.«01_k».proof.Proof.DownRef
public import proofs.«01_k».proof.Proof.DownPrinted
public import proofs.«01_k».proof.Proof.Gen.Kernel3.Launch
public import proofs.«01_k».proof.Proof.Gen.Kernel3
public import proofs.«01_k».proof.Proof.Gen.Reference3Ideal.Run
public import proofs.«01_k».proof.Proof.Gen.Pre_schedule_covers_down_tiles
public import proofs.«01_k».proof.Proof.Gen.Kernel4.Launch
public import proofs.«01_k».proof.Proof.Gen.Kernel4Ideal.Launch
public import proofs.«01_k».proof.Proof.Gen.Kernel4Ideal.Skeleton
public import proofs.«01_k».proof.Proof.Gen.Kernel4
public import proofs.«01_k».proof.Proof.Gen.Reference4Ideal.Run
public import proofs.«01_k».proof.Proof.Gen.Pre_tables_of_layer
public import proofs.«01_k».proof.Proof.ProjPrinted
public import proofs.«01_k».proof.Proof.ProjOut
public import proofs.«01_k».proof.Proof.ProjRef
public import Idealize.ShloMosaic.Adequacy
public import Idealize.ShloMosaic.Init

@[expose] public section

noncomputable section

namespace Cert.Proof

open Idealize.ShloMosaic Idealize.SL.Sem Cert.Kernel

/-- The reference's frame: its arguments end unchanged, and it declares no semaphore. -/
theorem frame_ref : Cert.quiescent_ReferenceIdeal (hReferenceIdeal := Cert.ReferenceIdeal.Gen.facts) := fun m ρ _ =>
  (θ_run _ _ _).mono (fun r h => ⟨fun c => (h c).2.2, sem_eq_zero_of_no_sems (by decide) _⟩) (Cert.ReferenceIdeal.RefValue.run m ρ)

/-- Kernel and reference end with equal results: the gated states of the prompt tokens, zero elsewhere, and each sequence's
    last state. -/
theorem value : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Spec.RES0 (Cert.KernelIdeal.Reads.aP m c) (Cert.KernelIdeal.Reads.aW m c) (Cert.KernelIdeal.Reads.aCB m c)
      (Cert.KernelIdeal.Reads.aWA m c) (Cert.KernelIdeal.Reads.aBA m c) (Cert.KernelIdeal.Reads.aWX m c) (Cert.KernelIdeal.Reads.aBX m c) (Cert.KernelIdeal.Reads.aLAM m c),
    fun c => Cert.KernelIdeal.Spec.RES1 (Cert.KernelIdeal.Reads.aP m c) (Cert.KernelIdeal.Reads.aW m c) (Cert.KernelIdeal.Reads.aCB m c)
      (Cert.KernelIdeal.Reads.aWA m c) (Cert.KernelIdeal.Reads.aBA m c) (Cert.KernelIdeal.Reads.aWX m c) (Cert.KernelIdeal.Reads.aBX m c) (Cert.KernelIdeal.Reads.aLAM m c), ?_, ?_⟩
  · exact (θ_run _ _ _).mono (fun r h c => ⟨(h c).1.trans (Cert.KernelIdeal.Array.final11 m c), (h c).2.1.trans (Cert.KernelIdeal.Array.final12 m c), (h c).2.2⟩)
      (Cert.KernelIdeal.Value.run_blocks m g)
  · refine (θ_run _ _ _).mono (fun r h c => ⟨(h c).1.trans ?_, (h c).2.1.trans ?_, (h c).2.2⟩) (Cert.ReferenceIdeal.RefValue.run m' g')
    all_goals
      obtain ⟨e0, e1, e2, e3, e4, e5, e6, e7⟩ := hargs c
      have a0 : Cert.ReferenceIdeal.RefValue.aP (Cert.ReferenceIdeal.RefValue.sigE m' c) = Cert.KernelIdeal.Reads.aP m c := e0
      have a1 : Cert.ReferenceIdeal.RefValue.aW (Cert.ReferenceIdeal.RefValue.sigE m' c) = Cert.KernelIdeal.Reads.aW m c := e1
      have a2 : Cert.ReferenceIdeal.RefValue.aCB (Cert.ReferenceIdeal.RefValue.sigE m' c) = Cert.KernelIdeal.Reads.aCB m c := e2
      have a3 : Cert.ReferenceIdeal.RefValue.aWA (Cert.ReferenceIdeal.RefValue.sigE m' c) = Cert.KernelIdeal.Reads.aWA m c := e3
      have a4 : Cert.ReferenceIdeal.RefValue.aBA (Cert.ReferenceIdeal.RefValue.sigE m' c) = Cert.KernelIdeal.Reads.aBA m c := e4
      have a5 : Cert.ReferenceIdeal.RefValue.aWX (Cert.ReferenceIdeal.RefValue.sigE m' c) = Cert.KernelIdeal.Reads.aWX m c := e5
      have a6 : Cert.ReferenceIdeal.RefValue.aBX (Cert.ReferenceIdeal.RefValue.sigE m' c) = Cert.KernelIdeal.Reads.aBX m c := e6
      have a7 : Cert.ReferenceIdeal.RefValue.aLAM (Cert.ReferenceIdeal.RefValue.sigE m' c) = Cert.KernelIdeal.Reads.aLAM m c := e7
      rw [a0, a1, a2, a3, a4, a5, a6, a7]

/-- The tables of the experts' call, where the schedule's condition holds. -/
theorem sound {m : (ℓ : Loc Cert.Kernel2Ideal.nD Cert.Kernel2Ideal.τ Cert.Kernel2Ideal.sig) → Buf (Elt Ideal) ℓ}
    (h : Cert.Pre_Kernel2Ideal (hPre_schedule_covers_tiles := Cert.Pre_schedule_covers_tiles.Gen.facts) m) : Cert.Kernel2Ideal.Mat.Sound m :=
  Cert.Sched.good_of_fn _ _ _ _ _ _ _ _ _ (h 0)

theorem frame_kernel2 : Cert.quiescent_Kernel2 (hKernel2 := Cert.Kernel2.Gen.facts) (hPre_schedule_covers_tiles := Cert.Pre_schedule_covers_tiles.Gen.facts) :=
  fun m ρ h => Cert.Kernel2.Mat.frame m ρ (Cert.Kernel2Ideal.Mat.ok_of_words (F := Bits) m (Cert.Sched.good_of_fn _ _ _ _ _ _ _ _ _ (h 0)).words)

theorem frame_kernel2Ideal : Cert.quiescent_Kernel2Ideal (hKernel2Ideal := Cert.Kernel2Ideal.Gen.facts) (hPre_schedule_covers_tiles := Cert.Pre_schedule_covers_tiles.Gen.facts) :=
  fun m ρ h => Cert.Kernel2Ideal.Mat.frame m ρ (sound h).ok

theorem frame_ref2 : Cert.quiescent_Reference2Ideal (hReference2Ideal := Cert.Reference2Ideal.Gen.facts) := fun m ρ _ =>
  (θ_run _ _ _).mono (fun r h => ⟨fun c => (h c).2, sem_eq_zero_of_no_sems (by decide) _⟩) (Cert.Reference2Ideal.Value.run m ρ)

/-- The experts' call and its reference end with equal results: each row's hidden values by its tile's expert, zero where
    the tile has no rows. -/
theorem value2 : Cert.algebraic_Kernel2Ideal_Reference2Ideal (hKernel2Ideal := Cert.Kernel2Ideal.Gen.facts)
    (hReference2Ideal := Cert.Reference2Ideal.Gen.facts) (hPre_schedule_covers_tiles := Cert.Pre_schedule_covers_tiles.Gen.facts) := by
  intro m g m' g' hP hargs
  have hS := sound hP
  refine ⟨fun _ => Cert.Kernel2Ideal.Mat.RES m, Cert.Kernel2Ideal.Mat.value hS g, ?_⟩
  refine (θ_run _ _ _).mono (fun r h c => ⟨(h c).1.trans ?_, (h c).2⟩) (Cert.Reference2Ideal.Value.run m' g')
  obtain rfl : c = 0 := Subsingleton.elim _ _
  obtain ⟨e0, e1, e2, -, -, -, -, e7, e8⟩ := hargs 0
  rw [e0, e1, e2, e7, e8]
  show Cert.Reference2Ideal.Mat.res (Cert.Kernel2Ideal.Mat.aX m) (Cert.Kernel2Ideal.Mat.aG m) (Cert.Kernel2Ideal.Mat.aU m)
    (Cert.Kernel2Ideal.Mat.aV m) (Cert.Kernel2Ideal.Mat.aE m) = Cert.Kernel2Ideal.Mat.RES m
  funext y
  have hy : y = ix2 (n0 := 20480) (n1 := 14336) (y 0) (y 1) := by funext a; fin_cases a <;> rfl
  rw [hy]
  exact Cert.Reference2Ideal.Mat.res_eq _ _ _ _ _ (Cert.Kernel2Ideal.Mat.expert_lt hS) (y 0) (y 1)

/-- The tables of the experts' down projection, where its schedule's condition holds. -/
theorem sound3 {m : (ℓ : Loc Cert.Kernel3Ideal.nD Cert.Kernel3Ideal.τ Cert.Kernel3Ideal.sig) → Buf (Elt Ideal) ℓ}
    (h : Cert.Pre_Kernel3Ideal (hPre_schedule_covers_down_tiles := Cert.Pre_schedule_covers_down_tiles.Gen.facts) m) : Cert.Kernel3Ideal.Down.Sound m :=
  Cert.DownSched.good_of_fn _ _ _ _ _ _ _ _ (h 0)

theorem frame_kernel3 : Cert.quiescent_Kernel3 (hKernel3 := Cert.Kernel3.Gen.facts) (hPre_schedule_covers_down_tiles := Cert.Pre_schedule_covers_down_tiles.Gen.facts) :=
  fun m ρ h => Cert.Kernel3.Down.frame m ρ (Cert.Kernel3Ideal.Down.ok_of_words (F := Bits) m (Cert.DownSched.good_of_fn _ _ _ _ _ _ _ _ (h 0)).words)

theorem frame_kernel3Ideal : Cert.quiescent_Kernel3Ideal (hKernel3Ideal := Cert.Kernel3Ideal.Gen.facts) (hPre_schedule_covers_down_tiles := Cert.Pre_schedule_covers_down_tiles.Gen.facts) :=
  fun m ρ h => Cert.Kernel3Ideal.Down.frame m ρ (sound3 h).ok

theorem frame_ref3 : Cert.quiescent_Reference3Ideal (hReference3Ideal := Cert.Reference3Ideal.Gen.facts) := fun m ρ _ =>
  (θ_run _ _ _).mono (fun r h => ⟨fun c => (h c).2, sem_eq_zero_of_no_sems (by decide) _⟩) (Cert.Reference3Ideal.Value.run m ρ)

/-- The experts' down projection and its reference end with equal results: each row's product with its tile's expert, zero
    where the tile has no rows. -/
theorem value3 : Cert.algebraic_Kernel3Ideal_Reference3Ideal (hKernel3Ideal := Cert.Kernel3Ideal.Gen.facts)
    (hReference3Ideal := Cert.Reference3Ideal.Gen.facts) (hPre_schedule_covers_down_tiles := Cert.Pre_schedule_covers_down_tiles.Gen.facts) := by
  intro m g m' g' hP hargs
  have hS := sound3 hP
  refine ⟨fun _ => Cert.Kernel3Ideal.Down.RES m, Cert.Kernel3Ideal.Down.value hS g, ?_⟩
  refine (θ_run _ _ _).mono (fun r h c => ⟨(h c).1.trans ?_, (h c).2⟩) (Cert.Reference3Ideal.Value.run m' g')
  obtain rfl : c = 0 := Subsingleton.elim _ _
  obtain ⟨e0, e1, -, -, -, -, e6, e7⟩ := hargs 0
  rw [e0, e1, e6, e7]
  show Cert.Reference3Ideal.Down.res (Cert.Kernel3Ideal.Down.aX m) (Cert.Kernel3Ideal.Down.aW m) (Cert.Kernel3Ideal.Down.aV m)
    (Cert.Kernel3Ideal.Down.aE m) = Cert.Kernel3Ideal.Down.RES m
  funext y
  have hy : y = ix2 (n0 := 20480) (n1 := 4096) (y 0) (y 1) := by funext a; fin_cases a <;> rfl
  rw [hy]
  exact Cert.Reference3Ideal.Down.res_eq _ _ _ _ hS.expert_lt (y 0) (y 1)

/-- The tables of the input projection, where its condition holds. -/
theorem sound4 {m : (ℓ : Loc Cert.Kernel4Ideal.nD Cert.Kernel4Ideal.τ Cert.Kernel4Ideal.sig) → Buf (Elt Ideal) ℓ}
    (h : Cert.Pre_Kernel4Ideal (hPre_tables_of_layer := Cert.Pre_tables_of_layer.Gen.facts) m) : Cert.Kernel4Ideal.Proj.Sound m :=
  Cert.ProjSched.layered_of_fn _ _ _ _ _ _ _ (h 0)

theorem frame_kernel4 : Cert.quiescent_Kernel4 (hKernel4 := Cert.Kernel4.Gen.facts) (hPre_tables_of_layer := Cert.Pre_tables_of_layer.Gen.facts) :=
  fun m ρ h => Cert.Kernel4.Proj.frame m ρ (Cert.Kernel4Ideal.Proj.Sound.ok (F := Bits) (m := m) (Cert.ProjSched.layered_of_fn _ _ _ _ _ _ _ (h 0)))

theorem frame_kernel4Ideal : Cert.quiescent_Kernel4Ideal (hKernel4Ideal := Cert.Kernel4Ideal.Gen.facts) (hPre_tables_of_layer := Cert.Pre_tables_of_layer.Gen.facts) :=
  fun m ρ h => Cert.Kernel4Ideal.Proj.frame m ρ (sound4 h).ok

theorem frame_ref4 : Cert.quiescent_Reference4Ideal (hReference4Ideal := Cert.Reference4Ideal.Gen.facts) := fun m ρ _ =>
  (θ_run _ _ _).mono (fun r h => ⟨fun c => (h c).2, sem_eq_zero_of_no_sems (by decide) _⟩) (Cert.Reference4Ideal.Value.run m ρ)

/-- The input projection and its reference end with equal results: every row's product with the layer's weights. -/
theorem value4 : Cert.algebraic_Kernel4Ideal_Reference4Ideal (hKernel4Ideal := Cert.Kernel4Ideal.Gen.facts)
    (hReference4Ideal := Cert.Reference4Ideal.Gen.facts) (hPre_tables_of_layer := Cert.Pre_tables_of_layer.Gen.facts) := by
  intro m g m' g' hP hargs
  have hS := sound4 hP
  refine ⟨fun _ => Cert.Kernel4Ideal.Proj.RES m, Cert.Kernel4Ideal.Proj.value hS g, ?_⟩
  refine (θ_run _ _ _).mono (fun r h c => ⟨(h c).1.trans ?_, (h c).2⟩) (Cert.Reference4Ideal.Value.run m' g')
  obtain rfl : c = 0 := Subsingleton.elim _ _
  obtain ⟨e0, e1, -, -, -, -, e6⟩ := hargs 0
  rw [e0, e1, e6]
  show Cert.Reference4Ideal.Proj.res (Cert.Kernel4Ideal.Proj.aX m) (Cert.Kernel4Ideal.Proj.aW m) (Cert.Kernel4Ideal.Proj.aL m) = Cert.Kernel4Ideal.Proj.RES m
  funext y
  have hy : y = ix2 (n0 := 8704) (n1 := 10240) (y 0) (y 1) := by funext a; fin_cases a <;> rfl
  rw [hy]
  exact Cert.Reference4Ideal.Proj.res_at _ _ _ hS.layer (y 0) (y 1)

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Pre_schedule_covers_tiles.Gen.facts, Cert.Pre_schedule_covers_down_tiles.Gen.facts, Cert.Pre_tables_of_layer.Gen.facts,
  fun m ρ _ => Cert.Kernel.Gen.frame m ρ, fun m ρ _ => Cert.KernelIdeal.Gen.frame m ρ, frame_ref, frame_kernel2, frame_kernel2Ideal,
  frame_ref2, fun m ρ _ => frame_ref2 m ρ trivial, frame_kernel3, frame_kernel3Ideal, frame_ref3, fun m ρ _ => frame_ref3 m ρ trivial,
  frame_kernel4, frame_kernel4Ideal, frame_ref4, fun m ρ _ => frame_ref4 m ρ trivial,
  trivial, value, trivial, value2, trivial, value3, trivial, value4⟩

end Cert.Proof

end
